-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_zero_pad [hPre_zero_pad : Cert.Pre_zero_pad.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_zero_pad.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_zero_pad [hPre_zero_pad : Cert.Pre_zero_pad.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_zero_pad.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_qk [hPre_finite_qk : Cert.Pre_finite_qk.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_qk.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_qk [hPre_finite_qk : Cert.Pre_finite_qk.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_qk.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_KernelA (m : (ℓ : Loc Cert.KernelA.nD Cert.KernelA.τ Cert.KernelA.sig) → Buf (Elt Bits) ℓ) : Prop :=
  True

def Pre_KernelAIdeal (m : (ℓ : Loc Cert.KernelAIdeal.nD Cert.KernelAIdeal.τ Cert.KernelAIdeal.sig) → Buf (Elt Ideal) ℓ) : Prop :=
  True

def Pre_ReferenceAIdeal (m : (ℓ : Loc Cert.ReferenceAIdeal.nD Cert.ReferenceAIdeal.τ Cert.ReferenceAIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Kernel7Ideal_pre_zero_pad [hKernel7Ideal : Cert.Kernel7Ideal.Facts] [hPre_zero_pad : Cert.Pre_zero_pad.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_zero_pad m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Reference7Ideal_pre_zero_pad [hReference7Ideal : Cert.Reference7Ideal.Facts] [hPre_zero_pad : Cert.Pre_zero_pad.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_zero_pad m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Kernel8Ideal_pre_finite_qk [hKernel8Ideal : Cert.Kernel8Ideal.Facts] [hPre_finite_qk : Cert.Pre_finite_qk.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_qk m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Reference8Ideal_pre_finite_qk [hReference8Ideal : Cert.Reference8Ideal.Facts] [hPre_finite_qk : Cert.Pre_finite_qk.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_qk m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_KernelA [hKernelA : Cert.KernelA.Facts] : Prop :=
  ∀ (m : (ℓ : Loc Cert.KernelA.nD Cert.KernelA.τ Cert.KernelA.sig) → Buf (Elt Bits) ℓ) (g : Dev Cert.KernelA.nD → PrngReg), Pre_KernelA m →
    θ_run (Cert.KernelA.defs (F := Bits)) (onTc (τ := Cert.KernelA.τ) (Cert.KernelA.main (F := Bits))) ⟨m, fun _ => 0, g⟩ (fun r => (∀ c : Dev Cert.KernelA.nD,
      r.2.mem ((c.tc : Thread Cert.KernelA.nD Cert.KernelA.τ).loc Cert.KernelA.main_arg0) = m ((c.tc : Thread Cert.KernelA.nD Cert.KernelA.τ).loc Cert.KernelA.main_arg0)
      ∧ r.2.mem ((c.tc : Thread Cert.KernelA.nD Cert.KernelA.τ).loc Cert.KernelA.main_arg1) = m ((c.tc : Thread Cert.KernelA.nD Cert.KernelA.τ).loc Cert.KernelA.main_arg1)
      ∧ r.2.mem ((c.tc : Thread Cert.KernelA.nD Cert.KernelA.τ).loc Cert.KernelA.main_arg2) = m ((c.tc : Thread Cert.KernelA.nD Cert.KernelA.τ).loc Cert.KernelA.main_arg2)
      ∧ r.2.mem ((c.tc : Thread Cert.KernelA.nD Cert.KernelA.τ).loc Cert.KernelA.main_arg3) = m ((c.tc : Thread Cert.KernelA.nD Cert.KernelA.τ).loc Cert.KernelA.main_arg3)
      ∧ r.2.mem ((c.tc : Thread Cert.KernelA.nD Cert.KernelA.τ).loc Cert.KernelA.main_arg4) = m ((c.tc : Thread Cert.KernelA.nD Cert.KernelA.τ).loc Cert.KernelA.main_arg4))
      ∧ r.2.sem = fun _ => 0)

def quiescent_KernelAIdeal [hKernelAIdeal : Cert.KernelAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
      ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
      ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3)
      ∧ r.2.mem ((c.tc : Thread Cert.KernelAIdeal.nD Cert.KernelAIdeal.τ).loc Cert.KernelAIdeal.main_arg4) = m ((c.tc : Thread Cert.KernelAIdeal.nD Cert.KernelAIdeal.τ).loc Cert.KernelAIdeal.main_arg4))
      ∧ r.2.sem = fun _ => 0)

def quiescent_ReferenceAIdeal [hReferenceAIdeal : Cert.ReferenceAIdeal.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1)
      ∧ r.2.mem ((c.tc : Thread Cert.ReferenceAIdeal.nD Cert.ReferenceAIdeal.τ).loc Cert.ReferenceAIdeal.main_arg2) = m ((c.tc : Thread Cert.ReferenceAIdeal.nD Cert.ReferenceAIdeal.τ).loc Cert.ReferenceAIdeal.main_arg2)
      ∧ r.2.mem ((c.tc : Thread Cert.ReferenceAIdeal.nD Cert.ReferenceAIdeal.τ).loc Cert.ReferenceAIdeal.main_arg3) = m ((c.tc : Thread Cert.ReferenceAIdeal.nD Cert.ReferenceAIdeal.τ).loc Cert.ReferenceAIdeal.main_arg3)
      ∧ r.2.mem ((c.tc : Thread Cert.ReferenceAIdeal.nD Cert.ReferenceAIdeal.τ).loc Cert.ReferenceAIdeal.main_arg4) = m ((c.tc : Thread Cert.ReferenceAIdeal.nD Cert.ReferenceAIdeal.τ).loc Cert.ReferenceAIdeal.main_arg4))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)) (v2 : (c : Dev Cert.Kernel3Ideal.nD) → Buf (Elt Ideal) ((c.tc : Thread Cert.Kernel3Ideal.nD Cert.Kernel3Ideal.τ).loc Cert.Kernel3Ideal.main_v11_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_v11_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v66) = v0 c
          ∧ r.2.mem ((c.tc : Thread Cert.Reference3Ideal.nD Cert.Reference3Ideal.τ).loc Cert.Reference3Ideal.main_v69) = v1 c
          ∧ r.2.mem ((c.tc : Thread Cert.Reference3Ideal.nD Cert.Reference3Ideal.τ).loc Cert.Reference3Ideal.main_v71) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v10_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v10_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v79) = v0 c
          ∧ r.2.mem ((c.tc : Thread Cert.Reference4Ideal.nD Cert.Reference4Ideal.τ).loc Cert.Reference4Ideal.main_v77) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v32) = v0 c
          ∧ r.2.mem ((c.tc : Thread Cert.Reference5Ideal.nD Cert.Reference5Ideal.τ).loc Cert.Reference5Ideal.main_v33) = v1 c
          ∧ r.2.mem ((c.tc : Thread Cert.Reference5Ideal.nD Cert.Reference5Ideal.τ).loc Cert.Reference5Ideal.main_v35) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal_pre_zero_pad [hKernel7Ideal : Cert.Kernel7Ideal.Facts] [hReference7Ideal : Cert.Reference7Ideal.Facts] [hPre_zero_pad : Cert.Pre_zero_pad.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_zero_pad m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v26_0)) (v1 : (c : Dev Cert.Kernel7Ideal.nD) → Buf (Elt Ideal) ((c.tc : Thread Cert.Kernel7Ideal.nD Cert.Kernel7Ideal.τ).loc Cert.Kernel7Ideal.main_v26_1)) (v2 : (c : Dev Cert.Kernel7Ideal.nD) → Buf (Elt Ideal) ((c.tc : Thread Cert.Kernel7Ideal.nD Cert.Kernel7Ideal.τ).loc Cert.Kernel7Ideal.main_v26_2)) (v3 : (c : Dev Cert.Kernel7Ideal.nD) → Buf (Elt Ideal) ((c.tc : Thread Cert.Kernel7Ideal.nD Cert.Kernel7Ideal.τ).loc Cert.Kernel7Ideal.main_v26_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v26_0) = v0 c
          ∧ r.2.mem ((c.tc : Thread Cert.Kernel7Ideal.nD Cert.Kernel7Ideal.τ).loc Cert.Kernel7Ideal.main_v26_1) = v1 c
          ∧ r.2.mem ((c.tc : Thread Cert.Kernel7Ideal.nD Cert.Kernel7Ideal.τ).loc Cert.Kernel7Ideal.main_v26_2) = v2 c
          ∧ r.2.mem ((c.tc : Thread Cert.Kernel7Ideal.nD Cert.Kernel7Ideal.τ).loc Cert.Kernel7Ideal.main_v26_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v142) = v0 c
          ∧ r.2.mem ((c.tc : Thread Cert.Reference7Ideal.nD Cert.Reference7Ideal.τ).loc Cert.Reference7Ideal.main_v144) = v1 c
          ∧ r.2.mem ((c.tc : Thread Cert.Reference7Ideal.nD Cert.Reference7Ideal.τ).loc Cert.Reference7Ideal.main_v147) = v2 c
          ∧ r.2.mem ((c.tc : Thread Cert.Reference7Ideal.nD Cert.Reference7Ideal.τ).loc Cert.Reference7Ideal.main_v148) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal_pre_finite_qk [hKernel8Ideal : Cert.Kernel8Ideal.Facts] [hReference8Ideal : Cert.Reference8Ideal.Facts] [hPre_finite_qk : Cert.Pre_finite_qk.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_qk m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_KernelA_KernelAIdeal : Prop :=
  True

def algebraic_KernelAIdeal_ReferenceAIdeal [hKernelAIdeal : Cert.KernelAIdeal.Facts] [hReferenceAIdeal : Cert.ReferenceAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg)
    (m' : (ℓ : Loc Cert.ReferenceAIdeal.nD Cert.ReferenceAIdeal.τ Cert.ReferenceAIdeal.sig) → Buf (Elt Ideal) ℓ) (g' : Dev Cert.ReferenceAIdeal.nD → PrngReg), Pre_KernelAIdeal m →
    (∀ c : Dev Cert.KernelAIdeal.nD,
      m' ((c.tc : Thread Cert.ReferenceAIdeal.nD Cert.ReferenceAIdeal.τ).loc Cert.ReferenceAIdeal.main_arg0) = m ((c.tc : Thread Cert.KernelAIdeal.nD Cert.KernelAIdeal.τ).loc Cert.KernelAIdeal.main_arg0)
      ∧ m' ((c.tc : Thread Cert.ReferenceAIdeal.nD Cert.ReferenceAIdeal.τ).loc Cert.ReferenceAIdeal.main_arg1) = m ((c.tc : Thread Cert.KernelAIdeal.nD Cert.KernelAIdeal.τ).loc Cert.KernelAIdeal.main_arg1)
      ∧ m' ((c.tc : Thread Cert.ReferenceAIdeal.nD Cert.ReferenceAIdeal.τ).loc Cert.ReferenceAIdeal.main_arg2) = m ((c.tc : Thread Cert.KernelAIdeal.nD Cert.KernelAIdeal.τ).loc Cert.KernelAIdeal.main_arg2)
      ∧ m' ((c.tc : Thread Cert.ReferenceAIdeal.nD Cert.ReferenceAIdeal.τ).loc Cert.ReferenceAIdeal.main_arg3) = m ((c.tc : Thread Cert.KernelAIdeal.nD Cert.KernelAIdeal.τ).loc Cert.KernelAIdeal.main_arg3)
      ∧ m' ((c.tc : Thread Cert.ReferenceAIdeal.nD Cert.ReferenceAIdeal.τ).loc Cert.ReferenceAIdeal.main_arg4) = m ((c.tc : Thread Cert.KernelAIdeal.nD Cert.KernelAIdeal.τ).loc Cert.KernelAIdeal.main_arg4)) →
    ∃ (v0 : (c : Dev Cert.KernelAIdeal.nD) → Buf (Elt Ideal) ((c.tc : Thread Cert.KernelAIdeal.nD Cert.KernelAIdeal.τ).loc Cert.KernelAIdeal.main_v7_0)) (v1 : (c : Dev Cert.KernelAIdeal.nD) → Buf (Elt Ideal) ((c.tc : Thread Cert.KernelAIdeal.nD Cert.KernelAIdeal.τ).loc Cert.KernelAIdeal.main_v7_1)) (v2 : (c : Dev Cert.KernelAIdeal.nD) → Buf (Elt Ideal) ((c.tc : Thread Cert.KernelAIdeal.nD Cert.KernelAIdeal.τ).loc Cert.KernelAIdeal.main_v7_2)) (v3 : (c : Dev Cert.KernelAIdeal.nD) → Buf (Elt Ideal) ((c.tc : Thread Cert.KernelAIdeal.nD Cert.KernelAIdeal.τ).loc Cert.KernelAIdeal.main_v7_3)),
      θ_run (Cert.KernelAIdeal.defs (F := Ideal)) (onTc (τ := Cert.KernelAIdeal.τ) (Cert.KernelAIdeal.main (F := Ideal))) ⟨m, fun _ => 0, g⟩ (fun r => ∀ c : Dev Cert.KernelAIdeal.nD,
          r.2.mem ((c.tc : Thread Cert.KernelAIdeal.nD Cert.KernelAIdeal.τ).loc Cert.KernelAIdeal.main_v7_0) = v0 c
          ∧ r.2.mem ((c.tc : Thread Cert.KernelAIdeal.nD Cert.KernelAIdeal.τ).loc Cert.KernelAIdeal.main_v7_1) = v1 c
          ∧ r.2.mem ((c.tc : Thread Cert.KernelAIdeal.nD Cert.KernelAIdeal.τ).loc Cert.KernelAIdeal.main_v7_2) = v2 c
          ∧ r.2.mem ((c.tc : Thread Cert.KernelAIdeal.nD Cert.KernelAIdeal.τ).loc Cert.KernelAIdeal.main_v7_3) = v3 c
          ∧ r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
          ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
          ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
          ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3)
          ∧ r.2.mem ((c.tc : Thread Cert.KernelAIdeal.nD Cert.KernelAIdeal.τ).loc Cert.KernelAIdeal.main_arg4) = m ((c.tc : Thread Cert.KernelAIdeal.nD Cert.KernelAIdeal.τ).loc Cert.KernelAIdeal.main_arg4))
      ∧ θ_run (Cert.ReferenceAIdeal.defs (F := Ideal)) (onTc (τ := Cert.ReferenceAIdeal.τ) (Cert.ReferenceAIdeal.main (F := Ideal))) ⟨m', fun _ => 0, g'⟩ (fun r => ∀ c : Dev Cert.ReferenceAIdeal.nD,
          r.2.mem ((c.tc : Thread Cert.ReferenceAIdeal.nD Cert.ReferenceAIdeal.τ).loc Cert.ReferenceAIdeal.main_v120) = v0 c
          ∧ r.2.mem ((c.tc : Thread Cert.ReferenceAIdeal.nD Cert.ReferenceAIdeal.τ).loc Cert.ReferenceAIdeal.main_v67) = v1 c
          ∧ r.2.mem ((c.tc : Thread Cert.ReferenceAIdeal.nD Cert.ReferenceAIdeal.τ).loc Cert.ReferenceAIdeal.main_v121) = v2 c
          ∧ r.2.mem ((c.tc : Thread Cert.ReferenceAIdeal.nD Cert.ReferenceAIdeal.τ).loc Cert.ReferenceAIdeal.main_v123) = v3 c
          ∧ r.2.mem ((c.tc : Thread Cert.ReferenceAIdeal.nD Cert.ReferenceAIdeal.τ).loc Cert.ReferenceAIdeal.main_arg0) = m' ((c.tc : Thread Cert.ReferenceAIdeal.nD Cert.ReferenceAIdeal.τ).loc Cert.ReferenceAIdeal.main_arg0)
          ∧ r.2.mem ((c.tc : Thread Cert.ReferenceAIdeal.nD Cert.ReferenceAIdeal.τ).loc Cert.ReferenceAIdeal.main_arg1) = m' ((c.tc : Thread Cert.ReferenceAIdeal.nD Cert.ReferenceAIdeal.τ).loc Cert.ReferenceAIdeal.main_arg1)
          ∧ r.2.mem ((c.tc : Thread Cert.ReferenceAIdeal.nD Cert.ReferenceAIdeal.τ).loc Cert.ReferenceAIdeal.main_arg2) = m' ((c.tc : Thread Cert.ReferenceAIdeal.nD Cert.ReferenceAIdeal.τ).loc Cert.ReferenceAIdeal.main_arg2)
          ∧ r.2.mem ((c.tc : Thread Cert.ReferenceAIdeal.nD Cert.ReferenceAIdeal.τ).loc Cert.ReferenceAIdeal.main_arg3) = m' ((c.tc : Thread Cert.ReferenceAIdeal.nD Cert.ReferenceAIdeal.τ).loc Cert.ReferenceAIdeal.main_arg3)
          ∧ r.2.mem ((c.tc : Thread Cert.ReferenceAIdeal.nD Cert.ReferenceAIdeal.τ).loc Cert.ReferenceAIdeal.main_arg4) = m' ((c.tc : Thread Cert.ReferenceAIdeal.nD Cert.ReferenceAIdeal.τ).loc Cert.ReferenceAIdeal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernelA : Cert.KernelA.Facts) (hKernelAIdeal : Cert.KernelAIdeal.Facts) (hReferenceAIdeal : Cert.ReferenceAIdeal.Facts) (hPre_finite_qk : Cert.Pre_finite_qk.Facts) (hPre_zero_pad : Cert.Pre_zero_pad.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_zero_pad (hKernel7Ideal := hKernel7Ideal) (hPre_zero_pad := hPre_zero_pad)
    ∧ quiescent_Reference7Ideal (hReference7Ideal := hReference7Ideal)
    ∧ quiescent_Reference7Ideal_pre_zero_pad (hReference7Ideal := hReference7Ideal) (hPre_zero_pad := hPre_zero_pad)
    ∧ quiescent_Kernel8 (hKernel8 := hKernel8)
    ∧ quiescent_Kernel8Ideal (hKernel8Ideal := hKernel8Ideal)
    ∧ quiescent_Kernel8Ideal_pre_finite_qk (hKernel8Ideal := hKernel8Ideal) (hPre_finite_qk := hPre_finite_qk)
    ∧ quiescent_Reference8Ideal (hReference8Ideal := hReference8Ideal)
    ∧ quiescent_Reference8Ideal_pre_finite_qk (hReference8Ideal := hReference8Ideal) (hPre_finite_qk := hPre_finite_qk)
    ∧ quiescent_Kernel9 (hKernel9 := hKernel9)
    ∧ quiescent_Kernel9Ideal (hKernel9Ideal := hKernel9Ideal)
    ∧ quiescent_Reference9Ideal (hReference9Ideal := hReference9Ideal)
    ∧ quiescent_KernelA (hKernelA := hKernelA)
    ∧ quiescent_KernelAIdeal (hKernelAIdeal := hKernelAIdeal)
    ∧ quiescent_ReferenceAIdeal (hReferenceAIdeal := hReferenceAIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_zero_pad (hKernel7Ideal := hKernel7Ideal) (hReference7Ideal := hReference7Ideal) (hPre_zero_pad := hPre_zero_pad)
    ∧ preserves_Kernel8_Kernel8Ideal
    ∧ algebraic_Kernel8Ideal_Reference8Ideal_pre_finite_qk (hKernel8Ideal := hKernel8Ideal) (hReference8Ideal := hReference8Ideal) (hPre_finite_qk := hPre_finite_qk)
    ∧ preserves_Kernel9_Kernel9Ideal
    ∧ algebraic_Kernel9Ideal_Reference9Ideal (hKernel9Ideal := hKernel9Ideal) (hReference9Ideal := hReference9Ideal)
    ∧ preserves_KernelA_KernelAIdeal
    ∧ algebraic_KernelAIdeal_ReferenceAIdeal (hKernelAIdeal := hKernelAIdeal) (hReferenceAIdeal := hReferenceAIdeal)
-- ==== Pre_finite_qk.lean ====
abbrev S8x4352x1024 : Shape := ⟨3, ![8, 4352, 1024]⟩
abbrev S8x4352x512 : Shape := ⟨3, ![8, 4352, 512]⟩
abbrev S_ : Shape := ⟨0, ![]⟩

class Facts : Prop where
  bitsLt_bf16_f32 : FTy.bits .bf16 < FTy.bits .f32
  bcast_S_S8x4352x1024 : S_.BroadcastsInDim S8x4352x1024 (![] : Fin 0 → Fin S8x4352x1024.rank)

variable [Facts]

def fn {F : FTy → Type} [FloatOps F] (main_arg0 : FVec F S8x4352x1024 .bf16) (main_arg1 : FVec F S8x4352x1024 .bf16) (main_arg2 : FVec F S8x4352x512 .bf16) : IVec S8x4352x1024 1 :=
  let main_v0 : FVec F S8x4352x1024 .f32 := (extf .f32 · bitsLt_bf16_f32) main_arg0
  let main_v1 : FVec F S8x4352x1024 .f32 := Host.absf main_v0
  let main_cst : FVec F S_ .f32 := constant S_ .f32 0x7F800000#32
  let main_v2 : FVec F S8x4352x1024 .f32 := broadcastInDim S8x4352x1024 ![] bcast_S_S8x4352x1024 main_cst
  let main_v3 : IVec S8x4352x1024 1 := cmpf .olt main_v1 main_v2
  let main_v4 : FVec F S8x4352x1024 .f32 := (extf .f32 · bitsLt_bf16_f32) main_arg1
  let main_v5 : FVec F S8x4352x1024 .f32 := Host.absf main_v4
  let main_cst_0 : FVec F S_ .f32 := constant S_ .f32 0x7F800000#32
  let main_v6 : FVec F S8x4352x1024 .f32 := broadcastInDim S8x4352x1024 ![] bcast_S_S8x4352x1024 main_cst_0
  let main_v7 : IVec S8x4352x1024 1 := cmpf .olt main_v5 main_v6
  let main_v8 : IVec S8x4352x1024 1 := andi main_v3 main_v7
  main_v8
-- ==== Pre_zero_pad.lean ====
abbrev S34816x2048 : Shape := ⟨2, ![34816, 2048]⟩
abbrev S256 : Shape := ⟨1, ![256]⟩
abbrev S128 : Shape := ⟨1, ![128]⟩
abbrev S256x768 : Shape := ⟨2, ![256, 768]⟩
abbrev S128x1024 : Shape := ⟨2, ![128, 1024]⟩
abbrev S3x512 : Shape := ⟨2, ![3, 512]⟩
abbrev S4096x16 : Shape := ⟨2, ![4096, 16]⟩
abbrev S34816x64 : Shape := ⟨2, ![34816, 64]⟩
abbrev S34816x32 : Shape := ⟨2, ![34816, 32]⟩
abbrev S34816x96 : Shape := ⟨2, ![34816, 96]⟩
abbrev S_ : Shape := ⟨0, ![]⟩

class Facts : Prop where
  slices_S34816x2048_S34816x64_0_384 : S34816x2048.Slices ![0, 384] S34816x64
  slices_S34816x2048_S34816x32_0_480 : S34816x2048.Slices ![0, 480] S34816x32
  concatenates_S34816x64_S34816x32_S34816x96_d1 : Shape.Concatenates [S34816x64, S34816x32] S34816x96 1
  bcast_S_S34816x96 : S_.BroadcastsInDim S34816x96 (![] : Fin 0 → Fin S34816x96.rank)

variable [Facts]

def fn {F : FTy → Type} [FloatOps F] (main_arg0 : FVec F S34816x2048 .f32) (main_arg1 : FVec F S256 .f32) (main_arg2 : FVec F S128 .f32) (main_arg3 : FVec F S256x768 .f32) (main_arg4 : FVec F S128x1024 .f32) (main_arg5 : FVec F S3x512 .f32) (main_arg6 : FVec F S4096x16 .f32) (main_arg7 : FVec F S4096x16 .f32) : IVec S34816x96 1 :=
  let main_v0 : FVec F S34816x64 .f32 := (extractStridedSlice S34816x64 ![0, 384] · slices_S34816x2048_S34816x64_0_384) main_arg0
  let main_v1 : FVec F S34816x32 .f32 := (extractStridedSlice S34816x32 ![0, 480] · slices_S34816x2048_S34816x32_0_480) main_arg0
  let main_v2 : FVec F S34816x96 .f32 := (fun a b => concatenate S34816x96 1 [⟨S34816x64, a⟩, ⟨S34816x32, b⟩] concatenates_S34816x64_S34816x32_S34816x96_d1) main_v0 main_v1
  let main_cst : FVec F S_ .f32 := constant S_ .f32 0x00000000#32
  let main_v3 : FVec F S34816x96 .f32 := broadcastInDim S34816x96 ![] bcast_S_S34816x96 main_cst
  let main_v4 : IVec S34816x96 1 := cmpf .oeq main_v2 main_v3
  main_v4
-- ==== Kernel.lean ====
abbrev S8x4352x1024 : Shape := ⟨3, ![8, 4352, 1024]⟩
abbrev S8x4352x512 : Shape := ⟨3, ![8, 4352, 512]⟩
abbrev S8x4096x512 : Shape := ⟨3, ![8, 4096, 512]⟩
abbrev S1x1024x256 : Shape := ⟨3, ![1, 1024, 256]⟩
abbrev S1x4352x256 : Shape := ⟨3, ![1, 4352, 256]⟩
abbrev S1x4352x128 : Shape := ⟨3, ![1, 4352, 128]⟩
abbrev S1x1024x128 : Shape := ⟨3, ![1, 1024, 128]⟩
abbrev S1x128x128 : Shape := ⟨3, ![1, 128, 128]⟩
abbrev S128x128 : Shape := ⟨2, ![128, 128]⟩
abbrev S4352x128 : Shape := ⟨2, ![4352, 128]⟩
abbrev S128x4352 : Shape := ⟨2, ![128, 4352]⟩
abbrev S128 : Shape := ⟨1, ![128]⟩
abbrev S128x1 : Shape := ⟨2, ![128, 1]⟩
abbrev S1x4352x64 : Shape := ⟨3, ![1, 4352, 64]⟩
abbrev S4352x64 : Shape := ⟨2, ![4352, 64]⟩
abbrev S128x64 : Shape := ⟨2, ![128, 64]⟩

abbrev nBuf : Space → Nat
  | .hbm => 4
  | .vmem => 8
  | .smem => 0
  | _ => 0

abbrev bufTy : (tb : Table) → Fin (tcTables nBuf tb) → BufTy
  | .hbm, ⟨0, _⟩ => ⟨S8x4352x1024, .bf16⟩
  | .hbm, ⟨1, _⟩ => ⟨S8x4352x1024, .bf16⟩
  | .hbm, ⟨2, _⟩ => ⟨S8x4352x512, .bf16⟩
  | .hbm, ⟨3, _⟩ => ⟨S8x4096x512, .f32⟩
  | .local _ .vmem, ⟨0, _⟩ => ⟨S1x1024x256, .bf16⟩
  | .local _ .vmem, ⟨1, _⟩ => ⟨S1x1024x256, .bf16⟩
  | .local _ .vmem, ⟨2, _⟩ => ⟨S1x4352x256, .bf16⟩
  | .local _ .vmem, ⟨3, _⟩ => ⟨S1x4352x256, .bf16⟩
  | .local _ .vmem, ⟨4, _⟩ => ⟨S1x4352x128, .bf16⟩
  | .local _ .vmem, ⟨5, _⟩ => ⟨S1x4352x128, .bf16⟩
  | .local _ .vmem, ⟨6, _⟩ => ⟨S1x1024x128, .f32⟩
  | .local _ .vmem, ⟨7, _⟩ => ⟨S1x1024x128, .f32⟩
  | _, _ => ⟨S8x4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x4352x1024 : Shape := ⟨3, ![8, 4352, 1024]⟩
abbrev S8x4352x512 : Shape := ⟨3, ![8, 4352, 512]⟩
abbrev S8x4096x1024 : Shape := ⟨3, ![8, 4096, 1024]⟩
abbrev S8x4096x8x128 : Shape := ⟨4, ![8, 4096, 8, 128]⟩
abbrev S8x4352x8x128 : Shape := ⟨4, ![8, 4352, 8, 128]⟩
abbrev S8x4352x8x64 : Shape := ⟨4, ![8, 4352, 8, 64]⟩
abbrev S8x8x4096x4352 : Shape := ⟨4, ![8, 8, 4096, 4352]⟩
abbrev S_ : Shape := ⟨0, ![]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩
abbrev S8x4096x8x64 : Shape := ⟨4, ![8, 4096, 8, 64]⟩
abbrev S8x4096x512 : Shape := ⟨3, ![8, 4096, 512]⟩

abbrev nBuf : Space → Nat
  | .hbm => 28
  | .vmem => 0
  | .smem => 0
  | _ => 0

abbrev bufTy : (tb : Table) → Fin (tcTables nBuf tb) → BufTy
  | .hbm, ⟨0, _⟩ => ⟨S8x4352x1024, .bf16⟩
  | .hbm, ⟨1, _⟩ => ⟨S8x4352x1024, .bf16⟩
  | .hbm, ⟨2, _⟩ => ⟨S8x4352x512, .bf16⟩
  | .hbm, ⟨3, _⟩ => ⟨S8x4096x1024, .bf16⟩
  | .hbm, ⟨4, _⟩ => ⟨S8x4096x1024, .f32⟩
  | .hbm, ⟨5, _⟩ => ⟨S8x4096x8x128, .f32⟩
  | .hbm, ⟨6, _⟩ => ⟨S8x4352x1024, .f32⟩
  | .hbm, ⟨7, _⟩ => ⟨S8x4352x8x128, .f32⟩
  | .hbm, ⟨8, _⟩ => ⟨S8x4352x512, .f32⟩
  | .hbm, ⟨9, _⟩ => ⟨S8x4352x8x64, .f32⟩
  | .hbm, ⟨10, _⟩ => ⟨S8x8x4096x4352, .f32⟩
  | .hbm, ⟨11, _⟩ => ⟨S_, .f32⟩
  | .hbm, ⟨12, _⟩ => ⟨S8x8x4096, .f32⟩
  | .hbm, ⟨13, _⟩ => ⟨S_, .f32⟩
  | .hbm, ⟨14, _⟩ => ⟨S8x8x4096, .f32⟩
  | .hbm, ⟨15, _⟩ => ⟨S8x8x4096, .f32⟩
  | .hbm, ⟨16, _⟩ => ⟨S8x8x4096x1, .f32⟩
  | .hbm, ⟨17, _⟩ => ⟨S8x8x4096x4352, .f32⟩
  | .hbm, ⟨18, _⟩ => ⟨S8x8x4096x4352, .f32⟩
  | .hbm, ⟨19, _⟩ => ⟨S8x8x4096x4352, .f32⟩
  | .hbm, ⟨20, _⟩ => ⟨S_, .f32⟩
  | .hbm, ⟨21, _⟩ => ⟨S8x8x4096, .f32⟩
  | .hbm, ⟨22, _⟩ => ⟨S8x8x4096x1, .f32⟩
  | .hbm, ⟨23, _⟩ => ⟨S8x8x4096x4352, .f32⟩
  | .hbm, ⟨24, _⟩ => ⟨S8x8x4096x4352, .f32⟩
  | .hbm, ⟨25, _⟩ => ⟨S8x8x64x4096, .f32⟩
  | .hbm, ⟨26, _⟩ => ⟨S8x4096x8x64, .f32⟩
  | .hbm, ⟨27, _⟩ => ⟨S8x4096x512, .f32⟩
  | _, _ => ⟨S8x4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x256x1024 : Shape := ⟨3, ![8, 256, 1024]⟩
abbrev S1024 : Shape := ⟨1, ![1024]⟩
abbrev S16x6x1x1024 : Shape := ⟨4, ![16, 6, 1, 1024]⟩
abbrev S1024x1952 : Shape := ⟨2, ![1024, 1952]⟩
abbrev S32768x1024 : Shape := ⟨2, ![32768, 1024]⟩
abbrev S2048x1024 : Shape := ⟨2, ![2048, 1024]⟩
abbrev S1024x384 : Shape := ⟨2, ![1024, 384]⟩
abbrev S_ : Shape := ⟨0, ![]⟩
abbrev S1024x64 : Shape := ⟨2, ![1024, 64]⟩
abbrev S1024x32 : Shape := ⟨2, ![1024, 32]⟩
abbrev S1024x1536 : Shape := ⟨2, ![1024, 1536]⟩
abbrev S1024x2048 : Shape := ⟨2, ![1024, 2048]⟩
abbrev S1x1024 : Shape := ⟨2, ![1, 1024]⟩
abbrev S34816x2048 : Shape := ⟨2, ![34816, 2048]⟩
abbrev S256x1024 : Shape := ⟨2, ![256, 1024]⟩
abbrev S1x1x1x1024 : Shape := ⟨4, ![1, 1, 1, 1024]⟩
abbrev S256x2048 : Shape := ⟨2, ![256, 2048]⟩
abbrev S256 : Shape := ⟨1, ![256]⟩
abbrev S256x1 : Shape := ⟨2, ![256, 1]⟩

abbrev nBuf : Space → Nat
  | .hbm => 18
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S1024, .f32⟩
  | .hbm, ⟨3, _⟩ => ⟨S16x6x1x1024, .f32⟩
  | .hbm, ⟨4, _⟩ => ⟨S1024x1952, .f32⟩
  | .hbm, ⟨5, _⟩ => ⟨S32768x1024, .f32⟩
  | .hbm, ⟨6, _⟩ => ⟨S2048x1024, .f32⟩
  | .hbm, ⟨7, _⟩ => ⟨S1024x384, .f32⟩
  | .hbm, ⟨8, _⟩ => ⟨S_, .f32⟩
  | .hbm, ⟨9, _⟩ => ⟨S1024x64, .f32⟩
  | .hbm, ⟨10, _⟩ => ⟨S1024x32, .f32⟩
  | .hbm, ⟨11, _⟩ => ⟨S_, .f32⟩
  | .hbm, ⟨12, _⟩ => ⟨S1024x32, .f32⟩
  | .hbm, ⟨13, _⟩ => ⟨S1024x1536, .f32⟩
  | .hbm, ⟨14, _⟩ => ⟨S1024x2048, .f32⟩
  | .hbm, ⟨15, _⟩ => ⟨S1024x2048, .bf16⟩
  | .hbm, ⟨16, _⟩ => ⟨S1x1024, .f32⟩
  | .hbm, ⟨17, _⟩ => ⟨S34816x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1024x2048, .bf16⟩
  | .local _ .vmem, ⟨10, _⟩ => ⟨S256x2048, .f32⟩
  | .local _ .vmem, ⟨11, _⟩ => ⟨S256x2048, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![136], ![false]⟩

def cc0_transform_0 (i : grid0.Coords) : Fin 2 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.muli v16 c16_i32
  let c17_i32_4 : BitVec 32 := 17#32
  let c0_i32_5 : BitVec 32 := 0#32
  let v18 : BitVec 1 := Scalar.cmpi .eq c17_i32_4 c0_i32_5
  let c1_i32_6 : BitVec 32 := 1#32
  let v19 : BitVec 32 := Scalar.select v18 c1_i32_6 c17_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c15_i32 : BitVec 32 := 15#32
  let v28 : BitVec 32 := Scalar.minsi v27 c15_i32
  let v29 : BitVec 32 := Scalar.addi v17 v28
  let c0_i32_10 : BitVec 32 := 0#32
  let c0_i32_11 : BitVec 32 := 0#32
  ![v29.toNat, c0_i32_10.toNat]

def cc0_transform_1 (i : grid0.Coords) : Fin 2 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.muli v16 c1_i32_4
  let c17_i32_5 : BitVec 32 := 17#32
  let c0_i32_6 : BitVec 32 := 0#32
  let v18 : BitVec 1 := Scalar.cmpi .eq c17_i32_5 c0_i32_6
  let c1_i32_7 : BitVec 32 := 1#32
  let v19 : BitVec 32 := Scalar.select v18 c1_i32_7 c17_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c16_i32 : BitVec 32 := 16#32
  let v28 : BitVec 32 := Scalar.subi v27 c16_i32
  let c0_i32_11 : BitVec 32 := 0#32
  let v29 : BitVec 32 := Scalar.maxsi v28 c0_i32_11
  let v30 : BitVec 32 := Scalar.addi v17 v29
  let c0_i32_12 : BitVec 32 := 0#32
  let c0_i32_13 : BitVec 32 := 0#32
  ![v30.toNat, c0_i32_12.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32 : BitVec 32 := 16#32
  let v10 : BitVec 1 := Scalar.cmpi .sge v9 c16_i32
  let c17_i32_3 : BitVec 32 := 17#32
  let v11 : BitVec 32 := Scalar.divsi arg0 c17_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c17_i32_3 c0_i32_6
  let v18 : BitVec 32 := Scalar.extui v17
  let c0_i32_7 : BitVec 32 := 0#32
  let v19 : BitVec 1 := Scalar.cmpi .slt c17_i32_3 c0_i32_7
  let v20 : BitVec 32 := Scalar.extui v19
  let v21 : BitVec 32 := Scalar.subi v18 v20
  let v22 : BitVec 1 := Scalar.cmpi .ne v16 v21
  let v23 : BitVec 32 := Scalar.remsi arg0 c17_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c8_i32 : BitVec 32 := 8#32
  let v28 : BitVec 32 := Scalar.select v10 c8_i32 v27
  let c0_i32_10 : BitVec 32 := 0#32
  let c0_i32_11 : BitVec 32 := 0#32
  let c0_i32_12 : BitVec 32 := 0#32
  let c0_i32_13 : BitVec 32 := 0#32
  ![v28.toNat, c0_i32_10.toNat, c0_i32_11.toNat, c0_i32_12.toNat]

def cc0_transform_4 (i : grid0.Coords) : Fin 4 → Nat :=
  let arg0 : BitVec 32 := BitVec.ofNat 32 (i 0).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32 : BitVec 32 := 16#32
  let v10 : BitVec 1 := Scalar.cmpi .sge v9 c16_i32
  let c17_i32_3 : BitVec 32 := 17#32
  let v11 : BitVec 32 := Scalar.divsi arg0 c17_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c17_i32_3 c0_i32_6
  let v18 : BitVec 32 := Scalar.extui v17
  let c0_i32_7 : BitVec 32 := 0#32
  let v19 : BitVec 1 := Scalar.cmpi .slt c17_i32_3 c0_i32_7
  let v20 : BitVec 32 := Scalar.extui v19
  let v21 : BitVec 32 := Scalar.subi v18 v20
  let v22 : BitVec 1 := Scalar.cmpi .ne v16 v21
  let v23 : BitVec 32 := Scalar.remsi arg0 c17_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c8_i32 : BitVec 32 := 8#32
  let v28 : BitVec 32 := Scalar.select v10 c8_i32 v27
  let c1_i32_10 : BitVec 32 := 1#32
  let c0_i32_11 : BitVec 32 := 0#32
  let c0_i32_12 : BitVec 32 := 0#32
  let c0_i32_13 : BitVec 32 := 0#32
  ![v28.toNat, c1_i32_10.toNat, c0_i32_11.toNat, c0_i32_12.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8x4096x1024 : Shape := ⟨3, ![8, 4096, 1024]⟩
abbrev S8x256x1024 : Shape := ⟨3, ![8, 256, 1024]⟩
abbrev S1024 : Shape := ⟨1, ![1024]⟩
abbrev S16x6x1x1024 : Shape := ⟨4, ![16, 6, 1, 1024]⟩
abbrev S1024x1952 : Shape := ⟨2, ![1024, 1952]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1x1024 : Shape := ⟨4, ![8, 1, 1, 1024]⟩
abbrev S8x1x1024 : Shape := ⟨3, ![8, 1, 1024]⟩
abbrev S8x256 : Shape := ⟨2, ![8, 256]⟩
abbrev S8x256x1 : Shape := ⟨3, ![8, 256, 1]⟩
abbrev S1x1x1x1024 : Shape := ⟨4, ![1, 1, 1, 1024]⟩
abbrev S1x1024 : Shape := ⟨2, ![1, 1024]⟩
abbrev S8x4096x1952 : Shape := ⟨3, ![8, 4096, 1952]⟩
abbrev S8x256x1952 : Shape := ⟨3, ![8, 256, 1952]⟩
abbrev S8x4352x1952 : Shape := ⟨3, ![8, 4352, 1952]⟩
abbrev S34816x1952 : Shape := ⟨2, ![34816, 1952]⟩
abbrev S34816x384 : Shape := ⟨2, ![34816, 384]⟩
abbrev S34816x64 : Shape := ⟨2, ![34816, 64]⟩
abbrev S34816x32 : Shape := ⟨2, ![34816, 32]⟩
abbrev S34816x1536 : Shape := ⟨2, ![34816, 1536]⟩
abbrev S34816x2048 : Shape := ⟨2, ![34816, 2048]⟩

abbrev nBuf : Space → Nat
  | .hbm => 73
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S1024, .f32⟩
  | .hbm, ⟨3, _⟩ => ⟨S16x6x1x1024, .f32⟩
  | .hbm, ⟨4, _⟩ => ⟨S1024x1952, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x1x1x1024, .f32⟩
  | .hbm, ⟨22, _⟩ => ⟨S8x1x1024, .f32⟩
  | .hbm, ⟨23, _⟩ => ⟨S8x1x1x1024, .f32⟩
  | .hbm, ⟨24, _⟩ => ⟨S8x1x1024, .f32⟩
  | .hbm, ⟨25, _⟩ => ⟨S_, .f32⟩
  | .hbm, ⟨26, _⟩ => ⟨S8x1x1024, .f32⟩
  | .hbm, ⟨27, _⟩ => ⟨S8x1x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S8x256x1024, .f32⟩
  | .hbm, ⟨33, _⟩ => ⟨S_, .f32⟩
  | .hbm, ⟨34, _⟩ => ⟨S8x256, .f32⟩
  | .hbm, ⟨35, _⟩ => ⟨S8x256x1, .f32⟩
  | .hbm, ⟨36, _⟩ => ⟨S_, .f32⟩
  | .hbm, ⟨37, _⟩ => ⟨S8x256x1, .f32⟩
  | .hbm, ⟨38, _⟩ => ⟨S8x256x1, .f32⟩
  | .hbm, ⟨39, _⟩ => ⟨S_, .f32⟩
  | .hbm, ⟨40, _⟩ => ⟨S8x256x1, .f32⟩
  | .hbm, ⟨41, _⟩ => ⟨S8x256x1, .f32⟩
  | .hbm, ⟨42, _⟩ => ⟨S8x256x1, .f32⟩
  | .hbm, ⟨43, _⟩ => ⟨S8x256x1024, .f32⟩
  | .hbm, ⟨44, _⟩ => ⟨S8x256x1024, .f32⟩
  | .hbm, ⟨45, _⟩ => ⟨S1x1x1024, .f32⟩
  | .hbm, ⟨46, _⟩ => ⟨S8x256x1024, .f32⟩
  | .hbm, ⟨47, _⟩ => ⟨S8x256x1024, .f32⟩
  | .hbm, ⟨48, _⟩ => ⟨S1x1x1x1024, .f32⟩
  | .hbm, ⟨49, _⟩ => ⟨S1x1024, .f32⟩
  | .hbm, ⟨50, _⟩ => ⟨S1x1x1x1024, .f32⟩
  | .hbm, ⟨51, _⟩ => ⟨S1x1024, .f32⟩
  | .hbm, ⟨52, _⟩ => ⟨S_, .f32⟩
  | .hbm, ⟨53, _⟩ => ⟨S1x1024, .f32⟩
  | .hbm, ⟨54, _⟩ => ⟨S1x1024, .f32⟩
  | .hbm, ⟨55, _⟩ => ⟨S1x1x1024, .f32⟩
  | .hbm, ⟨56, _⟩ => ⟨S8x256x1024, .f32⟩
  | .hbm, ⟨57, _⟩ => ⟨S8x256x1024, .f32⟩
  | .hbm, ⟨58, _⟩ => ⟨S1x1x1024, .f32⟩
  | .hbm, ⟨59, _⟩ => ⟨S8x256x1024, .f32⟩
  | .hbm, ⟨60, _⟩ => ⟨S8x256x1024, .f32⟩
  | .hbm, ⟨61, _⟩ => ⟨S8x4096x1952, .f32⟩
  | .hbm, ⟨62, _⟩ => ⟨S8x256x1952, .f32⟩
  | .hbm, ⟨63, _⟩ => ⟨S8x4352x1952, .f32⟩
  | .hbm, ⟨64, _⟩ => ⟨S34816x1952, .f32⟩
  | .hbm, ⟨65, _⟩ => ⟨S34816x384, .f32⟩
  | .hbm, ⟨66, _⟩ => ⟨S_, .f32⟩
  | .hbm, ⟨67, _⟩ => ⟨S34816x64, .f32⟩
  | .hbm, ⟨68, _⟩ => ⟨S34816x32, .f32⟩
  | .hbm, ⟨69, _⟩ => ⟨S_, .f32⟩
  | .hbm, ⟨70, _⟩ => ⟨S34816x32, .f32⟩
  | .hbm, ⟨71, _⟩ => ⟨S34816x1536, .f32⟩
  | .hbm, ⟨72, _⟩ => ⟨S34816x2048, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_7 : Ref sig .tc := ⟨.hbm, 66, rfl⟩
abbrev main_v53 : Ref sig .tc := ⟨.hbm, 67, rfl⟩
abbrev main_v54 : Ref sig .tc := ⟨.hbm, 68, rfl⟩
abbrev main_cst_8 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩

abbrev nD : Nat := 1
abbrev τ : Topo := Topo.v7x

variable {F : FTy → Type} [FloatOps F]
-- ==== Kernel3.lean ====
abbrev S8x4096x512 : Shape := ⟨3, ![8, 4096, 512]⟩
abbrev S8x256x512 : Shape := ⟨3, ![8, 256, 512]⟩
abbrev S8x4352x512 : Shape := ⟨3, ![8, 4352, 512]⟩
abbrev S1024x1024 : Shape := ⟨2, ![1024, 1024]⟩
abbrev S8x4096x1024 : Shape := ⟨3, ![8, 4096, 1024]⟩
abbrev S8x256x1024 : Shape := ⟨3, ![8, 256, 1024]⟩
abbrev S16x6x1x1024 : Shape := ⟨4, ![16, 6, 1, 1024]⟩
abbrev S1024 : Shape := ⟨1, ![1024]⟩
abbrev S1024x2048 : Shape := ⟨2, ![1024, 2048]⟩
abbrev S32768x512 : Shape := ⟨2, ![32768, 512]⟩
abbrev S2048x512 : Shape := ⟨2, ![2048, 512]⟩
abbrev S34816x512 : Shape := ⟨2, ![34816, 512]⟩
abbrev S512x1024 : Shape := ⟨2, ![512, 1024]⟩
abbrev S32768x1024 : Shape := ⟨2, ![32768, 1024]⟩
abbrev S2048x1024 : Shape := ⟨2, ![2048, 1024]⟩
abbrev S1x1024 : Shape := ⟨2, ![1, 1024]⟩
abbrev S34816x1024 : Shape := ⟨2, ![34816, 1024]⟩
abbrev S34816x2048 : Shape := ⟨2, ![34816, 2048]⟩
abbrev S256x512 : Shape := ⟨2, ![256, 512]⟩
abbrev S256x1024 : Shape := ⟨2, ![256, 1024]⟩
abbrev S1x1x1x1024 : Shape := ⟨4, ![1, 1, 1, 1024]⟩
abbrev S256x2048 : Shape := ⟨2, ![256, 2048]⟩
abbrev S256 : Shape := ⟨1, ![256]⟩
abbrev S256x1 : Shape := ⟨2, ![256, 1]⟩

abbrev nBuf : Space → Nat
  | .hbm => 23
  | .vmem => 26
  | .smem => 0
  | _ => 0

abbrev bufTy : (tb : Table) → Fin (tcTables nBuf tb) → BufTy
  | .hbm, ⟨0, _⟩ => ⟨S8x4096x512, .f32⟩
  | .hbm, ⟨1, _⟩ => ⟨S8x256x512, .f32⟩
  | .hbm, ⟨2, _⟩ => ⟨S8x4352x512, .f32⟩
  | .hbm, ⟨3, _⟩ => ⟨S1024x1024, .f32⟩
  | .hbm, ⟨4, _⟩ => ⟨S8x4096x1024, .f32⟩
  | .hbm, ⟨5, _⟩ => ⟨S8x256x1024, .f32⟩
  | .hbm, ⟨6, _⟩ => ⟨S16x6x1x1024, .f32⟩
  | .hbm, ⟨7, _⟩ => ⟨S1024, .f32⟩
  | .hbm, ⟨8, _⟩ => ⟨S1024x2048, .f32⟩
  | .hbm, ⟨9, _⟩ => ⟨S32768x512, .f32⟩
  | .hbm, ⟨10, _⟩ => ⟨S2048x512, .f32⟩
  | .hbm, ⟨11, _⟩ => ⟨S34816x512, .f32⟩
  | .hbm, ⟨12, _⟩ => ⟨S512x1024, .f32⟩
  | .hbm, ⟨13, _⟩ => ⟨S512x1024, .bf16⟩
  | .hbm, ⟨14, _⟩ => ⟨S512x1024, .f32⟩
  | .hbm, ⟨15, _⟩ => ⟨S512x1024, .bf16⟩
  | .hbm, ⟨16, _⟩ => ⟨S32768x1024, .f32⟩
  | .hbm, ⟨17, _⟩ => ⟨S2048x1024, .f32⟩
  | .hbm, ⟨18, _⟩ => ⟨S1024x2048, .bf16⟩
  | .hbm, ⟨19, _⟩ => ⟨S1x1024, .f32⟩
  | .hbm, ⟨20, _⟩ => ⟨S34816x1024, .f32⟩
  | .hbm, ⟨21, _⟩ => ⟨S34816x1024, .bf16⟩
  | .hbm, ⟨22, _⟩ => ⟨S34816x2048, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S512x1024, .bf16⟩
  | .local _ .vmem, ⟨7, _⟩ => ⟨S512x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1x1x1024, .f32⟩
  | .local _ .vmem, ⟨13, _⟩ => ⟨S1x1x1x1024, .f32⟩
  | .local _ .vmem, ⟨14, _⟩ => ⟨S1x1024, .f32⟩
  | .local _ .vmem, ⟨15, _⟩ => ⟨S1x1x1x1024, .f32⟩
  | .local _ .vmem, ⟨16, _⟩ => ⟨S1x1x1x1024, .f32⟩
  | .local _ .vmem, ⟨17, _⟩ => ⟨S1x1x1x1024, .f32⟩
  | .local _ .vmem, ⟨18, _⟩ => ⟨S1x1x1x1024, .f32⟩
  | .local _ .vmem, ⟨19, _⟩ => ⟨S1024x2048, .bf16⟩
  | .local _ .vmem, ⟨20, _⟩ => ⟨S256x1024, .f32⟩
  | .local _ .vmem, ⟨21, _⟩ => ⟨S256x1024, .f32⟩
  | .local _ .vmem, ⟨22, _⟩ => ⟨S256x1024, .bf16⟩
  | .local _ .vmem, ⟨23, _⟩ => ⟨S256x1024, .bf16⟩
  | .local _ .vmem, ⟨24, _⟩ => ⟨S256x2048, .bf16⟩
  | .local _ .vmem, ⟨25, _⟩ => ⟨S256x2048, .bf16⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![136], ![false]⟩

def cc0_transform_0 (i : grid0.Coords) : Fin 2 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.muli v16 c16_i32
  let c17_i32_4 : BitVec 32 := 17#32
  let c0_i32_5 : BitVec 32 := 0#32
  let v18 : BitVec 1 := Scalar.cmpi .eq c17_i32_4 c0_i32_5
  let c1_i32_6 : BitVec 32 := 1#32
  let v19 : BitVec 32 := Scalar.select v18 c1_i32_6 c17_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c15_i32 : BitVec 32 := 15#32
  let v28 : BitVec 32 := Scalar.minsi v27 c15_i32
  let v29 : BitVec 32 := Scalar.addi v17 v28
  let c0_i32_10 : BitVec 32 := 0#32
  let c0_i32_11 : BitVec 32 := 0#32
  ![v29.toNat, c0_i32_10.toNat]

def cc0_transform_1 (i : grid0.Coords) : Fin 2 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.muli v16 c1_i32_4
  let c17_i32_5 : BitVec 32 := 17#32
  let c0_i32_6 : BitVec 32 := 0#32
  let v18 : BitVec 1 := Scalar.cmpi .eq c17_i32_5 c0_i32_6
  let c1_i32_7 : BitVec 32 := 1#32
  let v19 : BitVec 32 := Scalar.select v18 c1_i32_7 c17_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c16_i32 : BitVec 32 := 16#32
  let v28 : BitVec 32 := Scalar.subi v27 c16_i32
  let c0_i32_11 : BitVec 32 := 0#32
  let v29 : BitVec 32 := Scalar.maxsi v28 c0_i32_11
  let v30 : BitVec 32 := Scalar.addi v17 v29
  let c0_i32_12 : BitVec 32 := 0#32
  let c0_i32_13 : BitVec 32 := 0#32
  ![v30.toNat, c0_i32_12.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.muli v16 c16_i32
  let c17_i32_4 : BitVec 32 := 17#32
  let c0_i32_5 : BitVec 32 := 0#32
  let v18 : BitVec 1 := Scalar.cmpi .eq c17_i32_4 c0_i32_5
  let c1_i32_6 : BitVec 32 := 1#32
  let v19 : BitVec 32 := Scalar.select v18 c1_i32_6 c17_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c15_i32 : BitVec 32 := 15#32
  let v28 : BitVec 32 := Scalar.minsi v27 c15_i32
  let v29 : BitVec 32 := Scalar.addi v17 v28
  let c0_i32_10 : BitVec 32 := 0#32
  let c0_i32_11 : BitVec 32 := 0#32
  ![v29.toNat, c0_i32_10.toNat]

def cc0_transform_6 (i : grid0.Coords) : Fin 2 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.muli v16 c1_i32_4
  let c17_i32_5 : BitVec 32 := 17#32
  let c0_i32_6 : BitVec 32 := 0#32
  let v18 : BitVec 1 := Scalar.cmpi .eq c17_i32_5 c0_i32_6
  let c1_i32_7 : BitVec 32 := 1#32
  let v19 : BitVec 32 := Scalar.select v18 c1_i32_7 c17_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c16_i32 : BitVec 32 := 16#32
  let v28 : BitVec 32 := Scalar.subi v27 c16_i32
  let c0_i32_11 : BitVec 32 := 0#32
  let v29 : BitVec 32 := Scalar.maxsi v28 c0_i32_11
  let v30 : BitVec 32 := Scalar.addi v17 v29
  let c0_i32_12 : BitVec 32 := 0#32
  let c0_i32_13 : BitVec 32 := 0#32
  ![v30.toNat, c0_i32_12.toNat]

def cc0_transform_7 (i : grid0.Coords) : Fin 4 → Nat :=
  let arg0 : BitVec 32 := BitVec.ofNat 32 (i 0).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32 : BitVec 32 := 16#32
  let v10 : BitVec 1 := Scalar.cmpi .sge v9 c16_i32
  let c17_i32_3 : BitVec 32 := 17#32
  let v11 : BitVec 32 := Scalar.divsi arg0 c17_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c17_i32_3 c0_i32_6
  let v18 : BitVec 32 := Scalar.extui v17
  let c0_i32_7 : BitVec 32 := 0#32
  let v19 : BitVec 1 := Scalar.cmpi .slt c17_i32_3 c0_i32_7
  let v20 : BitVec 32 := Scalar.extui v19
  let v21 : BitVec 32 := Scalar.subi v18 v20
  let v22 : BitVec 1 := Scalar.cmpi .ne v16 v21
  let v23 : BitVec 32 := Scalar.remsi arg0 c17_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c8_i32 : BitVec 32 := 8#32
  let v28 : BitVec 32 := Scalar.select v10 c8_i32 v27
  let c2_i32 : BitVec 32 := 2#32
  let c0_i32_10 : BitVec 32 := 0#32
  let c0_i32_11 : BitVec 32 := 0#32
  let c0_i32_12 : BitVec 32 := 0#32
  ![v28.toNat, c2_i32.toNat, c0_i32_10.toNat, c0_i32_11.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32 : BitVec 32 := 16#32
  let v10 : BitVec 1 := Scalar.cmpi .sge v9 c16_i32
  let c17_i32_3 : BitVec 32 := 17#32
  let v11 : BitVec 32 := Scalar.divsi arg0 c17_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c17_i32_3 c0_i32_6
  let v18 : BitVec 32 := Scalar.extui v17
  let c0_i32_7 : BitVec 32 := 0#32
  let v19 : BitVec 1 := Scalar.cmpi .slt c17_i32_3 c0_i32_7
  let v20 : BitVec 32 := Scalar.extui v19
  let v21 : BitVec 32 := Scalar.subi v18 v20
  let v22 : BitVec 1 := Scalar.cmpi .ne v16 v21
  let v23 : BitVec 32 := Scalar.remsi arg0 c17_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c8_i32 : BitVec 32 := 8#32
  let v28 : BitVec 32 := Scalar.select v10 c8_i32 v27
  let c3_i32 : BitVec 32 := 3#32
  let c0_i32_10 : BitVec 32 := 0#32
  let c0_i32_11 : BitVec 32 := 0#32
  let c0_i32_12 : BitVec 32 := 0#32
  ![v28.toNat, c3_i32.toNat, c0_i32_10.toNat, c0_i32_11.toNat]

def cc0_transform_10 (i : grid0.Coords) : Fin 4 → Nat :=
  let arg0 : BitVec 32 := BitVec.ofNat 32 (i 0).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32 : BitVec 32 := 16#32
  let v10 : BitVec 1 := Scalar.cmpi .sge v9 c16_i32
  let c17_i32_3 : BitVec 32 := 17#32
  let v11 : BitVec 32 := Scalar.divsi arg0 c17_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c17_i32_3 c0_i32_6
  let v18 : BitVec 32 := Scalar.extui v17
  let c0_i32_7 : BitVec 32 := 0#32
  let v19 : BitVec 1 := Scalar.cmpi .slt c17_i32_3 c0_i32_7
  let v20 : BitVec 32 := Scalar.extui v19
  let v21 : BitVec 32 := Scalar.subi v18 v20
  let v22 : BitVec 1 := Scalar.cmpi .ne v16 v21
  let v23 : BitVec 32 := Scalar.remsi arg0 c17_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c8_i32 : BitVec 32 := 8#32
  let v28 : BitVec 32 := Scalar.select v10 c8_i32 v27
  let c4_i32 : BitVec 32 := 4#32
  let c0_i32_10 : BitVec 32 := 0#32
  let c0_i32_11 : BitVec 32 := 0#32
  let c0_i32_12 : BitVec 32 := 0#32
  ![v28.toNat, c4_i32.toNat, c0_i32_10.toNat, c0_i32_11.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S8x4096x512 : Shape := ⟨3, ![8, 4096, 512]⟩
abbrev S8x256x512 : Shape := ⟨3, ![8, 256, 512]⟩
abbrev S8x4352x512 : Shape := ⟨3, ![8, 4352, 512]⟩
abbrev S1024x1024 : Shape := ⟨2, ![1024, 1024]⟩
abbrev S8x4096x1024 : Shape := ⟨3, ![8, 4096, 1024]⟩
abbrev S8x256x1024 : Shape := ⟨3, ![8, 256, 1024]⟩
abbrev S16x6x1x1024 : Shape := ⟨4, ![16, 6, 1, 1024]⟩
abbrev S1024 : Shape := ⟨1, ![1024]⟩
abbrev S1024x2048 : Shape := ⟨2, ![1024, 2048]⟩
abbrev S8x1x1x1024 : Shape := ⟨4, ![8, 1, 1, 1024]⟩
abbrev S8x1x1024 : Shape := ⟨3, ![8, 1, 1024]⟩
abbrev S1x1x1x1024 : Shape := ⟨4, ![1, 1, 1, 1024]⟩
abbrev S1x1024 : Shape := ⟨2, ![1, 1024]⟩
abbrev S1x1x1024 : Shape := ⟨3, ![1, 1, 1024]⟩
abbrev S_ : Shape := ⟨0, ![]⟩
abbrev S8x4096 : Shape := ⟨2, ![8, 4096]⟩
abbrev S8x4096x1 : Shape := ⟨3, ![8, 4096, 1]⟩
abbrev S8x256 : Shape := ⟨2, ![8, 256]⟩
abbrev S8x256x1 : Shape := ⟨3, ![8, 256, 1]⟩
abbrev S8x4352x1024 : Shape := ⟨3, ![8, 4352, 1024]⟩
abbrev S34816x1024 : Shape := ⟨2, ![34816, 1024]⟩
abbrev S34816x2048 : Shape := ⟨2, ![34816, 2048]⟩

abbrev nBuf : Space → Nat
  | .hbm => 89
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x256x512, .f32⟩
  | .hbm, ⟨2, _⟩ => ⟨S8x4352x512, .f32⟩
  | .hbm, ⟨3, _⟩ => ⟨S1024x1024, .f32⟩
  | .hbm, ⟨4, _⟩ => ⟨S8x4096x1024, .f32⟩
  | .hbm, ⟨5, _⟩ => ⟨S8x256x1024, .f32⟩
  | .hbm, ⟨6, _⟩ => ⟨S16x6x1x1024, .f32⟩
  | .hbm, ⟨7, _⟩ => ⟨S1024, .f32⟩
  | .hbm, ⟨8, _⟩ => ⟨S1024x2048, .f32⟩
  | .hbm, ⟨9, _⟩ => ⟨S8x4096x512, .f32⟩
  | .hbm, ⟨10, _⟩ => ⟨S8x4096x1024, .f32⟩
  | .hbm, ⟨11, _⟩ => ⟨S8x4096x1024, .f32⟩
  | .hbm, ⟨12, _⟩ => ⟨S8x256x512, .f32⟩
  | .hbm, ⟨13, _⟩ => ⟨S8x256x1024, .f32⟩
  | .hbm, ⟨14, _⟩ => ⟨S8x256x1024, .f32⟩
  | .hbm, ⟨15, _⟩ => ⟨S8x1x1x1024, .f32⟩
  | .hbm, ⟨16, _⟩ => ⟨S8x1x1024, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S1x1x1x1024, .f32⟩
  | .hbm, ⟨21, _⟩ => ⟨S1x1024, .f32⟩
  | .hbm, ⟨22, _⟩ => ⟨S1x1x1024, .f32⟩
  | .hbm, ⟨23, _⟩ => ⟨S8x256x1024, .f32⟩
  | .hbm, ⟨24, _⟩ => ⟨S8x256x1024, .f32⟩
  | .hbm, ⟨25, _⟩ => ⟨S8x256x1024, .f32⟩
  | .hbm, ⟨26, _⟩ => ⟨S8x4096x1024, .f32⟩
  | .hbm, ⟨27, _⟩ => ⟨S_, .f32⟩
  | .hbm, ⟨28, _⟩ => ⟨S8x4096, .f32⟩
  | .hbm, ⟨29, _⟩ => ⟨S8x4096x1, .f32⟩
  | .hbm, ⟨30, _⟩ => ⟨S_, .f32⟩
  | .hbm, ⟨31, _⟩ => ⟨S8x4096x1, .f32⟩
  | .hbm, ⟨32, _⟩ => ⟨S8x4096x1, .f32⟩
  | .hbm, ⟨33, _⟩ => ⟨S_, .f32⟩
  | .hbm, ⟨34, _⟩ => ⟨S8x4096x1, .f32⟩
  | .hbm, ⟨35, _⟩ => ⟨S8x4096x1, .f32⟩
  | .hbm, ⟨36, _⟩ => ⟨S8x4096x1, .f32⟩
  | .hbm, ⟨37, _⟩ => ⟨S8x4096x1024, .f32⟩
  | .hbm, ⟨38, _⟩ => ⟨S8x4096x1024, .f32⟩
  | .hbm, ⟨39, _⟩ => ⟨S1x1x1024, .f32⟩
  | .hbm, ⟨40, _⟩ => ⟨S8x4096x1024, .f32⟩
  | .hbm, ⟨41, _⟩ => ⟨S8x4096x1024, .f32⟩
  | .hbm, ⟨42, _⟩ => ⟨S8x1x1x1024, .f32⟩
  | .hbm, ⟨43, _⟩ => ⟨S8x1x1024, .f32⟩
  | .hbm, ⟨44, _⟩ => ⟨S8x1x1x1024, .f32⟩
  | .hbm, ⟨45, _⟩ => ⟨S8x1x1024, .f32⟩
  | .hbm, ⟨46, _⟩ => ⟨S_, .f32⟩
  | .hbm, ⟨47, _⟩ => ⟨S8x1x1024, .f32⟩
  | .hbm, ⟨48, _⟩ => ⟨S8x1x1024, .f32⟩
  | .hbm, ⟨49, _⟩ => ⟨S8x4096x1024, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | .hbm, ⟨53, _⟩ => ⟨S8x256x1024, .f32⟩
  | .hbm, ⟨54, _⟩ => ⟨S_, .f32⟩
  | .hbm, ⟨55, _⟩ => ⟨S8x256, .f32⟩
  | .hbm, ⟨56, _⟩ => ⟨S8x256x1, .f32⟩
  | .hbm, ⟨57, _⟩ => ⟨S_, .f32⟩
  | .hbm, ⟨58, _⟩ => ⟨S8x256x1, .f32⟩
  | .hbm, ⟨59, _⟩ => ⟨S8x256x1, .f32⟩
  | .hbm, ⟨60, _⟩ => ⟨S_, .f32⟩
  | .hbm, ⟨61, _⟩ => ⟨S8x256x1, .f32⟩
  | .hbm, ⟨62, _⟩ => ⟨S8x256x1, .f32⟩
  | .hbm, ⟨63, _⟩ => ⟨S8x256x1, .f32⟩
  | .hbm, ⟨64, _⟩ => ⟨S8x256x1024, .f32⟩
  | .hbm, ⟨65, _⟩ => ⟨S8x256x1024, .f32⟩
  | .hbm, ⟨66, _⟩ => ⟨S1x1x1024, .f32⟩
  | .hbm, ⟨67, _⟩ => ⟨S8x256x1024, .f32⟩
  | .hbm, ⟨68, _⟩ => ⟨S8x256x1024, .f32⟩
  | .hbm, ⟨69, _⟩ => ⟨S1x1x1x1024, .f32⟩
  | .hbm, ⟨70, _⟩ => ⟨S1x1024, .f32⟩
  | .hbm, ⟨71, _⟩ => ⟨S1x1x1x1024, .f32⟩
  | .hbm, ⟨72, _⟩ => ⟨S1x1024, .f32⟩
  | .hbm, ⟨73, _⟩ => ⟨S_, .f32⟩
  | .hbm, ⟨74, _⟩ => ⟨S1x1024, .f32⟩
  | .hbm, ⟨75, _⟩ => ⟨S1x1024, .f32⟩
  | .hbm, ⟨76, _⟩ => ⟨S1x1x1024, .f32⟩
  | .hbm, ⟨77, _⟩ => ⟨S8x256x1024, .f32⟩
  | .hbm, ⟨78, _⟩ => ⟨S8x256x1024, .f32⟩
  | .hbm, ⟨79, _⟩ => ⟨S1x1x1024, .f32⟩
  | .hbm, ⟨80, _⟩ => ⟨S8x256x1024, .f32⟩
  | .hbm, ⟨81, _⟩ => ⟨S8x256x1024, .f32⟩
  | .hbm, ⟨82, _⟩ => ⟨S8x4352x1024, .f32⟩
  | .hbm, ⟨83, _⟩ => ⟨S34816x1024, .f32⟩
  | .hbm, ⟨84, _⟩ => ⟨S8x4352x1024, .f32⟩
  | .hbm, ⟨85, _⟩ => ⟨S34816x1024, .f32⟩
  | .hbm, ⟨86, _⟩ => ⟨S34816x1024, .bf16⟩
  | .hbm, ⟨87, _⟩ => ⟨S34816x2048, .f32⟩
  | .hbm, ⟨88, _⟩ => ⟨S34816x2048, .bf16⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_3 : Ref sig .tc := ⟨.hbm, 54, rfl⟩
abbrev main_v41 : Ref sig .tc := ⟨.hbm, 55, rfl⟩
abbrev main_v42 : Ref sig .tc := ⟨.hbm, 56, rfl⟩
abbrev main_cst_4 : Ref sig .tc := ⟨.hbm, 57, rfl⟩
abbrev main_v43 : Ref sig .tc := ⟨.hbm, 58, rfl⟩
abbrev main_v44 : Ref sig .tc := ⟨.hbm, 59, rfl⟩
abbrev main_cst_5 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_6 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩

abbrev nD : Nat := 1
abbrev τ : Topo := Topo.v7x

variable {F : FTy → Type} [FloatOps F]
-- ==== Kernel4.lean ====
abbrev S34816x1024 : Shape := ⟨2, ![34816, 1024]⟩
abbrev S16x6x1x1024 : Shape := ⟨4, ![16, 6, 1, 1024]⟩
abbrev S1024 : Shape := ⟨1, ![1024]⟩
abbrev S1024x3088 : Shape := ⟨2, ![1024, 3088]⟩
abbrev S1024x16 : Shape := ⟨2, ![1024, 16]⟩
abbrev S1024x4x4 : Shape := ⟨3, ![1024, 4, 4]⟩
abbrev S_ : Shape := ⟨0, ![]⟩
abbrev S1024x4x128 : Shape := ⟨3, ![1024, 4, 128]⟩
abbrev S1024x512 : Shape := ⟨2, ![1024, 512]⟩
abbrev S1024x2048 : Shape := ⟨2, ![1024, 2048]⟩
abbrev S1024x1024 : Shape := ⟨2, ![1024, 1024]⟩
abbrev S1024x3584 : Shape := ⟨2, ![1024, 3584]⟩
abbrev S1x1024 : Shape := ⟨2, ![1, 1024]⟩
abbrev S34816x3584 : Shape := ⟨2, ![34816, 3584]⟩
abbrev S256x1024 : Shape := ⟨2, ![256, 1024]⟩
abbrev S1x1x1x1024 : Shape := ⟨4, ![1, 1, 1, 1024]⟩
abbrev S256x3584 : Shape := ⟨2, ![256, 3584]⟩
abbrev S256 : Shape := ⟨1, ![256]⟩
abbrev S256x1 : Shape := ⟨2, ![256, 1]⟩

abbrev nBuf : Space → Nat
  | .hbm => 20
  | .vmem => 16
  | .smem => 0
  | _ => 0

abbrev bufTy : (tb : Table) → Fin (tcTables nBuf tb) → BufTy
  | .hbm, ⟨0, _⟩ => ⟨S34816x1024, .f32⟩
  | .hbm, ⟨1, _⟩ => ⟨S34816x1024, .f32⟩
  | .hbm, ⟨2, _⟩ => ⟨S16x6x1x1024, .f32⟩
  | .hbm, ⟨3, _⟩ => ⟨S1024, .f32⟩
  | .hbm, ⟨4, _⟩ => ⟨S16x6x1x1024, .f32⟩
  | .hbm, ⟨5, _⟩ => ⟨S1024x3088, .f32⟩
  | .hbm, ⟨6, _⟩ => ⟨S1024x16, .f32⟩
  | .hbm, ⟨7, _⟩ => ⟨S1024x4x4, .f32⟩
  | .hbm, ⟨8, _⟩ => ⟨S1024x4x4, .f32⟩
  | .hbm, ⟨9, _⟩ => ⟨S_, .i32⟩
  | .hbm, ⟨10, _⟩ => ⟨S_, .f32⟩
  | .hbm, ⟨11, _⟩ => ⟨S1024x4x128, .f32⟩
  | .hbm, ⟨12, _⟩ => ⟨S1024x512, .f32⟩
  | .hbm, ⟨13, _⟩ => ⟨S1024x2048, .f32⟩
  | .hbm, ⟨14, _⟩ => ⟨S1024x1024, .f32⟩
  | .hbm, ⟨15, _⟩ => ⟨S1024x3584, .f32⟩
  | .hbm, ⟨16, _⟩ => ⟨S1024x3584, .bf16⟩
  | .hbm, ⟨17, _⟩ => ⟨S1x1024, .f32⟩
  | .hbm, ⟨18, _⟩ => ⟨S34816x1024, .f32⟩
  | .hbm, ⟨19, _⟩ => ⟨S34816x3584, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x1x1x1024, .f32⟩
  | .local _ .vmem, ⟨11, _⟩ => ⟨S1024x3584, .bf16⟩
  | .local _ .vmem, ⟨12, _⟩ => ⟨S256x1024, .f32⟩
  | .local _ .vmem, ⟨13, _⟩ => ⟨S256x1024, .f32⟩
  | .local _ .vmem, ⟨14, _⟩ => ⟨S256x3584, .f32⟩
  | .local _ .vmem, ⟨15, _⟩ => ⟨S256x3584, .f32⟩
  | _, _ => ⟨S34816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![136], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32 : BitVec 32 := 16#32
  let v10 : BitVec 1 := Scalar.cmpi .sge v9 c16_i32
  let c17_i32_3 : BitVec 32 := 17#32
  let v11 : BitVec 32 := Scalar.divsi arg0 c17_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c17_i32_3 c0_i32_6
  let v18 : BitVec 32 := Scalar.extui v17
  let c0_i32_7 : BitVec 32 := 0#32
  let v19 : BitVec 1 := Scalar.cmpi .slt c17_i32_3 c0_i32_7
  let v20 : BitVec 32 := Scalar.extui v19
  let v21 : BitVec 32 := Scalar.subi v18 v20
  let v22 : BitVec 1 := Scalar.cmpi .ne v16 v21
  let v23 : BitVec 32 := Scalar.remsi arg0 c17_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c8_i32 : BitVec 32 := 8#32
  let v28 : BitVec 32 := Scalar.select v10 c8_i32 v27
  let c5_i32 : BitVec 32 := 5#32
  let c0_i32_10 : BitVec 32 := 0#32
  let c0_i32_11 : BitVec 32 := 0#32
  let c0_i32_12 : BitVec 32 := 0#32
  ![v28.toNat, c5_i32.toNat, c0_i32_10.toNat, c0_i32_11.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32 : BitVec 32 := 16#32
  let v10 : BitVec 1 := Scalar.cmpi .sge v9 c16_i32
  let c17_i32_3 : BitVec 32 := 17#32
  let v11 : BitVec 32 := Scalar.divsi arg0 c17_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c17_i32_3 c0_i32_6
  let v18 : BitVec 32 := Scalar.extui v17
  let c0_i32_7 : BitVec 32 := 0#32
  let v19 : BitVec 1 := Scalar.cmpi .slt c17_i32_3 c0_i32_7
  let v20 : BitVec 32 := Scalar.extui v19
  let v21 : BitVec 32 := Scalar.subi v18 v20
  let v22 : BitVec 1 := Scalar.cmpi .ne v16 v21
  let v23 : BitVec 32 := Scalar.remsi arg0 c17_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c8_i32 : BitVec 32 := 8#32
  let v28 : BitVec 32 := Scalar.select v10 c8_i32 v27
  let c0_i32_10 : BitVec 32 := 0#32
  let c0_i32_11 : BitVec 32 := 0#32
  let c0_i32_12 : BitVec 32 := 0#32
  let c0_i32_13 : BitVec 32 := 0#32
  ![v28.toNat, c0_i32_10.toNat, c0_i32_11.toNat, c0_i32_12.toNat]

def cc0_transform_5 (i : grid0.Coords) : Fin 4 → Nat :=
  let arg0 : BitVec 32 := BitVec.ofNat 32 (i 0).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32 : BitVec 32 := 16#32
  let v10 : BitVec 1 := Scalar.cmpi .sge v9 c16_i32
  let c17_i32_3 : BitVec 32 := 17#32
  let v11 : BitVec 32 := Scalar.divsi arg0 c17_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c17_i32_3 c0_i32_6
  let v18 : BitVec 32 := Scalar.extui v17
  let c0_i32_7 : BitVec 32 := 0#32
  let v19 : BitVec 1 := Scalar.cmpi .slt c17_i32_3 c0_i32_7
  let v20 : BitVec 32 := Scalar.extui v19
  let v21 : BitVec 32 := Scalar.subi v18 v20
  let v22 : BitVec 1 := Scalar.cmpi .ne v16 v21
  let v23 : BitVec 32 := Scalar.remsi arg0 c17_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c8_i32 : BitVec 32 := 8#32
  let v28 : BitVec 32 := Scalar.select v10 c8_i32 v27
  let c1_i32_10 : BitVec 32 := 1#32
  let c0_i32_11 : BitVec 32 := 0#32
  let c0_i32_12 : BitVec 32 := 0#32
  let c0_i32_13 : BitVec 32 := 0#32
  ![v28.toNat, c1_i32_10.toNat, c0_i32_11.toNat, c0_i32_12.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x3584 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x3584 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S34816x1024 : Shape := ⟨2, ![34816, 1024]⟩
abbrev S16x6x1x1024 : Shape := ⟨4, ![16, 6, 1, 1024]⟩
abbrev S1024 : Shape := ⟨1, ![1024]⟩
abbrev S1024x3088 : Shape := ⟨2, ![1024, 3088]⟩
abbrev S8x4352x1024 : Shape := ⟨3, ![8, 4352, 1024]⟩
abbrev S8x4096x1024 : Shape := ⟨3, ![8, 4096, 1024]⟩
abbrev S8x1x1x1024 : Shape := ⟨4, ![8, 1, 1, 1024]⟩
abbrev S8x1x1024 : Shape := ⟨3, ![8, 1, 1024]⟩
abbrev S8x256x1024 : Shape := ⟨3, ![8, 256, 1024]⟩
abbrev S1x1x1x1024 : Shape := ⟨4, ![1, 1, 1, 1024]⟩
abbrev S1x1024 : Shape := ⟨2, ![1, 1024]⟩
abbrev S1x1x1024 : Shape := ⟨3, ![1, 1, 1024]⟩
abbrev S_ : Shape := ⟨0, ![]⟩
abbrev S8x4096 : Shape := ⟨2, ![8, 4096]⟩
abbrev S8x4096x1 : Shape := ⟨3, ![8, 4096, 1]⟩
abbrev S8x256 : Shape := ⟨2, ![8, 256]⟩
abbrev S8x256x1 : Shape := ⟨3, ![8, 256, 1]⟩
abbrev S8x4096x3088 : Shape := ⟨3, ![8, 4096, 3088]⟩
abbrev S8x256x3088 : Shape := ⟨3, ![8, 256, 3088]⟩
abbrev S8x4352x3088 : Shape := ⟨3, ![8, 4352, 3088]⟩
abbrev S34816x3088 : Shape := ⟨2, ![34816, 3088]⟩
abbrev S34816x16 : Shape := ⟨2, ![34816, 16]⟩
abbrev S34816x4x4 : Shape := ⟨3, ![34816, 4, 4]⟩
abbrev S34816x4x124 : Shape := ⟨3, ![34816, 4, 124]⟩
abbrev S34816x4x128 : Shape := ⟨3, ![34816, 4, 128]⟩
abbrev S34816x512 : Shape := ⟨2, ![34816, 512]⟩
abbrev S34816x2048 : Shape := ⟨2, ![34816, 2048]⟩
abbrev S34816x3584 : Shape := ⟨2, ![34816, 3584]⟩

abbrev nBuf : Space → Nat
  | .hbm => 95
  | .vmem => 0
  | .smem => 0
  | _ => 0

abbrev bufTy : (tb : Table) → Fin (tcTables nBuf tb) → BufTy
  | .hbm, ⟨0, _⟩ => ⟨S34816x1024, .f32⟩
  | .hbm, ⟨1, _⟩ => ⟨S34816x1024, .f32⟩
  | .hbm, ⟨2, _⟩ => ⟨S16x6x1x1024, .f32⟩
  | .hbm, ⟨3, _⟩ => ⟨S1024, .f32⟩
  | .hbm, ⟨4, _⟩ => ⟨S16x6x1x1024, .f32⟩
  | .hbm, ⟨5, _⟩ => ⟨S1024x3088, .f32⟩
  | .hbm, ⟨6, _⟩ => ⟨S8x4352x1024, .f32⟩
  | .hbm, ⟨7, _⟩ => ⟨S8x4352x1024, .f32⟩
  | .hbm, ⟨8, _⟩ => ⟨S8x4096x1024, .f32⟩
  | .hbm, ⟨9, _⟩ => ⟨S8x1x1x1024, .f32⟩
  | .hbm, ⟨10, _⟩ => ⟨S8x1x1024, .f32⟩
  | .hbm, ⟨11, _⟩ => ⟨S8x4096x1024, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S8x256x1024, .f32⟩
  | .hbm, ⟨16, _⟩ => ⟨S1x1x1x1024, .f32⟩
  | .hbm, ⟨17, _⟩ => ⟨S1x1024, .f32⟩
  | .hbm, ⟨18, _⟩ => ⟨S8x256x1024, .f32⟩
  | .hbm, ⟨19, _⟩ => ⟨S1x1x1024, .f32⟩
  | .hbm, ⟨20, _⟩ => ⟨S8x256x1024, .f32⟩
  | .hbm, ⟨21, _⟩ => ⟨S8x256x1024, .f32⟩
  | .hbm, ⟨22, _⟩ => ⟨S8x256x1024, .f32⟩
  | .hbm, ⟨23, _⟩ => ⟨S8x4096x1024, .f32⟩
  | .hbm, ⟨24, _⟩ => ⟨S_, .f32⟩
  | .hbm, ⟨25, _⟩ => ⟨S8x4096, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S_, .f32⟩
  | .hbm, ⟨31, _⟩ => ⟨S8x4096x1, .f32⟩
  | .hbm, ⟨32, _⟩ => ⟨S8x4096x1, .f32⟩
  | .hbm, ⟨33, _⟩ => ⟨S8x4096x1, .f32⟩
  | .hbm, ⟨34, _⟩ => ⟨S8x4096x1024, .f32⟩
  | .hbm, ⟨35, _⟩ => ⟨S8x4096x1024, .f32⟩
  | .hbm, ⟨36, _⟩ => ⟨S1x1x1024, .f32⟩
  | .hbm, ⟨37, _⟩ => ⟨S8x4096x1024, .f32⟩
  | .hbm, ⟨38, _⟩ => ⟨S8x4096x1024, .f32⟩
  | .hbm, ⟨39, _⟩ => ⟨S8x1x1x1024, .f32⟩
  | .hbm, ⟨40, _⟩ => ⟨S8x1x1024, .f32⟩
  | .hbm, ⟨41, _⟩ => ⟨S8x1x1x1024, .f32⟩
  | .hbm, ⟨42, _⟩ => ⟨S8x1x1024, .f32⟩
  | .hbm, ⟨43, _⟩ => ⟨S_, .f32⟩
  | .hbm, ⟨44, _⟩ => ⟨S8x1x1024, .f32⟩
  | .hbm, ⟨45, _⟩ => ⟨S8x1x1024, .f32⟩
  | .hbm, ⟨46, _⟩ => ⟨S8x4096x1024, .f32⟩
  | .hbm, ⟨47, _⟩ => ⟨S8x4096x1024, .f32⟩
  | .hbm, ⟨48, _⟩ => ⟨S8x4096x1024, .f32⟩
  | .hbm, ⟨49, _⟩ => ⟨S8x4096x1024, .f32⟩
  | .hbm, ⟨50, _⟩ => ⟨S8x256x1024, .f32⟩
  | .hbm, ⟨51, _⟩ => ⟨S_, .f32⟩
  | .hbm, ⟨52, _⟩ => ⟨S8x256, .f32⟩
  | .hbm, ⟨53, _⟩ => ⟨S8x256x1, .f32⟩
  | .hbm, ⟨54, _⟩ => ⟨S_, .f32⟩
  | .hbm, ⟨55, _⟩ => ⟨S8x256x1, .f32⟩
  | .hbm, ⟨56, _⟩ => ⟨S8x256x1, .f32⟩
  | .hbm, ⟨57, _⟩ => ⟨S_, .f32⟩
  | .hbm, ⟨58, _⟩ => ⟨S8x256x1, .f32⟩
  | .hbm, ⟨59, _⟩ => ⟨S8x256x1, .f32⟩
  | .hbm, ⟨60, _⟩ => ⟨S8x256x1, .f32⟩
  | .hbm, ⟨61, _⟩ => ⟨S8x256x1024, .f32⟩
  | .hbm, ⟨62, _⟩ => ⟨S8x256x1024, .f32⟩
  | .hbm, ⟨63, _⟩ => ⟨S1x1x1024, .f32⟩
  | .hbm, ⟨64, _⟩ => ⟨S8x256x1024, .f32⟩
  | .hbm, ⟨65, _⟩ => ⟨S8x256x1024, .f32⟩
  | .hbm, ⟨66, _⟩ => ⟨S1x1x1x1024, .f32⟩
  | .hbm, ⟨67, _⟩ => ⟨S1x1024, .f32⟩
  | .hbm, ⟨68, _⟩ => ⟨S1x1x1x1024, .f32⟩
  | .hbm, ⟨69, _⟩ => ⟨S1x1024, .f32⟩
  | .hbm, ⟨70, _⟩ => ⟨S_, .f32⟩
  | .hbm, ⟨71, _⟩ => ⟨S1x1024, .f32⟩
  | .hbm, ⟨72, _⟩ => ⟨S1x1024, .f32⟩
  | .hbm, ⟨73, _⟩ => ⟨S1x1x1024, .f32⟩
  | .hbm, ⟨74, _⟩ => ⟨S8x256x1024, .f32⟩
  | .hbm, ⟨75, _⟩ => ⟨S8x256x1024, .f32⟩
  | .hbm, ⟨76, _⟩ => ⟨S1x1x1024, .f32⟩
  | .hbm, ⟨77, _⟩ => ⟨S8x256x1024, .f32⟩
  | .hbm, ⟨78, _⟩ => ⟨S8x256x1024, .f32⟩
  | .hbm, ⟨79, _⟩ => ⟨S8x4096x3088, .f32⟩
  | .hbm, ⟨80, _⟩ => ⟨S8x256x3088, .f32⟩
  | .hbm, ⟨81, _⟩ => ⟨S8x4352x3088, .f32⟩
  | .hbm, ⟨82, _⟩ => ⟨S34816x3088, .f32⟩
  | .hbm, ⟨83, _⟩ => ⟨S34816x16, .f32⟩
  | .hbm, ⟨84, _⟩ => ⟨S34816x4x4, .f32⟩
  | .hbm, ⟨85, _⟩ => ⟨S34816x4x4, .f32⟩
  | .hbm, ⟨86, _⟩ => ⟨S_, .f32⟩
  | .hbm, ⟨87, _⟩ => ⟨S34816x4x124, .f32⟩
  | .hbm, ⟨88, _⟩ => ⟨S34816x4x128, .f32⟩
  | .hbm, ⟨89, _⟩ => ⟨S34816x512, .f32⟩
  | .hbm, ⟨90, _⟩ => ⟨S34816x2048, .f32⟩
  | .hbm, ⟨91, _⟩ => ⟨S34816x1024, .f32⟩
  | .hbm, ⟨92, _⟩ => ⟨S34816x3584, .f32⟩
  | .hbm, ⟨93, _⟩ => ⟨S8x4352x1024, .f32⟩
  | .hbm, ⟨94, _⟩ => ⟨S34816x1024, .f32⟩
  | _, _ => ⟨S34816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_3 : Ref sig .tc := ⟨.hbm, 51, rfl⟩
abbrev main_v41 : Ref sig .tc := ⟨.hbm, 52, rfl⟩
abbrev main_v42 : Ref sig .tc := ⟨.hbm, 53, rfl⟩
abbrev main_cst_4 : Ref sig .tc := ⟨.hbm, 54, rfl⟩
abbrev main_v43 : Ref sig .tc := ⟨.hbm, 55, rfl⟩
abbrev main_v44 : Ref sig .tc := ⟨.hbm, 56, rfl⟩
abbrev main_cst_5 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_6 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_cst_7 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩

abbrev nD : Nat := 1
abbrev τ : Topo := Topo.v7x

variable {F : FTy → Type} [FloatOps F]
-- ==== Kernel5.lean ====
abbrev S8x4096x1024 : Shape := ⟨3, ![8, 4096, 1024]⟩
abbrev S1024x1024 : Shape := ⟨2, ![1024, 1024]⟩
abbrev S34816x1024 : Shape := ⟨2, ![34816, 1024]⟩
abbrev S16x6x1x1024 : Shape := ⟨4, ![16, 6, 1, 1024]⟩
abbrev S1024 : Shape := ⟨1, ![1024]⟩
abbrev S1024x2048 : Shape := ⟨2, ![1024, 2048]⟩
abbrev S32768x1024 : Shape := ⟨2, ![32768, 1024]⟩
abbrev S1x1024 : Shape := ⟨2, ![1, 1024]⟩
abbrev S32768x2048 : Shape := ⟨2, ![32768, 2048]⟩
abbrev S256x1024 : Shape := ⟨2, ![256, 1024]⟩
abbrev S1x1x1x1024 : Shape := ⟨4, ![1, 1, 1, 1024]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 19
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S34816x1024, .f32⟩
  | .hbm, ⟨3, _⟩ => ⟨S16x6x1x1024, .f32⟩
  | .hbm, ⟨4, _⟩ => ⟨S1024, .f32⟩
  | .hbm, ⟨5, _⟩ => ⟨S1024x2048, .f32⟩
  | .hbm, ⟨6, _⟩ => ⟨S32768x1024, .f32⟩
  | .hbm, ⟨7, _⟩ => ⟨S1024x1024, .bf16⟩
  | .hbm, ⟨8, _⟩ => ⟨S1024x2048, .bf16⟩
  | .hbm, ⟨9, _⟩ => ⟨S1x1024, .f32⟩
  | .hbm, ⟨10, _⟩ => ⟨S32768x1024, .f32⟩
  | .hbm, ⟨11, _⟩ => ⟨S32768x1024, .bf16⟩
  | .hbm, ⟨12, _⟩ => ⟨S32768x2048, .bf16⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x1x1x1024, .f32⟩
  | .local _ .vmem, ⟨11, _⟩ => ⟨S1x1x1x1024, .f32⟩
  | .local _ .vmem, ⟨12, _⟩ => ⟨S1024x2048, .bf16⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S256x2048, .bf16⟩
  | .local _ .vmem, ⟨18, _⟩ => ⟨S256x2048, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32 : BitVec 32 := 17#32
  let v17 : BitVec 32 := Scalar.muli v16 c17_i32
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c0_i32_10 : BitVec 32 := 0#32
  let c0_i32_11 : BitVec 32 := 0#32
  ![v28.toNat, c0_i32_10.toNat]

def cc0_transform_3 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let c0_i32_4 : BitVec 32 := 0#32
  let c0_i32_5 : BitVec 32 := 0#32
  let c0_i32_6 : BitVec 32 := 0#32
  ![v16.toNat, c2_i32.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let c0_i32_4 : BitVec 32 := 0#32
  let c0_i32_5 : BitVec 32 := 0#32
  let c0_i32_6 : BitVec 32 := 0#32
  ![v16.toNat, c3_i32.toNat, c0_i32_4.toNat, c0_i32_5.toNat]

def cc0_transform_6 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let c0_i32_4 : BitVec 32 := 0#32
  let c0_i32_5 : BitVec 32 := 0#32
  let c0_i32_6 : BitVec 32 := 0#32
  ![v16.toNat, c4_i32.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference5Ideal.lean ====
abbrev S8x4096x1024 : Shape := ⟨3, ![8, 4096, 1024]⟩
abbrev S1024x1024 : Shape := ⟨2, ![1024, 1024]⟩
abbrev S34816x1024 : Shape := ⟨2, ![34816, 1024]⟩
abbrev S16x6x1x1024 : Shape := ⟨4, ![16, 6, 1, 1024]⟩
abbrev S1024 : Shape := ⟨1, ![1024]⟩
abbrev S1024x2048 : Shape := ⟨2, ![1024, 2048]⟩
abbrev S8x4352x1024 : Shape := ⟨3, ![8, 4352, 1024]⟩
abbrev S8x1x1x1024 : Shape := ⟨4, ![8, 1, 1, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩
abbrev S32768x2048 : Shape := ⟨2, ![32768, 2048]⟩

abbrev nBuf : Space → Nat
  | .hbm => 46
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S34816x1024, .f32⟩
  | .hbm, ⟨3, _⟩ => ⟨S16x6x1x1024, .f32⟩
  | .hbm, ⟨4, _⟩ => ⟨S1024, .f32⟩
  | .hbm, ⟨5, _⟩ => ⟨S1024x2048, .f32⟩
  | .hbm, ⟨6, _⟩ => ⟨S8x4352x1024, .f32⟩
  | .hbm, ⟨7, _⟩ => ⟨S8x4096x1024, .f32⟩
  | .hbm, ⟨8, _⟩ => ⟨S8x1x1x1024, .f32⟩
  | .hbm, ⟨9, _⟩ => ⟨S8x1x1024, .f32⟩
  | .hbm, ⟨10, _⟩ => ⟨S8x4096x1024, .f32⟩
  | .hbm, ⟨11, _⟩ => ⟨S8x4096x1024, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x1024, .f32⟩
  | .hbm, ⟨26, _⟩ => ⟨S8x4096x1024, .f32⟩
  | .hbm, ⟨27, _⟩ => ⟨S1x1x1024, .f32⟩
  | .hbm, ⟨28, _⟩ => ⟨S8x4096x1024, .f32⟩
  | .hbm, ⟨29, _⟩ => ⟨S8x4096x1024, .f32⟩
  | .hbm, ⟨30, _⟩ => ⟨S8x1x1x1024, .f32⟩
  | .hbm, ⟨31, _⟩ => ⟨S8x1x1024, .f32⟩
  | .hbm, ⟨32, _⟩ => ⟨S8x1x1x1024, .f32⟩
  | .hbm, ⟨33, _⟩ => ⟨S8x1x1024, .f32⟩
  | .hbm, ⟨34, _⟩ => ⟨S_, .f32⟩
  | .hbm, ⟨35, _⟩ => ⟨S8x1x1024, .f32⟩
  | .hbm, ⟨36, _⟩ => ⟨S8x1x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S32768x1024, .f32⟩
  | .hbm, ⟨42, _⟩ => ⟨S32768x1024, .f32⟩
  | .hbm, ⟨43, _⟩ => ⟨S32768x1024, .bf16⟩
  | .hbm, ⟨44, _⟩ => ⟨S32768x2048, .f32⟩
  | .hbm, ⟨45, _⟩ => ⟨S32768x2048, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Kernel6.lean ====
abbrev S32768x1024 : Shape := ⟨2, ![32768, 1024]⟩
abbrev S16x6x1x1024 : Shape := ⟨4, ![16, 6, 1, 1024]⟩
abbrev S1024 : Shape := ⟨1, ![1024]⟩
abbrev S1x1024 : Shape := ⟨2, ![1, 1024]⟩
abbrev S256x1024 : Shape := ⟨2, ![256, 1024]⟩
abbrev S1x1x1x1024 : Shape := ⟨4, ![1, 1, 1, 1024]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S16x6x1x1024, .f32⟩
  | .hbm, ⟨3, _⟩ => ⟨S1024, .f32⟩
  | .hbm, ⟨4, _⟩ => ⟨S1x1024, .f32⟩
  | .hbm, ⟨5, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32 : BitVec 32 := 5#32
  let c0_i32_4 : BitVec 32 := 0#32
  let c0_i32_5 : BitVec 32 := 0#32
  let c0_i32_6 : BitVec 32 := 0#32
  ![v16.toNat, c5_i32.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S32768x1024 : Shape := ⟨2, ![32768, 1024]⟩
abbrev S16x6x1x1024 : Shape := ⟨4, ![16, 6, 1, 1024]⟩
abbrev S1024 : Shape := ⟨1, ![1024]⟩
abbrev S8x4096x1024 : Shape := ⟨3, ![8, 4096, 1024]⟩
abbrev S8x1x1x1024 : Shape := ⟨4, ![8, 1, 1, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S16x6x1x1024, .f32⟩
  | .hbm, ⟨3, _⟩ => ⟨S1024, .f32⟩
  | .hbm, ⟨4, _⟩ => ⟨S8x4096x1024, .f32⟩
  | .hbm, ⟨5, _⟩ => ⟨S8x1x1x1024, .f32⟩
  | .hbm, ⟨6, _⟩ => ⟨S8x1x1024, .f32⟩
  | .hbm, ⟨7, _⟩ => ⟨S8x4096x1024, .f32⟩
  | .hbm, ⟨8, _⟩ => ⟨S8x4096x1024, .f32⟩
  | .hbm, ⟨9, _⟩ => ⟨S8x4096x1024, .f32⟩
  | .hbm, ⟨10, _⟩ => ⟨S8x4096x1024, .f32⟩
  | .hbm, ⟨11, _⟩ => ⟨S8x4096x1024, .f32⟩
  | .hbm, ⟨12, _⟩ => ⟨S_, .f32⟩
  | .hbm, ⟨13, _⟩ => ⟨S8x4096, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S8x4096x1, .f32⟩
  | .hbm, ⟨22, _⟩ => ⟨S8x4096x1024, .f32⟩
  | .hbm, ⟨23, _⟩ => ⟨S8x4096x1024, .f32⟩
  | .hbm, ⟨24, _⟩ => ⟨S1x1x1024, .f32⟩
  | .hbm, ⟨25, _⟩ => ⟨S8x4096x1024, .f32⟩
  | .hbm, ⟨26, _⟩ => ⟨S8x4096x1024, .f32⟩
  | .hbm, ⟨27, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel7.lean ====
abbrev S34816x2048 : Shape := ⟨2, ![34816, 2048]⟩
abbrev S256 : Shape := ⟨1, ![256]⟩
abbrev S128 : Shape := ⟨1, ![128]⟩
abbrev S256x768 : Shape := ⟨2, ![256, 768]⟩
abbrev S128x1024 : Shape := ⟨2, ![128, 1024]⟩
abbrev S3x512 : Shape := ⟨2, ![3, 512]⟩
abbrev S4096x16 : Shape := ⟨2, ![4096, 16]⟩
abbrev S256x8x96 : Shape := ⟨3, ![256, 8, 96]⟩
abbrev S_ : Shape := ⟨0, ![]⟩
abbrev S256x8x128 : Shape := ⟨3, ![256, 8, 128]⟩
abbrev S256x1024 : Shape := ⟨2, ![256, 1024]⟩
abbrev S128x8x128 : Shape := ⟨3, ![128, 8, 128]⟩
abbrev S128x8x64 : Shape := ⟨3, ![128, 8, 64]⟩
abbrev S128x512 : Shape := ⟨2, ![128, 512]⟩
abbrev S4096x64 : Shape := ⟨2, ![4096, 64]⟩
abbrev S4096x32 : Shape := ⟨2, ![4096, 32]⟩
abbrev S4096x128 : Shape := ⟨2, ![4096, 128]⟩
abbrev S256x128 : Shape := ⟨2, ![256, 128]⟩
abbrev S4352x128 : Shape := ⟨2, ![4352, 128]⟩
abbrev S1x256 : Shape := ⟨2, ![1, 256]⟩
abbrev S1x128 : Shape := ⟨2, ![1, 128]⟩
abbrev S34816x1024 : Shape := ⟨2, ![34816, 1024]⟩
abbrev S34816x512 : Shape := ⟨2, ![34816, 512]⟩
abbrev S256x2048 : Shape := ⟨2, ![256, 2048]⟩
abbrev S8x1024 : Shape := ⟨2, ![8, 1024]⟩
abbrev S256x512 : Shape := ⟨2, ![256, 512]⟩
abbrev S256x256 : Shape := ⟨2, ![256, 256]⟩
abbrev S256x1 : Shape := ⟨2, ![256, 1]⟩
abbrev S1x512 : Shape := ⟨2, ![1, 512]⟩

abbrev nBuf : Space → Nat
  | .hbm => 51
  | .vmem => 26
  | .smem => 0
  | _ => 0

abbrev bufTy : (tb : Table) → Fin (tcTables nBuf tb) → BufTy
  | .hbm, ⟨0, _⟩ => ⟨S34816x2048, .f32⟩
  | .hbm, ⟨1, _⟩ => ⟨S256, .f32⟩
  | .hbm, ⟨2, _⟩ => ⟨S128, .f32⟩
  | .hbm, ⟨3, _⟩ => ⟨S256x768, .f32⟩
  | .hbm, ⟨4, _⟩ => ⟨S128x1024, .f32⟩
  | .hbm, ⟨5, _⟩ => ⟨S3x512, .f32⟩
  | .hbm, ⟨6, _⟩ => ⟨S4096x16, .f32⟩
  | .hbm, ⟨7, _⟩ => ⟨S4096x16, .f32⟩
  | .hbm, ⟨8, _⟩ => ⟨S256x8x96, .f32⟩
  | .hbm, ⟨9, _⟩ => ⟨S_, .i32⟩
  | .hbm, ⟨10, _⟩ => ⟨S_, .f32⟩
  | .hbm, ⟨11, _⟩ => ⟨S256x8x128, .f32⟩
  | .hbm, ⟨12, _⟩ => ⟨S256x1024, .f32⟩
  | .hbm, ⟨13, _⟩ => ⟨S256x1024, .bf16⟩
  | .hbm, ⟨14, _⟩ => ⟨S128x8x128, .f32⟩
  | .hbm, ⟨15, _⟩ => ⟨S128x8x64, .f32⟩
  | .hbm, ⟨16, _⟩ => ⟨S_, .i32⟩
  | .hbm, ⟨17, _⟩ => ⟨S_, .f32⟩
  | .hbm, ⟨18, _⟩ => ⟨S128x8x128, .f32⟩
  | .hbm, ⟨19, _⟩ => ⟨S128x1024, .f32⟩
  | .hbm, ⟨20, _⟩ => ⟨S128x1024, .bf16⟩
  | .hbm, ⟨21, _⟩ => ⟨S128x8x64, .f32⟩
  | .hbm, ⟨22, _⟩ => ⟨S128x512, .f32⟩
  | .hbm, ⟨23, _⟩ => ⟨S128x512, .bf16⟩
  | .hbm, ⟨24, _⟩ => ⟨S_, .f32⟩
  | .hbm, ⟨25, _⟩ => ⟨S4096x64, .f32⟩
  | .hbm, ⟨26, _⟩ => ⟨S_, .f32⟩
  | .hbm, ⟨27, _⟩ => ⟨S4096x32, .f32⟩
  | .hbm, ⟨28, _⟩ => ⟨S4096x128, .f32⟩
  | .hbm, ⟨29, _⟩ => ⟨S4096x16, .f32⟩
  | .hbm, ⟨30, _⟩ => ⟨S_, .i32⟩
  | .hbm, ⟨31, _⟩ => ⟨S_, .f32⟩
  | .hbm, ⟨32, _⟩ => ⟨S4096x128, .f32⟩
  | .hbm, ⟨33, _⟩ => ⟨S_, .i32⟩
  | .hbm, ⟨34, _⟩ => ⟨S_, .f32⟩
  | .hbm, ⟨35, _⟩ => ⟨S4096x128, .f32⟩
  | .hbm, ⟨36, _⟩ => ⟨S_, .f32⟩
  | .hbm, ⟨37, _⟩ => ⟨S256x128, .f32⟩
  | .hbm, ⟨38, _⟩ => ⟨S4352x128, .f32⟩
  | .hbm, ⟨39, _⟩ => ⟨S_, .f32⟩
  | .hbm, ⟨40, _⟩ => ⟨S256x128, .f32⟩
  | .hbm, ⟨41, _⟩ => ⟨S4352x128, .f32⟩
  | .hbm, ⟨42, _⟩ => ⟨S_, .f32⟩
  | .hbm, ⟨43, _⟩ => ⟨S256x128, .f32⟩
  | .hbm, ⟨44, _⟩ => ⟨S4352x128, .f32⟩
  | .hbm, ⟨45, _⟩ => ⟨S1x256, .f32⟩
  | .hbm, ⟨46, _⟩ => ⟨S1x128, .f32⟩
  | .hbm, ⟨47, _⟩ => ⟨S34816x1024, .bf16⟩
  | .hbm, ⟨48, _⟩ => ⟨S34816x1024, .bf16⟩
  | .hbm, ⟨49, _⟩ => ⟨S34816x512, .bf16⟩
  | .hbm, ⟨50, _⟩ => ⟨S34816x512, .f32⟩
  | .local _ .vmem, ⟨0, _⟩ => ⟨S256x2048, .f32⟩
  | .local _ .vmem, ⟨1, _⟩ => ⟨S256x2048, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x256, .f32⟩
  | .local _ .vmem, ⟨7, _⟩ => ⟨S1x128, .f32⟩
  | .local _ .vmem, ⟨8, _⟩ => ⟨S256x1024, .bf16⟩
  | .local _ .vmem, ⟨9, _⟩ => ⟨S128x1024, .bf16⟩
  | .local _ .vmem, ⟨10, _⟩ => ⟨S128x512, .bf16⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S3x512, .f32⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x512, .bf16⟩
  | .local _ .vmem, ⟨23, _⟩ => ⟨S256x512, .bf16⟩
  | .local _ .vmem, ⟨24, _⟩ => ⟨S256x512, .f32⟩
  | .local _ .vmem, ⟨25, _⟩ => ⟨S256x512, .f32⟩
  | _, _ => ⟨S34816x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_call1_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_call2_v0 : Ref sig .tc := ⟨.hbm, 31, rfl⟩
abbrev main_v16 : Ref sig .tc := ⟨.hbm, 32, rfl⟩
abbrev main_c_3 : Ref sig .tc := ⟨.hbm, 33, rfl⟩
abbrev main_call3_v0 : Ref sig .tc := ⟨.hbm, 34, rfl⟩
abbrev main_v17 : Ref sig .tc := ⟨.hbm, 35, rfl⟩
abbrev main_cst_4 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_cst_6 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26_0 : Ref sig .tc := ⟨.hbm, 47, rfl⟩
abbrev main_v26_1 : Ref sig .tc := ⟨.hbm, 48, rfl⟩
abbrev main_v26_2 : Ref sig .tc := ⟨.hbm, 49, rfl⟩
abbrev main_v26_3 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![136], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c4351_i32 : BitVec 32 := 4351#32
  let v2 : BitVec 32 := Scalar.minsi v1 c4351_i32
  let c1_i32_0 : BitVec 32 := 1#32
  let c0_i32 : BitVec 32 := 0#32
  ![v2.toNat, c1_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S3x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference7Ideal.lean ====
abbrev S34816x2048 : Shape := ⟨2, ![34816, 2048]⟩
abbrev S256 : Shape := ⟨1, ![256]⟩
abbrev S128 : Shape := ⟨1, ![128]⟩
abbrev S256x768 : Shape := ⟨2, ![256, 768]⟩
abbrev S128x1024 : Shape := ⟨2, ![128, 1024]⟩
abbrev S3x512 : Shape := ⟨2, ![3, 512]⟩
abbrev S4096x16 : Shape := ⟨2, ![4096, 16]⟩
abbrev S8x4352x2048 : Shape := ⟨3, ![8, 4352, 2048]⟩
abbrev S8x4352x256 : Shape := ⟨3, ![8, 4352, 256]⟩
abbrev S_ : Shape := ⟨0, ![]⟩
abbrev S8x4352 : Shape := ⟨2, ![8, 4352]⟩
abbrev S8x4352x1 : Shape := ⟨3, ![8, 4352, 1]⟩
abbrev S1x1x256 : Shape := ⟨3, ![1, 1, 256]⟩
abbrev S8x4352x768 : Shape := ⟨3, ![8, 4352, 768]⟩
abbrev S8x4352x8x96 : Shape := ⟨4, ![8, 4352, 8, 96]⟩
abbrev S8x4352x128 : Shape := ⟨3, ![8, 4352, 128]⟩
abbrev S1x1x128 : Shape := ⟨3, ![1, 1, 128]⟩
abbrev S8x4352x1024 : Shape := ⟨3, ![8, 4352, 1024]⟩
abbrev S8x4352x8x128 : Shape := ⟨4, ![8, 4352, 8, 128]⟩
abbrev S8x4352x8x32 : Shape := ⟨4, ![8, 4352, 8, 32]⟩
abbrev S8x4352x32 : Shape := ⟨3, ![8, 4352, 32]⟩
abbrev S8x4096x8x32 : Shape := ⟨4, ![8, 4096, 8, 32]⟩
abbrev S4096x1x16 : Shape := ⟨3, ![4096, 1, 16]⟩
abbrev S8x4096x8x16 : Shape := ⟨4, ![8, 4096, 8, 16]⟩
abbrev S1x4096x1x16 : Shape := ⟨4, ![1, 4096, 1, 16]⟩
abbrev S8x256x8x32 : Shape := ⟨4, ![8, 256, 8, 32]⟩
abbrev S8x4096x32 : Shape := ⟨3, ![8, 4096, 32]⟩
abbrev S8x4096x16 : Shape := ⟨3, ![8, 4096, 16]⟩
abbrev S1x4096x16 : Shape := ⟨3, ![1, 4096, 16]⟩
abbrev S8x256x32 : Shape := ⟨3, ![8, 256, 32]⟩
abbrev S8x4352x1x32 : Shape := ⟨4, ![8, 4352, 1, 32]⟩
abbrev S8x4352x8x64 : Shape := ⟨4, ![8, 4352, 8, 64]⟩
abbrev S8x4096x1536 : Shape := ⟨3, ![8, 4096, 1536]⟩
abbrev S8x4096x512 : Shape := ⟨3, ![8, 4096, 512]⟩
abbrev S8x4098x512 : Shape := ⟨3, ![8, 4098, 512]⟩
abbrev S1x512 : Shape := ⟨2, ![1, 512]⟩
abbrev S512 : Shape := ⟨1, ![512]⟩
abbrev S1x1x512 : Shape := ⟨3, ![1, 1, 512]⟩
abbrev S8x256x1536 : Shape := ⟨3, ![8, 256, 1536]⟩
abbrev S8x256x512 : Shape := ⟨3, ![8, 256, 512]⟩
abbrev S8x258x512 : Shape := ⟨3, ![8, 258, 512]⟩
abbrev S8x4352x512 : Shape := ⟨3, ![8, 4352, 512]⟩
abbrev S34816x1024 : Shape := ⟨2, ![34816, 1024]⟩
abbrev S34816x512 : Shape := ⟨2, ![34816, 512]⟩

abbrev nBuf : Space → Nat
  | .hbm => 169
  | .vmem => 0
  | .smem => 0
  | _ => 0

abbrev hbmTy0_0 (i : Nat) : BufTy := match i % 128 with
  | 0 => ⟨S34816x2048, .f32⟩
  | 1 => ⟨S256, .f32⟩
  | 2 => ⟨S128, .f32⟩
  | 3 => ⟨S256x768, .f32⟩
  | 4 => ⟨S128x1024, .f32⟩
  | 5 => ⟨S3x512, .f32⟩
  | 6 => ⟨S4096x16, .f32⟩
  | 7 => ⟨S4096x16, .f32⟩
  | 8 => ⟨S8x4352x2048, .f32⟩
  | 9 => ⟨S8x4352x256, .f32⟩
  | 10 => ⟨S8x4352x256, .f32⟩
  | 11 => ⟨S_, .f32⟩
  | 12 => ⟨S8x4352, .f32⟩
  | 13 => ⟨S8x4352x1, .f32⟩
  | 14 => ⟨S_, .f32⟩
  | 15 => ⟨S8x4352x1, .f32⟩
  | 16 => ⟨S8x4352x1, .f32⟩
  | 17 => ⟨S_, .f32⟩
  | 18 => ⟨S8x4352x1, .f32⟩
  | 19 => ⟨S8x4352x1, .f32⟩
  | 20 => ⟨S8x4352x1, .f32⟩
  | 21 => ⟨S8x4352x256, .f32⟩
  | 22 => ⟨S8x4352x256, .f32⟩
  | 23 => ⟨S1x1x256, .f32⟩
  | 24 => ⟨S8x4352x256, .f32⟩
  | 25 => ⟨S8x4352x256, .f32⟩
  | 26 => ⟨S8x4352x768, .f32⟩
  | 27 => ⟨S8x4352x8x96, .f32⟩
  | 28 => ⟨S8x4352x128, .f32⟩
  | 29 => ⟨S8x4352x128, .f32⟩
  | 30 => ⟨S_, .f32⟩
  | 31 => ⟨S8x4352, .f32⟩
  | 32 => ⟨S8x4352x1, .f32⟩
  | 33 => ⟨S_, .f32⟩
  | 34 => ⟨S8x4352x1, .f32⟩
  | 35 => ⟨S8x4352x1, .f32⟩
  | 36 => ⟨S_, .f32⟩
  | 37 => ⟨S8x4352x1, .f32⟩
  | 38 => ⟨S8x4352x1, .f32⟩
  | 39 => ⟨S8x4352x1, .f32⟩
  | 40 => ⟨S8x4352x128, .f32⟩
  | 41 => ⟨S8x4352x128, .f32⟩
  | 42 => ⟨S1x1x128, .f32⟩
  | 43 => ⟨S8x4352x128, .f32⟩
  | 44 => ⟨S8x4352x128, .f32⟩
  | 45 => ⟨S8x4352x1024, .f32⟩
  | 46 => ⟨S8x4352x8x128, .f32⟩
  | 47 => ⟨S8x4352x8x32, .f32⟩
  | 48 => ⟨S8x4352x32, .f32⟩
  | 49 => ⟨S8x4096x8x32, .f32⟩
  | 50 => ⟨S4096x1x16, .f32⟩
  | 51 => ⟨S4096x1x16, .f32⟩
  | 52 => ⟨S8x4096x8x16, .f32⟩
  | 53 => ⟨S8x4096x8x16, .f32⟩
  | 54 => ⟨S1x4096x1x16, .f32⟩
  | 55 => ⟨S8x4096x8x16, .f32⟩
  | 56 => ⟨S8x4096x8x16, .f32⟩
  | 57 => ⟨S1x4096x1x16, .f32⟩
  | 58 => ⟨S8x4096x8x16, .f32⟩
  | 59 => ⟨S8x4096x8x16, .f32⟩
  | 60 => ⟨S8x4096x8x16, .f32⟩
  | 61 => ⟨S1x4096x1x16, .f32⟩
  | 62 => ⟨S8x4096x8x16, .f32⟩
  | 63 => ⟨S8x4096x8x16, .f32⟩
  | 64 => ⟨S1x4096x1x16, .f32⟩
  | 65 => ⟨S8x4096x8x16, .f32⟩
  | 66 => ⟨S8x4096x8x16, .f32⟩
  | 67 => ⟨S8x4096x8x16, .f32⟩
  | 68 => ⟨S8x4096x8x32, .f32⟩
  | 69 => ⟨S8x256x8x32, .f32⟩
  | 70 => ⟨S8x4352x8x32, .f32⟩
  | 71 => ⟨S8x4096x32, .f32⟩
  | 72 => ⟨S8x4096x16, .f32⟩
  | 73 => ⟨S8x4096x16, .f32⟩
  | 74 => ⟨S1x4096x16, .f32⟩
  | 75 => ⟨S8x4096x16, .f32⟩
  | 76 => ⟨S8x4096x16, .f32⟩
  | 77 => ⟨S1x4096x16, .f32⟩
  | 78 => ⟨S8x4096x16, .f32⟩
  | 79 => ⟨S8x4096x16, .f32⟩
  | 80 => ⟨S8x4096x16, .f32⟩
  | 81 => ⟨S1x4096x16, .f32⟩
  | 82 => ⟨S8x4096x16, .f32⟩
  | 83 => ⟨S8x4096x16, .f32⟩
  | 84 => ⟨S1x4096x16, .f32⟩
  | 85 => ⟨S8x4096x16, .f32⟩
  | 86 => ⟨S8x4096x16, .f32⟩
  | 87 => ⟨S8x4096x16, .f32⟩
  | 88 => ⟨S8x4096x32, .f32⟩
  | 89 => ⟨S8x256x32, .f32⟩
  | 90 => ⟨S8x4352x32, .f32⟩
  | 91 => ⟨S8x4352x1x32, .f32⟩
  | 92 => ⟨S8x4352x8x32, .f32⟩
  | 93 => ⟨S_, .f32⟩
  | 94 => ⟨S8x4352x8x32, .f32⟩
  | 95 => ⟨S8x4352x8x64, .f32⟩
  | 96 => ⟨S8x4352x8x128, .f32⟩
  | 97 => ⟨S_, .f32⟩
  | 98 => ⟨S8x4352x8x128, .f32⟩
  | 99 => ⟨S8x4352x8x128, .f32⟩
  | 100 => ⟨S8x4352x8x64, .f32⟩
  | 101 => ⟨S8x4352x8x128, .f32⟩
  | 102 => ⟨S8x4096x1536, .f32⟩
  | 103 => ⟨S8x4096x512, .f32⟩
  | 104 => ⟨S8x4096x512, .f32⟩
  | 105 => ⟨S8x4096x512, .f32⟩
  | 106 => ⟨S8x4096x512, .f32⟩
  | 107 => ⟨S_, .i32⟩
  | 108 => ⟨S_, .f32⟩
  | 109 => ⟨S8x4098x512, .f32⟩
  | 110 => ⟨S1x512, .f32⟩
  | 111 => ⟨S512, .f32⟩
  | 112 => ⟨S8x4096x512, .f32⟩
  | 113 => ⟨S1x1x512, .f32⟩
  | 114 => ⟨S8x4096x512, .f32⟩
  | 115 => ⟨S8x4096x512, .f32⟩
  | 116 => ⟨S1x512, .f32⟩
  | 117 => ⟨S512, .f32⟩
  | 118 => ⟨S8x4096x512, .f32⟩
  | 119 => ⟨S1x1x512, .f32⟩
  | 120 => ⟨S8x4096x512, .f32⟩
  | 121 => ⟨S8x4096x512, .f32⟩
  | 122 => ⟨S8x4096x512, .f32⟩
  | 123 => ⟨S1x512, .f32⟩
  | 124 => ⟨S512, .f32⟩
  | 125 => ⟨S8x4096x512, .f32⟩
  | 126 => ⟨S1x1x512, .f32⟩
  | 127 => ⟨S8x4096x512, .f32⟩
  | _ => ⟨S34816x2048, .f32⟩

abbrev hbmTy0_1 (i : Nat) : BufTy := match i % 128 with
  | 0 => ⟨S8x4096x512, .f32⟩
  | 1 => ⟨S8x4096x512, .f32⟩
  | 2 => ⟨S8x4096x512, .f32⟩
  | 3 => ⟨S8x256x1536, .f32⟩
  | 4 => ⟨S8x256x512, .f32⟩
  | 5 => ⟨S8x256x512, .f32⟩
  | 6 => ⟨S8x256x512, .f32⟩
  | 7 => ⟨S8x256x512, .f32⟩
  | 8 => ⟨S_, .i32⟩
  | 9 => ⟨S_, .f32⟩
  | 10 => ⟨S8x258x512, .f32⟩
  | 11 => ⟨S1x512, .f32⟩
  | 12 => ⟨S512, .f32⟩
  | 13 => ⟨S8x256x512, .f32⟩
  | 14 => ⟨S1x1x512, .f32⟩
  | 15 => ⟨S8x256x512, .f32⟩
  | 16 => ⟨S8x256x512, .f32⟩
  | 17 => ⟨S1x512, .f32⟩
  | 18 => ⟨S512, .f32⟩
  | 19 => ⟨S8x256x512, .f32⟩
  | 20 => ⟨S1x1x512, .f32⟩
  | 21 => ⟨S8x256x512, .f32⟩
  | 22 => ⟨S8x256x512, .f32⟩
  | 23 => ⟨S8x256x512, .f32⟩
  | 24 => ⟨S1x512, .f32⟩
  | 25 => ⟨S512, .f32⟩
  | 26 => ⟨S8x256x512, .f32⟩
  | 27 => ⟨S1x1x512, .f32⟩
  | 28 => ⟨S8x256x512, .f32⟩
  | 29 => ⟨S8x256x512, .f32⟩
  | 30 => ⟨S8x256x512, .f32⟩
  | 31 => ⟨S8x256x512, .f32⟩
  | 32 => ⟨S8x4352x512, .f32⟩
  | 33 => ⟨S8x4352x8x128, .bf16⟩
  | 34 => ⟨S34816x1024, .bf16⟩
  | 35 => ⟨S8x4352x8x128, .bf16⟩
  | 36 => ⟨S34816x1024, .bf16⟩
  | 37 => ⟨S8x4352x8x64, .f32⟩
  | 38 => ⟨S8x4352x8x64, .bf16⟩
  | 39 => ⟨S34816x512, .bf16⟩
  | 40 => ⟨S34816x512, .f32⟩
  | _ => ⟨S34816x2048, .f32⟩

abbrev hbmTy (i : Nat) : BufTy := match i / 128 with
  | 0 => hbmTy0_0 i
  | 1 => hbmTy0_1 i
  | _ => ⟨S34816x2048, .f32⟩

abbrev bufTy : (tb : Table) → Fin (tcTables nBuf tb) → BufTy
  | .hbm, ⟨i, _⟩ => hbmTy i
  | _, _ => ⟨S34816x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_cst_5 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_cst_6 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_c : Ref sig .tc := ⟨.hbm, 107, rfl⟩
abbrev main_call0_v0 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_c_7 : Ref sig .tc := ⟨.hbm, 136, rfl⟩
abbrev main_call1_v0 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩

abbrev nD : Nat := 1
abbrev τ : Topo := Topo.v7x

variable {F : FTy → Type} [FloatOps F]
-- ==== Kernel8.lean ====
abbrev S8x4352x1024 : Shape := ⟨3, ![8, 4352, 1024]⟩
abbrev S8x4352x512 : Shape := ⟨3, ![8, 4352, 512]⟩
abbrev S8x256x512 : Shape := ⟨3, ![8, 256, 512]⟩
abbrev S1x256x256 : Shape := ⟨3, ![1, 256, 256]⟩
abbrev S1x256x128 : Shape := ⟨3, ![1, 256, 128]⟩
abbrev S1x128x128 : Shape := ⟨3, ![1, 128, 128]⟩
abbrev S128x128 : Shape := ⟨2, ![128, 128]⟩
abbrev S256x128 : Shape := ⟨2, ![256, 128]⟩
abbrev S128x256 : Shape := ⟨2, ![128, 256]⟩
abbrev S128 : Shape := ⟨1, ![128]⟩
abbrev S128x1 : Shape := ⟨2, ![128, 1]⟩
abbrev S1x256x64 : Shape := ⟨3, ![1, 256, 64]⟩
abbrev S256x64 : Shape := ⟨2, ![256, 64]⟩
abbrev S128x64 : Shape := ⟨2, ![128, 64]⟩

abbrev nBuf : Space → Nat
  | .hbm => 4
  | .vmem => 8
  | .smem => 0
  | _ => 0

abbrev bufTy : (tb : Table) → Fin (tcTables nBuf tb) → BufTy
  | .hbm, ⟨0, _⟩ => ⟨S8x4352x1024, .bf16⟩
  | .hbm, ⟨1, _⟩ => ⟨S8x4352x1024, .bf16⟩
  | .hbm, ⟨2, _⟩ => ⟨S8x4352x512, .bf16⟩
  | .hbm, ⟨3, _⟩ => ⟨S8x256x512, .f32⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x128, .bf16⟩
  | .local _ .vmem, ⟨5, _⟩ => ⟨S1x256x128, .bf16⟩
  | .local _ .vmem, ⟨6, _⟩ => ⟨S1x256x128, .f32⟩
  | .local _ .vmem, ⟨7, _⟩ => ⟨S1x256x128, .f32⟩
  | _, _ => ⟨S8x4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg2
  let c0_i32 : BitVec 32 := 0#32
  ![arg0.toNat, v0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let c0_i32 : BitVec 32 := 0#32
  ![arg0.toNat, c16_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let c0_i32 : BitVec 32 := 0#32
  ![arg0.toNat, c16_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference8Ideal.lean ====
abbrev S8x4352x1024 : Shape := ⟨3, ![8, 4352, 1024]⟩
abbrev S8x4352x512 : Shape := ⟨3, ![8, 4352, 512]⟩
abbrev S8x256x1024 : Shape := ⟨3, ![8, 256, 1024]⟩
abbrev S8x256x8x128 : Shape := ⟨4, ![8, 256, 8, 128]⟩
abbrev S8x256x512 : Shape := ⟨3, ![8, 256, 512]⟩
abbrev S8x256x8x64 : Shape := ⟨4, ![8, 256, 8, 64]⟩
abbrev S8x8x256x256 : Shape := ⟨4, ![8, 8, 256, 256]⟩
abbrev S_ : Shape := ⟨0, ![]⟩
abbrev S8x8x256 : Shape := ⟨3, ![8, 8, 256]⟩
abbrev S8x8x256x1 : Shape := ⟨4, ![8, 8, 256, 1]⟩
abbrev S8x8x64x256 : Shape := ⟨4, ![8, 8, 64, 256]⟩

abbrev nBuf : Space → Nat
  | .hbm => 30
  | .vmem => 0
  | .smem => 0
  | _ => 0

abbrev bufTy : (tb : Table) → Fin (tcTables nBuf tb) → BufTy
  | .hbm, ⟨0, _⟩ => ⟨S8x4352x1024, .bf16⟩
  | .hbm, ⟨1, _⟩ => ⟨S8x4352x1024, .bf16⟩
  | .hbm, ⟨2, _⟩ => ⟨S8x4352x512, .bf16⟩
  | .hbm, ⟨3, _⟩ => ⟨S8x256x1024, .bf16⟩
  | .hbm, ⟨4, _⟩ => ⟨S8x256x1024, .f32⟩
  | .hbm, ⟨5, _⟩ => ⟨S8x256x8x128, .f32⟩
  | .hbm, ⟨6, _⟩ => ⟨S8x256x1024, .bf16⟩
  | .hbm, ⟨7, _⟩ => ⟨S8x256x1024, .f32⟩
  | .hbm, ⟨8, _⟩ => ⟨S8x256x8x128, .f32⟩
  | .hbm, ⟨9, _⟩ => ⟨S8x256x512, .bf16⟩
  | .hbm, ⟨10, _⟩ => ⟨S8x256x512, .f32⟩
  | .hbm, ⟨11, _⟩ => ⟨S8x256x8x64, .f32⟩
  | .hbm, ⟨12, _⟩ => ⟨S8x8x256x256, .f32⟩
  | .hbm, ⟨13, _⟩ => ⟨S_, .f32⟩
  | .hbm, ⟨14, _⟩ => ⟨S8x8x256, .f32⟩
  | .hbm, ⟨15, _⟩ => ⟨S_, .f32⟩
  | .hbm, ⟨16, _⟩ => ⟨S8x8x256, .f32⟩
  | .hbm, ⟨17, _⟩ => ⟨S8x8x256, .f32⟩
  | .hbm, ⟨18, _⟩ => ⟨S8x8x256x1, .f32⟩
  | .hbm, ⟨19, _⟩ => ⟨S8x8x256x256, .f32⟩
  | .hbm, ⟨20, _⟩ => ⟨S8x8x256x256, .f32⟩
  | .hbm, ⟨21, _⟩ => ⟨S8x8x256x256, .f32⟩
  | .hbm, ⟨22, _⟩ => ⟨S_, .f32⟩
  | .hbm, ⟨23, _⟩ => ⟨S8x8x256, .f32⟩
  | .hbm, ⟨24, _⟩ => ⟨S8x8x256x1, .f32⟩
  | .hbm, ⟨25, _⟩ => ⟨S8x8x256x256, .f32⟩
  | .hbm, ⟨26, _⟩ => ⟨S8x8x256x256, .f32⟩
  | .hbm, ⟨27, _⟩ => ⟨S8x8x64x256, .f32⟩
  | .hbm, ⟨28, _⟩ => ⟨S8x256x8x64, .f32⟩
  | .hbm, ⟨29, _⟩ => ⟨S8x256x512, .f32⟩
  | _, _ => ⟨S8x4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Kernel9.lean ====
abbrev S8x1024 : Shape := ⟨2, ![8, 1024]⟩
abbrev S1024 : Shape := ⟨1, ![1024]⟩
abbrev S1024x6144 : Shape := ⟨2, ![1024, 6144]⟩
abbrev S6144 : Shape := ⟨1, ![6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S1x6144 : Shape := ⟨2, ![1, 6144]⟩
abbrev S16x6144 : Shape := ⟨2, ![16, 6144]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S1x6144, .f32⟩
  | .hbm, ⟨9, _⟩ => ⟨S16x6144, .f32⟩
  | .local _ .vmem, ⟨0, _⟩ => ⟨S16x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S8x1024 : Shape := ⟨2, ![8, 1024]⟩
abbrev S1024 : Shape := ⟨1, ![1024]⟩
abbrev S1024x6144 : Shape := ⟨2, ![1024, 6144]⟩
abbrev S6144 : Shape := ⟨1, ![6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S16x6144 : Shape := ⟨2, ![16, 6144]⟩
abbrev S1x6144 : Shape := ⟨2, ![1, 6144]⟩

abbrev nBuf : Space → Nat
  | .hbm => 21
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S16x6144, .f32⟩
  | .hbm, ⟨18, _⟩ => ⟨S1x6144, .f32⟩
  | .hbm, ⟨19, _⟩ => ⟨S16x6144, .f32⟩
  | .hbm, ⟨20, _⟩ => ⟨S16x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]
-- ==== KernelA.lean ====
abbrev S8x64x3584 : Shape := ⟨3, ![8, 64, 3584]⟩
abbrev S16 : Shape := ⟨1, ![16]⟩
abbrev S32x128x256 : Shape := ⟨3, ![32, 128, 256]⟩
abbrev S32x128 : Shape := ⟨2, ![32, 128]⟩
abbrev S32 : Shape := ⟨1, ![32]⟩
abbrev S4x4 : Shape := ⟨2, ![4, 4]⟩
abbrev S_ : Shape := ⟨0, ![]⟩
abbrev S4x128 : Shape := ⟨2, ![4, 128]⟩
abbrev S4x1x128 : Shape := ⟨3, ![4, 1, 128]⟩
abbrev S32x1x1 : Shape := ⟨3, ![32, 1, 1]⟩
abbrev S32x1x128 : Shape := ⟨3, ![32, 1, 128]⟩
abbrev S8x64x1024 : Shape := ⟨3, ![8, 64, 1024]⟩
abbrev S1x64x128 : Shape := ⟨3, ![1, 64, 128]⟩
abbrev S1x64x256 : Shape := ⟨3, ![1, 64, 256]⟩
abbrev S1x1x128 : Shape := ⟨3, ![1, 1, 128]⟩
abbrev S1x128x256 : Shape := ⟨3, ![1, 128, 256]⟩
abbrev S128x256 : Shape := ⟨2, ![128, 256]⟩
abbrev S1x128 : Shape := ⟨2, ![1, 128]⟩
abbrev S64x128 : Shape := ⟨2, ![64, 128]⟩
abbrev S64x1 : Shape := ⟨2, ![64, 1]⟩
abbrev S1x1 : Shape := ⟨2, ![1, 1]⟩
abbrev S64x64 : Shape := ⟨2, ![64, 64]⟩
abbrev S64 : Shape := ⟨1, ![64]⟩
abbrev S1x64 : Shape := ⟨2, ![1, 64]⟩
abbrev S128 : Shape := ⟨1, ![128]⟩
abbrev S128x64 : Shape := ⟨2, ![128, 64]⟩
abbrev S64x256 : Shape := ⟨2, ![64, 256]⟩
abbrev S1x256 : Shape := ⟨2, ![1, 256]⟩

abbrev nBuf : Space → Nat
  | .hbm => 18
  | .vmem => 24
  | .smem => 0
  | _ => 0

abbrev bufTy : (tb : Table) → Fin (tcTables nBuf tb) → BufTy
  | .hbm, ⟨0, _⟩ => ⟨S8x64x3584, .f32⟩
  | .hbm, ⟨1, _⟩ => ⟨S16, .f32⟩
  | .hbm, ⟨2, _⟩ => ⟨S32x128x256, .f32⟩
  | .hbm, ⟨3, _⟩ => ⟨S32x128, .f32⟩
  | .hbm, ⟨4, _⟩ => ⟨S32, .f32⟩
  | .hbm, ⟨5, _⟩ => ⟨S4x4, .f32⟩
  | .hbm, ⟨6, _⟩ => ⟨S4x4, .f32⟩
  | .hbm, ⟨7, _⟩ => ⟨S_, .i32⟩
  | .hbm, ⟨8, _⟩ => ⟨S_, .f32⟩
  | .hbm, ⟨9, _⟩ => ⟨S4x128, .f32⟩
  | .hbm, ⟨10, _⟩ => ⟨S4x1x128, .f32⟩
  | .hbm, ⟨11, _⟩ => ⟨S32x1x1, .f32⟩
  | .hbm, ⟨12, _⟩ => ⟨S32x1x128, .f32⟩
  | .hbm, ⟨13, _⟩ => ⟨S32x1x128, .f32⟩
  | .hbm, ⟨14, _⟩ => ⟨S8x64x1024, .f32⟩
  | .hbm, ⟨15, _⟩ => ⟨S32x128x256, .f32⟩
  | .hbm, ⟨16, _⟩ => ⟨S32x1x128, .f32⟩
  | .hbm, ⟨17, _⟩ => ⟨S32x1x128, .f32⟩
  | .local _ .vmem, ⟨0, _⟩ => ⟨S1x64x128, .f32⟩
  | .local _ .vmem, ⟨1, _⟩ => ⟨S1x64x128, .f32⟩
  | .local _ .vmem, ⟨2, _⟩ => ⟨S1x64x128, .f32⟩
  | .local _ .vmem, ⟨3, _⟩ => ⟨S1x64x128, .f32⟩
  | .local _ .vmem, ⟨4, _⟩ => ⟨S1x64x256, .f32⟩
  | .local _ .vmem, ⟨5, _⟩ => ⟨S1x64x256, .f32⟩
  | .local _ .vmem, ⟨6, _⟩ => ⟨S1x64x128, .f32⟩
  | .local _ .vmem, ⟨7, _⟩ => ⟨S1x64x128, .f32⟩
  | .local _ .vmem, ⟨8, _⟩ => ⟨S1x1x128, .f32⟩
  | .local _ .vmem, ⟨9, _⟩ => ⟨S1x1x128, .f32⟩
  | .local _ .vmem, ⟨10, _⟩ => ⟨S1x128x256, .f32⟩
  | .local _ .vmem, ⟨11, _⟩ => ⟨S1x128x256, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S1x1x128, .f32⟩
  | .local _ .vmem, ⟨16, _⟩ => ⟨S1x64x256, .f32⟩
  | .local _ .vmem, ⟨17, _⟩ => ⟨S1x64x256, .f32⟩
  | .local _ .vmem, ⟨18, _⟩ => ⟨S1x128x256, .f32⟩
  | .local _ .vmem, ⟨19, _⟩ => ⟨S1x128x256, .f32⟩
  | .local _ .vmem, ⟨20, _⟩ => ⟨S1x1x128, .f32⟩
  | .local _ .vmem, ⟨21, _⟩ => ⟨S1x1x128, .f32⟩
  | .local _ .vmem, ⟨22, _⟩ => ⟨S1x1x128, .f32⟩
  | .local _ .vmem, ⟨23, _⟩ => ⟨S1x1x128, .f32⟩
  | _, _ => ⟨S8x64x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceAIdeal.lean ====
abbrev S8x64x3584 : Shape := ⟨3, ![8, 64, 3584]⟩
abbrev S16 : Shape := ⟨1, ![16]⟩
abbrev S32x128x256 : Shape := ⟨3, ![32, 128, 256]⟩
abbrev S32x128 : Shape := ⟨2, ![32, 128]⟩
abbrev S32 : Shape := ⟨1, ![32]⟩
abbrev S8x64x512 : Shape := ⟨3, ![8, 64, 512]⟩
abbrev S8x64x4x128 : Shape := ⟨4, ![8, 64, 4, 128]⟩
abbrev S8x4x64x128 : Shape := ⟨4, ![8, 4, 64, 128]⟩
abbrev S32x64x128 : Shape := ⟨3, ![32, 64, 128]⟩
abbrev S_ : Shape := ⟨0, ![]⟩
abbrev S8x64x1024 : Shape := ⟨3, ![8, 64, 1024]⟩
abbrev S8x64x4x256 : Shape := ⟨4, ![8, 64, 4, 256]⟩
abbrev S8x4x64x256 : Shape := ⟨4, ![8, 4, 64, 256]⟩
abbrev S32x64x256 : Shape := ⟨3, ![32, 64, 256]⟩
abbrev S4x1x4 : Shape := ⟨3, ![4, 1, 4]⟩
abbrev S4x8x4 : Shape := ⟨3, ![4, 8, 4]⟩
abbrev S4x32x1 : Shape := ⟨3, ![4, 32, 1]⟩
abbrev S32x64x1 : Shape := ⟨3, ![32, 64, 1]⟩
abbrev S32x64 : Shape := ⟨2, ![32, 64]⟩
abbrev S1x32x1 : Shape := ⟨3, ![1, 32, 1]⟩
abbrev S32x1 : Shape := ⟨2, ![32, 1]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S32x1x64 : Shape := ⟨3, ![32, 1, 64]⟩
abbrev S32x64x64 : Shape := ⟨3, ![32, 64, 64]⟩
abbrev S32x1x1 : Shape := ⟨3, ![32, 1, 1]⟩
abbrev S32x1x128 : Shape := ⟨3, ![32, 1, 128]⟩

abbrev nBuf : Space → Nat
  | .hbm => 161
  | .vmem => 0
  | .smem => 0
  | _ => 0

abbrev hbmTy0_0 (i : Nat) : BufTy := match i % 128 with
  | 0 => ⟨S8x64x3584, .f32⟩
  | 1 => ⟨S16, .f32⟩
  | 2 => ⟨S32x128x256, .f32⟩
  | 3 => ⟨S32x128, .f32⟩
  | 4 => ⟨S32, .f32⟩
  | 5 => ⟨S8x64x512, .f32⟩
  | 6 => ⟨S8x64x4x128, .f32⟩
  | 7 => ⟨S8x4x64x128, .f32⟩
  | 8 => ⟨S32x64x128, .f32⟩
  | 9 => ⟨S_, .f32⟩
  | 10 => ⟨S32x64x128, .f32⟩
  | 11 => ⟨S32x64x128, .f32⟩
  | 12 => ⟨S8x64x512, .f32⟩
  | 13 => ⟨S8x64x4x128, .f32⟩
  | 14 => ⟨S8x4x64x128, .f32⟩
  | 15 => ⟨S32x64x128, .f32⟩
  | 16 => ⟨S8x64x1024, .f32⟩
  | 17 => ⟨S8x64x4x256, .f32⟩
  | 18 => ⟨S8x4x64x256, .f32⟩
  | 19 => ⟨S32x64x256, .f32⟩
  | 20 => ⟨S8x64x512, .f32⟩
  | 21 => ⟨S8x64x4x128, .f32⟩
  | 22 => ⟨S8x4x64x128, .f32⟩
  | 23 => ⟨S32x64x128, .f32⟩
  | 24 => ⟨S4x1x4, .f32⟩
  | 25 => ⟨S4x8x4, .f32⟩
  | 26 => ⟨S4x32x1, .f32⟩
  | 27 => ⟨S32x64x1, .f32⟩
  | 28 => ⟨S32x64, .f32⟩
  | 29 => ⟨S1x32x1, .f32⟩
  | 30 => ⟨S32x1, .f32⟩
  | 31 => ⟨S32x64, .f32⟩
  | 32 => ⟨S32x64, .f32⟩
  | 33 => ⟨S32x64x1, .f32⟩
  | 34 => ⟨S32x64, .f32⟩
  | 35 => ⟨S1x32x1, .f32⟩
  | 36 => ⟨S32x1, .f32⟩
  | 37 => ⟨S32x64, .f32⟩
  | 38 => ⟨S32x64, .f32⟩
  | 39 => ⟨S32x64, .f32⟩
  | 40 => ⟨S_, .f32⟩
  | 41 => ⟨S32x64, .f32⟩
  | 42 => ⟨S32x64, .f32⟩
  | 43 => ⟨S32x64, .f32⟩
  | 44 => ⟨S32x64, .f32⟩
  | 45 => ⟨S32x64, .i1⟩
  | 46 => ⟨S32x64, .f32⟩
  | 47 => ⟨S32x64, .f32⟩
  | 48 => ⟨S32x64, .f32⟩
  | 49 => ⟨S32x64, .f32⟩
  | 50 => ⟨S32x64, .f32⟩
  | 51 => ⟨S32x64, .f32⟩
  | 52 => ⟨S32x64, .f32⟩
  | 53 => ⟨S32x64, .f32⟩
  | 54 => ⟨S32x64, .f32⟩
  | 55 => ⟨S32x1, .f32⟩
  | 56 => ⟨S64, .i32⟩
  | 57 => ⟨S1x64, .i32⟩
  | 58 => ⟨S64, .i32⟩
  | 59 => ⟨S64x1, .i32⟩
  | 60 => ⟨S64x64, .i32⟩
  | 61 => ⟨S64x64, .i32⟩
  | 62 => ⟨S64x64, .i1⟩
  | 63 => ⟨S32x1x64, .f32⟩
  | 64 => ⟨S_, .f32⟩
  | 65 => ⟨S_, .f32⟩
  | 66 => ⟨S32x64x64, .i1⟩
  | 67 => ⟨S32x64x64, .f32⟩
  | 68 => ⟨S32x64x64, .f32⟩
  | 69 => ⟨S32x64x64, .f32⟩
  | 70 => ⟨S_, .f32⟩
  | 71 => ⟨S32x64, .f32⟩
  | 72 => ⟨S_, .f32⟩
  | 73 => ⟨S32, .f32⟩
  | 74 => ⟨S32x1, .f32⟩
  | 75 => ⟨S32x64, .f32⟩
  | 76 => ⟨S32x64, .f32⟩
  | 77 => ⟨S32x64, .f32⟩
  | 78 => ⟨S32x1, .f32⟩
  | 79 => ⟨S_, .f32⟩
  | 80 => ⟨S32, .f32⟩
  | 81 => ⟨S32x1, .f32⟩
  | 82 => ⟨S32x1, .f32⟩
  | 83 => ⟨S32x64, .f32⟩
  | 84 => ⟨S32x64, .f32⟩
  | 85 => ⟨S32x64, .f32⟩
  | 86 => ⟨S32x1, .f32⟩
  | 87 => ⟨S32x1, .f32⟩
  | 88 => ⟨S32x1, .f32⟩
  | 89 => ⟨S32x1x1, .f32⟩
  | 90 => ⟨S32x128x256, .f32⟩
  | 91 => ⟨S32x128x256, .f32⟩
  | 92 => ⟨S32x64x1, .f32⟩
  | 93 => ⟨S32x64x128, .f32⟩
  | 94 => ⟨S32x64x128, .f32⟩
  | 95 => ⟨S32x128x256, .f32⟩
  | 96 => ⟨S32x128x256, .f32⟩
  | 97 => ⟨S32x128, .f32⟩
  | 98 => ⟨S32x128, .f32⟩
  | 99 => ⟨S32x64x1, .f32⟩
  | 100 => ⟨S32x64x128, .f32⟩
  | 101 => ⟨S32x64x128, .f32⟩
  | 102 => ⟨S_, .f32⟩
  | 103 => ⟨S32x128, .f32⟩
  | 104 => ⟨S32x128, .f32⟩
  | 105 => ⟨S32x64x1, .f32⟩
  | 106 => ⟨S32x1x64, .f32⟩
  | 107 => ⟨S32x64x64, .f32⟩
  | 108 => ⟨S32x64x64, .f32⟩
  | 109 => ⟨S32x64x64, .f32⟩
  | 110 => ⟨S32x1x64, .f32⟩
  | 111 => ⟨S32x64x64, .f32⟩
  | 112 => ⟨S32x64x64, .f32⟩
  | 113 => ⟨S_, .f32⟩
  | 114 => ⟨S_, .f32⟩
  | 115 => ⟨S32x64x64, .i1⟩
  | 116 => ⟨S32x64x64, .f32⟩
  | 117 => ⟨S32x64x64, .f32⟩
  | 118 => ⟨S32x64, .f32⟩
  | 119 => ⟨S32x64, .f32⟩
  | 120 => ⟨S_, .f32⟩
  | 121 => ⟨S32x64, .f32⟩
  | 122 => ⟨S32x64, .f32⟩
  | 123 => ⟨S32x64, .f32⟩
  | 124 => ⟨S32x64, .f32⟩
  | 125 => ⟨S32x64, .f32⟩
  | 126 => ⟨S32x64, .f32⟩
  | 127 => ⟨S32x64x64, .f32⟩
  | _ => ⟨S8x64x3584, .f32⟩

abbrev hbmTy0_1 (i : Nat) : BufTy := match i % 128 with
  | 0 => ⟨S32x64x1, .f32⟩
  | 1 => ⟨S32x64x64, .f32⟩
  | 2 => ⟨S32x64x64, .f32⟩
  | 3 => ⟨S32x64x64, .f32⟩
  | 4 => ⟨S32x64x64, .f32⟩
  | 5 => ⟨S32x64x256, .f32⟩
  | 6 => ⟨S32x64x1, .f32⟩
  | 7 => ⟨S32x64x256, .f32⟩
  | 8 => ⟨S32x64x256, .f32⟩
  | 9 => ⟨S32x64x256, .f32⟩
  | 10 => ⟨S32x64x256, .f32⟩
  | 11 => ⟨S_, .f32⟩
  | 12 => ⟨S32x64, .f32⟩
  | 13 => ⟨S32x1x128, .f32⟩
  | 14 => ⟨S32x64x128, .f32⟩
  | 15 => ⟨S32x64x128, .f32⟩
  | 16 => ⟨S_, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64x1, .f32⟩
  | 25 => ⟨S32x64x256, .f32⟩
  | 26 => ⟨S32x64x256, .f32⟩
  | 27 => ⟨S8x4x64x256, .f32⟩
  | 28 => ⟨S8x64x4x256, .f32⟩
  | 29 => ⟨S8x64x1024, .f32⟩
  | 30 => ⟨S32x1x128, .f32⟩
  | 31 => ⟨S32x1x1, .f32⟩
  | 32 => ⟨S32x1x128, .f32⟩
  | _ => ⟨S8x64x3584, .f32⟩

abbrev hbmTy (i : Nat) : BufTy := match i / 128 with
  | 0 => hbmTy0_0 i
  | 1 => hbmTy0_1 i
  | _ => ⟨S8x64x3584, .f32⟩

abbrev bufTy : (tb : Table) → Fin (tcTables nBuf tb) → BufTy
  | .hbm, ⟨i, _⟩ => hbmTy i
  | _, _ => ⟨S8x64x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_call0_v0 : Ref sig .tc := ⟨.hbm, 39, rfl⟩
abbrev main_call0_call0_cst : Ref sig .tc := ⟨.hbm, 40, rfl⟩
abbrev main_call0_call0_v0 : Ref sig .tc := ⟨.hbm, 41, rfl⟩
abbrev main_call0_call0_v1 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_v4 : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_v7 : Ref sig .tc := ⟨.hbm, 48, rfl⟩
abbrev main_call0_call0_v8 : Ref sig .tc := ⟨.hbm, 49, rfl⟩
abbrev main_call0_call0_v9 : Ref sig .tc := ⟨.hbm, 50, rfl⟩
abbrev main_call0_call0_v10 : Ref sig .tc := ⟨.hbm, 51, rfl⟩
abbrev main_call0_call0_v11 : Ref sig .tc := ⟨.hbm, 52, rfl⟩
abbrev main_call0_v1 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_0 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_v43 : Ref sig .tc := ⟨.hbm, 69, rfl⟩
abbrev main_cst_1 : Ref sig .tc := ⟨.hbm, 70, rfl⟩
abbrev main_v44 : Ref sig .tc := ⟨.hbm, 71, rfl⟩
abbrev main_cst_2 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_3 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_4 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_5 : Ref sig .tc := ⟨.hbm, 113, rfl⟩
abbrev main_call2_v0 : Ref sig .tc := ⟨.hbm, 114, rfl⟩
abbrev main_call2_v1 : Ref sig .tc := ⟨.hbm, 115, rfl⟩
abbrev main_call2_v2 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_6 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_7 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_8 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩

abbrev nD : Nat := 1
abbrev τ : Topo := Topo.v7x

variable {F : FTy → Type} [FloatOps F]
-- ==== Proof.Softmax.lean ====
/-
  The mathematics of softmax attention over the extended reals, for one query row: its scores against `n` keys, the
  weights `exp (score - largest score)`, and the two orders in which the weighted mean of the values may be taken. The
  kernel divides the weighted sum by the sum of the weights; the reference divides every weight first. On finite scores
  the two agree, whatever the values are.
-/
module

public import Idealize.ShloMosaic.Lib.Pointwise

@[expose] public section

noncomputable section

namespace Cert.Attention

open Idealize.ShloMosaic

/-- An extended real that is a real number. -/
def Finite (x : EReal) : Prop := ∃ r : ℝ, x = (r : EReal)

/-- The product of two real numbers is one. -/
theorem Finite.mul {x y : EReal} : Finite x → Finite y → Finite (x * y)
  | ⟨a, ha⟩, ⟨b, hb⟩ => ⟨a * b, by rw [ha, hb, EReal.coe_mul]⟩

/-- A finite sum of real numbers is one. -/
theorem Finite.sum {ι : Type*} (s : Finset ι) (f : ι → EReal) (h : ∀ i, Finite (f i)) : Finite (∑ i ∈ s, f i) := by
  classical
  induction s using Finset.induction_on with
  | empty => exact ⟨0, by simp⟩
  | insert a s ha ih =>
    obtain ⟨x, hx⟩ := ih
    obtain ⟨y, hy⟩ := h a
    exact ⟨y + x, by rw [Finset.sum_insert ha, hx, hy, EReal.coe_add]⟩

/-- A sum of extended reals times a nonnegative real is the sum of the products. -/
theorem sum_mul_real {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- The largest of a row's scores. -/
def top {n : Nat} (s : Fin n → EReal) : EReal := Finset.univ.fold max ⊥ s

/-- The weight of key `k` before it is divided: the exponential of how far its score lies below the largest. -/
def weight {n : Nat} (s : Fin n → EReal) (k : Fin n) : EReal := Ideal.exp (s k - top s)

/-- The attention's value with the division last: the weighted sum of the values over the sum of the weights. -/
def attend {n : Nat} (s v : Fin n → EReal) : EReal := Ideal.div (∑ k, weight s k * v k) (∑ k, weight s k)

/-- The largest of finitely many real scores is a real number. -/
theorem top_finite {n : Nat} (hn : 0 < n) (s : Fin n → EReal) (hs : ∀ k, Finite (s k)) : Finite (top s) := by
  have h1 : top s ≠ ⊤ := by
    have : top s < ⊤ := by
      unfold top
      rw [Finset.fold_max_lt]
      refine ⟨bot_lt_top, fun k _ => ?_⟩
      obtain ⟨r, hr⟩ := hs k
      rw [hr]; exact EReal.coe_lt_top r
    exact this.ne
  have h2 : top s ≠ ⊥ := by
    have : ⊥ < top s := by
      unfold top
      rw [Finset.lt_fold_max]
      right
      refine ⟨⟨0, hn⟩, Finset.mem_univ _, ?_⟩
      obtain ⟨r, hr⟩ := hs ⟨0, hn⟩
      rw [hr]; exact EReal.bot_lt_coe r
    exact this.ne'
  exact ⟨(top s).toReal, (EReal.coe_toReal h1 h2).symm⟩

/-- On real scores the weights add up to a positive real number. -/
theorem total_pos {n : Nat} (hn : 0 < n) (s : Fin n → EReal) (hs : ∀ k, Finite (s k)) :
    ∃ l : ℝ, 0 < l ∧ ∑ k, weight s k = (l : EReal) := by
  obtain ⟨M, hM⟩ := top_finite hn s hs
  choose r hr using hs
  refine ⟨∑ k, Real.exp (r k - M), ?_, ?_⟩
  · haveI : Nonempty (Fin n) := ⟨⟨0, hn⟩⟩
    exact Finset.sum_pos (fun k _ => Real.exp_pos _) Finset.univ_nonempty
  · have hw : ∀ k, weight s k = ((Real.exp (r k - M) : ℝ) : EReal) := fun k => by
      unfold weight
      rw [hM, hr k, ← EReal.coe_sub, Ideal.exp_coe]
    simp only [hw]
    induction (Finset.univ : Finset (Fin n)) using Finset.induction_on with
    | empty => simp
    | insert a t ha ih => rw [Finset.sum_insert ha, Finset.sum_insert ha, ih, EReal.coe_add]

/-- Dividing last or dividing every weight first is the same, for real scores and any values at all. -/
theorem attend_eq {n : Nat} (hn : 0 < n) (s v : Fin n → EReal) (hs : ∀ k, Finite (s k)) :
    attend s v = ∑ k, v k * Ideal.div (weight s k) (∑ k', weight s k') := by
  obtain ⟨l, hl, he⟩ := total_pos hn s hs
  unfold attend
  rw [he, Ideal.div_coe hl.ne', sum_mul_real _ _ _ (by positivity)]
  refine Finset.sum_congr rfl fun k _ => ?_
  rw [Ideal.div_coe hl.ne', mul_comm (weight s k), mul_assoc]

/-- The word the maxima start from denotes minus infinity. -/
theorem minus_infinity : Ideal.ofBits .f32 0xFF800000#32 = ⊥ := by simp [Ideal.ofBits, Ideal.ieee]

end Cert.Attention

end
-- ==== Proof.Unit.lean ====
/-
  One unit of the kernel's work: 128 queries of one head against all the keys of that head, and two such units side by
  side, which is what one store writes.
-/
module

public import proofs.«01_k».proof.Proof.Gen.KernelIdeal.Skeleton
public import proofs.«01_k».proof.Proof.Softmax

@[expose] public section

noncomputable section

namespace Cert.Attention

open Idealize.ShloMosaic Cert.KernelIdeal Cert.KernelIdeal.Gen

/-- One head's unit at query `r` and value lane `l`: softmax attention over the keys. -/
theorem unit_apply (q : Vec Ideal S1x128x128 .bf16) (k : Vec Ideal S1x4352x128 .bf16) (v : Vec Ideal S1x4352x64 .bf16)
    (r : Fin 128) (l : Fin 64) : k0_pay3 (F := Ideal) q k v (ix2 r l)
      = attend (fun t : Fin 4352 => ∑ d : Fin 128, q (ix3 0 r d) * k (ix3 0 t d)) (fun t => v (ix3 0 t l)) := by
  pointwise [k0_pay3]
  rw [minus_infinity]
  rfl

/-- Two heads' units side by side, as one store writes them. -/
def pairPay (q0 q1 : Vec Ideal S1x128x128 .bf16) (k0 k1 : Vec Ideal S1x4352x128 .bf16)
    (v0 v1 : Vec Ideal S1x4352x64 .bf16) : FVec Ideal S1x128x128 .f32 :=
  shapeCast S1x128x128 (concatenate S128x128 1 [⟨S128x64, k0_pay3 (F := Ideal) q0 k0 v0⟩, ⟨S128x64, k0_pay3 (F := Ideal) q1 k1 v1⟩]
    concatenates_S128x64_S128x64_S128x128_d1) shapeCasts_S128x128_S1x128x128

/-- The pair at query `r` and lane `l`: the first head's unit on the first 64 lanes, the second's on the rest. -/
theorem pairPay_apply (q0 q1 : Vec Ideal S1x128x128 .bf16) (k0 k1 : Vec Ideal S1x4352x128 .bf16)
    (v0 v1 : Vec Ideal S1x4352x64 .bf16) (r : Fin 128) (l : Fin 128) :
    pairPay q0 q1 k0 k1 v0 v1 (ix3 0 r l)
      = if h : l.val < 64 then k0_pay3 (F := Ideal) q0 k0 v0 (ix2 r ⟨l.val, h⟩)
        else k0_pay3 (F := Ideal) q1 k1 v1 (ix2 r ⟨l.val - 64, by omega⟩) := by
  pointwise [pairPay]

end Cert.Attention
end
-- ==== Proof.Block.lean ====
/-
  What one grid step leaves in its output block: 1024 queries of two heads, written by eight stores of 128 rows each.
-/
module

public import proofs.«01_k».proof.Proof.Unit
public import proofs.«01_k».proof.Proof.Gen.KernelIdeal.Frame
public import Idealize.ShloMosaic.Lib.Pipeline.Value

@[expose] public section

noncomputable section

namespace Cert.Attention

open Idealize.ShloMosaic Idealize.ShloMosaic.TcCoe Idealize.SL.Sem Cert.KernelIdeal Cert.KernelIdeal.Gen

/-- Lane `d` of the head that value lane `l` of a pair belongs to, among the pair's 256 query (or key) lanes. -/
def pairLane (l : Fin 128) (d : Fin 128) : Fin 256 := ⟨128 * (l.val / 64) + d.val, by omega⟩

/-- The step's output block as one function of its three input blocks. -/
def blockOut (q : Vec Ideal S1x1024x256 .bf16) (k : Vec Ideal S1x4352x256 .bf16) (v : Vec Ideal S1x4352x128 .bf16) :
    Vec Ideal S1x1024x128 .f32 := fun y =>
  attend (fun t : Fin 4352 => ∑ d : Fin 128, q (ix3 0 (y 1) (pairLane (y 2) d)) * k (ix3 0 t (pairLane (y 2) d)))
    (fun t => v (ix3 0 t (y 2)))

/-- Where a contiguous sub-block's index lies in the block: the corner plus the index, axis by axis. -/
theorem idx_unit3 {n0 n1 n2 : Nat} (off size : Fin 3 → Nat) (inb) (j : (⟨3, size⟩ : Shape).Idx) (a : Fin n0) (b : Fin n1) (c : Fin n2)
    (ha : off 0 + (j 0).val = a.val) (hb : off 1 + (j 1).val = b.val) (hc : off 2 + (j 2).val = c.val) :
    (Rect.unit (s := ⟨3, ![n0, n1, n2]⟩) off size inb).idx j = ix3 a b c := by
  funext t
  match t with
  | ⟨0, _⟩ => exact Fin.ext ((congrArg (off 0 + ·) (Nat.one_mul (j 0).val)).trans ha)
  | ⟨1, _⟩ => exact Fin.ext ((congrArg (off 1 + ·) (Nat.one_mul (j 1).val)).trans hb)
  | ⟨2, _⟩ => exact Fin.ext ((congrArg (off 2 + ·) (Nat.one_mul (j 2).val)).trans hc)

/-- The store of the rows from `o` on writes those rows of `blockOut`. -/
theorem piece (q : Vec Ideal S1x1024x256 .bf16) (k : Vec Ideal S1x4352x256 .bf16) (v : Vec Ideal S1x4352x128 .bf16)
    (o : Nat) (ho : o + 128 ≤ 1024) (h0 h1 k0 k1 v0 v1 hy) (x : S1x128x128.Idx) :
    pairPay (View.ld (S := S1x1024x256) (e' := .bf16) (Val := Elt Ideal) q (Rect.unit ![0, o, 0] S1x128x128.size h0))
      (View.ld (S := S1x1024x256) (e' := .bf16) (Val := Elt Ideal) q (Rect.unit ![0, o, 128] S1x128x128.size h1))
      (View.ld (S := S1x4352x256) (e' := .bf16) (Val := Elt Ideal) k (Rect.unit ![0, 0, 0] S1x4352x128.size k0))
      (View.ld (S := S1x4352x256) (e' := .bf16) (Val := Elt Ideal) k (Rect.unit ![0, 0, 128] S1x4352x128.size k1))
      (View.ld (S := S1x4352x128) (e' := .bf16) (Val := Elt Ideal) v (Rect.unit ![0, 0, 0] S1x4352x64.size v0))
      (View.ld (S := S1x4352x128) (e' := .bf16) (Val := Elt Ideal) v (Rect.unit ![0, 0, 64] S1x4352x64.size v1)) x
      = blockOut q k v ((Rect.unit (s := S1x1024x128) ![0, o, 0] S1x128x128.size hy).emb x) := by
  obtain ⟨r, l, rfl⟩ : ∃ (r l : Fin 128), x = ix3 (0 : Fin 1) r l :=
    ⟨x 1, x 2, (eq_ix3 x).trans (by rw [show x 0 = (0 : Fin 1) from Subsingleton.elim (α := Fin 1) _ _])⟩
  rw [pairPay_apply, show (Rect.unit (s := S1x1024x128) ![0, o, 0] S1x128x128.size hy).emb (ix3 0 r l)
    = ix3 (0 : Fin 1) (⟨o + r.val, by omega⟩ : Fin 1024) l from
      idx_unit3 _ _ hy _ _ _ _ rfl rfl (Nat.zero_add _)]
  split
  · rename_i hl
    rw [unit_apply]
    refine congrArg₂ attend (funext fun t => Finset.sum_congr rfl fun d _ => congrArg₂ (· * ·) (congrArg q ?_) (congrArg k ?_))
      (funext fun t => congrArg v ?_)
    · exact idx_unit3 _ _ h0 _ _ _ _ rfl rfl (by show 0 + d.val = 128 * (l.val / 64) + d.val; omega)
    · exact idx_unit3 _ _ k0 _ _ _ _ rfl (Nat.zero_add _) (by show 0 + d.val = 128 * (l.val / 64) + d.val; omega)
    · exact idx_unit3 _ _ v0 _ _ _ _ rfl (Nat.zero_add _) (Nat.zero_add _)
  · rename_i hl
    rw [unit_apply]
    refine congrArg₂ attend (funext fun t => Finset.sum_congr rfl fun d _ => congrArg₂ (· * ·) (congrArg q ?_) (congrArg k ?_))
      (funext fun t => congrArg v ?_)
    · exact idx_unit3 _ _ h1 _ _ _ _ rfl rfl (by show 128 + d.val = 128 * (l.val / 64) + d.val; omega)
    · exact idx_unit3 _ _ k1 _ _ _ _ rfl (Nat.zero_add _) (by show 128 + d.val = 128 * (l.val / 64) + d.val; omega)
    · exact idx_unit3 _ _ v1 _ _ _ _ rfl (Nat.zero_add _) (by show 64 + (l.val - 64) = l.val; omega)

/-- What the run leaves in the output's buffer at any grid step is `blockOut` of the three input blocks. -/
theorem out_eq (c : Dev nD) (i : grid0.Coords) (arg3 : Memref sig .tc .vmem S1x1024x256 .bf16) (harg3 : arg3.IsWhole)
    (arg4 : Memref sig .tc .vmem S1x4352x256 .bf16) (harg4 : arg4.IsWhole)
    (arg5 : Memref sig .tc .vmem S1x4352x128 .bf16) (harg5 : arg5.IsWhole)
    (arg6 : Memref sig .tc .vmem S1x1024x128 .f32) (harg6 : arg6.IsWhole)
    (q : Vec Ideal S1x1024x256 .bf16) (k : Vec Ideal S1x4352x256 .bf16) (v : Vec Ideal S1x4352x128 .bf16) :
    out0_A_3 (F := Ideal) c i arg3 harg3 arg4 harg4 arg5 harg5 arg6 harg6 q k v = blockOut q k v := by
  unfold out0_A_3
  rw [View.read_writes_eq_canon _ _ _ (cover0_A_3 c i arg3 harg3 arg4 harg4 arg5 harg5 arg6 harg6 q k v)]
  funext y
  refine View.canon_apply_of_pieces (blockOut q k v) _ ?_ y (cover0_A_3 c i arg3 harg3 arg4 harg4 arg5 harg5 arg6 harg6 q k v y)
  unfold kernelRun0_A
  dsimp only
  sl_unfold_words
  simp only [View.readAt_eq_ld, harg3.read_unread, harg4.read_unread, harg5.read_unread]
  intro p hp
  simp only [List.mem_cons, List.not_mem_nil, or_false] at hp
  rcases hp with rfl | rfl | rfl | rfl | rfl | rfl | rfl | rfl
  · exact piece q k v 896 (by norm_num) inb_S1x1024x256_S1x128x128_0_896_0 inb_S1x1024x256_S1x128x128_0_896_128 _ _ _ _ inb_S1x1024x128_S1x128x128_0_896_0
  · exact piece q k v 768 (by norm_num) inb_S1x1024x256_S1x128x128_0_768_0 inb_S1x1024x256_S1x128x128_0_768_128 _ _ _ _ inb_S1x1024x128_S1x128x128_0_768_0
  · exact piece q k v 640 (by norm_num) inb_S1x1024x256_S1x128x128_0_640_0 inb_S1x1024x256_S1x128x128_0_640_128 _ _ _ _ inb_S1x1024x128_S1x128x128_0_640_0
  · exact piece q k v 512 (by norm_num) inb_S1x1024x256_S1x128x128_0_512_0 inb_S1x1024x256_S1x128x128_0_512_128 _ _ _ _ inb_S1x1024x128_S1x128x128_0_512_0
  · exact piece q k v 384 (by norm_num) inb_S1x1024x256_S1x128x128_0_384_0 inb_S1x1024x256_S1x128x128_0_384_128 _ _ _ _ inb_S1x1024x128_S1x128x128_0_384_0
  · exact piece q k v 256 (by norm_num) inb_S1x1024x256_S1x128x128_0_256_0 inb_S1x1024x256_S1x128x128_0_256_128 _ _ _ _ inb_S1x1024x128_S1x128x128_0_256_0
  · exact piece q k v 128 (by norm_num) inb_S1x1024x256_S1x128x128_0_128_0 inb_S1x1024x256_S1x128x128_0_128_128 _ _ _ _ inb_S1x1024x128_S1x128x128_0_128_0
  · exact piece q k v 0 (by norm_num) inb_S1x1024x256_S1x128x128_0_0_0 inb_S1x1024x256_S1x128x128_0_0_128 _ _ _ _ inb_S1x1024x128_S1x128x128_0_0_0

end Cert.Attention

end
-- ==== Proof.Final.lean ====
/-
  What the attention kernel's result array holds after the run: at every query and lane, softmax attention of the
  lane's head over all the keys of its batch.
-/
module

public import proofs.«01_k».proof.Proof.Block
public import proofs.«01_k».proof.Proof.Gen.KernelIdeal.Value
public import Idealize.ShloMosaic.Lib.Pipeline.ValueKit.Point

@[expose] public section

noncomputable section

namespace Cert.Attention

open Idealize.ShloMosaic Idealize.ShloMosaic.TcCoe Idealize.SL.Sem Cert.KernelIdeal Cert.KernelIdeal.Gen
open Idealize.ShloMosaic.Pipeline (Dat)

/-- Lane `d` of the head that value lane `l` belongs to, among all 1024 query (or key) lanes. -/
def headLane (l : Fin 512) (d : Fin 128) : Fin 1024 := ⟨128 * (l.val / 64) + d.val, by omega⟩

/-- A latent token's place among all tokens of its batch: the latents come first. -/
def latent (n : Fin 4096) : Fin 4352 := ⟨n.val, by omega⟩

/-- The attention as a function of whole arrays: batch, query and value lane of the result to its value. -/
def attention (q : FVec Ideal S8x4352x1024 .bf16) (k : FVec Ideal S8x4352x1024 .bf16) (v : FVec Ideal S8x4352x512 .bf16) :
    FVec Ideal S8x4096x512 .f32 := fun i =>
  attend (fun t : Fin 4352 => ∑ d : Fin 128,
      q (ix3 (i 0) (latent (i 1)) (headLane (i 2) d)) * k (ix3 (i 0) t (headLane (i 2) d)))
    (fun t => v (ix3 (i 0) t (i 2)))

variable (m : (ℓ : Loc nD τ sig) → Buf (Elt Ideal) ℓ)

theorem idx0 : ∀ t : Fin cfg0.N, win0_0.index t = ![(grid0.coords t 0).val, (grid0.coords t 2).val, (grid0.coords t 1).val] :=
  (by decide +kernel : ∀ t : Fin grid0.N, _)
theorem idx1 : ∀ t : Fin cfg0.N, win0_1.index t = ![(grid0.coords t 0).val, 0, (grid0.coords t 1).val] :=
  (by decide +kernel : ∀ t : Fin grid0.N, _)
theorem idx2 : ∀ t : Fin cfg0.N, win0_2.index t = ![(grid0.coords t 0).val, 0, (grid0.coords t 1).val] :=
  (by decide +kernel : ∀ t : Fin grid0.N, _)
theorem idx3 : ∀ t : Fin cfg0.N, win0_3.index t = ![(grid0.coords t 0).val, (grid0.coords t 2).val, (grid0.coords t 1).val] :=
  (by decide +kernel : ∀ t : Fin grid0.N, _)

/-- The query block a step reads: its window is never cut, so the buffer holds the array's block. -/
theorem query_block (c : Dev nD) (t : Fin cfg0.N) (x : S1x1024x256.Idx) :
    X0_0 m c t x = iblk m c 0 t (fun a => ⟨(x a).val, (x a).isLt.trans_eq (xsize0_0 t a).symm⟩) := by
  unfold X0_0 Pipeline.Window.fill
  rw [dif_pos (moved0_0 t x)]

/-- The result array after the run is `attention` of the three argument arrays. -/
theorem final (c : Dev nD) : (dats m 0 c).arrAt 3 cfg0.N
    = attention (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  rw [out_eq]
  unfold blockOut attention
  refine congrArg₂ attend (funext fun n => Finset.sum_congr rfl fun d _ => congrArg₂ (· * ·) ?_ ?_) (funext fun n => ?_)
  · rw [query_block]
    blk_ext! [iblk, V, idx0 t, idx3 t, pairLane, headLane, latent]
  · blk_ext! [iblk, V, idx1 t, idx3 t, pairLane, headLane]
  · blk_ext! [iblk, V, idx2 t, idx3 t, pairLane, headLane]

end Cert.Attention

end
-- ==== Proof.RefValue.lean ====
/-
  What the reference computes, read at an index: the same attention with every weight divided by the row's total, so on
  real scores the same value.
-/
module

public import proofs.«01_k».proof.Proof.Final
public import proofs.«01_k».proof.Proof.Gen.ReferenceIdeal.Run

@[expose] public section

noncomputable section

namespace Cert.Attention

open Idealize.ShloMosaic Cert.ReferenceIdeal Cert.ReferenceIdeal.Gen

/-- The reference's scores: every query against every key, head by head. -/
def refScores (q k : FVec Ideal S8x4352x1024 .bf16) : FVec Ideal S8x8x4096x4352 .f32 :=
  Host.dotGeneral (F := Ideal) dot_S8x4096x8x128_S8x4352x8x128_S8x8x4096x4352_3_3_1_1_02_02 none
    (shapeCast _ (extf .f32 (extractStridedSlice S8x4096x1024 ![0, 0, 0] q slices_S8x4352x1024_S8x4096x1024_0_0_0) bitsLt_bf16_f32)
      shapeCasts_S8x4096x1024_S8x4096x8x128)
    (shapeCast _ (extf .f32 k bitsLt_bf16_f32) shapeCasts_S8x4352x1024_S8x4352x8x128)

/-- The reference's undivided weights, of any scores and row maxima. -/
def refWeights (s : FVec Ideal S8x8x4096x4352 .f32) (M : FVec Ideal S8x8x4096 .f32) : FVec Ideal S8x8x4096x4352 .f32 :=
  Host.exp (F := Ideal) (subf s (broadcastInDim S8x8x4096x4352 ![0, 1, 2, 3] bcast_S8x8x4096x1_S8x8x4096x4352_0_1_2_3
    (broadcastInDim S8x8x4096x1 ![0, 1, 2] bcast_S8x8x4096_S8x8x4096x1_0_1_2
      (maximumf (broadcastInDim S8x8x4096 ![] bcast_S_S8x8x4096 (constant S_ .f32 0xFF800000#32)) M))))

/-- The reference's row maxima, folded from any start. -/
def refTop (s : FVec Ideal S8x8x4096x4352 .f32) (z : FVec Ideal S_ .f32) : FVec Ideal S8x8x4096 .f32 :=
  Host.reduce FloatOps.maximumf s z reducesTo_S8x8x4096x4352_S8x8x4096_d3 h_S_

/-- The reference's weighted mean of the values, of any undivided weights. -/
def refMean (w : FVec Ideal S8x8x4096x4352 .f32) (v : FVec Ideal S8x4352x512 .bf16) : FVec Ideal S8x4096x512 .f32 :=
  shapeCast _ (transpose S8x4096x8x64 [0, 3, 1, 2]
    (Host.dotGeneral (F := Ideal) dot_S8x4352x8x64_S8x8x4096x4352_S8x8x64x4096_1_3_3_2_02_01 none
      (shapeCast _ (extf .f32 v bitsLt_bf16_f32) shapeCasts_S8x4352x512_S8x4352x8x64)
      (Host.divf w (broadcastInDim S8x8x4096x4352 ![0, 1, 2, 3] bcast_S8x8x4096x1_S8x8x4096x4352_0_1_2_3
        (broadcastInDim S8x8x4096x1 ![0, 1, 2] bcast_S8x8x4096_S8x8x4096x1_0_1_2
          (Host.reduceAdd w (constant S_ .f32 0x00000000#32) reducesTo_S8x8x4096x4352_S8x8x4096_d3 h_S_)))))
    transposes_S8x8x64x4096_S8x4096x8x64_0_3_1_2) shapeCasts_S8x4096x8x64_S8x4096x512

/-- The reference's result. -/
def refOut (q k : FVec Ideal S8x4352x1024 .bf16) (v : FVec Ideal S8x4352x512 .bf16) : FVec Ideal S8x4096x512 .f32 :=
  refMean (refWeights (refScores q k) (refTop (refScores q k) (constant S_ .f32 0xFF800000#32))) v

/-- A score: the product of a query with a key over the head's 128 lanes. -/
theorem refScores_apply (q k : FVec Ideal S8x4352x1024 .bf16) (b h : Fin 8) (n : Fin 4096) (t : Fin 4352) :
    refScores q k (ix4 b h n t) = ∑ d : Fin 128, q (ix3 b (latent n) ⟨h.val * 128 + d.val, by omega⟩) * k (ix3 b t ⟨h.val * 128 + d.val, by omega⟩) := by
  pointwise [refScores]
  rfl

/-- The reference's maximum along a row of scores, folded from a start of minus infinity. -/
theorem refTop_apply (s : FVec Ideal S8x8x4096x4352 .f32) (z : FVec Ideal S_ .f32) (hz : z = fun _ => (⊥ : EReal))
    (b h : Fin 8) (n : Fin 4096) : refTop s z (ix3 b h n) = top (fun t => s (ix4 b h n t)) := by
  pointwise [refTop]
  subst hz
  rfl

/-- An undivided weight of the reference is the row's `weight`, when the maxima are the row's. -/
theorem refWeights_apply (s : FVec Ideal S8x8x4096x4352 .f32) (M : FVec Ideal S8x8x4096 .f32) (b h : Fin 8) (n : Fin 4096)
    (hM : M (ix3 b h n) = top (fun t => s (ix4 b h n t))) (t : Fin 4352) :
    refWeights s M (ix4 b h n t) = weight (fun t => s (ix4 b h n t)) t := by
  pointwise [refWeights]
  rw [hM, minus_infinity, max_eq_right bot_le]
  rfl

/-- The weighted mean at an index. -/
theorem refMean_apply (w : FVec Ideal S8x8x4096x4352 .f32) (v : FVec Ideal S8x4352x512 .bf16) (b : Fin 8) (n : Fin 4096) (l : Fin 512) :
    refMean w v (ix3 b n l) = ∑ t : Fin 4352, v (ix3 b t l) *
      Ideal.div (w (ix4 b ⟨l.val / 64, by omega⟩ n t)) (∑ t' : Fin 4352, w (ix4 b ⟨l.val / 64, by omega⟩ n t')) := by
  pointwise [refMean]

/-- On real queries and keys the reference's result is `attention`. -/
theorem refOut_eq (q k : FVec Ideal S8x4352x1024 .bf16) (v : FVec Ideal S8x4352x512 .bf16)
    (hq : ∀ i, Finite (q i)) (hk : ∀ i, Finite (k i)) : refOut q k v = attention q k v := by
  funext i
  obtain ⟨b, n, l, rfl⟩ : ∃ (b : Fin 8) (n : Fin 4096) (l : Fin 512), i = ix3 b n l := ⟨i 0, i 1, i 2, eq_ix3 i⟩
  unfold refOut
  rw [refMean_apply]
  have hM : ∀ h : Fin 8, refTop (refScores q k) (constant S_ .f32 0xFF800000#32) (ix3 b h n) = top (fun t => refScores q k (ix4 b h n t)) :=
    fun h => refTop_apply _ _ (funext fun _ => minus_infinity) b h n
  simp only [refWeights_apply _ _ _ _ _ (hM _), refScores_apply]
  refine (attend_eq (by decide) _ _ fun t => Finite.sum _ _ fun d => (hq _).mul (hk _)).symm.trans ?_
  unfold attention
  refine congrArg₂ attend (funext fun t => Finset.sum_congr rfl fun d _ => ?_) rfl
  have hl : (⟨l.val / 64 * 128 + d.val, by omega⟩ : Fin 1024) = headLane l d := Fin.ext (by show l.val / 64 * 128 + d.val = 128 * (l.val / 64) + d.val; omega)
  exact congrArg₂ (· * ·) (congrArg (fun j => q (ix3 b (latent n) j)) hl) (congrArg (fun j => k (ix3 b t j)) hl)

end Cert.Attention

end
-- ==== Proof.Finite.lean ====
module

public import proofs.«01_k».proof.Proof.Softmax
public import proofs.«01_k».proof.Pre_finite_qk
public import Idealize.ShloMosaic.Lib.Pointwise

@[expose] public section

/-! What the precondition says: every query and every key is a real number. -/

noncomputable section

namespace Cert.Attention

open Idealize.ShloMosaic Cert.Pre_finite_qk

variable [Cert.Pre_finite_qk.Facts]

/-- The word the precondition compares with denotes infinity. -/
theorem plus_infinity : Ideal.ofBits .f32 0x7F800000#32 = ⊤ := by simp [Ideal.ofBits, Ideal.ieee]

/-- A number whose absolute value is below infinity is real. -/
theorem finite_of_abs (x : EReal) (h : max x (-x) < ⊤) : Finite x := by
  induction x with
  | bot => simp at h
  | coe r => exact ⟨r, rfl⟩
  | top => simp at h

/-- Two comparison bits whose conjunction is set are both set. -/
theorem both_set (a b : Bool) (h : BitVec.ofBool a &&& BitVec.ofBool b = 1#1) : a = true ∧ b = true := by
  revert a b; decide

/-- Under the precondition the queries and the keys are real. -/
theorem real_at (q k : FVec Ideal S8x4352x1024 .bf16) (v : FVec Ideal S8x4352x512 .bf16)
    (h : fn (F := Ideal) q k v = fun _ => 1#1) (i : S8x4352x1024.Idx) : Finite (q i) ∧ Finite (k i) := by
  obtain ⟨b, t, d, rfl⟩ : ∃ (b : Fin 8) (t : Fin 4352) (d : Fin 1024), i = ix3 b t d := ⟨i 0, i 1, i 2, eq_ix3 i⟩
  have h' := congrFun h (ix3 b t d)
  revert h'
  pointwise [fn]
  rw [plus_infinity]
  intro h'
  obtain ⟨hq, hk⟩ := both_set _ _ h'
  exact ⟨finite_of_abs _ (of_decide_eq_true hq), finite_of_abs _ (of_decide_eq_true hk)⟩

end Cert.Attention

end
-- ==== Proof.Claim.lean ====
module

public import proofs.«01_k».proof.Defs
public import proofs.«01_k».proof.Proof.Final
public import proofs.«01_k».proof.Proof.RefValue
public import proofs.«01_k».proof.Proof.Finite
public import proofs.«01_k».proof.Proof.Gen.KernelIdeal.Value
public import proofs.«01_k».proof.Proof.Gen.ReferenceIdeal.Run

@[expose] public section

/-! The attention call: the reference's frame, and the claim that the call and the reference give one result. -/

noncomputable section

namespace Cert.Attention

open Idealize.ShloMosaic Idealize.SL.Sem

/-- The shape relations the precondition's function takes. -/
instance pre_facts : Cert.Pre_finite_qk.Facts where
  bitsLt_bf16_f32 := by decide
  bcast_S_S8x4352x1024 := by decide

/-- The reference declares no semaphore, so nothing of its counters is left to say. -/
theorem no_counter {T : Prop} (s : SemLoc Cert.ReferenceIdeal.sig) : T :=
  match s with
  | .reg s => s.elim0
  | .dma s => s.elim0

/-- The reference runs and leaves its arguments alone. -/
theorem reference_frame : Cert.quiescent_ReferenceIdeal := fun m ρ _ =>
  (θ_run Cert.ReferenceIdeal.defs _ _).mono (fun r h => ⟨fun c => (h c).2, funext fun s => no_counter s.2⟩)
    (Cert.ReferenceIdeal.Value.run (F := Ideal) m ρ)

/-- On real queries and keys the call's result is the reference's. -/
theorem algebraic : Cert.algebraic_KernelIdeal_ReferenceIdeal_pre_finite_qk (hPre_finite_qk := pre_facts) := by
  intro m g m' g' hpre hargs
  refine ⟨fun c => attention (m ((c.tc : Thread _ _).loc Cert.KernelIdeal.main_arg0))
    (m ((c.tc : Thread _ _).loc Cert.KernelIdeal.main_arg1)) (m ((c.tc : Thread _ _).loc Cert.KernelIdeal.main_arg2)), ?_, ?_⟩
  · exact (θ_run Cert.KernelIdeal.defs _ _).mono (fun r h c => ⟨(h c).1.trans (final m c), (h c).2⟩)
      (Cert.KernelIdeal.Value.run_blocks (F := Ideal) m g)
  · refine (θ_run Cert.ReferenceIdeal.defs _ _).mono (fun r h c => ⟨(h c).1.trans ?_, (h c).2⟩)
      (Cert.ReferenceIdeal.Value.run (F := Ideal) m' g')
    obtain ⟨h0, h1, h2⟩ := hargs c
    have hr := real_at _ _ _ (hpre c)
    have hv : refOut (m' ((c.tc : Thread _ _).loc Cert.ReferenceIdeal.main_arg0)) (m' ((c.tc : Thread _ _).loc Cert.ReferenceIdeal.main_arg1))
        (m' ((c.tc : Thread _ _).loc Cert.ReferenceIdeal.main_arg2)) = attention (m ((c.tc : Thread _ _).loc Cert.KernelIdeal.main_arg0))
        (m ((c.tc : Thread _ _).loc Cert.KernelIdeal.main_arg1)) (m ((c.tc : Thread _ _).loc Cert.KernelIdeal.main_arg2)) := by
      rw [h0, h1, h2]
      exact refOut_eq _ _ _ (fun i => (hr i).1) (fun i => (hr i).2)
    exact .trans rfl hv

end Cert.Attention

end
-- ==== Proof.Rows.lean ====
/-
  The mathematics the row-wise calls share, of one row of 1024 numbers: its root-mean-square norm, and that norm
  modulated.
-/
module

public import Idealize.ShloMosaic.PureOps.Ideal

@[expose] public section

noncomputable section

namespace Cert.Rows

open Idealize.ShloMosaic

/-- A row over its root mean square (the mean square raised by the layer's epsilon), times a gain. -/
def normed (x g : Fin 1024 → EReal) (d : Fin 1024) : EReal :=
  x d * Ideal.rsqrt (Ideal.div (∑ e, x e * x e) (Ideal.ofBits .f32 0x44800000#32) + Ideal.ofBits .f32 0x358637BD#32) * g d

/-- The norm of a row, scaled by one more than `sc` and shifted by `sh`. -/
def modulated (x g sh sc : Fin 1024 → EReal) (d : Fin 1024) : EReal :=
  normed x g d * (Ideal.ofBits .f32 0x3F800000#32 + sc d) + sh d

end Cert.Rows

end
-- ==== Proof.Host.lean ====
/-
  The reference's host operations on a stream of rows, read at an index: the norm, the modulated norm, a modulation
  vector sliced from its table.
-/
module

public import proofs.«01_k».proof.Proof.Rows
public import proofs.«01_k».proof.Proof.Gen.Reference3Ideal.Run
public import Idealize.ShloMosaic.Lib.Pointwise

@[expose] public section

noncomputable section

namespace Cert.Rows

open Idealize.ShloMosaic Cert.Reference3Ideal Cert.Reference3Ideal.Gen

/-- The reference's norm of the latent stream. -/
def hostNormL (x : FVec Ideal S8x4096x1024 .f32) (g : FVec Ideal S1024 .f32) : FVec Ideal S8x4096x1024 .f32 :=
  mulf (mulf x (broadcastInDim S8x4096x1024 ![0, 1, 2] bcast_S8x4096x1_S8x4096x1024_0_1_2
    (Host.rsqrt (addf (Host.divf (broadcastInDim S8x4096x1 ![0, 1] bcast_S8x4096_S8x4096x1_0_1
      (Host.reduceAdd (mulf x x) (constant S_ .f32 0x00000000#32) reducesTo_S8x4096x1024_S8x4096_d2 h_S_))
      (broadcastInDim S8x4096x1 ![] bcast_S_S8x4096x1 (constant S_ .f32 0x44800000#32)))
      (broadcastInDim S8x4096x1 ![] bcast_S_S8x4096x1 (constant S_ .f32 0x358637BD#32))))))
    (broadcastInDim S8x4096x1024 ![0, 1, 2] bcast_S1x1x1024_S8x4096x1024_0_1_2
      (broadcastInDim S1x1x1024 ![2] bcast_S1024_S1x1x1024_2 g))

/-- The reference's norm of the context stream. -/
def hostNormC (x : FVec Ideal S8x256x1024 .f32) (g : FVec Ideal S1024 .f32) : FVec Ideal S8x256x1024 .f32 :=
  mulf (mulf x (broadcastInDim S8x256x1024 ![0, 1, 2] bcast_S8x256x1_S8x256x1024_0_1_2
    (Host.rsqrt (addf (Host.divf (broadcastInDim S8x256x1 ![0, 1] bcast_S8x256_S8x256x1_0_1
      (Host.reduceAdd (mulf x x) (constant S_ .f32 0x00000000#32) reducesTo_S8x256x1024_S8x256_d2 h_S_))
      (broadcastInDim S8x256x1 ![] bcast_S_S8x256x1 (constant S_ .f32 0x44800000#32)))
      (broadcastInDim S8x256x1 ![] bcast_S_S8x256x1 (constant S_ .f32 0x358637BD#32))))))
    (broadcastInDim S8x256x1024 ![0, 1, 2] bcast_S1x1x1024_S8x256x1024_0_1_2
      (broadcastInDim S1x1x1024 ![2] bcast_S1024_S1x1x1024_2 g))

/-- The latent stream's norm, modulated by a vector of each batch. -/
def hostModL (n : FVec Ideal S8x4096x1024 .f32) (sh sc : FVec Ideal S8x1x1024 .f32) : FVec Ideal S8x4096x1024 .f32 :=
  addf (mulf n (broadcastInDim S8x4096x1024 ![0, 1, 2] bcast_S8x1x1024_S8x4096x1024_0_1_2
    (addf (broadcastInDim S8x1x1024 ![] bcast_S_S8x1x1024 (constant S_ .f32 0x3F800000#32)) sc)))
    (broadcastInDim S8x4096x1024 ![0, 1, 2] bcast_S8x1x1024_S8x4096x1024_0_1_2 sh)

/-- The context stream's norm, modulated by the one vector of the context. -/
def hostModC (n : FVec Ideal S8x256x1024 .f32) (sh sc : FVec Ideal S1x1024 .f32) : FVec Ideal S8x256x1024 .f32 :=
  addf (mulf n (broadcastInDim S8x256x1024 ![0, 1, 2] bcast_S1x1x1024_S8x256x1024_0_1_2
    (broadcastInDim S1x1x1024 ![1, 2] bcast_S1x1024_S1x1x1024_1_2
      (addf (broadcastInDim S1x1024 ![] bcast_S_S1x1024 (constant S_ .f32 0x3F800000#32)) sc))))
    (broadcastInDim S8x256x1024 ![0, 1, 2] bcast_S1x1x1024_S8x256x1024_0_1_2
      (broadcastInDim S1x1x1024 ![1, 2] bcast_S1x1024_S1x1x1024_1_2 sh))

/-- Row `k` of the modulation table for the latents of each batch. -/
def hostVecL (k : Fin 6) (h : S16x6x1x1024.Slices ![0, k.val, 0, 0] S8x1x1x1024) (t : FVec Ideal S16x6x1x1024 .f32) :
    FVec Ideal S8x1x1024 .f32 :=
  shapeCast S8x1x1024 (extractStridedSlice S8x1x1x1024 ![0, k.val, 0, 0] t h) shapeCasts_S8x1x1x1024_S8x1x1024

/-- Row `k` of the modulation table for the context. -/
def hostVecC (k : Fin 6) (h : S16x6x1x1024.Slices ![8, k.val, 0, 0] S1x1x1x1024) (t : FVec Ideal S16x6x1x1024 .f32) :
    FVec Ideal S1x1024 .f32 :=
  shapeCast S1x1024 (extractStridedSlice S1x1x1x1024 ![8, k.val, 0, 0] t h) shapeCasts_S1x1x1x1024_S1x1024

/-- The latent stream's norm at an index is its row's. -/
theorem hostNormL_at (x : FVec Ideal S8x4096x1024 .f32) (g : FVec Ideal S1024 .f32) (b : Fin 8) (t : Fin 4096) (d : Fin 1024) :
    hostNormL x g (ix3 b t d) = normed (fun e => x (ix3 b t e)) (fun e => g (ix1 e)) d := by
  unfold normed
  pointwise [hostNormL]

/-- The context stream's norm at an index is its row's. -/
theorem hostNormC_at (x : FVec Ideal S8x256x1024 .f32) (g : FVec Ideal S1024 .f32) (b : Fin 8) (t : Fin 256) (d : Fin 1024) :
    hostNormC x g (ix3 b t d) = normed (fun e => x (ix3 b t e)) (fun e => g (ix1 e)) d := by
  unfold normed
  pointwise [hostNormC]

/-- The latent stream's modulation at an index. -/
theorem hostModL_at (n : FVec Ideal S8x4096x1024 .f32) (sh sc : FVec Ideal S8x1x1024 .f32) (b : Fin 8) (t : Fin 4096) (d : Fin 1024) :
    hostModL n sh sc (ix3 b t d)
      = n (ix3 b t d) * (Ideal.ofBits .f32 0x3F800000#32 + sc (ix3 b 0 d)) + sh (ix3 b 0 d) := by
  pointwise [hostModL]

/-- The context stream's modulation at an index. -/
theorem hostModC_at (n : FVec Ideal S8x256x1024 .f32) (sh sc : FVec Ideal S1x1024 .f32) (b : Fin 8) (t : Fin 256) (d : Fin 1024) :
    hostModC n sh sc (ix3 b t d)
      = n (ix3 b t d) * (Ideal.ofBits .f32 0x3F800000#32 + sc (ix2 0 d)) + sh (ix2 0 d) := by
  pointwise [hostModC]

/-- A latent modulation vector at an index is the table's entry. -/
theorem hostVecL_at (k : Fin 6) (h : S16x6x1x1024.Slices ![0, k.val, 0, 0] S8x1x1x1024) (t : FVec Ideal S16x6x1x1024 .f32)
    (b : Fin 8) (d : Fin 1024) : hostVecL k h t (ix3 b 0 d) = t (ix4 ⟨b.val, by omega⟩ k 0 d) := by
  fin_cases k <;> pointwise [hostVecL]

/-- A context modulation vector at an index is the table's entry. -/
theorem hostVecC_at (k : Fin 6) (h : S16x6x1x1024.Slices ![8, k.val, 0, 0] S1x1x1x1024) (t : FVec Ideal S16x6x1x1024 .f32)
    (d : Fin 1024) : hostVecC k h t (ix2 0 d) = t (ix4 8 k 0 d) := by
  fin_cases k <;> pointwise [hostVecC]

end Cert.Rows

end
-- ==== Proof.Streams.lean ====
/-
  The rows of both streams side by side: of each batch its 4096 latents, then its 256 context tokens.
-/
module

public import proofs.«01_k».proof.Proof.Host

@[expose] public section

noncomputable section

namespace Cert.Rows

open Idealize.ShloMosaic Cert.Reference3Ideal Cert.Reference3Ideal.Gen

/-- What row `r` takes from the latents, or from the context. -/
def pick (a : Fin 8 → Fin 4096 → EReal) (b : Fin 8 → Fin 256 → EReal) (r : Fin 34816) : EReal :=
  if h : r.val % 4352 < 4096 then a ⟨r.val / 4352, by omega⟩ ⟨r.val % 4352, h⟩
  else b ⟨r.val / 4352, by omega⟩ ⟨r.val % 4352 - 4096, by omega⟩

/-- A latent row's value. -/
theorem pick_lat (a : Fin 8 → Fin 4096 → EReal) (b : Fin 8 → Fin 256 → EReal) (r : Fin 34816) (h : r.val % 4352 < 4096) :
    pick a b r = a ⟨r.val / 4352, by omega⟩ ⟨r.val % 4352, h⟩ := dif_pos h

/-- A context row's value. -/
theorem pick_ctx (a : Fin 8 → Fin 4096 → EReal) (b : Fin 8 → Fin 256 → EReal) (r : Fin 34816) (h : ¬ r.val % 4352 < 4096) :
    pick a b r = b ⟨r.val / 4352, by omega⟩ ⟨r.val % 4352 - 4096, by omega⟩ := dif_neg h

/-- The group of the modulation table a row reads: its batch's for a latent, the eighth for the context. -/
def group (r : Fin 34816) : Fin 16 :=
  if r.val % 4352 < 4096 then ⟨r.val / 4352, by omega⟩ else 8

/-- Row `k` of the modulation table for a row's group. -/
def vec (mo : FVec Ideal S16x6x1x1024 .f32) (k : Fin 6) (r : Fin 34816) (d : Fin 1024) : EReal :=
  mo (ix4 (group r) k 0 d)

/-- The table's vector for a latent row is the host's. -/
theorem vec_lat (mo : FVec Ideal S16x6x1x1024 .f32) (k : Fin 6) (h : S16x6x1x1024.Slices ![0, k.val, 0, 0] S8x1x1x1024)
    (r : Fin 34816) (hr : r.val % 4352 < 4096) (d : Fin 1024) :
    hostVecL k h mo (ix3 ⟨r.val / 4352, by omega⟩ 0 d) = vec mo k r d := by
  rw [hostVecL_at, vec, group, if_pos hr]

/-- The table's vector for a context row is the host's. -/
theorem vec_ctx (mo : FVec Ideal S16x6x1x1024 .f32) (k : Fin 6) (h : S16x6x1x1024.Slices ![8, k.val, 0, 0] S1x1x1x1024)
    (r : Fin 34816) (hr : ¬ r.val % 4352 < 4096) (d : Fin 1024) : hostVecC k h mo (ix2 0 d) = vec mo k r d := by
  rw [hostVecC_at, vec, group, if_neg hr]

/-- The streams' modulated norms are each row's, whatever the streams are. -/
theorem pick_norm (x : FVec Ideal S8x4096x1024 .f32) (y : FVec Ideal S8x256x1024 .f32) (s : Fin 34816 → Fin 1024 → EReal)
    (hs : ∀ r d, pick (fun b t => x (ix3 b t d)) (fun b t => y (ix3 b t d)) r = s r d)
    (g : FVec Ideal S1024 .f32) (mo : FVec Ideal S16x6x1x1024 .f32) (k j : Fin 6)
    (hk : S16x6x1x1024.Slices ![0, k.val, 0, 0] S8x1x1x1024) (hj : S16x6x1x1024.Slices ![0, j.val, 0, 0] S8x1x1x1024)
    (hk' : S16x6x1x1024.Slices ![8, k.val, 0, 0] S1x1x1x1024) (hj' : S16x6x1x1024.Slices ![8, j.val, 0, 0] S1x1x1x1024)
    (r : Fin 34816) (d : Fin 1024) :
    pick (fun b t => hostModL (hostNormL x g) (hostVecL k hk mo) (hostVecL j hj mo) (ix3 b t d))
      (fun b t => hostModC (hostNormC y g) (hostVecC k hk' mo) (hostVecC j hj' mo) (ix3 b t d)) r
      = modulated (s r) (fun e => g (ix1 e)) (vec mo k r) (vec mo j r) d := by
  unfold modulated
  rw [← funext fun e => hs r e]
  by_cases h : r.val % 4352 < 4096
  · rw [pick_lat _ _ r h, hostModL_at, hostNormL_at, vec_lat mo k hk r h, vec_lat mo j hj r h,
      funext fun e => pick_lat (fun b t => x (ix3 b t e)) (fun b t => y (ix3 b t e)) r h]
  · rw [pick_ctx _ _ r h, hostModC_at, hostNormC_at, vec_ctx mo k hk' r h, vec_ctx mo j hj' r h,
      funext fun e => pick_ctx (fun b t => x (ix3 b t e)) (fun b t => y (ix3 b t e)) r h]

/-- A product of each row with one vector is the product of what the row takes. -/
theorem pick_dot (x : Fin 8 → Fin 4096 → Fin 1024 → EReal) (y : Fin 8 → Fin 256 → Fin 1024 → EReal)
    (s : Fin 34816 → Fin 1024 → EReal) (hs : ∀ r e, pick (fun b t => x b t e) (fun b t => y b t e) r = s r e)
    (w : Fin 1024 → EReal) (r : Fin 34816) :
    pick (fun b t => ∑ e, x b t e * w e) (fun b t => ∑ e, y b t e * w e) r = ∑ e, s r e * w e := by
  rw [← funext fun e => hs r e]
  by_cases h : r.val % 4352 < 4096
  · rw [pick_lat _ _ r h]
    exact Finset.sum_congr rfl fun e _ => by dsimp only; rw [pick_lat _ _ r h]
  · rw [pick_ctx _ _ r h]
    exact Finset.sum_congr rfl fun e _ => by dsimp only; rw [pick_ctx _ _ r h]

/-- Row `r` of block `t` of 256. -/
def row (t : Fin 136) (r : Fin 256) : Fin 34816 := ⟨t.val * 256 + r.val, by omega⟩

/-- A block's rows have one group. -/
theorem group_row (t : Fin 136) (r : Fin 256) :
    (group (row t r)).val = if t.val % 17 < 16 then t.val / 17 else 8 := by
  unfold group row
  split <;> split <;> simp_all <;> omega

/-- The reference's joined streams, a row to a token. -/
def joined (x : FVec Ideal S8x4096x1024 .f32) (y : FVec Ideal S8x256x1024 .f32) : FVec Ideal S34816x1024 .f32 :=
  shapeCast S34816x1024 (concatenate S8x4352x1024 1 [⟨S8x4096x1024, x⟩, ⟨S8x256x1024, y⟩]
    concatenates_S8x4096x1024_S8x256x1024_S8x4352x1024_d1) shapeCasts_S8x4352x1024_S34816x1024

/-- The joined streams at an index. -/
theorem joined_at (x : FVec Ideal S8x4096x1024 .f32) (y : FVec Ideal S8x256x1024 .f32) (r : Fin 34816) (d : Fin 1024) :
    joined x y (ix2 r d) = pick (fun b t => x (ix3 b t d)) (fun b t => y (ix3 b t d)) r := by
  unfold pick
  pointwise [joined]

end Cert.Rows

end
-- ==== Proof.Late.lean ====
/-
  A step is late if it takes a block of the context: of each batch's seventeen steps, the last.
-/
module

public import proofs.«01_k».proof.Proof.Streams

@[expose] public section

noncomputable section

namespace Cert.Rows

open Idealize.ShloMosaic

/-- The bit a step computes from its number: set if the number's remainder by 17 is at least 16. -/
def late (k : ℕ) : BitVec 1 :=
  let one : BitVec 32 := Scalar.select (Scalar.cmpi .eq 17#32 0#32) 1#32 17#32
  let rem : BitVec 32 := Scalar.remsi (BitVec.ofNat 32 k) one
  Scalar.cmpi .sge (Scalar.select (Scalar.andi (Scalar.xori (Scalar.cmpi .slt rem 0#32) (Scalar.cmpi .slt one 0#32))
    (Scalar.cmpi .ne rem 0#32)) (Scalar.addi rem one) rem) 16#32

/-- The bit is the comparison of the remainder. -/
theorem late_eq : ∀ t : Fin 136, late t.val = if t.val % 17 < 16 then 0 else 1 := by decide +kernel

/-- A step that is not late keeps the second choice. -/
theorem select_lat {α : Type} (t : Fin 136) (h : t.val % 17 < 16) (a b : α) : Scalar.select (late t.val) a b = b := by
  rw [late_eq, if_pos h]; rfl

/-- A late step keeps the first choice. -/
theorem select_ctx {α : Type} (t : Fin 136) (h : ¬ t.val % 17 < 16) (a b : α) : Scalar.select (late t.val) a b = a := by
  rw [late_eq, if_neg h]; rfl

/-- The rows of a step that is not late are latents. -/
theorem row_lat (t : Fin 136) (h : t.val % 17 < 16) (r : Fin 256) : (row t r).val % 4352 < 4096 := by
  unfold row; dsimp only; omega

/-- The rows of a late step are context tokens. -/
theorem row_ctx (t : Fin 136) (h : ¬ t.val % 17 < 16) (r : Fin 256) : ¬ (row t r).val % 4352 < 4096 := by
  unfold row; dsimp only; omega

/-- A step's block of what its rows take: chosen by the bit from a block of latents and a block of the context. -/
theorem select_row {ι : Type} (t : Fin 136) (u v : ι → EReal) (y : ι) (a : Fin 8 → Fin 4096 → EReal)
    (b : Fin 8 → Fin 256 → EReal) (r : Fin 256)
    (hv : ∀ h : t.val % 17 < 16, v y = a ⟨(row t r).val / 4352, by omega⟩ ⟨(row t r).val % 4352, row_lat t h r⟩)
    (hu : ¬ t.val % 17 < 16 → u y = b ⟨(row t r).val / 4352, by omega⟩ ⟨(row t r).val % 4352 - 4096, by omega⟩) :
    (Scalar.select (late t.val) u v) y = pick a b (row t r) := by
  by_cases h : t.val % 17 < 16
  · rw [select_lat t h, pick_lat _ _ _ (row_lat t h r), hv h]
  · rw [select_ctx t h, pick_ctx _ _ _ (row_ctx t h r), hu h]

end Cert.Rows

end
-- ==== Proof.Even.lean ====
/-
  The even layer's first call: the modulated norm of both streams and its product with the layer's input weights, a row
  to a token.
-/
module

public import proofs.«01_k».proof.Proof.Late
public import proofs.«01_k».proof.Proof.Gen.Kernel2Ideal.Value
public import Idealize.ShloMosaic.Lib.Pointwise
public import Idealize.ShloMosaic.Lib.StableHlo.ReadAt
public import Idealize.ShloMosaic.Lib.Pipeline.ValueKit.Point
public import Idealize.ShloMosaic.Lib.Pipeline.ValueKit.Acc

@[expose] public section

noncomputable section

namespace Cert.Even

open Idealize.ShloMosaic Idealize.ShloMosaic.TcCoe Idealize.SL.Sem Cert.Kernel2Ideal Cert.Kernel2Ideal.Gen
open Cert.Rows

/-- Both streams, a row to a token. -/
def stream (x : FVec Ideal S8x4096x1024 .f32) (y : FVec Ideal S8x256x1024 .f32) (r : Fin 34816) (d : Fin 1024) : EReal :=
  pick (fun b t => x (ix3 b t d)) (fun b t => y (ix3 b t d)) r

/-- The streams' modulated norm. -/
def norm (x : FVec Ideal S8x4096x1024 .f32) (y : FVec Ideal S8x256x1024 .f32) (g : FVec Ideal S1024 .f32)
    (mo : FVec Ideal S16x6x1x1024 .f32) (r : Fin 34816) (d : Fin 1024) : EReal :=
  modulated (stream x y r) (fun e => g (ix1 e)) (vec mo 0 r) (vec mo 1 r) d

/-- A column of the weights as the result lays them out: the compressed keys and values, zeros, the shared key's
    rotary part, zeros, and the rest. -/
def column (w : Fin 1952 → EReal) (l : Fin 2048) : EReal :=
  if _ : l.val < 384 then w ⟨l.val, by omega⟩
  else if _ : l.val < 448 then 0
  else if _ : l.val < 480 then w ⟨l.val - 64, by omega⟩
  else if _ : l.val < 512 then 0
  else w ⟨l.val - 96, by omega⟩

/-- The projection: the norm times the weights. -/
def proj (x : FVec Ideal S8x4096x1024 .f32) (y : FVec Ideal S8x256x1024 .f32) (g : FVec Ideal S1024 .f32)
    (mo : FVec Ideal S16x6x1x1024 .f32) (w : FVec Ideal S1024x1952 .f32) (r : Fin 34816) (l : Fin 2048) : EReal :=
  column (fun j => ∑ e, norm x y g mo r e * w (ix2 e j)) l

/-- The projection, as an array. -/
def projOut (x : FVec Ideal S8x4096x1024 .f32) (y : FVec Ideal S8x256x1024 .f32) (g : FVec Ideal S1024 .f32)
    (mo : FVec Ideal S16x6x1x1024 .f32) (w : FVec Ideal S1024x1952 .f32) : FVec Ideal S34816x2048 .f32 :=
  fun i => proj x y g mo w (i 0) (i 1)

/-- A product with laid-out columns is the products laid out: a column of zeros gives zero. -/
theorem dot_column (x : Fin 1024 → EReal) (w : Fin 1024 → Fin 1952 → EReal) (l : Fin 2048) :
    ∑ e, x e * column (w e) l = column (fun j => ∑ e, x e * w e j) l := by
  unfold column
  split_ifs <;> simp

/-- A block's rows normed and scaled by the gain. -/
def normBlock (x : FVec Ideal S256x1024 .f32) (g : FVec Ideal S1x1024 .f32) : FVec Ideal S256x1024 .f32 :=
  mulf (mulf x (broadcastTo S256x1024 (rsqrt (addf (divf (shapeCast S256x1 (multiReduction .add [1] S256 (mulf x x)
      0x00000000#32 reduces_S256x1024_S256 (.inl rfl) rfl) shapeCasts_S256_S256x1)
      (broadcast S256x1 (Scalar.ofBits .f32 0x44800000#32))) (broadcast S256x1 (Scalar.ofBits .f32 0x358637BD#32))))
      broadcasts_S256x1_S256x1024))
    (broadcastTo S256x1024 (shapeCast S1x1024 g shapeCasts_S1x1024_S1x1024) broadcasts_S1x1024_S256x1024)

/-- The normed block at an index. -/
theorem normBlock_at (x : FVec Ideal S256x1024 .f32) (g : FVec Ideal S1x1024 .f32) (r : Fin 256) (d : Fin 1024) :
    normBlock x g (ix2 r d) = normed (fun e => x (ix2 r e)) (fun e => g (ix2 0 e)) d := by
  unfold normed
  pointwise [normBlock]

/-- A step's norm is of the block its number picks. -/
theorem pay_pick (i : grid0.Coords) (u v : FVec Ideal S256x1024 .f32) (g : FVec Ideal S1x1024 .f32) :
    k0_pay4 (F := Ideal) i u v g = normBlock (Scalar.select (late (i 0).val)
      (shapeCast S256x1024 u shapeCasts_S256x1024_S256x1024) (shapeCast S256x1024 v shapeCasts_S256x1024_S256x1024)) g := rfl

/-- A step's block of the product at an index. -/
theorem pay_dot (n : FVec Ideal S256x1024 .f32) (sh sc : FVec Ideal S1x1x1x1024 .f32) (w : FVec Ideal S1024x2048 .bf16)
    (r : Fin 256) (l : Fin 2048) :
    k0_pay1 (F := Ideal) (k0_pay2 sh) (k0_pay3 sc) n (Scalar.ofBits .f32 0x3F800000#32) w (ix2 r l)
      = ∑ e, (n (ix2 r e) * (Ideal.ofBits .f32 0x3F800000#32 + sc (ix4 0 0 0 e)) + sh (ix4 0 0 0 e)) * w (ix2 e l) := by
  pointwise [k0_pay1, k0_pay2, k0_pay3]

variable (m : (ℓ : Loc nD τ sig) → Buf (Elt Ideal) ℓ)

/-- A step's coordinate is its number. -/
theorem coord : ∀ t : Fin cfg0.N, (grid0.coords t 0).val = t.val := (by decide +kernel : ∀ t : Fin grid0.N, _)
/-- A step that is not late reads its block of latents. -/
theorem idx0 : ∀ t : Fin cfg0.N, t.val % 17 < 16 → win0_0.index t = ![t.val / 17 * 16 + t.val % 17, 0] := (by decide +kernel : ∀ t : Fin grid0.N, _)
/-- A late step reads its batch's context. -/
theorem idx1 : ∀ t : Fin cfg0.N, ¬ t.val % 17 < 16 → win0_1.index t = ![t.val / 17, 0] := (by decide +kernel : ∀ t : Fin grid0.N, _)
/-- The gain is read whole. -/
theorem idx2 : ∀ t : Fin cfg0.N, win0_2.index t = ![0, 0] := (by decide +kernel : ∀ t : Fin grid0.N, _)
/-- The shift is the group's. -/
theorem idx3 : ∀ t : Fin cfg0.N, win0_3.index t = ![if t.val % 17 < 16 then t.val / 17 else 8, 0, 0, 0] := (by decide +kernel : ∀ t : Fin grid0.N, _)
/-- The scale is the group's. -/
theorem idx4 : ∀ t : Fin cfg0.N, win0_4.index t = ![if t.val % 17 < 16 then t.val / 17 else 8, 1, 0, 0] := (by decide +kernel : ∀ t : Fin grid0.N, _)
/-- The weights are read whole. -/
theorem idx5 : ∀ t : Fin cfg0.N, win0_5.index t = ![0, 0] := (by decide +kernel : ∀ t : Fin grid0.N, _)
/-- The projection is written a block to a step. -/
theorem idx6 : ∀ t : Fin cfg0.N, win0_6.index t = ![t.val, 0] := (by decide +kernel : ∀ t : Fin grid0.N, _)

/-- The weights as the call takes them. -/
theorem host8 (c : Dev nD) (e : Fin 1024) (l : Fin 2048) : V m c main_v8 (ix2 e l)
   = column (fun j => m ((c : Thread nD τ).loc main_arg4) (ix2 e j)) l := by
  unfold V
  after_reads_at
  unfold column
  split
  · after_reads_at
  · split
    · rw [dif_pos (show l.val < 448 by omega)]
      after_reads_at
    · rw [dif_neg (show ¬ l.val < 448 by omega)]
      split
      · rw [dif_pos (show l.val < 480 by omega)]
        after_reads_at
        exact congrArg (fun j => m ((c : Thread nD τ).loc main_arg4) (ix2 e j)) (Fin.ext (by dsimp only; omega))
      · rw [dif_neg (show ¬ l.val < 480 by omega)]
        split
        · rw [dif_pos (show l.val < 512 by omega)]
          after_reads_at
        · rw [dif_neg (show ¬ l.val < 512 by omega)]
          after_reads_at
          exact congrArg (fun j => m ((c : Thread nD τ).loc main_arg4) (ix2 e j)) (Fin.ext (by dsimp only; omega))

/-- The latents' block of a step that is not late. -/
theorem in0 (c : Dev nD) (t : Fin cfg0.N) (h : t.val % 17 < 16) (r : Fin 256) (d : Fin 1024) : iblk m c 0 t (ix2 r d)
    = m ((c : Thread nD τ).loc main_arg0) (ix3 ⟨(row t r).val / 4352, by omega⟩ ⟨(row t r).val % 4352, row_lat t h r⟩ d) := by
  unfold row
  blk_ext! [iblk, V, idx0 t h]

/-- The context's block of a late step. -/
theorem in1 (c : Dev nD) (t : Fin cfg0.N) (h : ¬ t.val % 17 < 16) (r : Fin 256) (d : Fin 1024) : iblk m c 1 t (ix2 r d)
    = m ((c : Thread nD τ).loc main_arg1) (ix3 ⟨(row t r).val / 4352, by omega⟩ ⟨(row t r).val % 4352 - 4096, by omega⟩ d) := by
  unfold row
  blk_ext! [iblk, V, idx1 t h]

/-- A step's gain. -/
theorem in2 (c : Dev nD) (t : Fin cfg0.N) (d : Fin 1024) : iblk m c 2 t (ix2 0 d)
    = m ((c : Thread nD τ).loc main_arg2) (ix1 d) := by
  blk_ext! [iblk, V, idx2 t]

/-- A step's shift. -/
theorem in3 (c : Dev nD) (t : Fin cfg0.N) (r : Fin 256) (d : Fin 1024) : iblk m c 3 t (ix4 0 0 0 d)
    = vec (m ((c : Thread nD τ).loc main_arg3)) 0 (row t r) d := by
  unfold vec
  blk_ext! [iblk, V, idx3 t]
  exact (group_row t r).symm

/-- A step's scale. -/
theorem in4 (c : Dev nD) (t : Fin cfg0.N) (r : Fin 256) (d : Fin 1024) : iblk m c 4 t (ix4 0 0 0 d)
    = vec (m ((c : Thread nD τ).loc main_arg3)) 1 (row t r) d := by
  unfold vec
  blk_ext! [iblk, V, idx4 t]
  exact (group_row t r).symm

/-- A step's weights. -/
theorem in5 (c : Dev nD) (t : Fin cfg0.N) (e : Fin 1024) (l : Fin 2048) : iblk m c 5 t (ix2 e l)
    = column (fun j => m ((c : Thread nD τ).loc main_arg4) (ix2 e j)) l := by
  refine Eq.trans ?_ (host8 m c e l)
  blk_ext! [iblk, idx5 t]

/-- A step's block of the norm before its modulation. -/
theorem block_normed (c : Dev nD) (t : Fin cfg0.N) (r : Fin 256) (d : Fin 1024) :
    k0_pay4 (F := Ideal) (grid0.coords t) (iblk m c 1 t) (iblk m c 0 t) (iblk m c 2 t) (ix2 r d)
      = normed (stream (m ((c : Thread nD τ).loc main_arg0)) (m ((c : Thread nD τ).loc main_arg1)) (row t r)) (fun e => m ((c : Thread nD τ).loc main_arg2) (ix1 e)) d := by
  rw [pay_pick, normBlock_at, coord t, funext fun e => in2 m c t e]
  refine congrArg (fun f => normed f _ d) (funext fun e => ?_)
  refine select_row t _ _ (ix2 r e) (fun b t => m ((c : Thread nD τ).loc main_arg0) (ix3 b t e))
    (fun b t => m ((c : Thread nD τ).loc main_arg1) (ix3 b t e)) r (fun h => ?_) (fun h => ?_)
  · refine Eq.trans ?_ (in0 m c t h r e)
    generalize (iblk m c 0 t : FVec Ideal S256x1024 .f32) = z
    pointwise []
  · refine Eq.trans ?_ (in1 m c t h r e)
    generalize (iblk m c 1 t : FVec Ideal S256x1024 .f32) = z
    pointwise []

/-- A step's block of the projection is the projection's. -/
theorem block_proj (c : Dev nD) (t : Fin cfg0.N) (r : Fin 256) (l : Fin 2048) :
    k0_pay1 (F := Ideal) (k0_pay2 (iblk m c 3 t)) (k0_pay3 (iblk m c 4 t))
      (k0_pay4 (grid0.coords t) (iblk m c 1 t) (iblk m c 0 t) (iblk m c 2 t)) (Scalar.ofBits .f32 0x3F800000#32)
      (iblk m c 5 t) (ix2 r l) = proj (m ((c : Thread nD τ).loc main_arg0)) (m ((c : Thread nD τ).loc main_arg1)) (m ((c : Thread nD τ).loc main_arg2)) (m ((c : Thread nD τ).loc main_arg3)) (m ((c : Thread nD τ).loc main_arg4)) (row t r) l := by
  rw [pay_dot, proj, ← dot_column]
  refine Finset.sum_congr rfl fun e _ => ?_
  rw [in5, in3 m c t r, in4 m c t r, block_normed]
  rfl

/-- The call's projection. -/
theorem final (c : Dev nD) : (dats m 0 c).arrAt 6 cfg0.N = projOut (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  obtain ⟨r, l, rfl⟩ : ∃ (r : Fin 256) (l : Fin 2048), y = ix2 r l := ⟨y 0, y 1, eq_ix2 y⟩
  rw [block_proj]
  refine congr (congrArg _ (Fin.ext ?_)) (Fin.ext ?_)
  · unfold row; blk_simp [idx6 t]
  · blk_simp [idx6 t]

end Cert.Even

end
-- ==== Proof.EvenClaim.lean ====
/-
  The even layer's first call: the reference's frame, and that the call and the reference give one result.
-/
module

public import proofs.«01_k».proof.Defs
public import proofs.«01_k».proof.Proof.Even
public import proofs.«01_k».proof.Proof.Gen.Reference2Ideal.Run

@[expose] public section

noncomputable section

namespace Cert.Even

open Idealize.ShloMosaic Idealize.SL.Sem Cert.Rows Cert.Reference2Ideal Cert.Reference2Ideal.Gen

section Ref

/-- The latents times the weights. -/
def prodL (x : FVec Ideal S8x4096x1024 .f32) (w : FVec Ideal S1024x1952 .f32) : FVec Ideal S8x4096x1952 .f32 :=
  Host.dotGeneral Cert.Reference2Ideal.dot_S8x4096x1024_S1024x1952_S8x4096x1952_2_0_01_1_n_n none x w

/-- The context times the weights. -/
def prodC (x : FVec Ideal S8x256x1024 .f32) (w : FVec Ideal S1024x1952 .f32) : FVec Ideal S8x256x1952 .f32 :=
  Host.dotGeneral Cert.Reference2Ideal.dot_S8x256x1024_S1024x1952_S8x256x1952_2_0_01_1_n_n none x w

/-- The latents' product at an index. -/
theorem prodL_at (x : FVec Ideal S8x4096x1024 .f32) (w : FVec Ideal S1024x1952 .f32) (b : Fin 8) (t : Fin 4096) (l : Fin 1952) :
    prodL x w (ix3 b t l) = ∑ e, x (ix3 b t e) * w (ix2 e l) := by
  pointwise [prodL]

/-- The context's product at an index. -/
theorem prodC_at (x : FVec Ideal S8x256x1024 .f32) (w : FVec Ideal S1024x1952 .f32) (b : Fin 8) (t : Fin 256) (l : Fin 1952) :
    prodC x w (ix3 b t l) = ∑ e, x (ix3 b t e) * w (ix2 e l) := by
  pointwise [prodC]

/-- Both streams' products, a row to a token. -/
def both (x : FVec Ideal S8x4096x1952 .f32) (y : FVec Ideal S8x256x1952 .f32) : FVec Ideal S34816x1952 .f32 :=
  shapeCast S34816x1952 (concatenate S8x4352x1952 1 [⟨S8x4096x1952, x⟩, ⟨S8x256x1952, y⟩]
    concatenates_S8x4096x1952_S8x256x1952_S8x4352x1952_d1) shapeCasts_S8x4352x1952_S34816x1952

/-- Both streams' products at an index. -/
theorem both_at (x : FVec Ideal S8x4096x1952 .f32) (y : FVec Ideal S8x256x1952 .f32) (r : Fin 34816) (l : Fin 1952) :
    both x y (ix2 r l) = pick (fun b t => x (ix3 b t l)) (fun b t => y (ix3 b t l)) r := by
  unfold pick
  pointwise [both]

/-- The product's columns as the result lays them out. -/
def laid (p : FVec Ideal S34816x1952 .f32) : FVec Ideal S34816x2048 .f32 :=
  concatenate S34816x2048 1 [⟨S34816x384, extractStridedSlice S34816x384 ![0, 0] p slices_S34816x1952_S34816x384_0_0⟩,
    ⟨S34816x64, broadcastInDim S34816x64 ![] bcast_S_S34816x64 (constant S_ .f32 0x00000000#32)⟩,
    ⟨S34816x32, extractStridedSlice S34816x32 ![0, 384] p slices_S34816x1952_S34816x32_0_384⟩,
    ⟨S34816x32, broadcastInDim S34816x32 ![] bcast_S_S34816x32 (constant S_ .f32 0x00000000#32)⟩,
    ⟨S34816x1536, extractStridedSlice S34816x1536 ![0, 416] p slices_S34816x1952_S34816x1536_0_416⟩]
    concatenates_S34816x384_S34816x64_S34816x32_S34816x32_S34816x1536_S34816x2048_d1

/-- The laid-out product at an index. -/
theorem laid_at (p : FVec Ideal S34816x1952 .f32) (r : Fin 34816) (l : Fin 2048) :
    laid p (ix2 r l) = column (fun j => p (ix2 r j)) l := by
  unfold column
  pointwise [laid]
  split
  · rfl
  · split
    · rw [dif_pos (show l.val < 448 by omega)]
    · rw [dif_neg (show ¬ l.val < 448 by omega)]
      split
      · rw [dif_pos (show l.val < 480 by omega)]
        exact congrArg (fun j => p (ix2 r j)) (Fin.ext (by dsimp only; omega))
      · rw [dif_neg (show ¬ l.val < 480 by omega)]
        split
        · rw [dif_pos (show l.val < 512 by omega)]
        · rw [dif_neg (show ¬ l.val < 512 by omega)]
          exact congrArg (fun j => p (ix2 r j)) (Fin.ext (by dsimp only; omega))

variable (x : FVec Ideal S8x4096x1024 .f32) (y : FVec Ideal S8x256x1024 .f32) (g : FVec Ideal S1024 .f32)
  (mo : FVec Ideal S16x6x1x1024 .f32) (w : FVec Ideal S1024x1952 .f32)

/-- The reference's modulated latents. -/
def refNormL : FVec Ideal S8x4096x1024 .f32 :=
  hostModL (hostNormL x g) (hostVecL 0 slices_S16x6x1x1024_S8x1x1x1024_0_0_0_0 mo)
    (hostVecL 1 slices_S16x6x1x1024_S8x1x1x1024_0_1_0_0 mo)

/-- The reference's modulated context. -/
def refNormC : FVec Ideal S8x256x1024 .f32 :=
  hostModC (hostNormC y g) (hostVecC 0 slices_S16x6x1x1024_S1x1x1x1024_8_0_0_0 mo)
    (hostVecC 1 slices_S16x6x1x1024_S1x1x1x1024_8_1_0_0 mo)

/-- The reference's norms are the norm. -/
theorem ref_norm (r : Fin 34816) (d : Fin 1024) :
    pick (fun b t => refNormL x g mo (ix3 b t d)) (fun b t => refNormC y g mo (ix3 b t d)) r = norm x y g mo r d :=
  pick_norm _ _ (stream x y) (fun _ _ => rfl) g mo 0 1 _ _ _ _ r d

/-- The reference's result is the projection. -/
theorem refOut : laid (both (prodL (refNormL x g mo) w) (prodC (refNormC y g mo) w)) = projOut x y g mo w := by
  funext i
  obtain ⟨r, l, rfl⟩ : ∃ (r : Fin 34816) (l : Fin 2048), i = ix2 r l := ⟨i 0, i 1, eq_ix2 i⟩
  rw [laid_at]
  show _ = column (fun j => ∑ e, norm x y g mo r e * w (ix2 e j)) l
  refine congrArg (fun k => column k l) (funext fun j => ?_)
  rw [both_at]
  simp only [prodL_at, prodC_at]
  exact pick_dot (fun b t e => refNormL x g mo (ix3 b t e)) (fun b t e => refNormC y g mo (ix3 b t e)) _
    (ref_norm x y g mo) (fun e => w (ix2 e j)) r

end Ref

/-- The reference declares no semaphore, so nothing of its counters is left to say. -/
theorem no_counter {T : Prop} (s : SemLoc Cert.Reference2Ideal.sig) : T :=
  match s with
  | .reg s => s.elim0
  | .dma s => s.elim0

/-- The reference runs and leaves its arguments alone. -/
theorem reference_frame : Cert.quiescent_Reference2Ideal := fun m ρ _ =>
  (θ_run Cert.Reference2Ideal.defs _ _).mono (fun r h => ⟨fun c => (h c).2, funext fun s => no_counter s.2⟩)
    (Cert.Reference2Ideal.Value.run (F := Ideal) m ρ)

/-- The call's result is the reference's. -/
theorem algebraic : Cert.algebraic_Kernel2Ideal_Reference2Ideal := by
  intro m g m' g' _ hargs
  refine ⟨fun c => projOut (m ((c.tc : Thread _ _).loc Cert.Kernel2Ideal.main_arg0)) (m ((c.tc : Thread _ _).loc Cert.Kernel2Ideal.main_arg1)) (m ((c.tc : Thread _ _).loc Cert.Kernel2Ideal.main_arg2)) (m ((c.tc : Thread _ _).loc Cert.Kernel2Ideal.main_arg3)) (m ((c.tc : Thread _ _).loc Cert.Kernel2Ideal.main_arg4)), ?_, ?_⟩
  · exact (θ_run Cert.Kernel2Ideal.defs _ _).mono (fun r h c => ⟨(h c).1.trans (final m c), (h c).2⟩)
      (Cert.Kernel2Ideal.Value.run_blocks (F := Ideal) m g)
  · refine (θ_run Cert.Reference2Ideal.defs _ _).mono (fun r h c => ⟨(h c).1.trans ?_, (h c).2⟩)
      (Cert.Reference2Ideal.Value.run (F := Ideal) m' g')
    obtain ⟨h0, h1, h2, h3, h4⟩ := hargs c
    have hv : projOut (m' ((c.tc : Thread _ _).loc Cert.Reference2Ideal.main_arg0)) (m' ((c.tc : Thread _ _).loc Cert.Reference2Ideal.main_arg1)) (m' ((c.tc : Thread _ _).loc Cert.Reference2Ideal.main_arg2)) (m' ((c.tc : Thread _ _).loc Cert.Reference2Ideal.main_arg3)) (m' ((c.tc : Thread _ _).loc Cert.Reference2Ideal.main_arg4))
        = projOut (m ((c.tc : Thread _ _).loc Cert.Kernel2Ideal.main_arg0)) (m ((c.tc : Thread _ _).loc Cert.Kernel2Ideal.main_arg1)) (m ((c.tc : Thread _ _).loc Cert.Kernel2Ideal.main_arg2)) (m ((c.tc : Thread _ _).loc Cert.Kernel2Ideal.main_arg3)) (m ((c.tc : Thread _ _).loc Cert.Kernel2Ideal.main_arg4)) := by
      rw [h0, h1, h2, h3, h4]
    exact .trans (.trans rfl (refOut (m' ((c.tc : Thread _ _).loc Cert.Reference2Ideal.main_arg0)) (m' ((c.tc : Thread _ _).loc Cert.Reference2Ideal.main_arg1)) (m' ((c.tc : Thread _ _).loc Cert.Reference2Ideal.main_arg2)) (m' ((c.tc : Thread _ _).loc Cert.Reference2Ideal.main_arg3)) (m' ((c.tc : Thread _ _).loc Cert.Reference2Ideal.main_arg4)))) hv

end Cert.Even

end
-- ==== Proof.Mix.lean ====
/-
  The even layer's output projection: both attentions' and the convolution's outputs mixed into the streams, the
  streams' modulated norm, and the norm's product with the query weights, a row to a token.
-/
module

public import proofs.«01_k».proof.Proof.Late
public import proofs.«01_k».proof.Proof.Gen.Kernel3Ideal.Value
public import Idealize.ShloMosaic.Lib.Pointwise
public import Idealize.ShloMosaic.Lib.Pipeline.ValueKit.Point
public import Idealize.ShloMosaic.Lib.Pipeline.ValueKit.Acc

@[expose] public section

noncomputable section

namespace Cert.Mix

open Idealize.ShloMosaic Idealize.ShloMosaic.TcCoe Idealize.SL.Sem Cert.Kernel3Ideal Cert.Kernel3Ideal.Gen
open Cert.Rows

/-- The streams after the residual: the mixing weights' first half takes the attentions' outputs, their second half the
    convolution's. -/
def stream (ol : FVec Ideal S8x4096x512 .f32) (oc : FVec Ideal S8x256x512 .f32) (ov : FVec Ideal S8x4352x512 .f32) (w : FVec Ideal S1024x1024 .f32) (x : FVec Ideal S8x4096x1024 .f32) (y : FVec Ideal S8x256x1024 .f32) (mo : FVec Ideal S16x6x1x1024 .f32)
    (r : Fin 34816) (d : Fin 1024) : EReal :=
  pick (fun b t => x (ix3 b t d)) (fun b t => y (ix3 b t d)) r
    + vec mo 2 r d * (∑ e : Fin 512, pick (fun b t => ol (ix3 b t e)) (fun b t => oc (ix3 b t e)) r * w (ix2 ⟨e.val, by omega⟩ d)
      + ∑ e : Fin 512, ov (ix3 ⟨r.val / 4352, by omega⟩ ⟨r.val % 4352, by omega⟩ e) * w (ix2 ⟨512 + e.val, by omega⟩ d))

/-- The streams' modulated norm. -/
def norm (ol : FVec Ideal S8x4096x512 .f32) (oc : FVec Ideal S8x256x512 .f32) (ov : FVec Ideal S8x4352x512 .f32) (w : FVec Ideal S1024x1024 .f32) (x : FVec Ideal S8x4096x1024 .f32) (y : FVec Ideal S8x256x1024 .f32) (mo : FVec Ideal S16x6x1x1024 .f32) (g : FVec Ideal S1024 .f32)
    (r : Fin 34816) (d : Fin 1024) : EReal :=
  modulated (stream ol oc ov w x y mo r) (fun e => g (ix1 e)) (vec mo 3 r) (vec mo 4 r) d

/-- The queries: the norm times their weights. -/
def query (ol : FVec Ideal S8x4096x512 .f32) (oc : FVec Ideal S8x256x512 .f32) (ov : FVec Ideal S8x4352x512 .f32) (w : FVec Ideal S1024x1024 .f32) (x : FVec Ideal S8x4096x1024 .f32) (y : FVec Ideal S8x256x1024 .f32) (mo : FVec Ideal S16x6x1x1024 .f32) (g : FVec Ideal S1024 .f32) (wq : FVec Ideal S1024x2048 .f32)
    (r : Fin 34816) (l : Fin 2048) : EReal :=
  ∑ e, norm ol oc ov w x y mo g r e * wq (ix2 e l)

/-- The streams, as an array. -/
def streamOut (ol : FVec Ideal S8x4096x512 .f32) (oc : FVec Ideal S8x256x512 .f32) (ov : FVec Ideal S8x4352x512 .f32) (w : FVec Ideal S1024x1024 .f32) (x : FVec Ideal S8x4096x1024 .f32) (y : FVec Ideal S8x256x1024 .f32) (mo : FVec Ideal S16x6x1x1024 .f32) : FVec Ideal S34816x1024 .f32 :=
  fun i => stream ol oc ov w x y mo (i 0) (i 1)

/-- The norm, as an array. -/
def normOut (ol : FVec Ideal S8x4096x512 .f32) (oc : FVec Ideal S8x256x512 .f32) (ov : FVec Ideal S8x4352x512 .f32) (w : FVec Ideal S1024x1024 .f32) (x : FVec Ideal S8x4096x1024 .f32) (y : FVec Ideal S8x256x1024 .f32) (mo : FVec Ideal S16x6x1x1024 .f32) (g : FVec Ideal S1024 .f32) : FVec Ideal S34816x1024 .bf16 :=
  fun i => norm ol oc ov w x y mo g (i 0) (i 1)

/-- The queries, as an array. -/
def queryOut (ol : FVec Ideal S8x4096x512 .f32) (oc : FVec Ideal S8x256x512 .f32) (ov : FVec Ideal S8x4352x512 .f32) (w : FVec Ideal S1024x1024 .f32) (x : FVec Ideal S8x4096x1024 .f32) (y : FVec Ideal S8x256x1024 .f32) (mo : FVec Ideal S16x6x1x1024 .f32) (g : FVec Ideal S1024 .f32) (wq : FVec Ideal S1024x2048 .f32) : FVec Ideal S34816x2048 .bf16 :=
  fun i => query ol oc ov w x y mo g wq (i 0) (i 1)

/-- A step's block of the stream at an index. -/
theorem pay_stream (b : FVec Ideal S256x512 .f32) (h : FVec Ideal S256x1024 .f32) (a : FVec Ideal S256x512 .bf16)
    (wa wb : FVec Ideal S512x1024 .bf16) (v : FVec Ideal S1x1x1x1024 .f32) (r : Fin 256) (d : Fin 1024) :
    k0_pay6 (F := Ideal) b h a wa wb v (ix2 r d)
      = h (ix2 r d) + v (ix4 0 0 0 d) * (∑ e, a (ix2 r e) * wa (ix2 e d) + ∑ e, b (ix2 r e) * wb (ix2 e d)) := by
  pointwise [k0_pay6]

/-- The convolution's block is read as it is. -/
theorem pay_same (b : FVec Ideal S256x512 .f32) (r : Fin 256) (e : Fin 512) : k0_pay3 (F := Ideal) b (ix2 r e) = b (ix2 r e) := by
  pointwise [k0_pay3]

/-- A step's old streams are the block its number picks. -/
theorem pay_old (i : grid0.Coords) (u v : FVec Ideal S256x1024 .f32) :
    k0_pay4 (F := Ideal) i u v = Scalar.select (late (i 0).val)
      (shapeCast S256x1024 u shapeCasts_S256x1024_S256x1024) (shapeCast S256x1024 v shapeCasts_S256x1024_S256x1024) := rfl

/-- A step's attention outputs are the block its number picks. -/
theorem pay_att (i : grid0.Coords) (u v : FVec Ideal S256x512 .f32) (r : Fin 256) (e : Fin 512) :
    (k0_pay5 (F := Ideal) i u v (ix2 r e) : EReal) = (Scalar.select (late (i 0).val)
      (shapeCast S256x512 u shapeCasts_S256x512_S256x512) (shapeCast S256x512 v shapeCasts_S256x512_S256x512)
      : FVec Ideal S256x512 .f32) (ix2 r e) := rfl

/-- A step's block of the norm before its modulation, at an index. -/
theorem pay_normed (b : FVec Ideal S256x512 .f32) (h : FVec Ideal S256x1024 .f32) (a : FVec Ideal S256x512 .bf16)
    (wa wb : FVec Ideal S512x1024 .bf16) (v : FVec Ideal S1x1x1x1024 .f32) (g : FVec Ideal S1x1024 .f32) (r : Fin 256) (d : Fin 1024) :
    k0_pay9 (F := Ideal) b h a wa wb v g (ix2 r d)
      = normed (fun e => k0_pay6 (F := Ideal) b h a wa wb v (ix2 r e)) (fun e => g (ix2 0 e)) d := by
  unfold normed k0_pay9
  generalize k0_pay6 (F := Ideal) b h a wa wb v = x
  pointwise []

/-- A step's block of the modulated norm at an index. -/
theorem pay_norm (sh sc : FVec Ideal S1x1x1x1024 .f32) (n : FVec Ideal S256x1024 .f32) (r : Fin 256) (d : Fin 1024) :
    k0_pay1 (F := Ideal) (k0_pay7 sh) (k0_pay8 sc) n k0_pay10 (ix2 r d)
      = n (ix2 r d) * (Ideal.ofBits .f32 0x3F800000#32 + sc (ix4 0 0 0 d)) + sh (ix4 0 0 0 d) := by
  pointwise [k0_pay1, k0_pay7, k0_pay8, k0_pay10]

/-- A step's block of the queries at an index. -/
theorem pay_query (sh sc : FVec Ideal S1x1024 .f32) (n : FVec Ideal S256x1024 .f32) (o : FVec Ideal S1x1024 .f32)
    (w : FVec Ideal S1024x2048 .bf16) (r : Fin 256) (l : Fin 2048) :
    k0_pay2 (F := Ideal) sh sc n o w (ix2 r l) = ∑ e, k0_pay1 (F := Ideal) sh sc n o (ix2 r e) * w (ix2 e l) := by
  unfold k0_pay2
  generalize k0_pay1 (F := Ideal) sh sc n o = x
  pointwise []

variable (m : (ℓ : Loc nD τ sig) → Buf (Elt Ideal) ℓ)

/-- A step's coordinate is its number. -/
theorem coord : ∀ t : Fin cfg0.N, (grid0.coords t 0).val = t.val := (by decide +kernel : ∀ t : Fin grid0.N, _)
/-- A step that is not late reads its block of the latents' attention. -/
theorem idx0 : ∀ t : Fin cfg0.N, t.val % 17 < 16 → win0_0.index t = ![t.val / 17 * 16 + t.val % 17, 0] := (by decide +kernel : ∀ t : Fin grid0.N, _)
/-- A late step reads its batch's context attention. -/
theorem idx1 : ∀ t : Fin cfg0.N, ¬ t.val % 17 < 16 → win0_1.index t = ![t.val / 17, 0] := (by decide +kernel : ∀ t : Fin grid0.N, _)
/-- The convolution is read a block to a step. -/
theorem idx2 : ∀ t : Fin cfg0.N, win0_2.index t = ![t.val, 0] := (by decide +kernel : ∀ t : Fin grid0.N, _)
/-- The weights' first half is read whole. -/
theorem idx3 : ∀ t : Fin cfg0.N, win0_3.index t = ![0, 0] := (by decide +kernel : ∀ t : Fin grid0.N, _)
/-- The weights' second half is read whole. -/
theorem idx4 : ∀ t : Fin cfg0.N, win0_4.index t = ![0, 0] := (by decide +kernel : ∀ t : Fin grid0.N, _)
/-- A step that is not late reads its block of latents. -/
theorem idx5 : ∀ t : Fin cfg0.N, t.val % 17 < 16 → win0_5.index t = ![t.val / 17 * 16 + t.val % 17, 0] := (by decide +kernel : ∀ t : Fin grid0.N, _)
/-- A late step reads its batch's context. -/
theorem idx6 : ∀ t : Fin cfg0.N, ¬ t.val % 17 < 16 → win0_6.index t = ![t.val / 17, 0] := (by decide +kernel : ∀ t : Fin grid0.N, _)
/-- The gate is the group's. -/
theorem idx7 : ∀ t : Fin cfg0.N, win0_7.index t = ![if t.val % 17 < 16 then t.val / 17 else 8, 2, 0, 0] := (by decide +kernel : ∀ t : Fin grid0.N, _)
/-- The gain is read whole. -/
theorem idx8 : ∀ t : Fin cfg0.N, win0_8.index t = ![0, 0] := (by decide +kernel : ∀ t : Fin grid0.N, _)
/-- The shift is the group's. -/
theorem idx9 : ∀ t : Fin cfg0.N, win0_9.index t = ![if t.val % 17 < 16 then t.val / 17 else 8, 3, 0, 0] := (by decide +kernel : ∀ t : Fin grid0.N, _)
/-- The scale is the group's. -/
theorem idx10 : ∀ t : Fin cfg0.N, win0_10.index t = ![if t.val % 17 < 16 then t.val / 17 else 8, 4, 0, 0] := (by decide +kernel : ∀ t : Fin grid0.N, _)
/-- The query weights are read whole. -/
theorem idx11 : ∀ t : Fin cfg0.N, win0_11.index t = ![0, 0] := (by decide +kernel : ∀ t : Fin grid0.N, _)
/-- The streams are written a block to a step. -/
theorem idx12 : ∀ t : Fin cfg0.N, win0_12.index t = ![t.val, 0] := (by decide +kernel : ∀ t : Fin grid0.N, _)
/-- The norm is written a block to a step. -/
theorem idx13 : ∀ t : Fin cfg0.N, win0_13.index t = ![t.val, 0] := (by decide +kernel : ∀ t : Fin grid0.N, _)
/-- The queries are written a block to a step. -/
theorem idx14 : ∀ t : Fin cfg0.N, win0_14.index t = ![t.val, 0] := (by decide +kernel : ∀ t : Fin grid0.N, _)

/-- The latents' attention of a step that is not late. -/
theorem in0 (c : Dev nD) (t : Fin cfg0.N) (h : t.val % 17 < 16) (r : Fin 256) (d : Fin 512) : iblk m c 0 t (ix2 r d)
    = m ((c : Thread nD τ).loc main_arg0) (ix3 ⟨(row t r).val / 4352, by omega⟩ ⟨(row t r).val % 4352, row_lat t h r⟩ d) := by
  unfold row
  blk_ext! [iblk, V, idx0 t h]

/-- The context's attention of a late step. -/
theorem in1 (c : Dev nD) (t : Fin cfg0.N) (h : ¬ t.val % 17 < 16) (r : Fin 256) (d : Fin 512) : iblk m c 1 t (ix2 r d)
    = m ((c : Thread nD τ).loc main_arg1) (ix3 ⟨(row t r).val / 4352, by omega⟩ ⟨(row t r).val % 4352 - 4096, by omega⟩ d) := by
  unfold row
  blk_ext! [iblk, V, idx1 t h]

/-- The latents' block of a step that is not late. -/
theorem in5 (c : Dev nD) (t : Fin cfg0.N) (h : t.val % 17 < 16) (r : Fin 256) (d : Fin 1024) : iblk m c 5 t (ix2 r d)
    = m ((c : Thread nD τ).loc main_arg4) (ix3 ⟨(row t r).val / 4352, by omega⟩ ⟨(row t r).val % 4352, row_lat t h r⟩ d) := by
  unfold row
  blk_ext! [iblk, V, idx5 t h]

/-- The context's block of a late step. -/
theorem in6 (c : Dev nD) (t : Fin cfg0.N) (h : ¬ t.val % 17 < 16) (r : Fin 256) (d : Fin 1024) : iblk m c 6 t (ix2 r d)
    = m ((c : Thread nD τ).loc main_arg5) (ix3 ⟨(row t r).val / 4352, by omega⟩ ⟨(row t r).val % 4352 - 4096, by omega⟩ d) := by
  unfold row
  blk_ext! [iblk, V, idx6 t h]

/-- A step's block of the convolution. -/
theorem in2 (c : Dev nD) (t : Fin cfg0.N) (r : Fin 256) (e : Fin 512) : iblk m c 2 t (ix2 r e)
    = m ((c : Thread nD τ).loc main_arg2) (ix3 ⟨(row t r).val / 4352, by omega⟩ ⟨(row t r).val % 4352, by omega⟩ e) := by
  unfold row
  blk_ext! [iblk, V, idx2 t]

/-- The weights' first half. -/
theorem in3 (c : Dev nD) (t : Fin cfg0.N) (e : Fin 512) (d : Fin 1024) : iblk m c 3 t (ix2 e d)
    = m ((c : Thread nD τ).loc main_arg3) (ix2 ⟨e.val, by omega⟩ d) := by
  blk_ext! [iblk, V, idx3 t]

/-- The weights' second half. -/
theorem in4 (c : Dev nD) (t : Fin cfg0.N) (e : Fin 512) (d : Fin 1024) : iblk m c 4 t (ix2 e d)
    = m ((c : Thread nD τ).loc main_arg3) (ix2 ⟨512 + e.val, by omega⟩ d) := by
  blk_ext! [iblk, V, idx4 t]

/-- A step's gate. -/
theorem in7 (c : Dev nD) (t : Fin cfg0.N) (r : Fin 256) (d : Fin 1024) : iblk m c 7 t (ix4 0 0 0 d)
    = vec (m ((c : Thread nD τ).loc main_arg6)) 2 (row t r) d := by
  unfold vec
  blk_ext! [iblk, V, idx7 t]
  exact (group_row t r).symm

/-- A step's shift. -/
theorem in9 (c : Dev nD) (t : Fin cfg0.N) (r : Fin 256) (d : Fin 1024) : iblk m c 9 t (ix4 0 0 0 d)
    = vec (m ((c : Thread nD τ).loc main_arg6)) 3 (row t r) d := by
  unfold vec
  blk_ext! [iblk, V, idx9 t]
  exact (group_row t r).symm

/-- A step's scale. -/
theorem in10 (c : Dev nD) (t : Fin cfg0.N) (r : Fin 256) (d : Fin 1024) : iblk m c 10 t (ix4 0 0 0 d)
    = vec (m ((c : Thread nD τ).loc main_arg6)) 4 (row t r) d := by
  unfold vec
  blk_ext! [iblk, V, idx10 t]
  exact (group_row t r).symm

/-- A step's gain. -/
theorem in8 (c : Dev nD) (t : Fin cfg0.N) (d : Fin 1024) : iblk m c 8 t (ix2 0 d)
    = m ((c : Thread nD τ).loc main_arg7) (ix1 d) := by
  blk_ext! [iblk, V, idx8 t]

/-- A step's query weights. -/
theorem in11 (c : Dev nD) (t : Fin cfg0.N) (e : Fin 1024) (l : Fin 2048) : iblk m c 11 t (ix2 e l)
    = m ((c : Thread nD τ).loc main_arg8) (ix2 e l) := by
  blk_ext! [iblk, V, idx11 t]

/-- A step's old streams are its rows'. -/
theorem block_old (c : Dev nD) (t : Fin cfg0.N) (r : Fin 256) (d : Fin 1024) :
    k0_pay4 (F := Ideal) (grid0.coords t) (iblk m c 6 t) (iblk m c 5 t) (ix2 r d)
      = pick (fun b t => m ((c : Thread nD τ).loc main_arg4) (ix3 b t d)) (fun b t => m ((c : Thread nD τ).loc main_arg5) (ix3 b t d)) (row t r) := by
  rw [pay_old, coord t]
  refine select_row t _ _ (ix2 r d) (fun b t => m ((c : Thread nD τ).loc main_arg4) (ix3 b t d)) (fun b t => m ((c : Thread nD τ).loc main_arg5) (ix3 b t d)) r (fun h => ?_) (fun h => ?_)
  · refine Eq.trans ?_ (in5 m c t h r d)
    generalize (iblk m c 5 t : FVec Ideal S256x1024 .f32) = z
    pointwise []
  · refine Eq.trans ?_ (in6 m c t h r d)
    generalize (iblk m c 6 t : FVec Ideal S256x1024 .f32) = z
    pointwise []

/-- A step's attention outputs are its rows'. -/
theorem block_att (c : Dev nD) (t : Fin cfg0.N) (r : Fin 256) (e : Fin 512) :
    (k0_pay5 (F := Ideal) (grid0.coords t) (iblk m c 1 t) (iblk m c 0 t) (ix2 r e) : EReal)
      = pick (fun b t => m ((c : Thread nD τ).loc main_arg0) (ix3 b t e)) (fun b t => m ((c : Thread nD τ).loc main_arg1) (ix3 b t e)) (row t r) := by
  rw [pay_att, coord t]
  refine select_row t _ _ (ix2 r e) (fun b t => m ((c : Thread nD τ).loc main_arg0) (ix3 b t e)) (fun b t => m ((c : Thread nD τ).loc main_arg1) (ix3 b t e)) r (fun h => ?_) (fun h => ?_)
  · refine Eq.trans ?_ (in0 m c t h r e)
    generalize (iblk m c 0 t : FVec Ideal S256x512 .f32) = z
    pointwise []
  · refine Eq.trans ?_ (in1 m c t h r e)
    generalize (iblk m c 1 t : FVec Ideal S256x512 .f32) = z
    pointwise []

/-- A step's block of the streams is the streams'. -/
theorem block_stream (c : Dev nD) (t : Fin cfg0.N) (r : Fin 256) (d : Fin 1024) :
    k0_pay6 (F := Ideal) (k0_pay3 (iblk m c 2 t)) (k0_pay4 (grid0.coords t) (iblk m c 6 t) (iblk m c 5 t)) (k0_pay5 (grid0.coords t) (iblk m c 1 t) (iblk m c 0 t)) (iblk m c 3 t) (iblk m c 4 t) (iblk m c 7 t) (ix2 r d) = stream (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row t r) d := by
  rw [pay_stream, block_old, in7 m c t r]
  unfold stream
  refine congrArg _ (congrArg _ (congr (congrArg _ (Finset.sum_congr rfl fun e _ => ?_)) (Finset.sum_congr rfl fun e _ => ?_)))
  · rw [block_att, in3]
  · rw [pay_same, in2, in4]

/-- A step's block of the norm is the norm's. -/
theorem block_norm (c : Dev nD) (t : Fin cfg0.N) (r : Fin 256) (d : Fin 1024) :
    k0_pay1 (F := Ideal) (k0_pay7 (iblk m c 9 t)) (k0_pay8 (iblk m c 10 t)) (k0_pay9 (k0_pay3 (iblk m c 2 t)) (k0_pay4 (grid0.coords t) (iblk m c 6 t) (iblk m c 5 t)) (k0_pay5 (grid0.coords t) (iblk m c 1 t) (iblk m c 0 t)) (iblk m c 3 t) (iblk m c 4 t) (iblk m c 7 t) (iblk m c 8 t)) k0_pay10 (ix2 r d)
      = norm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (row t r) d := by
  rw [pay_norm, pay_normed, in9 m c t r, in10 m c t r]
  unfold norm modulated
  rw [funext fun e => block_stream m c t r e, funext fun e => in8 m c t e]

/-- A step's block of the queries is the queries'. -/
theorem block_query (c : Dev nD) (t : Fin cfg0.N) (r : Fin 256) (l : Fin 2048) :
    k0_pay2 (F := Ideal) (k0_pay7 (iblk m c 9 t)) (k0_pay8 (iblk m c 10 t)) (k0_pay9 (k0_pay3 (iblk m c 2 t)) (k0_pay4 (grid0.coords t) (iblk m c 6 t) (iblk m c 5 t)) (k0_pay5 (grid0.coords t) (iblk m c 1 t) (iblk m c 0 t)) (iblk m c 3 t) (iblk m c 4 t) (iblk m c 7 t) (iblk m c 8 t)) k0_pay10 (iblk m c 11 t) (ix2 r l)
      = query (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (row t r) l := by
  rw [pay_query]
  unfold query
  refine Finset.sum_congr rfl fun e _ => ?_
  rw [block_norm, in11]

/-- The call's streams. -/
theorem final_stream (c : Dev nD) : (dats m 0 c).arrAt 12 cfg0.N
    = streamOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 12 _ (by decide +kernel) fun t hf y => ?_
  blk_simp
  rw [after0_12]
  unfold_out out0_12
  frame_out
  obtain ⟨r, l, rfl⟩ : ∃ (r : Fin 256) (l : Fin 1024), y = ix2 r l := ⟨y 0, y 1, eq_ix2 y⟩
  rw [block_stream]
  refine congr (congrArg _ (Fin.ext ?_)) (Fin.ext ?_)
  · unfold row; blk_simp [idx12 t]
  · blk_simp [idx12 t]

/-- The call's norm. -/
theorem final_norm (c : Dev nD) : (dats m 0 c).arrAt 13 cfg0.N
    = normOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 13 _ (by decide +kernel) fun t hf y => ?_
  blk_simp
  rw [after0_13]
  unfold_out out0_13
  frame_out
  obtain ⟨r, l, rfl⟩ : ∃ (r : Fin 256) (l : Fin 1024), y = ix2 r l := ⟨y 0, y 1, eq_ix2 y⟩
  rw [block_norm]
  refine congr (congrArg _ (Fin.ext ?_)) (Fin.ext ?_)
  · unfold row; blk_simp [idx13 t]
  · blk_simp [idx13 t]

/-- The call's queries. -/
theorem final_query (c : Dev nD) : (dats m 0 c).arrAt 14 cfg0.N
    = queryOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 14 _ (by decide +kernel) fun t hf y => ?_
  blk_simp
  rw [after0_14]
  unfold_out out0_14
  frame_out
  obtain ⟨r, l, rfl⟩ : ∃ (r : Fin 256) (l : Fin 2048), y = ix2 r l := ⟨y 0, y 1, eq_ix2 y⟩
  rw [block_query]
  refine congr (congrArg _ (Fin.ext ?_)) (Fin.ext ?_)
  · unfold row; blk_simp [idx14 t]
  · blk_simp [idx14 t]

end Cert.Mix

end
-- ==== Proof.MixClaim.lean ====
/-
  The even layer's output projection: the reference's frame, and that the call and the reference give the same three
  results.
-/
module

public import proofs.«01_k».proof.Defs
public import proofs.«01_k».proof.Proof.Mix
public import proofs.«01_k».proof.Proof.Gen.Reference3Ideal.Run

@[expose] public section

noncomputable section

namespace Cert.Mix

open Idealize.ShloMosaic Idealize.SL.Sem Cert.Rows Cert.Reference3Ideal Cert.Reference3Ideal.Gen

section Ref

/-- A sum over two arrays side by side is the sums over each. -/
theorem sum_halves (f g : Fin 512 → EReal) (w : Fin 1024 → EReal) :
    ∑ e : Fin 1024, (if h : e.val < 512 then f ⟨e.val, h⟩ else g ⟨e.val - 512, by omega⟩) * w e
      = ∑ e : Fin 512, f e * w ⟨e.val, by omega⟩ + ∑ e : Fin 512, g e * w ⟨512 + e.val, by omega⟩ := by
  refine (Fin.sum_univ_add (a := 512) (b := 512) _).trans (congr (congrArg _ (Finset.sum_congr rfl fun e _ => ?_))
    (Finset.sum_congr rfl fun e _ => ?_))
  · rw [dif_pos (show (Fin.castAdd 512 e).val < 512 from e.isLt)]
    rfl
  · rw [dif_neg (show ¬ (Fin.natAdd 512 e).val < 512 by simp)]
    exact congrArg (fun k => g k * _) (Fin.ext (by simp))

/-- The latents' attention and convolution outputs side by side, times the mixing weights. -/
def mixL (o : FVec Ideal S8x4096x512 .f32) (ov : FVec Ideal S8x4352x512 .f32) (w : FVec Ideal S1024x1024 .f32) : FVec Ideal S8x4096x1024 .f32 :=
  Host.dotGeneral Cert.Reference3Ideal.dot_S8x4096x1024_S1024x1024_S8x4096x1024_2_0_01_1_n_n none
    (concatenate S8x4096x1024 2 [⟨S8x4096x512, o⟩, ⟨S8x4096x512, extractStridedSlice S8x4096x512 ![0, 0, 0] ov
      slices_S8x4352x512_S8x4096x512_0_0_0⟩] concatenates_S8x4096x512_S8x4096x512_S8x4096x1024_d2) w

/-- The latents' mixing at an index: both halves' sums. -/
theorem mixL_at (o : FVec Ideal S8x4096x512 .f32) (ov : FVec Ideal S8x4352x512 .f32) (w : FVec Ideal S1024x1024 .f32)
    (b : Fin 8) (t : Fin 4096) (d : Fin 1024) : mixL o ov w (ix3 b t d)
      = ∑ e : Fin 512, o (ix3 b t e) * w (ix2 ⟨e.val, by omega⟩ d)
        + ∑ e : Fin 512, ov (ix3 b ⟨t.val, by omega⟩ e) * w (ix2 ⟨512 + e.val, by omega⟩ d) := by
  refine Eq.trans ?_ (sum_halves (fun e => o (ix3 b t e)) (fun e => ov (ix3 b ⟨t.val, by omega⟩ e)) (fun e => w (ix2 e d)))
  pointwise [mixL]

/-- The latents after the residual, the gate and the mixing given. -/
def residL (x p : FVec Ideal S8x4096x1024 .f32) (v : FVec Ideal S8x1x1024 .f32) : FVec Ideal S8x4096x1024 .f32 :=
  addf x (mulf (broadcastInDim S8x4096x1024 ![0, 1, 2] bcast_S8x1x1024_S8x4096x1024_0_1_2 v) p)

/-- The latents after the residual at an index. -/
theorem residL_at (x p : FVec Ideal S8x4096x1024 .f32) (v : FVec Ideal S8x1x1024 .f32) (b : Fin 8) (t : Fin 4096) (d : Fin 1024) :
    residL x p v (ix3 b t d) = x (ix3 b t d) + v (ix3 b 0 d) * p (ix3 b t d) := by
  pointwise [residL]

/-- The context' attention and convolution outputs side by side, times the mixing weights. -/
def mixC (o : FVec Ideal S8x256x512 .f32) (ov : FVec Ideal S8x4352x512 .f32) (w : FVec Ideal S1024x1024 .f32) : FVec Ideal S8x256x1024 .f32 :=
  Host.dotGeneral Cert.Reference3Ideal.dot_S8x256x1024_S1024x1024_S8x256x1024_2_0_01_1_n_n none
    (concatenate S8x256x1024 2 [⟨S8x256x512, o⟩, ⟨S8x256x512, extractStridedSlice S8x256x512 ![0, 4096, 0] ov
      slices_S8x4352x512_S8x256x512_0_4096_0⟩] concatenates_S8x256x512_S8x256x512_S8x256x1024_d2) w

/-- The context' mixing at an index: both halves' sums. -/
theorem mixC_at (o : FVec Ideal S8x256x512 .f32) (ov : FVec Ideal S8x4352x512 .f32) (w : FVec Ideal S1024x1024 .f32)
    (b : Fin 8) (t : Fin 256) (d : Fin 1024) : mixC o ov w (ix3 b t d)
      = ∑ e : Fin 512, o (ix3 b t e) * w (ix2 ⟨e.val, by omega⟩ d)
        + ∑ e : Fin 512, ov (ix3 b ⟨4096 + t.val, by omega⟩ e) * w (ix2 ⟨512 + e.val, by omega⟩ d) := by
  refine Eq.trans ?_ (sum_halves (fun e => o (ix3 b t e)) (fun e => ov (ix3 b ⟨4096 + t.val, by omega⟩ e)) (fun e => w (ix2 e d)))
  pointwise [mixC]

/-- The context after the residual, the gate and the mixing given. -/
def residC (x p : FVec Ideal S8x256x1024 .f32) (v : FVec Ideal S1x1024 .f32) : FVec Ideal S8x256x1024 .f32 :=
  addf x (mulf (broadcastInDim S8x256x1024 ![0, 1, 2] bcast_S1x1x1024_S8x256x1024_0_1_2
    (broadcastInDim S1x1x1024 ![1, 2] bcast_S1x1024_S1x1x1024_1_2 v)) p)

/-- The context after the residual at an index. -/
theorem residC_at (x p : FVec Ideal S8x256x1024 .f32) (v : FVec Ideal S1x1024 .f32) (b : Fin 8) (t : Fin 256) (d : Fin 1024) :
    residC x p v (ix3 b t d) = x (ix3 b t d) + v (ix2 0 d) * p (ix3 b t d) := by
  pointwise [residC]

/-- Rows times the query weights. -/
def dotQ (x : FVec Ideal S34816x1024 .f32) (wq : FVec Ideal S1024x2048 .f32) : FVec Ideal S34816x2048 .f32 :=
  Host.dotGeneral Cert.Reference3Ideal.dot_S34816x1024_S1024x2048_S34816x2048_1_0_0_1_n_n none x wq

/-- The product at an index. -/
theorem dotQ_at (x : FVec Ideal S34816x1024 .f32) (wq : FVec Ideal S1024x2048 .f32) (r : Fin 34816) (l : Fin 2048) :
    dotQ x wq (ix2 r l) = ∑ e, x (ix2 r e) * wq (ix2 e l) := by
  pointwise [dotQ]

variable (ol : FVec Ideal S8x4096x512 .f32) (oc : FVec Ideal S8x256x512 .f32) (ov : FVec Ideal S8x4352x512 .f32) (w : FVec Ideal S1024x1024 .f32) (x : FVec Ideal S8x4096x1024 .f32) (y : FVec Ideal S8x256x1024 .f32) (mo : FVec Ideal S16x6x1x1024 .f32) (g : FVec Ideal S1024 .f32) (wq : FVec Ideal S1024x2048 .f32)

/-- The reference's latents after the residual. -/
def refL : FVec Ideal S8x4096x1024 .f32 := residL x (mixL ol ov w) (hostVecL 2 slices_S16x6x1x1024_S8x1x1x1024_0_2_0_0 mo)

/-- The reference's context after the residual. -/
def refC : FVec Ideal S8x256x1024 .f32 := residC y (mixC oc ov w) (hostVecC 2 slices_S16x6x1x1024_S1x1x1x1024_8_2_0_0 mo)

/-- The reference's streams are the streams. -/
theorem ref_stream (r : Fin 34816) (d : Fin 1024) :
    pick (fun b t => refL ol ov w x mo (ix3 b t d)) (fun b t => refC oc ov w y mo (ix3 b t d)) r
      = stream ol oc ov w x y mo r d := by
  unfold stream
  by_cases hr : r.val % 4352 < 4096
  · simp only [pick_lat _ _ r hr]
    rw [refL, residL_at, mixL_at, vec_lat mo 2 _ r hr]
  · simp only [pick_ctx _ _ r hr]
    have e : (⟨4096 + (r.val % 4352 - 4096), by omega⟩ : Fin 4352) = ⟨r.val % 4352, by omega⟩ := Fin.ext (by dsimp only; omega)
    rw [refC, residC_at, mixC_at, vec_ctx mo 2 _ r hr, e]

/-- The reference's modulated latents. -/
def refNormL : FVec Ideal S8x4096x1024 .f32 :=
  hostModL (hostNormL (refL ol ov w x mo) g) (hostVecL 3 slices_S16x6x1x1024_S8x1x1x1024_0_3_0_0 mo)
    (hostVecL 4 slices_S16x6x1x1024_S8x1x1x1024_0_4_0_0 mo)

/-- The reference's modulated context. -/
def refNormC : FVec Ideal S8x256x1024 .f32 :=
  hostModC (hostNormC (refC oc ov w y mo) g) (hostVecC 3 slices_S16x6x1x1024_S1x1x1x1024_8_3_0_0 mo)
    (hostVecC 4 slices_S16x6x1x1024_S1x1x1x1024_8_4_0_0 mo)

/-- The reference's modulated norms, a row to a token. -/
def refN : FVec Ideal S34816x1024 .f32 := joined (refNormL ol ov w x mo g) (refNormC oc ov w y mo g)

/-- The reference's norms are the norm. -/
theorem ref_norm (r : Fin 34816) (d : Fin 1024) : refN ol oc ov w x y mo g (ix2 r d) = norm ol oc ov w x y mo g r d := by
  rw [refN, joined_at]
  exact pick_norm _ _ (stream ol oc ov w x y mo) (ref_stream ol oc ov w x y mo) g mo 3 4 _ _ _ _ r d

/-- The reference's first result is the streams. -/
theorem refOut0 : joined (refL ol ov w x mo) (refC oc ov w y mo) = streamOut ol oc ov w x y mo := by
  funext i
  obtain ⟨r, l, rfl⟩ : ∃ (r : Fin 34816) (l : Fin 1024), i = ix2 r l := ⟨i 0, i 1, eq_ix2 i⟩
  rw [joined_at, ref_stream]
  rfl

/-- The reference's second result is the norm. -/
theorem refOut1 : truncf .bf16 (refN ol oc ov w x y mo g) bitsLt_bf16_f32 = normOut ol oc ov w x y mo g := by
  funext i
  obtain ⟨r, l, rfl⟩ : ∃ (r : Fin 34816) (l : Fin 1024), i = ix2 r l := ⟨i 0, i 1, eq_ix2 i⟩
  show (refN ol oc ov w x y mo g (ix2 r l) : EReal) = norm ol oc ov w x y mo g r l
  rw [ref_norm]

/-- The reference's third result is the queries. -/
theorem refOut2 : truncf .bf16 (dotQ (refN ol oc ov w x y mo g) wq) bitsLt_bf16_f32 = queryOut ol oc ov w x y mo g wq := by
  funext i
  obtain ⟨r, l, rfl⟩ : ∃ (r : Fin 34816) (l : Fin 2048), i = ix2 r l := ⟨i 0, i 1, eq_ix2 i⟩
  show (dotQ (refN ol oc ov w x y mo g) wq (ix2 r l) : EReal) = query ol oc ov w x y mo g wq r l
  rw [dotQ_at]
  unfold query
  exact Finset.sum_congr rfl fun e _ => by rw [ref_norm]

end Ref

/-- The reference declares no semaphore, so nothing of its counters is left to say. -/
theorem no_counter {T : Prop} (s : SemLoc Cert.Reference3Ideal.sig) : T :=
  match s with
  | .reg s => s.elim0
  | .dma s => s.elim0

/-- The reference runs and leaves its arguments alone. -/
theorem reference_frame : Cert.quiescent_Reference3Ideal := fun m ρ _ =>
  (θ_run Cert.Reference3Ideal.defs _ _).mono (fun r h => ⟨fun c => (h c).2.2.2, funext fun s => no_counter s.2⟩)
    (Cert.Reference3Ideal.Value.run (F := Ideal) m ρ)

/-- The call's results are the reference's. -/
theorem algebraic : Cert.algebraic_Kernel3Ideal_Reference3Ideal := by
  intro m g m' g' _ hargs
  refine ⟨fun c => streamOut (m ((c.tc : Thread _ _).loc Cert.Kernel3Ideal.main_arg0)) (m ((c.tc : Thread _ _).loc Cert.Kernel3Ideal.main_arg1)) (m ((c.tc : Thread _ _).loc Cert.Kernel3Ideal.main_arg2)) (m ((c.tc : Thread _ _).loc Cert.Kernel3Ideal.main_arg3)) (m ((c.tc : Thread _ _).loc Cert.Kernel3Ideal.main_arg4)) (m ((c.tc : Thread _ _).loc Cert.Kernel3Ideal.main_arg5)) (m ((c.tc : Thread _ _).loc Cert.Kernel3Ideal.main_arg6)),
    fun c => normOut (m ((c.tc : Thread _ _).loc Cert.Kernel3Ideal.main_arg0)) (m ((c.tc : Thread _ _).loc Cert.Kernel3Ideal.main_arg1)) (m ((c.tc : Thread _ _).loc Cert.Kernel3Ideal.main_arg2)) (m ((c.tc : Thread _ _).loc Cert.Kernel3Ideal.main_arg3)) (m ((c.tc : Thread _ _).loc Cert.Kernel3Ideal.main_arg4)) (m ((c.tc : Thread _ _).loc Cert.Kernel3Ideal.main_arg5)) (m ((c.tc : Thread _ _).loc Cert.Kernel3Ideal.main_arg6)) (m ((c.tc : Thread _ _).loc Cert.Kernel3Ideal.main_arg7)),
    fun c => queryOut (m ((c.tc : Thread _ _).loc Cert.Kernel3Ideal.main_arg0)) (m ((c.tc : Thread _ _).loc Cert.Kernel3Ideal.main_arg1)) (m ((c.tc : Thread _ _).loc Cert.Kernel3Ideal.main_arg2)) (m ((c.tc : Thread _ _).loc Cert.Kernel3Ideal.main_arg3)) (m ((c.tc : Thread _ _).loc Cert.Kernel3Ideal.main_arg4)) (m ((c.tc : Thread _ _).loc Cert.Kernel3Ideal.main_arg5)) (m ((c.tc : Thread _ _).loc Cert.Kernel3Ideal.main_arg6)) (m ((c.tc : Thread _ _).loc Cert.Kernel3Ideal.main_arg7)) (m ((c.tc : Thread _ _).loc Cert.Kernel3Ideal.main_arg8)), ?_, ?_⟩
  · exact (θ_run Cert.Kernel3Ideal.defs _ _).mono (fun r h c => ⟨(h c).1.trans (final_stream m c),
      (h c).2.1.trans (final_norm m c), (h c).2.2.1.trans (final_query m c), (h c).2.2.2⟩)
      (Cert.Kernel3Ideal.Value.run_blocks (F := Ideal) m g)
  · refine (θ_run Cert.Reference3Ideal.defs _ _).mono (fun r h c => ⟨(h c).1.trans ?_, (h c).2.1.trans ?_,
      (h c).2.2.1.trans ?_, (h c).2.2.2⟩) (Cert.Reference3Ideal.Value.run (F := Ideal) m' g') <;>
    obtain ⟨h0, h1, h2, h3, h4, h5, h6, h7, h8⟩ := hargs c
    · have hv : streamOut (m' ((c.tc : Thread _ _).loc Cert.Reference3Ideal.main_arg0)) (m' ((c.tc : Thread _ _).loc Cert.Reference3Ideal.main_arg1)) (m' ((c.tc : Thread _ _).loc Cert.Reference3Ideal.main_arg2)) (m' ((c.tc : Thread _ _).loc Cert.Reference3Ideal.main_arg3)) (m' ((c.tc : Thread _ _).loc Cert.Reference3Ideal.main_arg4)) (m' ((c.tc : Thread _ _).loc Cert.Reference3Ideal.main_arg5)) (m' ((c.tc : Thread _ _).loc Cert.Reference3Ideal.main_arg6))
          = streamOut (m ((c.tc : Thread _ _).loc Cert.Kernel3Ideal.main_arg0)) (m ((c.tc : Thread _ _).loc Cert.Kernel3Ideal.main_arg1)) (m ((c.tc : Thread _ _).loc Cert.Kernel3Ideal.main_arg2)) (m ((c.tc : Thread _ _).loc Cert.Kernel3Ideal.main_arg3)) (m ((c.tc : Thread _ _).loc Cert.Kernel3Ideal.main_arg4)) (m ((c.tc : Thread _ _).loc Cert.Kernel3Ideal.main_arg5)) (m ((c.tc : Thread _ _).loc Cert.Kernel3Ideal.main_arg6)) := by
        rw [h0, h1, h2, h3, h4, h5, h6]
      exact .trans (.trans rfl (refOut0 (m' ((c.tc : Thread _ _).loc Cert.Reference3Ideal.main_arg0)) (m' ((c.tc : Thread _ _).loc Cert.Reference3Ideal.main_arg1)) (m' ((c.tc : Thread _ _).loc Cert.Reference3Ideal.main_arg2)) (m' ((c.tc : Thread _ _).loc Cert.Reference3Ideal.main_arg3)) (m' ((c.tc : Thread _ _).loc Cert.Reference3Ideal.main_arg4)) (m' ((c.tc : Thread _ _).loc Cert.Reference3Ideal.main_arg5)) (m' ((c.tc : Thread _ _).loc Cert.Reference3Ideal.main_arg6)))) hv
    · have hv : normOut (m' ((c.tc : Thread _ _).loc Cert.Reference3Ideal.main_arg0)) (m' ((c.tc : Thread _ _).loc Cert.Reference3Ideal.main_arg1)) (m' ((c.tc : Thread _ _).loc Cert.Reference3Ideal.main_arg2)) (m' ((c.tc : Thread _ _).loc Cert.Reference3Ideal.main_arg3)) (m' ((c.tc : Thread _ _).loc Cert.Reference3Ideal.main_arg4)) (m' ((c.tc : Thread _ _).loc Cert.Reference3Ideal.main_arg5)) (m' ((c.tc : Thread _ _).loc Cert.Reference3Ideal.main_arg6)) (m' ((c.tc : Thread _ _).loc Cert.Reference3Ideal.main_arg7))
          = normOut (m ((c.tc : Thread _ _).loc Cert.Kernel3Ideal.main_arg0)) (m ((c.tc : Thread _ _).loc Cert.Kernel3Ideal.main_arg1)) (m ((c.tc : Thread _ _).loc Cert.Kernel3Ideal.main_arg2)) (m ((c.tc : Thread _ _).loc Cert.Kernel3Ideal.main_arg3)) (m ((c.tc : Thread _ _).loc Cert.Kernel3Ideal.main_arg4)) (m ((c.tc : Thread _ _).loc Cert.Kernel3Ideal.main_arg5)) (m ((c.tc : Thread _ _).loc Cert.Kernel3Ideal.main_arg6)) (m ((c.tc : Thread _ _).loc Cert.Kernel3Ideal.main_arg7)) := by
        rw [h0, h1, h2, h3, h4, h5, h6, h7]
      exact .trans (.trans rfl (refOut1 (m' ((c.tc : Thread _ _).loc Cert.Reference3Ideal.main_arg0)) (m' ((c.tc : Thread _ _).loc Cert.Reference3Ideal.main_arg1)) (m' ((c.tc : Thread _ _).loc Cert.Reference3Ideal.main_arg2)) (m' ((c.tc : Thread _ _).loc Cert.Reference3Ideal.main_arg3)) (m' ((c.tc : Thread _ _).loc Cert.Reference3Ideal.main_arg4)) (m' ((c.tc : Thread _ _).loc Cert.Reference3Ideal.main_arg5)) (m' ((c.tc : Thread _ _).loc Cert.Reference3Ideal.main_arg6)) (m' ((c.tc : Thread _ _).loc Cert.Reference3Ideal.main_arg7)))) hv
    · have hv : queryOut (m' ((c.tc : Thread _ _).loc Cert.Reference3Ideal.main_arg0)) (m' ((c.tc : Thread _ _).loc Cert.Reference3Ideal.main_arg1)) (m' ((c.tc : Thread _ _).loc Cert.Reference3Ideal.main_arg2)) (m' ((c.tc : Thread _ _).loc Cert.Reference3Ideal.main_arg3)) (m' ((c.tc : Thread _ _).loc Cert.Reference3Ideal.main_arg4)) (m' ((c.tc : Thread _ _).loc Cert.Reference3Ideal.main_arg5)) (m' ((c.tc : Thread _ _).loc Cert.Reference3Ideal.main_arg6)) (m' ((c.tc : Thread _ _).loc Cert.Reference3Ideal.main_arg7)) (m' ((c.tc : Thread _ _).loc Cert.Reference3Ideal.main_arg8))
          = queryOut (m ((c.tc : Thread _ _).loc Cert.Kernel3Ideal.main_arg0)) (m ((c.tc : Thread _ _).loc Cert.Kernel3Ideal.main_arg1)) (m ((c.tc : Thread _ _).loc Cert.Kernel3Ideal.main_arg2)) (m ((c.tc : Thread _ _).loc Cert.Kernel3Ideal.main_arg3)) (m ((c.tc : Thread _ _).loc Cert.Kernel3Ideal.main_arg4)) (m ((c.tc : Thread _ _).loc Cert.Kernel3Ideal.main_arg5)) (m ((c.tc : Thread _ _).loc Cert.Kernel3Ideal.main_arg6)) (m ((c.tc : Thread _ _).loc Cert.Kernel3Ideal.main_arg7)) (m ((c.tc : Thread _ _).loc Cert.Kernel3Ideal.main_arg8)) := by
        rw [h0, h1, h2, h3, h4, h5, h6, h7, h8]
      exact .trans (.trans rfl (refOut2 (m' ((c.tc : Thread _ _).loc Cert.Reference3Ideal.main_arg0)) (m' ((c.tc : Thread _ _).loc Cert.Reference3Ideal.main_arg1)) (m' ((c.tc : Thread _ _).loc Cert.Reference3Ideal.main_arg2)) (m' ((c.tc : Thread _ _).loc Cert.Reference3Ideal.main_arg3)) (m' ((c.tc : Thread _ _).loc Cert.Reference3Ideal.main_arg4)) (m' ((c.tc : Thread _ _).loc Cert.Reference3Ideal.main_arg5)) (m' ((c.tc : Thread _ _).loc Cert.Reference3Ideal.main_arg6)) (m' ((c.tc : Thread _ _).loc Cert.Reference3Ideal.main_arg7)) (m' ((c.tc : Thread _ _).loc Cert.Reference3Ideal.main_arg8)))) hv

end Cert.Mix

end
-- ==== Proof.Mid.lean ====
/-
  Between the layers: the even layer's last residual, the odd layer's modulated norm, and the norm's product with the
  odd layer's weights, a row to a token of both streams.
-/
module

public import proofs.«01_k».proof.Proof.Streams
public import proofs.«01_k».proof.Proof.Gen.Kernel4Ideal.Value
public import Idealize.ShloMosaic.Lib.Pointwise
public import Idealize.ShloMosaic.Lib.StableHlo.ReadAt
public import Idealize.ShloMosaic.Lib.Pipeline.ValueKit.Point
public import Idealize.ShloMosaic.Lib.Pipeline.ValueKit.Acc

@[expose] public section

noncomputable section

namespace Cert.Mid

open Idealize.ShloMosaic Idealize.ShloMosaic.TcCoe Idealize.SL.Sem Cert.Kernel4Ideal Cert.Kernel4Ideal.Gen
open Cert.Rows

/-- The stream after the residual. -/
def stream (h f : FVec Ideal S34816x1024 .f32) (ma : FVec Ideal S16x6x1x1024 .f32) (r : Fin 34816) (d : Fin 1024) : EReal :=
  h (ix2 r d) + vec ma 5 r d * f (ix2 r d)

/-- The stream's modulated norm. -/
def norm (h f : FVec Ideal S34816x1024 .f32) (ma : FVec Ideal S16x6x1x1024 .f32) (g : FVec Ideal S1024 .f32)
    (mb : FVec Ideal S16x6x1x1024 .f32) (r : Fin 34816) (d : Fin 1024) : EReal :=
  modulated (stream h f ma r) (fun e => g (ix1 e)) (vec mb 0 r) (vec mb 1 r) d

/-- A column of the weights as the result lays them out: queries, keys and values; the output gate; then for each head
    its four gates and zeros. -/
def column (w : Fin 3088 → EReal) (l : Fin 3584) : EReal :=
  if _ : l.val < 2048 then w ⟨l.val, by omega⟩
  else if _ : l.val < 3072 then w ⟨l.val + 16, by omega⟩
  else if _ : (l.val - 3072) / 128 < 4 ∧ (l.val - 3072) % 128 < 4 then
    w ⟨2048 + ((l.val - 3072) % 128 * 4 + (l.val - 3072) / 128), by omega⟩
  else 0

/-- The projection: the norm times the weights. -/
def proj (h f : FVec Ideal S34816x1024 .f32) (ma : FVec Ideal S16x6x1x1024 .f32) (g : FVec Ideal S1024 .f32)
    (mb : FVec Ideal S16x6x1x1024 .f32) (w : FVec Ideal S1024x3088 .f32) (r : Fin 34816) (l : Fin 3584) : EReal :=
  column (fun j => ∑ e, norm h f ma g mb r e * w (ix2 e j)) l

/-- The stream, as an array. -/
def streamOut (h f : FVec Ideal S34816x1024 .f32) (ma : FVec Ideal S16x6x1x1024 .f32) : FVec Ideal S34816x1024 .f32 :=
  fun i => stream h f ma (i 0) (i 1)

/-- The projection, as an array. -/
def projOut (h f : FVec Ideal S34816x1024 .f32) (ma : FVec Ideal S16x6x1x1024 .f32) (g : FVec Ideal S1024 .f32)
    (mb : FVec Ideal S16x6x1x1024 .f32) (w : FVec Ideal S1024x3088 .f32) : FVec Ideal S34816x3584 .f32 :=
  fun i => proj h f ma g mb w (i 0) (i 1)

/-- A product with laid-out columns is the products laid out: a column of zeros gives zero. -/
theorem dot_column (x : Fin 1024 → EReal) (w : Fin 1024 → Fin 3088 → EReal) (l : Fin 3584) :
    ∑ e, x e * column (w e) l = column (fun j => ∑ e, x e * w e j) l := by
  unfold column
  split_ifs <;> simp

/-- A step's block of the stream at an index. -/
theorem pay_stream (h f : FVec Ideal S256x1024 .f32) (v : FVec Ideal S1x1x1x1024 .f32) (r : Fin 256) (d : Fin 1024) :
    k0_pay2 (F := Ideal) h v f (ix2 r d) = h (ix2 r d) + v (ix4 0 0 0 d) * f (ix2 r d) := by
  pointwise [k0_pay2]

/-- A step's block of the norm at an index. -/
theorem pay_norm (h f : FVec Ideal S256x1024 .f32) (v sh sc : FVec Ideal S1x1x1x1024 .f32) (g : FVec Ideal S1x1024 .f32)
    (r : Fin 256) (d : Fin 1024) :
    k0_pay3 (F := Ideal) h v f g sh sc (ix2 r d) = modulated (fun e => k0_pay2 (F := Ideal) h v f (ix2 r e))
      (fun e => g (ix2 0 e)) (fun e => sh (ix4 0 0 0 e)) (fun e => sc (ix4 0 0 0 e)) d := by
  unfold modulated normed k0_pay3
  generalize k0_pay2 (F := Ideal) h v f = x
  pointwise []

/-- A step's block of the product at an index. -/
theorem pay_dot (n : FVec Ideal S256x1024 .bf16) (w : FVec Ideal S1024x3584 .bf16) (r : Fin 256) (l : Fin 3584) :
    k0_pay1 (F := Ideal) n w (ix2 r l) = ∑ e, n (ix2 r e) * w (ix2 e l) := by
  pointwise [k0_pay1]

variable (m : (ℓ : Loc nD τ sig) → Buf (Elt Ideal) ℓ)

/-- The old stream is read a block to a step. -/
theorem idx0 : ∀ t : Fin cfg0.N, win0_0.index t = ![t.val, 0] := (by decide +kernel : ∀ t : Fin grid0.N, _)
/-- The PEER output is read a block to a step. -/
theorem idx1 : ∀ t : Fin cfg0.N, win0_1.index t = ![t.val, 0] := (by decide +kernel : ∀ t : Fin grid0.N, _)
/-- The gate is the group's. -/
theorem idx2 : ∀ t : Fin cfg0.N, win0_2.index t = ![if t.val % 17 < 16 then t.val / 17 else 8, 5, 0, 0] := (by decide +kernel : ∀ t : Fin grid0.N, _)
/-- The gain is read whole. -/
theorem idx3 : ∀ t : Fin cfg0.N, win0_3.index t = ![0, 0] := (by decide +kernel : ∀ t : Fin grid0.N, _)
/-- The shift is the group's. -/
theorem idx4 : ∀ t : Fin cfg0.N, win0_4.index t = ![if t.val % 17 < 16 then t.val / 17 else 8, 0, 0, 0] := (by decide +kernel : ∀ t : Fin grid0.N, _)
/-- The scale is the group's. -/
theorem idx5 : ∀ t : Fin cfg0.N, win0_5.index t = ![if t.val % 17 < 16 then t.val / 17 else 8, 1, 0, 0] := (by decide +kernel : ∀ t : Fin grid0.N, _)
/-- The weights are read whole. -/
theorem idx6 : ∀ t : Fin cfg0.N, win0_6.index t = ![0, 0] := (by decide +kernel : ∀ t : Fin grid0.N, _)
/-- The stream is written a block to a step. -/
theorem idx7 : ∀ t : Fin cfg0.N, win0_7.index t = ![t.val, 0] := (by decide +kernel : ∀ t : Fin grid0.N, _)
/-- The projection is written a block to a step. -/
theorem idx8 : ∀ t : Fin cfg0.N, win0_8.index t = ![t.val, 0] := (by decide +kernel : ∀ t : Fin grid0.N, _)

/-- The gain as the call takes it. -/
theorem host9 (c : Dev nD) (d : Fin 1024) : V m c main_v9 (ix2 0 d) = m ((c : Thread nD τ).loc main_arg3) (ix1 d) := by
  unfold V
  after_reads_at

/-- The gates' columns as the host lays them out: by head, padded to 128. -/
def gates (w : FVec Ideal S1024x3088 .f32) : FVec Ideal S1024x512 .f32 :=
  shapeCast S1024x512 (pad S1024x4x128 ![0, 0, 0] ![0, 0, 124] ![0, 0, 0]
    (transpose S1024x4x4 [0, 2, 1] (shapeCast S1024x4x4 (extractStridedSlice S1024x16 ![0, 2048] w
      slices_S1024x3088_S1024x16_0_2048) shapeCasts_S1024x16_S1024x4x4) transposes_S1024x4x4_S1024x4x4_0_2_1)
    (sitofp (F := Ideal) .f32 (constantI S_ 32 0#32)) pads_S1024x4x4_S1024x4x128_000_000_01240 h_S_)
    shapeCasts_S1024x4x128_S1024x512

/-- A gate's column at an index. -/
theorem gates_at (w : FVec Ideal S1024x3088 .f32) (e : Fin 1024) (l : Fin 512) : gates w (ix2 e l)
    = if _ : l.val / 128 < 4 ∧ l.val % 128 < 4 then w (ix2 e ⟨2048 + (l.val % 128 * 4 + l.val / 128), by omega⟩) else 0 := by
  have hz : (Scalar.sitofp (F := Ideal) .f32 (0#32) : EReal) = 0 :=
    (Ideal.scalar_sitofp_def (φ := .f32) (0#32)).trans (by simp)
  pointwise [gates]
  split
  · rfl
  · exact hz

/-- The weights as the call takes them. -/
theorem host8 (c : Dev nD) (e : Fin 1024) (l : Fin 3584) : V m c main_v8 (ix2 e l)
   = column (fun j => m ((c : Thread nD τ).loc main_arg5) (ix2 e j)) l := by
  unfold V
  after_reads_at
  unfold column
  split
  · after_reads_at
  · split
    · rw [dif_pos (by omega)]
      after_reads_at
      exact congrArg (fun j => m ((c : Thread nD τ).loc main_arg5) (ix2 e j)) (Fin.ext (by dsimp only; omega))
    · rw [dif_neg (by omega)]
      after_reads_simp
      change gates (m ((c : Thread nD τ).loc main_arg5)) (ix2 e ⟨l.val - 2048 - 1024, _⟩) = _
      rw [gates_at]
      have hl : l.val - 2048 - 1024 = l.val - 3072 := by omega
      simp only [hl]

/-- A step's block of the old stream. -/
theorem in0 (c : Dev nD) (t : Fin cfg0.N) (r : Fin 256) (d : Fin 1024) : iblk m c 0 t (ix2 r d)
    = m ((c : Thread nD τ).loc main_arg0) (ix2 (row t r) d) := by
  unfold row
  blk_ext! [iblk, V, idx0 t]

/-- A step's block of the PEER output. -/
theorem in1 (c : Dev nD) (t : Fin cfg0.N) (r : Fin 256) (d : Fin 1024) : iblk m c 1 t (ix2 r d)
    = m ((c : Thread nD τ).loc main_arg1) (ix2 (row t r) d) := by
  unfold row
  blk_ext! [iblk, V, idx1 t]

/-- A step's gate. -/
theorem in2 (c : Dev nD) (t : Fin cfg0.N) (r : Fin 256) (d : Fin 1024) : iblk m c 2 t (ix4 0 0 0 d)
    = vec (m ((c : Thread nD τ).loc main_arg2)) 5 (row t r) d := by
  unfold vec
  blk_ext! [iblk, V, idx2 t]
  exact (group_row t r).symm

/-- A step's gain. -/
theorem in3 (c : Dev nD) (t : Fin cfg0.N) (d : Fin 1024) : iblk m c 3 t (ix2 0 d)
    = m ((c : Thread nD τ).loc main_arg3) (ix1 d) := by
  refine Eq.trans ?_ (host9 m c d)
  blk_ext! [iblk, idx3 t]

/-- A step's shift. -/
theorem in4 (c : Dev nD) (t : Fin cfg0.N) (r : Fin 256) (d : Fin 1024) : iblk m c 4 t (ix4 0 0 0 d)
    = vec (m ((c : Thread nD τ).loc main_arg4)) 0 (row t r) d := by
  unfold vec
  blk_ext! [iblk, V, idx4 t]
  exact (group_row t r).symm

/-- A step's scale. -/
theorem in5 (c : Dev nD) (t : Fin cfg0.N) (r : Fin 256) (d : Fin 1024) : iblk m c 5 t (ix4 0 0 0 d)
    = vec (m ((c : Thread nD τ).loc main_arg4)) 1 (row t r) d := by
  unfold vec
  blk_ext! [iblk, V, idx5 t]
  exact (group_row t r).symm

/-- A step's weights. -/
theorem in6 (c : Dev nD) (t : Fin cfg0.N) (e : Fin 1024) (l : Fin 3584) : iblk m c 6 t (ix2 e l)
    = column (fun j => m ((c : Thread nD τ).loc main_arg5) (ix2 e j)) l := by
  refine Eq.trans ?_ (host8 m c e l)
  blk_ext! [iblk, idx6 t]

/-- A step's block of the stream is the stream's. -/
theorem block_stream (c : Dev nD) (t : Fin cfg0.N) (r : Fin 256) (d : Fin 1024) :
    k0_pay2 (F := Ideal) (iblk m c 0 t) (iblk m c 2 t) (iblk m c 1 t) (ix2 r d) = stream (m ((c : Thread nD τ).loc main_arg0)) (m ((c : Thread nD τ).loc main_arg1)) (m ((c : Thread nD τ).loc main_arg2)) (row t r) d := by
  rw [pay_stream, in0, in1, in2 m c t r]
  rfl

/-- A step's block of the projection is the projection's. -/
theorem block_proj (c : Dev nD) (t : Fin cfg0.N) (r : Fin 256) (l : Fin 3584) :
    k0_pay1 (F := Ideal) (k0_pay3 (iblk m c 0 t) (iblk m c 2 t) (iblk m c 1 t) (iblk m c 3 t) (iblk m c 4 t) (iblk m c 5 t))
      (iblk m c 6 t) (ix2 r l) = proj (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t r) l := by
  rw [pay_dot, proj, ← dot_column]
  refine Finset.sum_congr rfl fun e _ => ?_
  rw [in6, pay_norm, funext fun e => block_stream m c t r e, funext fun e => in3 m c t e, funext fun e => in4 m c t r e,
    funext fun e => in5 m c t r e]
  rfl

/-- The call's stream. -/
theorem final_stream (c : Dev nD) : (dats m 0 c).arrAt 7 cfg0.N = streamOut (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  frame_out
  obtain ⟨r, l, rfl⟩ : ∃ (r : Fin 256) (l : Fin 1024), y = ix2 r l := ⟨y 0, y 1, eq_ix2 y⟩
  rw [block_stream]
  refine congr (congrArg _ (Fin.ext ?_)) (Fin.ext ?_)
  · unfold row; blk_simp [idx7 t]
  · blk_simp [idx7 t]

/-- The call's projection. -/
theorem final_proj (c : Dev nD) : (dats m 0 c).arrAt 8 cfg0.N = projOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8]
  frame_out
  obtain ⟨r, l, rfl⟩ : ∃ (r : Fin 256) (l : Fin 3584), y = ix2 r l := ⟨y 0, y 1, eq_ix2 y⟩
  rw [block_proj]
  refine congr (congrArg _ (Fin.ext ?_)) (Fin.ext ?_)
  · unfold row; blk_simp [idx8 t]
  · blk_simp [idx8 t]

end Cert.Mid

end
-- ==== Proof.MidClaim.lean ====
/-
  Between the layers: the reference's frame, and that the call and the reference give one pair of results.
-/
module

public import proofs.«01_k».proof.Defs
public import proofs.«01_k».proof.Proof.Mid
public import proofs.«01_k».proof.Proof.Gen.Reference4Ideal.Run

@[expose] public section

noncomputable section

namespace Cert.Mid

open Idealize.ShloMosaic Idealize.SL.Sem Cert.Rows Cert.Reference4Ideal Cert.Reference4Ideal.Gen

section Ref

/-- The reference's latent stream after the residual, the gate given. -/
def residL (h f : FVec Ideal S34816x1024 .f32) (v : FVec Ideal S8x1x1024 .f32) : FVec Ideal S8x4096x1024 .f32 :=
  addf (extractStridedSlice S8x4096x1024 ![0, 0, 0] (shapeCast S8x4352x1024 h shapeCasts_S34816x1024_S8x4352x1024)
      slices_S8x4352x1024_S8x4096x1024_0_0_0)
    (mulf (broadcastInDim S8x4096x1024 ![0, 1, 2] bcast_S8x1x1024_S8x4096x1024_0_1_2 v)
      (extractStridedSlice S8x4096x1024 ![0, 0, 0] (shapeCast S8x4352x1024 f shapeCasts_S34816x1024_S8x4352x1024)
        slices_S8x4352x1024_S8x4096x1024_0_0_0))

/-- The reference's context stream after the residual, the gate given. -/
def residC (h f : FVec Ideal S34816x1024 .f32) (v : FVec Ideal S1x1024 .f32) : FVec Ideal S8x256x1024 .f32 :=
  addf (extractStridedSlice S8x256x1024 ![0, 4096, 0] (shapeCast S8x4352x1024 h shapeCasts_S34816x1024_S8x4352x1024)
      slices_S8x4352x1024_S8x256x1024_0_4096_0)
    (mulf (broadcastInDim S8x256x1024 ![0, 1, 2] bcast_S1x1x1024_S8x256x1024_0_1_2
        (broadcastInDim S1x1x1024 ![1, 2] bcast_S1x1024_S1x1x1024_1_2 v))
      (extractStridedSlice S8x256x1024 ![0, 4096, 0] (shapeCast S8x4352x1024 f shapeCasts_S34816x1024_S8x4352x1024)
        slices_S8x4352x1024_S8x256x1024_0_4096_0))

/-- The latent residual at an index. -/
theorem residL_at (h f : FVec Ideal S34816x1024 .f32) (v : FVec Ideal S8x1x1024 .f32) (b : Fin 8) (t : Fin 4096) (d : Fin 1024) :
    residL h f v (ix3 b t d) = h (ix2 ⟨b.val * 4352 + t.val, by omega⟩ d)
      + v (ix3 b 0 d) * f (ix2 ⟨b.val * 4352 + t.val, by omega⟩ d) := by
  pointwise [residL]

/-- The context residual at an index. -/
theorem residC_at (h f : FVec Ideal S34816x1024 .f32) (v : FVec Ideal S1x1024 .f32) (b : Fin 8) (t : Fin 256) (d : Fin 1024) :
    residC h f v (ix3 b t d) = h (ix2 ⟨b.val * 4352 + (4096 + t.val), by omega⟩ d)
      + v (ix2 0 d) * f (ix2 ⟨b.val * 4352 + (4096 + t.val), by omega⟩ d) := by
  pointwise [residC]

/-- The latent stream times the weights. -/
def prodL (x : FVec Ideal S8x4096x1024 .f32) (w : FVec Ideal S1024x3088 .f32) : FVec Ideal S8x4096x3088 .f32 :=
  Host.dotGeneral Cert.Reference4Ideal.dot_S8x4096x1024_S1024x3088_S8x4096x3088_2_0_01_1_n_n none x w

/-- The context stream times the weights. -/
def prodC (x : FVec Ideal S8x256x1024 .f32) (w : FVec Ideal S1024x3088 .f32) : FVec Ideal S8x256x3088 .f32 :=
  Host.dotGeneral Cert.Reference4Ideal.dot_S8x256x1024_S1024x3088_S8x256x3088_2_0_01_1_n_n none x w

/-- The latent product at an index. -/
theorem prodL_at (x : FVec Ideal S8x4096x1024 .f32) (w : FVec Ideal S1024x3088 .f32) (b : Fin 8) (t : Fin 4096) (l : Fin 3088) :
    prodL x w (ix3 b t l) = ∑ e, x (ix3 b t e) * w (ix2 e l) := by
  pointwise [prodL]

/-- The context product at an index. -/
theorem prodC_at (x : FVec Ideal S8x256x1024 .f32) (w : FVec Ideal S1024x3088 .f32) (b : Fin 8) (t : Fin 256) (l : Fin 3088) :
    prodC x w (ix3 b t l) = ∑ e, x (ix3 b t e) * w (ix2 e l) := by
  pointwise [prodC]

/-- Both streams' products, a row to a token. -/
def both (x : FVec Ideal S8x4096x3088 .f32) (y : FVec Ideal S8x256x3088 .f32) : FVec Ideal S34816x3088 .f32 :=
  shapeCast S34816x3088 (concatenate S8x4352x3088 1 [⟨S8x4096x3088, x⟩, ⟨S8x256x3088, y⟩]
    concatenates_S8x4096x3088_S8x256x3088_S8x4352x3088_d1) shapeCasts_S8x4352x3088_S34816x3088

/-- Both streams' products at an index. -/
theorem both_at (x : FVec Ideal S8x4096x3088 .f32) (y : FVec Ideal S8x256x3088 .f32) (r : Fin 34816) (l : Fin 3088) :
    both x y (ix2 r l) = pick (fun b t => x (ix3 b t l)) (fun b t => y (ix3 b t l)) r := by
  unfold pick
  pointwise [both]

/-- The product's gates by head, each head's four padded by zeros to 128. -/
def gateCols (p : FVec Ideal S34816x3088 .f32) : FVec Ideal S34816x512 .f32 :=
  shapeCast S34816x512 (concatenate S34816x4x128 2 [⟨S34816x4x4, transpose S34816x4x4 [0, 2, 1]
      (shapeCast S34816x4x4 (extractStridedSlice S34816x16 ![0, 2048] p slices_S34816x3088_S34816x16_0_2048)
        shapeCasts_S34816x16_S34816x4x4) transposes_S34816x4x4_S34816x4x4_0_2_1⟩,
      ⟨S34816x4x124, broadcastInDim S34816x4x124 ![] bcast_S_S34816x4x124 (constant S_ .f32 0x00000000#32)⟩]
      concatenates_S34816x4x4_S34816x4x124_S34816x4x128_d2) shapeCasts_S34816x4x128_S34816x512

/-- The three groups of columns side by side. -/
def laid3 (p : FVec Ideal S34816x3088 .f32) (q : FVec Ideal S34816x512 .f32) : FVec Ideal S34816x3584 .f32 :=
  concatenate S34816x3584 1 [⟨S34816x2048, extractStridedSlice S34816x2048 ![0, 0] p slices_S34816x3088_S34816x2048_0_0⟩,
    ⟨S34816x1024, extractStridedSlice S34816x1024 ![0, 2064] p slices_S34816x3088_S34816x1024_0_2064⟩, ⟨S34816x512, q⟩]
    concatenates_S34816x2048_S34816x1024_S34816x512_S34816x3584_d1

/-- The product's columns as the result lays them out. -/
def laid (p : FVec Ideal S34816x3088 .f32) : FVec Ideal S34816x3584 .f32 := laid3 p (gateCols p)

set_option maxRecDepth 8000 in
/-- A gate's column of the product at an index. -/
theorem gateCols_at (p : FVec Ideal S34816x3088 .f32) (r : Fin 34816) (l : Fin 512) : gateCols p (ix2 r l)
    = if _ : l.val / 128 < 4 ∧ l.val % 128 < 4 then p (ix2 r ⟨2048 + (l.val % 128 * 4 + l.val / 128), by omega⟩) else 0 := by
  have hl : l.val / 128 < 4 := by omega
  simp only [hl, true_and]
  pointwise [gateCols]

/-- The laid-out product at an index. -/
theorem laid_at (p : FVec Ideal S34816x3088 .f32) (r : Fin 34816) (l : Fin 3584) :
    laid p (ix2 r l) = column (fun j => p (ix2 r j)) l := by
  unfold column laid
  generalize hq : gateCols p = q
  pointwise [laid3]
  subst hq
  split
  · rfl
  · split
    · rw [dif_pos (by omega)]
      exact congrArg (fun j => p (ix2 r j)) (Fin.ext (by dsimp only; omega))
    · rw [dif_neg (by omega), gateCols_at]
      have hl : l.val - 2048 - 1024 = l.val - 3072 := by omega
      simp only [hl]

variable (h f : FVec Ideal S34816x1024 .f32) (ma : FVec Ideal S16x6x1x1024 .f32) (g : FVec Ideal S1024 .f32)
  (mb : FVec Ideal S16x6x1x1024 .f32) (w : FVec Ideal S1024x3088 .f32)

/-- The reference's latent stream. -/
def refL : FVec Ideal S8x4096x1024 .f32 := residL h f (hostVecL 5 slices_S16x6x1x1024_S8x1x1x1024_0_5_0_0 ma)

/-- The reference's context stream. -/
def refC : FVec Ideal S8x256x1024 .f32 := residC h f (hostVecC 5 slices_S16x6x1x1024_S1x1x1x1024_8_5_0_0 ma)

/-- The reference's streams are the stream. -/
theorem ref_stream (r : Fin 34816) (d : Fin 1024) :
    pick (fun b t => refL h f ma (ix3 b t d)) (fun b t => refC h f ma (ix3 b t d)) r = stream h f ma r d := by
  unfold stream
  by_cases hr : r.val % 4352 < 4096
  · rw [pick_lat _ _ r hr, refL, residL_at, vec_lat ma 5 _ r hr]
    have e : (⟨r.val / 4352 * 4352 + r.val % 4352, by omega⟩ : Fin 34816) = r := Fin.ext (by dsimp only; omega)
    rw [e]
  · rw [pick_ctx _ _ r hr, refC, residC_at, vec_ctx ma 5 _ r hr]
    have e : (⟨r.val / 4352 * 4352 + (4096 + (r.val % 4352 - 4096)), by omega⟩ : Fin 34816) = r := Fin.ext (by dsimp only; omega)
    rw [e]

/-- The reference's modulated latents. -/
def refNormL : FVec Ideal S8x4096x1024 .f32 :=
  hostModL (hostNormL (refL h f ma) g) (hostVecL 0 slices_S16x6x1x1024_S8x1x1x1024_0_0_0_0 mb)
    (hostVecL 1 slices_S16x6x1x1024_S8x1x1x1024_0_1_0_0 mb)

/-- The reference's modulated context. -/
def refNormC : FVec Ideal S8x256x1024 .f32 :=
  hostModC (hostNormC (refC h f ma) g) (hostVecC 0 slices_S16x6x1x1024_S1x1x1x1024_8_0_0_0 mb)
    (hostVecC 1 slices_S16x6x1x1024_S1x1x1x1024_8_1_0_0 mb)

/-- The reference's norms are the norm. -/
theorem ref_norm (r : Fin 34816) (d : Fin 1024) :
    pick (fun b t => refNormL h f ma g mb (ix3 b t d)) (fun b t => refNormC h f ma g mb (ix3 b t d)) r = norm h f ma g mb r d :=
  pick_norm _ _ (stream h f ma) (ref_stream h f ma) g mb 0 1 _ _ _ _ r d

/-- The reference's first result is the stream. -/
theorem refOut0 : joined (refL h f ma) (refC h f ma) = streamOut h f ma := by
  funext i
  obtain ⟨r, l, rfl⟩ : ∃ (r : Fin 34816) (l : Fin 1024), i = ix2 r l := ⟨i 0, i 1, eq_ix2 i⟩
  rw [joined_at, ref_stream]
  rfl

/-- The reference's second result is the projection. -/
theorem refOut1 : laid (both (prodL (refNormL h f ma g mb) w) (prodC (refNormC h f ma g mb) w)) = projOut h f ma g mb w := by
  funext i
  obtain ⟨r, l, rfl⟩ : ∃ (r : Fin 34816) (l : Fin 3584), i = ix2 r l := ⟨i 0, i 1, eq_ix2 i⟩
  rw [laid_at]
  show _ = column (fun j => ∑ e, norm h f ma g mb r e * w (ix2 e j)) l
  refine congrArg (fun k => column k l) (funext fun j => ?_)
  rw [both_at]
  simp only [prodL_at, prodC_at]
  exact pick_dot (fun b t e => refNormL h f ma g mb (ix3 b t e)) (fun b t e => refNormC h f ma g mb (ix3 b t e)) _
    (ref_norm h f ma g mb) (fun e => w (ix2 e j)) r

end Ref

/-- The reference declares no semaphore, so nothing of its counters is left to say. -/
theorem no_counter {T : Prop} (s : SemLoc Cert.Reference4Ideal.sig) : T :=
  match s with
  | .reg s => s.elim0
  | .dma s => s.elim0

/-- The reference runs and leaves its arguments alone. -/
theorem reference_frame : Cert.quiescent_Reference4Ideal := fun m ρ _ =>
  (θ_run Cert.Reference4Ideal.defs _ _).mono (fun r h => ⟨fun c => (h c).2.2, funext fun s => no_counter s.2⟩)
    (Cert.Reference4Ideal.Value.run (F := Ideal) m ρ)

/-- The call's results are the reference's. -/
theorem algebraic : Cert.algebraic_Kernel4Ideal_Reference4Ideal := by
  intro m g m' g' _ hargs
  refine ⟨fun c => streamOut (m ((c.tc : Thread _ _).loc Cert.Kernel4Ideal.main_arg0)) (m ((c.tc : Thread _ _).loc Cert.Kernel4Ideal.main_arg1)) (m ((c.tc : Thread _ _).loc Cert.Kernel4Ideal.main_arg2)),
    fun c => projOut (m ((c.tc : Thread _ _).loc Cert.Kernel4Ideal.main_arg0)) (m ((c.tc : Thread _ _).loc Cert.Kernel4Ideal.main_arg1)) (m ((c.tc : Thread _ _).loc Cert.Kernel4Ideal.main_arg2)) (m ((c.tc : Thread _ _).loc Cert.Kernel4Ideal.main_arg3)) (m ((c.tc : Thread _ _).loc Cert.Kernel4Ideal.main_arg4)) (m ((c.tc : Thread _ _).loc Cert.Kernel4Ideal.main_arg5)), ?_, ?_⟩
  · exact (θ_run Cert.Kernel4Ideal.defs _ _).mono (fun r h c => ⟨(h c).1.trans (final_stream m c),
      (h c).2.1.trans (final_proj m c), (h c).2.2⟩)
      (Cert.Kernel4Ideal.Value.run_blocks (F := Ideal) m g)
  · refine (θ_run Cert.Reference4Ideal.defs _ _).mono (fun r h c => ⟨(h c).1.trans ?_, (h c).2.1.trans ?_, (h c).2.2⟩)
      (Cert.Reference4Ideal.Value.run (F := Ideal) m' g') <;>
    obtain ⟨h0, h1, h2, h3, h4, h5⟩ := hargs c
    · have hv : streamOut (m' ((c.tc : Thread _ _).loc Cert.Reference4Ideal.main_arg0)) (m' ((c.tc : Thread _ _).loc Cert.Reference4Ideal.main_arg1)) (m' ((c.tc : Thread _ _).loc Cert.Reference4Ideal.main_arg2))
          = streamOut (m ((c.tc : Thread _ _).loc Cert.Kernel4Ideal.main_arg0)) (m ((c.tc : Thread _ _).loc Cert.Kernel4Ideal.main_arg1)) (m ((c.tc : Thread _ _).loc Cert.Kernel4Ideal.main_arg2)) := by
        rw [h0, h1, h2]
      exact .trans (.trans rfl (refOut0 (m' ((c.tc : Thread _ _).loc Cert.Reference4Ideal.main_arg0)) (m' ((c.tc : Thread _ _).loc Cert.Reference4Ideal.main_arg1)) (m' ((c.tc : Thread _ _).loc Cert.Reference4Ideal.main_arg2)))) hv
    · have hv : projOut (m' ((c.tc : Thread _ _).loc Cert.Reference4Ideal.main_arg0)) (m' ((c.tc : Thread _ _).loc Cert.Reference4Ideal.main_arg1)) (m' ((c.tc : Thread _ _).loc Cert.Reference4Ideal.main_arg2)) (m' ((c.tc : Thread _ _).loc Cert.Reference4Ideal.main_arg3)) (m' ((c.tc : Thread _ _).loc Cert.Reference4Ideal.main_arg4)) (m' ((c.tc : Thread _ _).loc Cert.Reference4Ideal.main_arg5))
          = projOut (m ((c.tc : Thread _ _).loc Cert.Kernel4Ideal.main_arg0)) (m ((c.tc : Thread _ _).loc Cert.Kernel4Ideal.main_arg1)) (m ((c.tc : Thread _ _).loc Cert.Kernel4Ideal.main_arg2)) (m ((c.tc : Thread _ _).loc Cert.Kernel4Ideal.main_arg3)) (m ((c.tc : Thread _ _).loc Cert.Kernel4Ideal.main_arg4)) (m ((c.tc : Thread _ _).loc Cert.Kernel4Ideal.main_arg5)) := by
        rw [h0, h1, h2, h3, h4, h5]
      exact .trans (.trans rfl (refOut1 (m' ((c.tc : Thread _ _).loc Cert.Reference4Ideal.main_arg0)) (m' ((c.tc : Thread _ _).loc Cert.Reference4Ideal.main_arg1)) (m' ((c.tc : Thread _ _).loc Cert.Reference4Ideal.main_arg2)) (m' ((c.tc : Thread _ _).loc Cert.Reference4Ideal.main_arg3)) (m' ((c.tc : Thread _ _).loc Cert.Reference4Ideal.main_arg4)) (m' ((c.tc : Thread _ _).loc Cert.Reference4Ideal.main_arg5)))) hv

end Cert.Mid

end
-- ==== Proof.Odd.lean ====
/-
  The odd layer's output projection: its residual, its modulated norm, and the norm's product with the query weights,
  a row to a latent token.
-/
module

public import proofs.«01_k».proof.Proof.Rows
public import proofs.«01_k».proof.Proof.Gen.Kernel5Ideal.Value
public import Idealize.ShloMosaic.Lib.Pointwise
public import Idealize.ShloMosaic.Lib.Pipeline.ValueKit.Point
public import Idealize.ShloMosaic.Lib.Pipeline.ValueKit.Acc

@[expose] public section

noncomputable section

namespace Cert.Odd

open Idealize.ShloMosaic Idealize.ShloMosaic.TcCoe Idealize.SL.Sem Cert.Kernel5Ideal Cert.Kernel5Ideal.Gen
open Cert.Rows

/-- The batch of a latent row. -/
def bat (r : Fin 32768) : Fin 8 := ⟨r.val / 4096, by omega⟩

/-- The token of a latent row. -/
def tok (r : Fin 32768) : Fin 4096 := ⟨r.val % 4096, by omega⟩

/-- Row `k` of the modulation table for a latent row's batch. -/
def vec (mo : FVec Ideal S16x6x1x1024 .f32) (k : Fin 6) (r : Fin 32768) (d : Fin 1024) : EReal :=
  mo (ix4 ⟨(bat r).val, by omega⟩ k 0 d)

/-- The stream after the residual. -/
def stream (mix : FVec Ideal S8x4096x1024 .f32) (w : FVec Ideal S1024x1024 .f32) (h : FVec Ideal S34816x1024 .f32)
    (mo : FVec Ideal S16x6x1x1024 .f32) (r : Fin 32768) (d : Fin 1024) : EReal :=
  h (ix2 ⟨(bat r).val * 4352 + (tok r).val, by omega⟩ d)
    + vec mo 2 r d * ∑ e, mix (ix3 (bat r) (tok r) e) * w (ix2 e d)

/-- The stream's modulated norm. -/
def norm (mix : FVec Ideal S8x4096x1024 .f32) (w : FVec Ideal S1024x1024 .f32) (h : FVec Ideal S34816x1024 .f32)
    (mo : FVec Ideal S16x6x1x1024 .f32) (g : FVec Ideal S1024 .f32) (r : Fin 32768) (d : Fin 1024) : EReal :=
  modulated (stream mix w h mo r) (fun e => g (ix1 e)) (vec mo 3 r) (vec mo 4 r) d

/-- The queries: the norm times their weights. -/
def query (mix : FVec Ideal S8x4096x1024 .f32) (w : FVec Ideal S1024x1024 .f32) (h : FVec Ideal S34816x1024 .f32)
    (mo : FVec Ideal S16x6x1x1024 .f32) (g : FVec Ideal S1024 .f32) (wq : FVec Ideal S1024x2048 .f32)
    (r : Fin 32768) (l : Fin 2048) : EReal :=
  ∑ e, norm mix w h mo g r e * wq (ix2 e l)

/-- The stream, as an array. -/
def streamOut (mix : FVec Ideal S8x4096x1024 .f32) (w : FVec Ideal S1024x1024 .f32) (h : FVec Ideal S34816x1024 .f32)
    (mo : FVec Ideal S16x6x1x1024 .f32) : FVec Ideal S32768x1024 .f32 := fun i => stream mix w h mo (i 0) (i 1)

/-- The norm, as an array. -/
def normOut (mix : FVec Ideal S8x4096x1024 .f32) (w : FVec Ideal S1024x1024 .f32) (h : FVec Ideal S34816x1024 .f32)
    (mo : FVec Ideal S16x6x1x1024 .f32) (g : FVec Ideal S1024 .f32) :
    FVec Ideal S32768x1024 .bf16 := fun i => norm mix w h mo g (i 0) (i 1)

/-- The queries, as an array. -/
def queryOut (mix : FVec Ideal S8x4096x1024 .f32) (w : FVec Ideal S1024x1024 .f32) (h : FVec Ideal S34816x1024 .f32)
    (mo : FVec Ideal S16x6x1x1024 .f32) (g : FVec Ideal S1024 .f32)
    (wq : FVec Ideal S1024x2048 .f32) : FVec Ideal S32768x2048 .bf16 := fun i => query mix w h mo g wq (i 0) (i 1)

/-- A step's block of the stream at an index. -/
theorem pay_stream (a h : FVec Ideal S256x1024 .f32) (w : FVec Ideal S1024x1024 .bf16) (v : FVec Ideal S1x1x1x1024 .f32)
    (r : Fin 256) (d : Fin 1024) :
    k0_pay3 (F := Ideal) a h w v (ix2 r d) = h (ix2 r d) + v (ix4 0 0 0 d) * ∑ e, a (ix2 r e) * w (ix2 e d) := by
  pointwise [k0_pay3]

/-- A step's block of the norm before its modulation, at an index. -/
theorem pay_normed (a h : FVec Ideal S256x1024 .f32) (w : FVec Ideal S1024x1024 .bf16) (v : FVec Ideal S1x1x1x1024 .f32)
    (g : FVec Ideal S1x1024 .f32) (r : Fin 256) (d : Fin 1024) :
    k0_pay6 (F := Ideal) a h w v g (ix2 r d)
      = normed (fun e => k0_pay3 (F := Ideal) a h w v (ix2 r e)) (fun e => g (ix2 0 e)) d := by
  unfold normed k0_pay6
  generalize k0_pay3 (F := Ideal) a h w v = x
  pointwise []

/-- A step's block of the modulated norm at an index. -/
theorem pay_norm (sh sc : FVec Ideal S1x1x1x1024 .f32) (n : FVec Ideal S256x1024 .f32) (r : Fin 256) (d : Fin 1024) :
    k0_pay1 (F := Ideal) (k0_pay4 sh) (k0_pay5 sc) n (Scalar.ofBits .f32 0x3F800000#32) (ix2 r d)
      = n (ix2 r d) * (Ideal.ofBits .f32 0x3F800000#32 + sc (ix4 0 0 0 d)) + sh (ix4 0 0 0 d) := by
  pointwise [k0_pay1, k0_pay4, k0_pay5]

/-- A step's block of the queries at an index. -/
theorem pay_query (sh sc : FVec Ideal S1x1024 .f32) (n : FVec Ideal S256x1024 .f32) (o : Ideal .f32)
    (w : FVec Ideal S1024x2048 .bf16) (r : Fin 256) (l : Fin 2048) :
    k0_pay2 (F := Ideal) sh sc n o w (ix2 r l) = ∑ e, k0_pay1 (F := Ideal) sh sc n o (ix2 r e) * w (ix2 e l) := by
  unfold k0_pay2
  generalize k0_pay1 (F := Ideal) sh sc n o = x
  pointwise []

/-- The row of the streams a step's row is. -/
def row (t : Fin cfg0.N) (r : Fin 256) : Fin 32768 :=
  ⟨t.val * 256 + r.val, by have h : t.val < 128 := t.isLt; omega⟩

variable (m : (ℓ : Loc nD τ sig) → Buf (Elt Ideal) ℓ)

/-- The projection's input is read a block to a step. -/
theorem idx0 : ∀ t : Fin cfg0.N, win0_0.index t = ![t.val, 0] := (by decide +kernel : ∀ t : Fin grid0.N, _)
/-- The projection's weights are read whole. -/
theorem idx1 : ∀ t : Fin cfg0.N, win0_1.index t = ![0, 0] := (by decide +kernel : ∀ t : Fin grid0.N, _)
/-- The old stream's latent blocks are read, its context blocks skipped. -/
theorem idx2 : ∀ t : Fin cfg0.N, win0_2.index t = ![t.val / 16 * 17 + t.val % 16, 0] := (by decide +kernel : ∀ t : Fin grid0.N, _)
/-- The gate is the batch's. -/
theorem idx3 : ∀ t : Fin cfg0.N, win0_3.index t = ![t.val / 16, 2, 0, 0] := (by decide +kernel : ∀ t : Fin grid0.N, _)
/-- The gain is read whole. -/
theorem idx4 : ∀ t : Fin cfg0.N, win0_4.index t = ![0, 0] := (by decide +kernel : ∀ t : Fin grid0.N, _)
/-- The shift is the batch's. -/
theorem idx5 : ∀ t : Fin cfg0.N, win0_5.index t = ![t.val / 16, 3, 0, 0] := (by decide +kernel : ∀ t : Fin grid0.N, _)
/-- The scale is the batch's. -/
theorem idx6 : ∀ t : Fin cfg0.N, win0_6.index t = ![t.val / 16, 4, 0, 0] := (by decide +kernel : ∀ t : Fin grid0.N, _)
/-- The query weights are read whole. -/
theorem idx7 : ∀ t : Fin cfg0.N, win0_7.index t = ![0, 0] := (by decide +kernel : ∀ t : Fin grid0.N, _)
/-- The stream is written a block to a step. -/
theorem idx8 : ∀ t : Fin cfg0.N, win0_8.index t = ![t.val, 0] := (by decide +kernel : ∀ t : Fin grid0.N, _)
/-- The norm is written a block to a step. -/
theorem idx9 : ∀ t : Fin cfg0.N, win0_9.index t = ![t.val, 0] := (by decide +kernel : ∀ t : Fin grid0.N, _)
/-- The queries are written a block to a step. -/
theorem idx10 : ∀ t : Fin cfg0.N, win0_10.index t = ![t.val, 0] := (by decide +kernel : ∀ t : Fin grid0.N, _)

/-- The stream of the call's arguments. -/
abbrev stream' (c : Dev nD) : Fin 32768 → Fin 1024 → EReal :=
  stream (m ((c : Thread nD τ).loc main_arg0)) (m ((c : Thread nD τ).loc main_arg1)) (m ((c : Thread nD τ).loc main_arg2))
    (m ((c : Thread nD τ).loc main_arg3))

/-- A step's block of the projection's input. -/
theorem in0 (c : Dev nD) (t : Fin cfg0.N) (r : Fin 256) (e : Fin 1024) : iblk m c 0 t (ix2 r e)
    = m ((c : Thread nD τ).loc main_arg0) (ix3 (bat (row t r)) (tok (row t r)) e) := by
  unfold bat tok row
  blk_ext! [iblk, V, idx0 t]

/-- A step's block of the projection's weights. -/
theorem in1 (c : Dev nD) (t : Fin cfg0.N) (e : Fin 1024) (d : Fin 1024) : iblk m c 1 t (ix2 e d)
    = m ((c : Thread nD τ).loc main_arg1) (ix2 e d) := by
  blk_ext! [iblk, V, idx1 t]

/-- A step's block of the old stream. -/
theorem in2 (c : Dev nD) (t : Fin cfg0.N) (r : Fin 256) (d : Fin 1024) : iblk m c 2 t (ix2 r d)
    = m ((c : Thread nD τ).loc main_arg2) (ix2 ⟨(bat (row t r)).val * 4352 + (tok (row t r)).val, by omega⟩ d) := by
  unfold bat tok row
  blk_ext! [iblk, V, idx2 t]

/-- A step's gate. -/
theorem in3 (c : Dev nD) (t : Fin cfg0.N) (r : Fin 256) (d : Fin 1024) : iblk m c 3 t (ix4 0 0 0 d)
    = vec (m ((c : Thread nD τ).loc main_arg3)) 2 (row t r) d := by
  unfold vec bat row
  blk_ext! [iblk, V, idx3 t]

/-- A step's gain. -/
theorem in4 (c : Dev nD) (t : Fin cfg0.N) (d : Fin 1024) : iblk m c 4 t (ix2 0 d)
    = m ((c : Thread nD τ).loc main_arg4) (ix1 d) := by
  blk_ext! [iblk, V, idx4 t]

/-- A step's shift. -/
theorem in5 (c : Dev nD) (t : Fin cfg0.N) (r : Fin 256) (d : Fin 1024) : iblk m c 5 t (ix4 0 0 0 d)
    = vec (m ((c : Thread nD τ).loc main_arg3)) 3 (row t r) d := by
  unfold vec bat row
  blk_ext! [iblk, V, idx5 t]

/-- A step's scale. -/
theorem in6 (c : Dev nD) (t : Fin cfg0.N) (r : Fin 256) (d : Fin 1024) : iblk m c 6 t (ix4 0 0 0 d)
    = vec (m ((c : Thread nD τ).loc main_arg3)) 4 (row t r) d := by
  unfold vec bat row
  blk_ext! [iblk, V, idx6 t]

/-- A step's query weights. -/
theorem in7 (c : Dev nD) (t : Fin cfg0.N) (e : Fin 1024) (l : Fin 2048) : iblk m c 7 t (ix2 e l)
    = m ((c : Thread nD τ).loc main_arg5) (ix2 e l) := by
  blk_ext! [iblk, V, idx7 t]

/-- A step's block of the stream is the stream's. -/
theorem block_stream (c : Dev nD) (t : Fin cfg0.N) (r : Fin 256) (d : Fin 1024) :
    k0_pay3 (F := Ideal) (iblk m c 0 t) (iblk m c 2 t) (iblk m c 1 t) (iblk m c 3 t) (ix2 r d) = stream' m c (row t r) d := by
  rw [pay_stream, in2, in3 m c t r]
  unfold stream' stream
  refine congrArg _ (congrArg _ (Finset.sum_congr rfl fun e _ => ?_))
  rw [in0, in1]

/-- A step's block of the norm is the norm's. -/
theorem block_norm (c : Dev nD) (t : Fin cfg0.N) (r : Fin 256) (d : Fin 1024) :
    k0_pay1 (F := Ideal) (k0_pay4 (iblk m c 5 t)) (k0_pay5 (iblk m c 6 t))
      (k0_pay6 (iblk m c 0 t) (iblk m c 2 t) (iblk m c 1 t) (iblk m c 3 t) (iblk m c 4 t)) (Scalar.ofBits .f32 0x3F800000#32) (ix2 r d)
      = norm (m ((c : Thread nD τ).loc main_arg0)) (m ((c : Thread nD τ).loc main_arg1)) (m ((c : Thread nD τ).loc main_arg2))
        (m ((c : Thread nD τ).loc main_arg3)) (m ((c : Thread nD τ).loc main_arg4)) (row t r) d := by
  rw [pay_norm, pay_normed, in5 m c t r, in6 m c t r]
  unfold norm modulated
  rw [funext fun e => block_stream m c t r e, funext fun e => in4 m c t e]

/-- A step's block of the queries is the queries'. -/
theorem block_query (c : Dev nD) (t : Fin cfg0.N) (r : Fin 256) (l : Fin 2048) :
    k0_pay2 (F := Ideal) (k0_pay4 (iblk m c 5 t)) (k0_pay5 (iblk m c 6 t))
      (k0_pay6 (iblk m c 0 t) (iblk m c 2 t) (iblk m c 1 t) (iblk m c 3 t) (iblk m c 4 t)) (Scalar.ofBits .f32 0x3F800000#32)
      (iblk m c 7 t) (ix2 r l)
      = query (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (row t r) l := by
  rw [pay_query]
  unfold query
  refine Finset.sum_congr rfl fun e _ => ?_
  rw [block_norm, in7]

/-- The call's stream. -/
theorem final_stream (c : Dev nD) : (dats m 0 c).arrAt 8 cfg0.N
    = streamOut (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  blk_simp
  rw [after0_8]
  unfold_out out0_8
  frame_out
  obtain ⟨r, l, rfl⟩ : ∃ (r : Fin 256) (l : Fin 1024), y = ix2 r l := ⟨y 0, y 1, eq_ix2 y⟩
  rw [block_stream]
  refine congr (congrArg _ (Fin.ext ?_)) (Fin.ext ?_)
  · unfold row; blk_simp [idx8 t]
  · blk_simp [idx8 t]

/-- The call's norm. -/
theorem final_norm (c : Dev nD) : (dats m 0 c).arrAt 9 cfg0.N
    = normOut (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp
  rw [after0_9]
  unfold_out out0_9
  frame_out
  obtain ⟨r, l, rfl⟩ : ∃ (r : Fin 256) (l : Fin 1024), y = ix2 r l := ⟨y 0, y 1, eq_ix2 y⟩
  rw [block_norm]
  refine congr (congrArg _ (Fin.ext ?_)) (Fin.ext ?_)
  · unfold row; blk_simp [idx9 t]
  · blk_simp [idx9 t]

/-- The call's queries. -/
theorem final_query (c : Dev nD) : (dats m 0 c).arrAt 10 cfg0.N
    = queryOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t hf y => ?_
  blk_simp
  rw [after0_10]
  unfold_out out0_10
  frame_out
  obtain ⟨r, l, rfl⟩ : ∃ (r : Fin 256) (l : Fin 2048), y = ix2 r l := ⟨y 0, y 1, eq_ix2 y⟩
  rw [block_query]
  refine congr (congrArg _ (Fin.ext ?_)) (Fin.ext ?_)
  · unfold row; blk_simp [idx10 t]
  · blk_simp [idx10 t]

end Cert.Odd

end
-- ==== Proof.OddClaim.lean ====
/-
  The odd layer's output projection: the reference's frame, and that the call and the reference give one set of results.
-/
module

public import proofs.«01_k».proof.Defs
public import proofs.«01_k».proof.Proof.Odd
public import proofs.«01_k».proof.Proof.Host
public import proofs.«01_k».proof.Proof.Gen.Reference5Ideal.Run

@[expose] public section

noncomputable section

namespace Cert.Odd

open Idealize.ShloMosaic Idealize.SL.Sem Cert.Rows
open Cert.Reference5Ideal (S8x4096x1024 S1024x1024 S34816x1024 S16x6x1x1024 S1024 S1024x2048 S32768x1024 S32768x2048 S8x4352x1024)
open Cert.Reference5Ideal.Gen

section Ref

variable (mix : FVec Ideal S8x4096x1024 .f32) (w : FVec Ideal S1024x1024 .f32) (h : FVec Ideal S34816x1024 .f32)
  (mo : FVec Ideal S16x6x1x1024 .f32) (g : FVec Ideal S1024 .f32) (wq : FVec Ideal S1024x2048 .f32)

/-- The reference's stream after the residual, the gate given. -/
def refResid (v : FVec Ideal Cert.Reference5Ideal.S8x1x1024 .f32) : FVec Ideal S8x4096x1024 .f32 :=
  addf (extractStridedSlice S8x4096x1024 ![0, 0, 0] (shapeCast S8x4352x1024 h shapeCasts_S34816x1024_S8x4352x1024)
      slices_S8x4352x1024_S8x4096x1024_0_0_0)
    (mulf (broadcastInDim S8x4096x1024 ![0, 1, 2] bcast_S8x1x1024_S8x4096x1024_0_1_2 v)
      (Host.dotGeneral Cert.Reference5Ideal.dot_S8x4096x1024_S1024x1024_S8x4096x1024_2_0_01_1_n_n none mix w))

/-- The residual at an index. -/
theorem refResid_at (v : FVec Ideal Cert.Reference5Ideal.S8x1x1024 .f32) (b : Fin 8) (t : Fin 4096) (d : Fin 1024) :
    refResid mix w h v (ix3 b t d)
      = h (ix2 ⟨b.val * 4352 + t.val, by omega⟩ d) + v (ix3 b 0 d) * ∑ e, mix (ix3 b t e) * w (ix2 e d) := by
  pointwise [refResid]

/-- The reference's stream after the residual. -/
def refStream : FVec Ideal S8x4096x1024 .f32 :=
  refResid mix w h (hostVecL 2 slices_S16x6x1x1024_S8x1x1x1024_0_2_0_0 mo)

/-- The reference's modulated norm. -/
def refNorm : FVec Ideal S8x4096x1024 .f32 :=
  hostModL (hostNormL (refStream mix w h mo) g) (hostVecL 3 slices_S16x6x1x1024_S8x1x1x1024_0_3_0_0 mo)
    (hostVecL 4 slices_S16x6x1x1024_S8x1x1x1024_0_4_0_0 mo)

/-- A stream's rows, a row to a token. -/
def refRows (x : FVec Ideal S8x4096x1024 .f32) : FVec Ideal S32768x1024 .f32 :=
  shapeCast S32768x1024 x shapeCasts_S8x4096x1024_S32768x1024

/-- Rows times the query weights. -/
def refDot (x : FVec Ideal S32768x1024 .f32) : FVec Ideal S32768x2048 .f32 :=
  Host.dotGeneral Cert.Reference5Ideal.dot_S32768x1024_S1024x2048_S32768x2048_1_0_0_1_n_n none x wq

/-- A row of a stream. -/
theorem refRows_at (x : FVec Ideal S8x4096x1024 .f32) (r : Fin 32768) (d : Fin 1024) :
    refRows x (ix2 r d) = x (ix3 (bat r) (tok r) d) := by
  unfold bat tok
  pointwise [refRows]

/-- The reference's stream at an index. -/
theorem refStream_at (r : Fin 32768) (d : Fin 1024) :
    refStream mix w h mo (ix3 (bat r) (tok r) d) = stream mix w h mo r d := by
  unfold stream vec bat tok
  refine (refResid_at mix w h _ _ _ d).trans ?_
  rw [hostVecL_at]

/-- The reference's modulated norm at an index. -/
theorem refNorm_at (r : Fin 32768) (d : Fin 1024) :
    refNorm mix w h mo g (ix3 (bat r) (tok r) d) = norm mix w h mo g r d := by
  unfold refNorm
  rw [hostModL_at, hostNormL_at, hostVecL_at, hostVecL_at, funext fun e => refStream_at mix w h mo r e]
  rfl

/-- The reference's product at an index. -/
theorem refDot_at (x : FVec Ideal S32768x1024 .f32) (r : Fin 32768) (l : Fin 2048) :
    refDot wq x (ix2 r l) = ∑ e, x (ix2 r e) * wq (ix2 e l) := by
  pointwise [refDot]

/-- The reference's first result is the stream. -/
theorem refOut0 : refRows (refStream mix w h mo) = streamOut mix w h mo := by
  funext i
  obtain ⟨r, l, rfl⟩ : ∃ (r : Fin 32768) (l : Fin 1024), i = ix2 r l := ⟨i 0, i 1, eq_ix2 i⟩
  rw [refRows_at, refStream_at]
  rfl

/-- The reference's second result is the norm. -/
theorem refOut1 : truncf .bf16 (refRows (refNorm mix w h mo g)) bitsLt_bf16_f32 = normOut mix w h mo g := by
  funext i
  obtain ⟨r, l, rfl⟩ : ∃ (r : Fin 32768) (l : Fin 1024), i = ix2 r l := ⟨i 0, i 1, eq_ix2 i⟩
  show (refRows (refNorm mix w h mo g) (ix2 r l) : EReal) = norm mix w h mo g r l
  rw [refRows_at, refNorm_at]

/-- The reference's third result is the queries. -/
theorem refOut2 : truncf .bf16 (refDot wq (refRows (refNorm mix w h mo g))) bitsLt_bf16_f32
    = queryOut mix w h mo g wq := by
  funext i
  obtain ⟨r, l, rfl⟩ : ∃ (r : Fin 32768) (l : Fin 2048), i = ix2 r l := ⟨i 0, i 1, eq_ix2 i⟩
  show (refDot wq (refRows (refNorm mix w h mo g)) (ix2 r l) : EReal) = query mix w h mo g wq r l
  rw [refDot_at]
  unfold query
  refine Finset.sum_congr rfl fun e _ => ?_
  rw [refRows_at, refNorm_at]

end Ref

/-- The reference declares no semaphore, so nothing of its counters is left to say. -/
theorem no_counter {T : Prop} (s : SemLoc Cert.Reference5Ideal.sig) : T :=
  match s with
  | .reg s => s.elim0
  | .dma s => s.elim0

/-- The reference runs and leaves its arguments alone. -/
theorem reference_frame : Cert.quiescent_Reference5Ideal := fun m ρ _ =>
  (θ_run Cert.Reference5Ideal.defs _ _).mono (fun r h => ⟨fun c => (h c).2.2.2, funext fun s => no_counter s.2⟩)
    (Cert.Reference5Ideal.Value.run (F := Ideal) m ρ)

/-- The call's results are the reference's. -/
theorem algebraic : Cert.algebraic_Kernel5Ideal_Reference5Ideal := by
  intro m g m' g' _ hargs
  refine ⟨fun c => streamOut (m ((c.tc : Thread _ _).loc Cert.Kernel5Ideal.main_arg0)) (m ((c.tc : Thread _ _).loc Cert.Kernel5Ideal.main_arg1)) (m ((c.tc : Thread _ _).loc Cert.Kernel5Ideal.main_arg2)) (m ((c.tc : Thread _ _).loc Cert.Kernel5Ideal.main_arg3)),
    fun c => normOut (m ((c.tc : Thread _ _).loc Cert.Kernel5Ideal.main_arg0)) (m ((c.tc : Thread _ _).loc Cert.Kernel5Ideal.main_arg1)) (m ((c.tc : Thread _ _).loc Cert.Kernel5Ideal.main_arg2)) (m ((c.tc : Thread _ _).loc Cert.Kernel5Ideal.main_arg3)) (m ((c.tc : Thread _ _).loc Cert.Kernel5Ideal.main_arg4)),
    fun c => queryOut (m ((c.tc : Thread _ _).loc Cert.Kernel5Ideal.main_arg0)) (m ((c.tc : Thread _ _).loc Cert.Kernel5Ideal.main_arg1)) (m ((c.tc : Thread _ _).loc Cert.Kernel5Ideal.main_arg2)) (m ((c.tc : Thread _ _).loc Cert.Kernel5Ideal.main_arg3)) (m ((c.tc : Thread _ _).loc Cert.Kernel5Ideal.main_arg4)) (m ((c.tc : Thread _ _).loc Cert.Kernel5Ideal.main_arg5)), ?_, ?_⟩
  · exact (θ_run Cert.Kernel5Ideal.defs _ _).mono (fun r h c => ⟨(h c).1.trans (final_stream m c),
      (h c).2.1.trans (final_norm m c), (h c).2.2.1.trans (final_query m c), (h c).2.2.2⟩)
      (Cert.Kernel5Ideal.Value.run_blocks (F := Ideal) m g)
  · refine (θ_run Cert.Reference5Ideal.defs _ _).mono (fun r h c => ⟨(h c).1.trans ?_, (h c).2.1.trans ?_,
      (h c).2.2.1.trans ?_, (h c).2.2.2⟩) (Cert.Reference5Ideal.Value.run (F := Ideal) m' g') <;>
    obtain ⟨h0, h1, h2, h3, h4, h5⟩ := hargs c
    · have hv : streamOut (m' ((c.tc : Thread _ _).loc Cert.Reference5Ideal.main_arg0)) (m' ((c.tc : Thread _ _).loc Cert.Reference5Ideal.main_arg1)) (m' ((c.tc : Thread _ _).loc Cert.Reference5Ideal.main_arg2)) (m' ((c.tc : Thread _ _).loc Cert.Reference5Ideal.main_arg3))
          = streamOut (m ((c.tc : Thread _ _).loc Cert.Kernel5Ideal.main_arg0)) (m ((c.tc : Thread _ _).loc Cert.Kernel5Ideal.main_arg1)) (m ((c.tc : Thread _ _).loc Cert.Kernel5Ideal.main_arg2)) (m ((c.tc : Thread _ _).loc Cert.Kernel5Ideal.main_arg3)) := by
        rw [h0, h1, h2, h3]
      exact .trans (.trans rfl (refOut0 (m' ((c.tc : Thread _ _).loc Cert.Reference5Ideal.main_arg0)) (m' ((c.tc : Thread _ _).loc Cert.Reference5Ideal.main_arg1)) (m' ((c.tc : Thread _ _).loc Cert.Reference5Ideal.main_arg2)) (m' ((c.tc : Thread _ _).loc Cert.Reference5Ideal.main_arg3)))) hv
    · have hv : normOut (m' ((c.tc : Thread _ _).loc Cert.Reference5Ideal.main_arg0)) (m' ((c.tc : Thread _ _).loc Cert.Reference5Ideal.main_arg1)) (m' ((c.tc : Thread _ _).loc Cert.Reference5Ideal.main_arg2)) (m' ((c.tc : Thread _ _).loc Cert.Reference5Ideal.main_arg3)) (m' ((c.tc : Thread _ _).loc Cert.Reference5Ideal.main_arg4))
          = normOut (m ((c.tc : Thread _ _).loc Cert.Kernel5Ideal.main_arg0)) (m ((c.tc : Thread _ _).loc Cert.Kernel5Ideal.main_arg1)) (m ((c.tc : Thread _ _).loc Cert.Kernel5Ideal.main_arg2)) (m ((c.tc : Thread _ _).loc Cert.Kernel5Ideal.main_arg3)) (m ((c.tc : Thread _ _).loc Cert.Kernel5Ideal.main_arg4)) := by
        rw [h0, h1, h2, h3, h4]
      exact .trans (.trans rfl (refOut1 (m' ((c.tc : Thread _ _).loc Cert.Reference5Ideal.main_arg0)) (m' ((c.tc : Thread _ _).loc Cert.Reference5Ideal.main_arg1)) (m' ((c.tc : Thread _ _).loc Cert.Reference5Ideal.main_arg2)) (m' ((c.tc : Thread _ _).loc Cert.Reference5Ideal.main_arg3)) (m' ((c.tc : Thread _ _).loc Cert.Reference5Ideal.main_arg4)))) hv
    · have hv : queryOut (m' ((c.tc : Thread _ _).loc Cert.Reference5Ideal.main_arg0)) (m' ((c.tc : Thread _ _).loc Cert.Reference5Ideal.main_arg1)) (m' ((c.tc : Thread _ _).loc Cert.Reference5Ideal.main_arg2)) (m' ((c.tc : Thread _ _).loc Cert.Reference5Ideal.main_arg3)) (m' ((c.tc : Thread _ _).loc Cert.Reference5Ideal.main_arg4)) (m' ((c.tc : Thread _ _).loc Cert.Reference5Ideal.main_arg5))
          = queryOut (m ((c.tc : Thread _ _).loc Cert.Kernel5Ideal.main_arg0)) (m ((c.tc : Thread _ _).loc Cert.Kernel5Ideal.main_arg1)) (m ((c.tc : Thread _ _).loc Cert.Kernel5Ideal.main_arg2)) (m ((c.tc : Thread _ _).loc Cert.Kernel5Ideal.main_arg3)) (m ((c.tc : Thread _ _).loc Cert.Kernel5Ideal.main_arg4)) (m ((c.tc : Thread _ _).loc Cert.Kernel5Ideal.main_arg5)) := by
        rw [h0, h1, h2, h3, h4, h5]
      exact .trans (.trans rfl (refOut2 (m' ((c.tc : Thread _ _).loc Cert.Reference5Ideal.main_arg0)) (m' ((c.tc : Thread _ _).loc Cert.Reference5Ideal.main_arg1)) (m' ((c.tc : Thread _ _).loc Cert.Reference5Ideal.main_arg2)) (m' ((c.tc : Thread _ _).loc Cert.Reference5Ideal.main_arg3)) (m' ((c.tc : Thread _ _).loc Cert.Reference5Ideal.main_arg4)) (m' ((c.tc : Thread _ _).loc Cert.Reference5Ideal.main_arg5)))) hv

end Cert.Odd

end
-- ==== Proof.Last.lean ====
/-
  The last call: the odd layer's residual after its PEER and the final norm, a row to a token.
-/
module

public import proofs.«01_k».proof.Proof.Rows
public import proofs.«01_k».proof.Proof.Gen.Kernel6Ideal.Value
public import Idealize.ShloMosaic.Lib.Pointwise
public import Idealize.ShloMosaic.Lib.Pipeline.ValueKit.Point
public import Idealize.ShloMosaic.Lib.Pipeline.ValueKit.Acc

@[expose] public section

noncomputable section

namespace Cert.Last
open Idealize.ShloMosaic Idealize.ShloMosaic.TcCoe Idealize.SL.Sem Cert.Kernel6Ideal Cert.Kernel6Ideal.Gen
open Idealize.ShloMosaic.Pipeline (Dat)
open Cert.Rows

/-- The result: the norm of each row of the stream plus the gated PEER output, the gate its batch's row 5. -/
def spec (h d : FVec Ideal S32768x1024 .f32) (mo : FVec Ideal S16x6x1x1024 .f32) (g : FVec Ideal S1024 .f32) : FVec Ideal S32768x1024 .f32 := fun i =>
  normed (fun e => h (ix2 (i 0) e) + mo (ix4 (⟨(i 0).val / 4096, by have : (i 0).val < 32768 := (i 0).isLt; omega⟩ : Fin 16) (5 : Fin 6) (0 : Fin 1) e) * d (ix2 (i 0) e)) (fun e => g (ix1 e)) (i 1)

variable (m : (ℓ : Loc nD τ sig) → Buf (Elt Ideal) ℓ)
/-- Which block of the stream each step reads. -/
theorem idx0 : ∀ t : Fin cfg0.N, win0_0.index t = ![(grid0.coords t 0).val, 0] :=
  (by decide +kernel : ∀ t : Fin grid0.N, _)
/-- Which block of the PEER output each step reads. -/
theorem idx1 : ∀ t : Fin cfg0.N, win0_1.index t = ![(grid0.coords t 0).val, 0] :=
  (by decide +kernel : ∀ t : Fin grid0.N, _)
/-- Which block of the result each step writes. -/
theorem idx4 : ∀ t : Fin cfg0.N, win0_4.index t = ![(grid0.coords t 0).val, 0] :=
  (by decide +kernel : ∀ t : Fin grid0.N, _)
/-- Which gate each step reads. -/
theorem idx2 : ∀ t : Fin cfg0.N, win0_2.index t = ![(grid0.coords t 0).val / 16, 5, 0, 0] :=
  (by decide +kernel : ∀ t : Fin grid0.N, _)
/-- Each step reads the whole gain. -/
theorem idx3 : ∀ t : Fin cfg0.N, win0_3.index t = ![0, 0] :=
  (by decide +kernel : ∀ t : Fin grid0.N, _)

/-- A step's block at an index. -/
theorem pay (h : FVec Ideal S256x1024 .f32) (gate : FVec Ideal S1x1x1x1024 .f32) (d : FVec Ideal S256x1024 .f32) (g : FVec Ideal S1x1024 .f32) (r : Fin 256) (l : Fin 1024) :
   k0_pay1 (F := Ideal) h gate d g (ix2 r l) = normed (fun e => h (ix2 r e) + gate (ix4 0 0 0 e) * d (ix2 r e)) (fun e => g (ix2 0 e)) l := by
  unfold normed
  pointwise [k0_pay1]

/-- The call's result. -/
theorem final (c : Dev nD) : (dats m 0 c).arrAt 4 cfg0.N
    = spec (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  obtain ⟨r, l, rfl⟩ : ∃ (r : Fin 256) (l : Fin 1024), y = ix2 r l := ⟨y 0, y 1, eq_ix2 y⟩
  rw [pay]
  unfold spec
  refine congr (congr (congrArg normed (funext fun e => congr (congrArg HAdd.hAdd ?_) (congr (congrArg HMul.hMul ?_) ?_))) (funext fun e => ?_)) ?_
  · blk_ext! [iblk, V, idx0 t, idx4 t]
  · blk_ext! [iblk, V, idx2 t, idx4 t]
  · blk_ext! [iblk, V, idx1 t, idx4 t]
  · blk_ext! [iblk, V, idx3 t]
  · refine Fin.ext ?_; blk_simp [idx4 t]

end Cert.Last
end
-- ==== Proof.LastClaim.lean ====
/-
  The last call's claims: the reference's frame, and that the call and the reference give one result.
-/
module

public import proofs.«01_k».proof.Defs
public import proofs.«01_k».proof.Proof.Last
public import proofs.«01_k».proof.Proof.Host
public import proofs.«01_k».proof.Proof.Gen.Reference6Ideal.Run

@[expose] public section

noncomputable section

namespace Cert.Last

open Idealize.ShloMosaic Idealize.SL.Sem Cert.Rows
open Cert.Reference6Ideal (S32768x1024 S16x6x1x1024 S1024 S8x4096x1024)
open Cert.Reference6Ideal.Gen

/-- The reference's stream after the residual. -/
def refStream (h d : FVec Ideal S32768x1024 .f32) (mo : FVec Ideal S16x6x1x1024 .f32) : FVec Ideal S8x4096x1024 .f32 :=
  addf (shapeCast S8x4096x1024 h shapeCasts_S32768x1024_S8x4096x1024)
    (mulf (broadcastInDim S8x4096x1024 ![0, 1, 2] bcast_S8x1x1024_S8x4096x1024_0_1_2
      (hostVecL 5 slices_S16x6x1x1024_S8x1x1x1024_0_5_0_0 mo))
      (shapeCast S8x4096x1024 d shapeCasts_S32768x1024_S8x4096x1024))

/-- The reference's result. -/
def refOut (h d : FVec Ideal S32768x1024 .f32) (mo : FVec Ideal S16x6x1x1024 .f32) (g : FVec Ideal S1024 .f32) :
    FVec Ideal S32768x1024 .f32 :=
  shapeCast S32768x1024 (hostNormL (refStream h d mo) g) shapeCasts_S8x4096x1024_S32768x1024

/-- The reference's result is the mathematics. -/
theorem refOut_eq (h d : FVec Ideal S32768x1024 .f32) (mo : FVec Ideal S16x6x1x1024 .f32) (g : FVec Ideal S1024 .f32) :
    refOut h d mo g = spec h d mo g := by
  funext i
  obtain ⟨r, l, rfl⟩ : ∃ (r : Fin 32768) (l : Fin 1024), i = ix2 r l := ⟨i 0, i 1, eq_ix2 i⟩
  pointwise [refOut]
  rw [hostNormL_at]
  unfold spec
  refine congrArg (fun f => normed f _ _) (funext fun e => ?_)
  pointwise [refStream]
  rw [hostVecL_at]

/-- The reference declares no semaphore, so nothing of its counters is left to say. -/
theorem no_counter {T : Prop} (s : SemLoc Cert.Reference6Ideal.sig) : T :=
  match s with
  | .reg s => s.elim0
  | .dma s => s.elim0

/-- The reference runs and leaves its arguments alone. -/
theorem reference_frame : Cert.quiescent_Reference6Ideal := fun m ρ _ =>
  (θ_run Cert.Reference6Ideal.defs _ _).mono (fun r h => ⟨fun c => (h c).2, funext fun s => no_counter s.2⟩)
    (Cert.Reference6Ideal.Value.run (F := Ideal) m ρ)

/-- The call's result is the reference's. -/
theorem algebraic : Cert.algebraic_Kernel6Ideal_Reference6Ideal := by
  intro m g m' g' _ hargs
  refine ⟨fun c => spec (m ((c.tc : Thread _ _).loc Cert.Kernel6Ideal.main_arg0)) (m ((c.tc : Thread _ _).loc Cert.Kernel6Ideal.main_arg1))
    (m ((c.tc : Thread _ _).loc Cert.Kernel6Ideal.main_arg2)) (m ((c.tc : Thread _ _).loc Cert.Kernel6Ideal.main_arg3)), ?_, ?_⟩
  · exact (θ_run Cert.Kernel6Ideal.defs _ _).mono (fun r h c => ⟨(h c).1.trans (final m c), (h c).2⟩)
      (Cert.Kernel6Ideal.Value.run_blocks (F := Ideal) m g)
  · refine (θ_run Cert.Reference6Ideal.defs _ _).mono (fun r h c => ⟨(h c).1.trans ?_, (h c).2⟩)
      (Cert.Reference6Ideal.Value.run (F := Ideal) m' g')
    obtain ⟨h0, h1, h2, h3⟩ := hargs c
    have hv : refOut (m' ((c.tc : Thread _ _).loc Cert.Reference6Ideal.main_arg0)) (m' ((c.tc : Thread _ _).loc Cert.Reference6Ideal.main_arg1))
        (m' ((c.tc : Thread _ _).loc Cert.Reference6Ideal.main_arg2)) (m' ((c.tc : Thread _ _).loc Cert.Reference6Ideal.main_arg3))
        = spec (m ((c.tc : Thread _ _).loc Cert.Kernel6Ideal.main_arg0)) (m ((c.tc : Thread _ _).loc Cert.Kernel6Ideal.main_arg1))
          (m ((c.tc : Thread _ _).loc Cert.Kernel6Ideal.main_arg2)) (m ((c.tc : Thread _ _).loc Cert.Kernel6Ideal.main_arg3)) := by
      rw [h0, h1, h2, h3]
      exact refOut_eq _ _ _ _
    exact .trans rfl hv

end Cert.Last

end
-- ==== Proof.Turn.lean ====
/-
  The mathematics of the even layers' preparation: a row's norm of any width, a head's lanes, and the rotation of its
  rotary lanes, which the call does with two shifted copies of all the lanes and three tables.
-/
module

public import proofs.«01_k».proof.Kernel7Ideal
public import Idealize.ShloMosaic.Lib.Pointwise

@[expose] public section

noncomputable section

namespace Cert.Prep

open Idealize.ShloMosaic Cert.Kernel7Ideal

/-- A row over its root mean square, times a gain; `c` is the word of the row's width. -/
def normedBy {n : ℕ} (c : BitVec 32) (x g : Fin n → EReal) (d : Fin n) : EReal :=
  x d * Ideal.rsqrt (Ideal.div (∑ e, x e * x e) (Ideal.ofBits .f32 c) + Ideal.ofBits .f32 0x358637BD#32) * g d

/-- The rotation of a token's 32 rotary lanes: the latents' turn by their place's angles, the context's do not. -/
def turn (cos sin : FVec Ideal S4096x16 .f32) (n : ℕ) (f : Fin 32 → EReal) (j : Fin 32) : EReal :=
  if hn : n < 4096 then
    if hj : j.val < 16 then f j * cos (ix2 ⟨n, hn⟩ ⟨j.val, hj⟩) - f ⟨j.val + 16, by omega⟩ * sin (ix2 ⟨n, hn⟩ ⟨j.val, hj⟩)
    else f ⟨j.val - 16, by omega⟩ * sin (ix2 ⟨n, hn⟩ ⟨j.val - 16, by omega⟩) + f j * cos (ix2 ⟨n, hn⟩ ⟨j.val - 16, by omega⟩)
  else f j

/-- A head's 128 lanes: 64 of content, 32 rotary, and zeros. -/
def lanes (a : Fin 64 → EReal) (b : Fin 32 → EReal) (j : Fin 128) : EReal :=
  if h : j.val < 64 then a ⟨j.val, h⟩ else if h' : j.val - 64 < 32 then b ⟨j.val - 64, h'⟩ else 0

/-- The table that multiplies a lane itself. -/
def stay (cos : FVec Ideal S4096x16 .f32) (n : ℕ) (j : Fin 128) : EReal :=
  if hn : n < 4096 then
    if j.val < 64 then 1
    else if h : j.val - 64 < 16 then cos (ix2 ⟨n, hn⟩ ⟨j.val - 64, h⟩)
    else if h : j.val - 64 - 16 < 16 then cos (ix2 ⟨n, hn⟩ ⟨j.val - 64 - 16, h⟩)
    else 1
  else 1

/-- The table that multiplies the lane sixteen above. -/
def above (sin : FVec Ideal S4096x16 .f32) (n : ℕ) (j : Fin 128) : EReal :=
  if hn : n < 4096 then
    if h : 64 ≤ j.val ∧ j.val < 80 then - sin (ix2 ⟨n, hn⟩ ⟨j.val - 64, by omega⟩) else 0
  else 0

/-- The table that multiplies the lane sixteen below. -/
def below (sin : FVec Ideal S4096x16 .f32) (n : ℕ) (j : Fin 128) : EReal :=
  if hn : n < 4096 then
    if h : 80 ≤ j.val ∧ j.val < 96 then sin (ix2 ⟨n, hn⟩ ⟨j.val - 80, by omega⟩) else 0
  else 0

/-- The three tables rotate a head's rotary lanes and leave its other lanes, if those beyond are zero. -/
theorem rotate (cos sin : FVec Ideal S4096x16 .f32) (n : ℕ) (y : Fin 128 → EReal) (u d : EReal) (j : Fin 128)
    (hz : ∀ i : Fin 128, 96 ≤ i.val → y i = 0)
    (hu : ∀ h : j.val < 80, 64 ≤ j.val → u = y ⟨j.val + 16, by omega⟩)
    (hd : 80 ≤ j.val → j.val < 96 → d = y ⟨j.val - 16, by omega⟩) :
    y j * stay cos n j + u * above sin n j + d * below sin n j
      = lanes (fun i => y ⟨i.val, by omega⟩) (turn cos sin n fun i => y ⟨64 + i.val, by omega⟩) j := by
  by_cases h0 : j.val < 64
  · have hs : stay cos n j = 1 := by unfold stay; split <;> simp [h0]
    have ha : above sin n j = 0 := by
      unfold above; split
      · rw [dif_neg (by omega)]
      · rfl
    have hb : below sin n j = 0 := by
      unfold below; split
      · rw [dif_neg (by omega)]
      · rfl
    rw [hs, ha, hb, mul_one, mul_zero, mul_zero, add_zero, add_zero]
    unfold lanes
    rw [dif_pos h0]
  by_cases h3 : 96 ≤ j.val
  · have ha : above sin n j = 0 := by
      unfold above; split
      · rw [dif_neg (by omega)]
      · rfl
    have hb : below sin n j = 0 := by
      unfold below; split
      · rw [dif_neg (by omega)]
      · rfl
    rw [hz j h3, ha, hb, zero_mul, mul_zero, mul_zero, add_zero, add_zero]
    unfold lanes
    rw [dif_neg h0, dif_neg (by omega)]
  have hy : (⟨64 + (j.val - 64), by omega⟩ : Fin 128) = j := Fin.ext (by show 64 + (j.val - 64) = j.val; omega)
  unfold lanes
  rw [dif_neg h0, dif_pos (by omega)]
  unfold turn
  by_cases hn : n < 4096
  · rw [dif_pos hn]
    by_cases h1 : j.val < 80
    · have hs : stay cos n j = cos (ix2 ⟨n, hn⟩ ⟨j.val - 64, by omega⟩) := by
        unfold stay; rw [dif_pos hn, if_neg h0, dif_pos (show j.val - 64 < 16 by omega)]
      have ha : above sin n j = - sin (ix2 ⟨n, hn⟩ ⟨j.val - 64, by omega⟩) := by
        unfold above; rw [dif_pos hn, dif_pos ⟨by omega, h1⟩]
      have hb : below sin n j = 0 := by unfold below; rw [dif_pos hn, dif_neg (by omega)]
      rw [hs, ha, hb, mul_zero, add_zero, dif_pos (show j.val - 64 < 16 by omega), hu h1 (by omega)]
      dsimp only
      rw [hy, mul_neg, sub_eq_add_neg]
      refine congrArg (fun z => _ + -(y z * _)) (Fin.ext ?_)
      show j.val + 16 = 64 + (j.val - 64 + 16)
      omega
    · have hs : stay cos n j = cos (ix2 ⟨n, hn⟩ ⟨j.val - 64 - 16, by omega⟩) := by
        unfold stay
        rw [dif_pos hn, if_neg h0, dif_neg (show ¬ j.val - 64 < 16 by omega), dif_pos (show j.val - 64 - 16 < 16 by omega)]
      have ha : above sin n j = 0 := by unfold above; rw [dif_pos hn, dif_neg (by omega)]
      have hb : below sin n j = sin (ix2 ⟨n, hn⟩ ⟨j.val - 64 - 16, by omega⟩) := by
        unfold below; rw [dif_pos hn, dif_pos ⟨by omega, by omega⟩]
        exact congrArg (fun z => sin (ix2 _ z)) (Fin.ext (by show j.val - 80 = j.val - 64 - 16; omega))
      rw [hs, ha, hb, mul_zero, add_zero, dif_neg (show ¬ j.val - 64 < 16 by omega), hd (by omega) (by omega), add_comm]
      dsimp only
      rw [hy]
      refine congrArg (fun z => y z * _ + _) (Fin.ext ?_)
      show j.val - 16 = 64 + (j.val - 64 - 16)
      omega
  · have hs : stay cos n j = 1 := by unfold stay; rw [dif_neg hn]
    have ha : above sin n j = 0 := by unfold above; rw [dif_neg hn]
    have hb : below sin n j = 0 := by unfold below; rw [dif_neg hn]
    rw [hs, ha, hb, mul_one, mul_zero, mul_zero, add_zero, add_zero, dif_neg hn]
    dsimp only
    rw [hy]

/-- Lanes whose content is zero, added to lanes of content alone. -/
theorem lanes_add (a : Fin 64 → EReal) (b : Fin 32 → EReal) (j : Fin 128) (x : EReal)
    (hx : x = if h : j.val < 64 then a ⟨j.val, h⟩ else 0) : x + lanes (fun _ => 0) b j = lanes a b j := by
  subst hx
  unfold lanes
  split
  · rw [add_zero]
  · rw [zero_add]

end Cert.Prep

end
-- ==== Proof.PrepBody.lean ====
/-
  What a step of the even layers' preparation computes, read at an index of its blocks.
-/
module

public import proofs.«01_k».proof.Proof.Turn
public import proofs.«01_k».proof.Proof.Gen.Kernel7Ideal.Skeleton

@[expose] public section

noncomputable section

namespace Cert.Prep

open Idealize.ShloMosaic Idealize.ShloMosaic.TcCoe Idealize.SL.Sem Cert.Kernel7Ideal Cert.Kernel7Ideal.Gen

/-- A block of 128 lanes, once for each of the eight heads. -/
def eight (q : FVec Ideal S256x128 .f32) : FVec Ideal S256x1024 .f32 :=
  concatenate S256x1024 1 [⟨S256x128, q⟩, ⟨S256x128, q⟩, ⟨S256x128, q⟩, ⟨S256x128, q⟩, ⟨S256x128, q⟩, ⟨S256x128, q⟩, ⟨S256x128, q⟩, ⟨S256x128, q⟩]
    concatenates_S256x128_S256x128_S256x128_S256x128_S256x128_S256x128_S256x128_S256x128_S256x1024_d1

/-- The repeated block at an index. -/
theorem eight_at (q : FVec Ideal S256x128 .f32) (r : Fin 256) (l : Fin 1024) :
    eight q (ix2 r l) = q (ix2 r ⟨l.val % 128, by omega⟩) := by
  pointwise [eight]
  repeat' split
  all_goals exact congrArg (fun z => q (ix2 r z)) (Fin.ext (by show _ = l.val % 128; dsimp only; omega))

/-- The queries of a block before the rotation. -/
def dotQ (x : FVec Ideal S256x256 .f32) (g : FVec Ideal S1x256 .f32) (w : FVec Ideal S256x1024 .bf16) : FVec Ideal S256x1024 .f32 :=
  matmul dot_S256x256_S256x1024_S256x1024_1_0_0_1_n_n none
    (truncf .bf16 (mulf (mulf x (broadcastTo S256x256 (rsqrt (addf (divf (shapeCast S256x1
      (multiReduction .add [1] S256 (mulf x x) 0x00000000#32 reduces_S256x256_S256 (.inl rfl) rfl) shapeCasts_S256_S256x1)
      (broadcast S256x1 (Scalar.ofBits .f32 0x43800000#32))) (broadcast S256x1 (Scalar.ofBits .f32 0x358637BD#32))))
      broadcasts_S256x1_S256x256)) (broadcastTo S256x256 (shapeCast S1x256 g shapeCasts_S1x256_S1x256) broadcasts_S1x256_S256x256))
      bitsLt_bf16_f32)
    (shapeCast S256x1024 w shapeCasts_S256x1024_S256x1024) (constant S256x1024 .f32 0x00000000#32)

/-- A block of queries rotated by tables a lane wide each, and scaled. -/
def rotQ (x a b c : FVec Ideal S256x1024 .f32) : FVec Ideal S256x1024 .bf16 :=
  truncf .bf16 (mulf (addf (addf (mulf x a) (mulf (dynamicRotate 1 1008#32 none x rotates_S256x1024_d1) b))
    (mulf (dynamicRotate 1 16#32 none x rotates_S256x1024_d1) c)) (broadcast S256x1024 (Scalar.ofBits .f32 0x3DD105EC#32))) bitsLt_bf16_f32

/-- The step's queries in those words. -/
theorem pay_q_eq (a b c : FVec Ideal S256x128 .f32) (x : FVec Ideal S256x256 .f32) (g : FVec Ideal S1x256 .f32) (w : FVec Ideal S256x1024 .bf16) :
    k0_pay5 (F := Ideal) a b c x g w = rotQ (dotQ x g w) (eight (k0_pay2 a)) (eight (k0_pay3 b)) (eight (k0_pay4 c)) := rfl

/-- An unrotated query lane. -/
theorem dotQ_at (x : FVec Ideal S256x256 .f32) (g : FVec Ideal S1x256 .f32) (w : FVec Ideal S256x1024 .bf16) (r : Fin 256) (l : Fin 1024) :
    dotQ x g w (ix2 r l) = ∑ e, normedBy 0x43800000#32 (fun e => x (ix2 r e)) (fun e => g (ix2 0 e)) e * w (ix2 e l) := by
  pointwise [dotQ]
  rfl

/-- A rotated query lane. -/
theorem rotQ_at (x a b c : FVec Ideal S256x1024 .f32) (r : Fin 256) (l : Fin 1024) :
    rotQ x a b c (ix2 r l) = (x (ix2 r l) * a (ix2 r l) + x (ix2 r ⟨(l.val + 1024 - 1008) % 1024, by omega⟩) * b (ix2 r l)
      + x (ix2 r ⟨(l.val + 1024 - 16) % 1024, by omega⟩) * c (ix2 r l)) * Ideal.ofBits .f32 0x3DD105EC#32 := by
  pointwise [rotQ]

/-- A block's query lane. -/
theorem pay_q (a b c : FVec Ideal S256x128 .f32) (x : FVec Ideal S256x256 .f32) (g : FVec Ideal S1x256 .f32) (w : FVec Ideal S256x1024 .bf16)
    (r : Fin 256) (l : Fin 1024) : k0_pay5 (F := Ideal) a b c x g w (ix2 r l)
      = (dotQ x g w (ix2 r l) * a (ix2 r ⟨l.val % 128, by omega⟩)
        + dotQ x g w (ix2 r ⟨(l.val + 1024 - 1008) % 1024, by omega⟩) * b (ix2 r ⟨l.val % 128, by omega⟩)
        + dotQ x g w (ix2 r ⟨(l.val + 1024 - 16) % 1024, by omega⟩) * c (ix2 r ⟨l.val % 128, by omega⟩)) * Ideal.ofBits .f32 0x3DD105EC#32 := by
  rw [pay_q_eq, rotQ_at, eight_at, eight_at, eight_at]
  pointwise [k0_pay2, k0_pay3, k0_pay4]

/-- The normed compression the keys and the values share. -/
theorem pay_n (x : FVec Ideal S256x128 .f32) (g : FVec Ideal S1x128 .f32) (r : Fin 256) (e : Fin 128) :
    k0_pay6 (F := Ideal) x g (ix2 r e) = normedBy 0x43000000#32 (fun e => x (ix2 r e)) (fun e => g (ix2 0 e)) e := by
  pointwise [k0_pay6]
  rfl

/-- A block's values. -/
theorem pay_v (x : FVec Ideal S256x128 .f32) (g : FVec Ideal S1x128 .f32) (w : FVec Ideal S128x512 .bf16) (r : Fin 256) (l : Fin 512) :
    k0_pay8 (F := Ideal) x g w (ix2 r l)
      = ∑ e, normedBy 0x43000000#32 (fun e => x (ix2 r e)) (fun e => g (ix2 0 e)) e * w (ix2 e l) := by
  rw [← Finset.sum_congr rfl fun e _ => congrArg (· * w (ix2 e l)) (pay_n x g r e)]
  unfold k0_pay8
  generalize (k0_pay6 (F := Ideal) x g) = z
  pointwise []

/-- A rotary key block rotated by the tables. -/
def rotK (x a b c : FVec Ideal S256x128 .f32) : FVec Ideal S256x128 .f32 :=
  addf (addf (mulf x a) (mulf (dynamicRotate 1 112#32 none x rotates_S256x128_d1) b))
    (mulf (dynamicRotate 1 16#32 none x rotates_S256x128_d1) c)

/-- A rotated key lane. -/
theorem rotK_at (x a b c : FVec Ideal S256x128 .f32) (r : Fin 256) (j : Fin 128) :
    rotK x a b c (ix2 r j) = x (ix2 r j) * a (ix2 r j) + x (ix2 r ⟨(j.val + 128 - 112) % 128, by omega⟩) * b (ix2 r j)
      + x (ix2 r ⟨(j.val + 128 - 16) % 128, by omega⟩) * c (ix2 r j) := by
  pointwise [rotK]

/-- The content of the keys and the heads' shared rotary lanes. -/
def sumK (n : FVec Ideal S256x128 .bf16) (w : FVec Ideal S128x1024 .bf16) (y : FVec Ideal S256x1024 .f32) : FVec Ideal S256x1024 .bf16 :=
  truncf .bf16 (addf (matmul dot_S256x128_S128x1024_S256x1024_1_0_0_1_n_n none n (shapeCast S128x1024 w shapeCasts_S128x1024_S128x1024)
    (constant S256x1024 .f32 0x00000000#32)) y) bitsLt_bf16_f32

/-- Their sum at an index. -/
theorem sumK_at (n : FVec Ideal S256x128 .bf16) (w : FVec Ideal S128x1024 .bf16) (y : FVec Ideal S256x1024 .f32) (r : Fin 256) (l : Fin 1024) :
    sumK n w y (ix2 r l) = ∑ e, n (ix2 r e) * w (ix2 e l) + y (ix2 r l) := by
  pointwise [sumK]

/-- The step's keys in those words. -/
theorem pay_k_eq (a b c x : FVec Ideal S256x128 .f32) (g : FVec Ideal S1x128 .f32) (w : FVec Ideal S128x1024 .bf16) (y : FVec Ideal S256x128 .f32) :
    k0_pay7 (F := Ideal) (k0_pay2 a) (k0_pay3 b) (k0_pay4 c) x g w y
      = sumK (k0_pay6 (F := Ideal) x g) w (eight (rotK y (k0_pay2 a) (k0_pay3 b) (k0_pay4 c))) := rfl

/-- A block's key lane. -/
theorem pay_k (a b c x : FVec Ideal S256x128 .f32) (g : FVec Ideal S1x128 .f32) (w : FVec Ideal S128x1024 .bf16) (y : FVec Ideal S256x128 .f32)
    (r : Fin 256) (l : Fin 1024) : k0_pay7 (F := Ideal) (k0_pay2 a) (k0_pay3 b) (k0_pay4 c) x g w y (ix2 r l)
      = ∑ e, normedBy 0x43000000#32 (fun e => x (ix2 r e)) (fun e => g (ix2 0 e)) e * w (ix2 e l)
        + (y (ix2 r ⟨l.val % 128, by omega⟩) * a (ix2 r ⟨l.val % 128, by omega⟩)
          + y (ix2 r ⟨(l.val % 128 + 128 - 112) % 128, by omega⟩) * b (ix2 r ⟨l.val % 128, by omega⟩)
          + y (ix2 r ⟨(l.val % 128 + 128 - 16) % 128, by omega⟩) * c (ix2 r ⟨l.val % 128, by omega⟩)) := by
  rw [pay_k_eq, sumK_at, eight_at, rotK_at, Finset.sum_congr rfl fun e _ => congrArg (· * w (ix2 e l)) (pay_n x g r e)]
  pointwise [k0_pay2, k0_pay3, k0_pay4]

/-- A block's short convolution, its neighbours' rows taken from the blocks around it. -/
theorem pay_c (b z : FVec Ideal S256x512 .f32) (v0 v1 v2 : FVec Ideal S1x512 .f32) (w : FVec Ideal S3x512 .f32) (r : Fin 256) (l : Fin 512) :
    k0_pay1 (F := Ideal) b z v0 v1 v2 w (ix2 r l)
      = b (ix2 r l) * (w (ix2 0 l) * (if r.val = 0 then v0 (ix2 0 l) else z (ix2 ⟨(r.val + 256 - 1) % 256, by omega⟩ l))
        + w (ix2 1 l) * z (ix2 r l)
        + w (ix2 2 l) * (if r.val = 255 then v1 (ix2 0 l) * v2 (ix2 0 l) else z (ix2 ⟨(r.val + 256 - 255) % 256, by omega⟩ l))) := by
  have h0 : ∀ r : Fin 256, IntOp.cmpi CmpIPredicate.eq (BitVec.ofNat 32 r.val) 0#32 = if r.val = 0 then 1#1 else 0#1 := by decide +kernel
  have h1 : ∀ r : Fin 256, IntOp.cmpi CmpIPredicate.eq (BitVec.ofNat 32 r.val) 255#32 = if r.val = 255 then 1#1 else 0#1 := by decide +kernel
  pointwise [k0_pay1]
  rw [h0 r, h1 r]
  have hs : ∀ (p : Prop) [Decidable p] (x y : EReal), Scalar.select (if p then 1#1 else 0#1) x y = if p then x else y := by
    intro p _ x y
    split <;> rfl
  rw [hs, hs]

end Cert.Prep

end
-- ==== Proof.PrepHost.lean ====
/-
  The operands of the even layers' preparation as the call takes them, and the blocks its steps read.
-/
module

public import proofs.«01_k».proof.Proof.PrepBody
public import proofs.«01_k».proof.Proof.Streams
public import proofs.«01_k».proof.Proof.Gen.Kernel7Ideal.Value
public import Idealize.ShloMosaic.Lib.StableHlo.ReadAt
public import Idealize.ShloMosaic.Lib.Pipeline.ValueKit.Point
public import Idealize.ShloMosaic.Lib.Pipeline.ValueKit.Acc

@[expose] public section

noncomputable section

namespace Cert.Prep

open Idealize.ShloMosaic Idealize.ShloMosaic.TcCoe Idealize.SL.Sem Cert.Kernel7Ideal Cert.Kernel7Ideal.Gen
open Cert.Rows (row)

/-- The word of the host's zero denotes zero. -/
theorem zero_word : Ideal.ofBits .f32 0x00000000#32 = 0 := by simp [Ideal.ofBits, Ideal.ieee]

/-- The host's integer zero as a number. -/
theorem int_zero : (FloatOps.sitofp .f32 (0#32) : Ideal .f32) = (0 : EReal) := (Ideal.scalar_sitofp_def (φ := .f32) (0#32)).trans (by simp)

/-- The weights of a head's 96 columns, filled up with any zero. -/
theorem fill96 (w : FVec Ideal S256x768 .f32) (z : EReal) (hz : z = 0) (e : Fin 256) (l : Fin 1024) :
    (if h : l.val / 128 < 8 ∧ l.val % 128 < 96 then w (ix2 e ⟨l.val / 128 * 96 + l.val % 128, by omega⟩) else z)
      = if h : l.val % 128 < 96 then w (ix2 e ⟨l.val / 128 * 96 + l.val % 128, by omega⟩) else (0 : EReal) := by
  subst hz
  by_cases h : l.val % 128 < 96
  · rw [dif_pos (show l.val / 128 < 8 ∧ l.val % 128 < 96 from ⟨by omega, h⟩), dif_pos h]
  · rw [dif_neg (show ¬ (l.val / 128 < 8 ∧ l.val % 128 < 96) from fun h' => h h'.2), dif_neg h]

/-- The weights of a head's first 64 columns, filled up with any zero. -/
theorem fill64 (w : FVec Ideal S128x1024 .f32) (z : EReal) (hz : z = 0) (e : Fin 128) (l : Fin 1024) :
    (if h : l.val / 128 < 8 ∧ l.val % 128 < 64 then w (ix2 e ⟨l.val / 128 * 128 + l.val % 128, by omega⟩) else z)
      = if h : l.val % 128 < 64 then w (ix2 e l) else (0 : EReal) := by
  subst hz
  by_cases h : l.val % 128 < 64
  · rw [dif_pos (show l.val / 128 < 8 ∧ l.val % 128 < 64 from ⟨by omega, h⟩), dif_pos h]
    exact congrArg (fun z => w (ix2 e z)) (Fin.ext (by show l.val / 128 * 128 + l.val % 128 = l.val; omega))
  · rw [dif_neg (show ¬ (l.val / 128 < 8 ∧ l.val % 128 < 64) from fun h' => h h'.2), dif_neg h]

/-- The table of the lanes above, filled up with any zero. -/
theorem fill_above (w : FVec Ideal S4096x16 .f32) (z : EReal) (hz : z = 0) (n : Fin 4352) (j : Fin 128) :
    (if h : n.val < 4096 then
        if h' : n.val < 4096 ∧ 64 ≤ j.val ∧ j.val - 64 < 16 then - w (ix2 ⟨n.val, h'.1⟩ ⟨j.val - 64, h'.2.2⟩) else z
      else 0) = above w n.val j := by
  subst hz
  unfold above
  by_cases hn : n.val < 4096
  · rw [dif_pos hn, dif_pos hn]
    by_cases h : 64 ≤ j.val ∧ j.val < 80
    · rw [dif_pos (show n.val < 4096 ∧ 64 ≤ j.val ∧ j.val - 64 < 16 from ⟨hn, h.1, by omega⟩), dif_pos h]
    · rw [dif_neg (show ¬ (n.val < 4096 ∧ 64 ≤ j.val ∧ j.val - 64 < 16) by omega), dif_neg h]
  · rw [dif_neg hn, dif_neg hn]

/-- The table of the lanes below, filled up with any zero. -/
theorem fill_below (w : FVec Ideal S4096x16 .f32) (z : EReal) (hz : z = 0) (n : Fin 4352) (j : Fin 128) :
    (if h : n.val < 4096 then
        if h' : n.val < 4096 ∧ 80 ≤ j.val ∧ j.val - 80 < 16 then w (ix2 ⟨n.val, h'.1⟩ ⟨j.val - 80, h'.2.2⟩) else z
      else 0) = below w n.val j := by
  subst hz
  unfold below
  by_cases hn : n.val < 4096
  · rw [dif_pos hn, dif_pos hn]
    by_cases h : 80 ≤ j.val ∧ j.val < 96
    · rw [dif_pos (show n.val < 4096 ∧ 80 ≤ j.val ∧ j.val - 80 < 16 from ⟨hn, h.1, by omega⟩), dif_pos h]
    · rw [dif_neg (show ¬ (n.val < 4096 ∧ 80 ≤ j.val ∧ j.val - 80 < 16) by omega), dif_neg h]
  · rw [dif_neg hn, dif_neg hn]

variable (m : (ℓ : Loc nD τ sig) → Buf (Elt Ideal) ℓ)

/-- The block of window 0 at a step. -/
theorem idx0 : ∀ t : Fin cfg0.N, win0_0.index t = ![t.val, 0] := (by decide +kernel : ∀ t : Fin grid0.N, _)
/-- The block of window 1 at a step. -/
theorem idx1 : ∀ t : Fin cfg0.N, win0_1.index t = ![t.val * 32 - 1, 1] := (by decide +kernel : ∀ t : Fin grid0.N, _)
/-- The block of window 2 at a step. -/
theorem idx2 : ∀ t : Fin cfg0.N, win0_2.index t = ![min ((t.val + 1) * 32) 4351, 1] := (by decide +kernel : ∀ t : Fin grid0.N, _)
/-- The block of window 3 at a step. -/
theorem idx3 : ∀ t : Fin cfg0.N, win0_3.index t = ![0, 0] := (by decide +kernel : ∀ t : Fin grid0.N, _)
/-- The block of window 4 at a step. -/
theorem idx4 : ∀ t : Fin cfg0.N, win0_4.index t = ![0, 0] := (by decide +kernel : ∀ t : Fin grid0.N, _)
/-- The block of window 5 at a step. -/
theorem idx5 : ∀ t : Fin cfg0.N, win0_5.index t = ![0, 0] := (by decide +kernel : ∀ t : Fin grid0.N, _)
/-- The block of window 6 at a step. -/
theorem idx6 : ∀ t : Fin cfg0.N, win0_6.index t = ![0, 0] := (by decide +kernel : ∀ t : Fin grid0.N, _)
/-- The block of window 7 at a step. -/
theorem idx7 : ∀ t : Fin cfg0.N, win0_7.index t = ![0, 0] := (by decide +kernel : ∀ t : Fin grid0.N, _)
/-- The block of window 8 at a step. -/
theorem idx8 : ∀ t : Fin cfg0.N, win0_8.index t = ![t.val % 17, 0] := (by decide +kernel : ∀ t : Fin grid0.N, _)
/-- The block of window 9 at a step. -/
theorem idx9 : ∀ t : Fin cfg0.N, win0_9.index t = ![t.val % 17, 0] := (by decide +kernel : ∀ t : Fin grid0.N, _)
/-- The block of window 10 at a step. -/
theorem idx10 : ∀ t : Fin cfg0.N, win0_10.index t = ![t.val % 17, 0] := (by decide +kernel : ∀ t : Fin grid0.N, _)
/-- The block of window 11 at a step. -/
theorem idx11 : ∀ t : Fin cfg0.N, win0_11.index t = ![0, 0] := (by decide +kernel : ∀ t : Fin grid0.N, _)
/-- The block of window 12 at a step. -/
theorem idx12 : ∀ t : Fin cfg0.N, win0_12.index t = ![t.val, 0] := (by decide +kernel : ∀ t : Fin grid0.N, _)
/-- The block of window 13 at a step. -/
theorem idx13 : ∀ t : Fin cfg0.N, win0_13.index t = ![t.val, 0] := (by decide +kernel : ∀ t : Fin grid0.N, _)
/-- The block of window 14 at a step. -/
theorem idx14 : ∀ t : Fin cfg0.N, win0_14.index t = ![t.val, 0] := (by decide +kernel : ∀ t : Fin grid0.N, _)
/-- The block of window 15 at a step. -/
theorem idx15 : ∀ t : Fin cfg0.N, win0_15.index t = ![t.val, 0] := (by decide +kernel : ∀ t : Fin grid0.N, _)

/-- A step's number is its place in the grid. -/
theorem coord : ∀ t : Fin cfg0.N, (grid0.coords t 0).val = t.val := (by decide +kernel : ∀ t : Fin grid0.N, _)

/-- The queries' weights, each head's 96 columns filled up to 128. -/
theorem host3 (c : Dev nD) (e : Fin 256) (l : Fin 1024) : V m c main_v3 (ix2 e l)
    = if h : l.val % 128 < 96 then (m ((c : Thread nD τ).loc main_arg3)) (ix2 e ⟨l.val / 128 * 96 + l.val % 128, by omega⟩) else (0 : EReal) := by
  unfold V
  after_reads_at
  exact fill96 (m ((c : Thread nD τ).loc main_arg3)) _ int_zero e l

/-- The keys' weights, the first 64 columns of each head filled up to 128. -/
theorem host8 (c : Dev nD) (e : Fin 128) (l : Fin 1024) : V m c main_v8 (ix2 e l)
    = if h : l.val % 128 < 64 then (m ((c : Thread nD τ).loc main_arg4)) (ix2 e l) else (0 : EReal) := by
  unfold V
  after_reads_at
  exact fill64 (m ((c : Thread nD τ).loc main_arg4)) _ int_zero e l

/-- The values' weights, the last 64 columns of each head. -/
theorem host11 (c : Dev nD) (e : Fin 128) (l : Fin 512) : V m c main_v11 (ix2 e l)
    = (m ((c : Thread nD τ).loc main_arg4)) (ix2 e ⟨l.val / 64 * 128 + (64 + l.val % 64), by omega⟩) := by
  unfold V
  after_reads_at

/-- The table of the lanes themselves. -/
theorem host19 (c : Dev nD) (n : Fin 4352) (j : Fin 128) : V m c main_v19 (ix2 n j) = stay (m ((c : Thread nD τ).loc main_arg6)) n.val j := by
  unfold V
  after_reads_at
  unfold stay
  split
  · split
    · after_reads_at
    · split
      · after_reads_at
      · split
        · after_reads_at
        · after_reads_at
  · rfl

/-- The table of the lanes above. -/
theorem host21 (c : Dev nD) (n : Fin 4352) (j : Fin 128) : V m c main_v21 (ix2 n j) = above (m ((c : Thread nD τ).loc main_arg7)) n.val j := by
  unfold V
  after_reads_at
  exact fill_above (m ((c : Thread nD τ).loc main_arg7)) _ int_zero n j

/-- The table of the lanes below. -/
theorem host23 (c : Dev nD) (n : Fin 4352) (j : Fin 128) : V m c main_v23 (ix2 n j) = below (m ((c : Thread nD τ).loc main_arg7)) n.val j := by
  unfold V
  after_reads_at
  exact fill_below (m ((c : Thread nD τ).loc main_arg7)) _ int_zero n j

/-- The queries' gain as the call takes it. -/
theorem host24 (c : Dev nD) (e : Fin 256) : V m c main_v24 (ix2 0 e) = (m ((c : Thread nD τ).loc main_arg1)) (ix1 e) := by
  unfold V
  after_reads_at

/-- The keys' and values' gain as the call takes it. -/
theorem host25 (c : Dev nD) (e : Fin 128) : V m c main_v25 (ix2 0 e) = (m ((c : Thread nD τ).loc main_arg2)) (ix1 e) := by
  unfold V
  after_reads_at

/-- Where a contiguous sub-block's index lies in the block. -/
theorem idx_unit2 {n0 n1 : Nat} (off size : Fin 2 → Nat) (inb) (j : (⟨2, size⟩ : Shape).Idx) (a : Fin n0) (b : Fin n1)
    (ha : off 0 + (j 0).val = a.val) (hb : off 1 + (j 1).val = b.val) :
    (Rect.unit (s := ⟨2, ![n0, n1]⟩) off size inb).idx j = ix2 a b := by
  funext t
  match t with
  | ⟨0, _⟩ => exact Fin.ext ((congrArg (off 0 + ·) (Nat.one_mul (j 0).val)).trans ha)
  | ⟨1, _⟩ => exact Fin.ext ((congrArg (off 1 + ·) (Nat.one_mul (j 1).val)).trans hb)

/-- A step's rows of the projection. -/
theorem in0 (c : Dev nD) (t : Fin cfg0.N) (r : Fin 256) (e : Fin 2048) : iblk m c 0 t (ix2 r e) = (m ((c : Thread nD τ).loc main_arg0)) (ix2 (row t r) e) := by
  unfold row
  blk_ext! [iblk, V, idx0 t]

/-- The rows before a step's. -/
theorem in1 (c : Dev nD) (t : Fin cfg0.N) (ht : 0 < t.val) (e : Fin 1024) : iblk m c 1 t (ix2 7 e)
    = (m ((c : Thread nD τ).loc main_arg0)) (ix2 ⟨t.val * 256 - 1, by have := t.isLt; have : t.val < 136 := this; omega⟩ ⟨1024 + e.val, by omega⟩) := by
  blk_ext! [iblk, V, idx1 t]

/-- The rows after a step's. -/
theorem in2 (c : Dev nD) (t : Fin cfg0.N) (ht : t.val < 135) (e : Fin 1024) : iblk m c 2 t (ix2 0 e)
    = (m ((c : Thread nD τ).loc main_arg0)) (ix2 ⟨t.val * 256 + 256, by omega⟩ ⟨1024 + e.val, by omega⟩) := by
  blk_ext! [iblk, V, idx2 t]

/-- The queries' gain. -/
theorem in3 (c : Dev nD) (t : Fin cfg0.N) (e : Fin 256) : iblk m c 3 t (ix2 0 e) = (m ((c : Thread nD τ).loc main_arg1)) (ix1 e) := by
  refine Eq.trans ?_ (host24 m c e)
  blk_ext! [iblk, idx3 t]

/-- The keys' and values' gain. -/
theorem in4 (c : Dev nD) (t : Fin cfg0.N) (e : Fin 128) : iblk m c 4 t (ix2 0 e) = (m ((c : Thread nD τ).loc main_arg2)) (ix1 e) := by
  refine Eq.trans ?_ (host25 m c e)
  blk_ext! [iblk, idx4 t]

/-- The queries' weights at a step. -/
theorem in5 (c : Dev nD) (t : Fin cfg0.N) (e : Fin 256) (l : Fin 1024) : iblk m c 5 t (ix2 e l)
    = if h : l.val % 128 < 96 then (m ((c : Thread nD τ).loc main_arg3)) (ix2 e ⟨l.val / 128 * 96 + l.val % 128, by omega⟩) else (0 : EReal) := by
  refine Eq.trans ?_ (host3 m c e l)
  blk_ext! [iblk, idx5 t]

/-- The keys' weights at a step. -/
theorem in6 (c : Dev nD) (t : Fin cfg0.N) (e : Fin 128) (l : Fin 1024) : iblk m c 6 t (ix2 e l)
    = if h : l.val % 128 < 64 then (m ((c : Thread nD τ).loc main_arg4)) (ix2 e l) else (0 : EReal) := by
  refine Eq.trans ?_ (host8 m c e l)
  blk_ext! [iblk, idx6 t]

/-- The values' weights at a step. -/
theorem in7 (c : Dev nD) (t : Fin cfg0.N) (e : Fin 128) (l : Fin 512) : iblk m c 7 t (ix2 e l)
    = (m ((c : Thread nD τ).loc main_arg4)) (ix2 e ⟨l.val / 64 * 128 + (64 + l.val % 64), by omega⟩) := by
  refine Eq.trans ?_ (host11 m c e l)
  blk_ext! [iblk, idx7 t]

/-- A row's place in its batch. -/
def place (r : Fin 34816) : Fin 4352 := ⟨r.val % 4352, by omega⟩

/-- The rows of the table `stay` a step reads. -/
theorem in8 (c : Dev nD) (t : Fin cfg0.N) (r : Fin 256) (j : Fin 128) : iblk m c 8 t (ix2 r j)
    = stay (m ((c : Thread nD τ).loc main_arg6)) ((row t r).val % 4352) j := by
  refine Eq.trans ?_ (host19 m c (place (row t r)) j)
  have hp : (place (row t r)).val = t.val % 17 * 256 + r.val := by
    show (t.val * 256 + r.val) % 4352 = _
    omega
  blk_ext! [iblk, idx8 t, hp]

/-- The rows of the table `above` a step reads. -/
theorem in9 (c : Dev nD) (t : Fin cfg0.N) (r : Fin 256) (j : Fin 128) : iblk m c 9 t (ix2 r j)
    = above (m ((c : Thread nD τ).loc main_arg7)) ((row t r).val % 4352) j := by
  refine Eq.trans ?_ (host21 m c (place (row t r)) j)
  have hp : (place (row t r)).val = t.val % 17 * 256 + r.val := by
    show (t.val * 256 + r.val) % 4352 = _
    omega
  blk_ext! [iblk, idx9 t, hp]

/-- The rows of the table `below` a step reads. -/
theorem in10 (c : Dev nD) (t : Fin cfg0.N) (r : Fin 256) (j : Fin 128) : iblk m c 10 t (ix2 r j)
    = below (m ((c : Thread nD τ).loc main_arg7)) ((row t r).val % 4352) j := by
  refine Eq.trans ?_ (host23 m c (place (row t r)) j)
  have hp : (place (row t r)).val = t.val % 17 * 256 + r.val := by
    show (t.val * 256 + r.val) % 4352 = _
    omega
  blk_ext! [iblk, idx10 t, hp]

/-- The convolution's weights. -/
theorem in11 (c : Dev nD) (t : Fin cfg0.N) (k : Fin 3) (l : Fin 512) : iblk m c 11 t (ix2 k l) = (m ((c : Thread nD τ).loc main_arg5)) (ix2 k l) := by
  blk_ext! [iblk, V, idx11 t]

end Cert.Prep

end
-- ==== Proof.PrepSpec.lean ====
/-
  What the even layers' preparation should give, row by row, and how a block's lanes come to it: the head's lanes of the
  queries and of the keys, and the neighbours of the short convolution.
-/
module

public import proofs.«01_k».proof.Proof.PrepBody

@[expose] public section

noncomputable section

namespace Cert.Prep

open Idealize.ShloMosaic Idealize.ShloMosaic.TcCoe Idealize.SL.Sem Cert.Kernel7Ideal Cert.Kernel7Ideal.Gen

/-- A row's query content: column `j` of head `h`. -/
def content (p : FVec Ideal S34816x2048 .f32) (g : FVec Ideal S256 .f32) (w : FVec Ideal S256x768 .f32)
    (r : Fin 34816) (h : Fin 8) (j : Fin 96) : EReal :=
  ∑ e : Fin 256, normedBy 0x43800000#32 (fun e : Fin 256 => p (ix2 r ⟨e.val, by omega⟩)) (fun e => g (ix1 e)) e
    * w (ix2 e ⟨h.val * 96 + j.val, by omega⟩)

/-- A row's keys' and values' content. -/
def kv (p : FVec Ideal S34816x2048 .f32) (g : FVec Ideal S128 .f32) (w : FVec Ideal S128x1024 .f32)
    (r : Fin 34816) (l : Fin 1024) : EReal :=
  ∑ e : Fin 128, normedBy 0x43000000#32 (fun e : Fin 128 => p (ix2 r ⟨256 + e.val, by omega⟩)) (fun e => g (ix1 e)) e
    * w (ix2 e l)

/-- A row's query lane: the content, its last 32 columns turned, scaled. -/
def query (p : FVec Ideal S34816x2048 .f32) (g : FVec Ideal S256 .f32) (w : FVec Ideal S256x768 .f32)
    (cos sin : FVec Ideal S4096x16 .f32) (r : Fin 34816) (l : Fin 1024) : EReal :=
  lanes (fun i => content p g w r ⟨l.val / 128, by omega⟩ ⟨i.val, by omega⟩)
    (turn cos sin (r.val % 4352) fun i => content p g w r ⟨l.val / 128, by omega⟩ ⟨64 + i.val, by omega⟩)
    ⟨l.val % 128, by omega⟩ * Ideal.ofBits .f32 0x3DD105EC#32

/-- A row's key lane: the content of its head, and the 32 lanes every head shares, turned. -/
def key (p : FVec Ideal S34816x2048 .f32) (g : FVec Ideal S128 .f32) (w : FVec Ideal S128x1024 .f32)
    (cos sin : FVec Ideal S4096x16 .f32) (r : Fin 34816) (l : Fin 1024) : EReal :=
  lanes (fun i => kv p g w r ⟨l.val / 128 * 128 + i.val, by omega⟩)
    (turn cos sin (r.val % 4352) fun i => p (ix2 r ⟨448 + i.val, by omega⟩)) ⟨l.val % 128, by omega⟩

/-- A row's value lane. -/
def value (p : FVec Ideal S34816x2048 .f32) (g : FVec Ideal S128 .f32) (w : FVec Ideal S128x1024 .f32)
    (r : Fin 34816) (l : Fin 512) : EReal :=
  kv p g w r ⟨l.val / 64 * 128 + (64 + l.val % 64), by omega⟩

/-- What the convolution runs over: the product of two thirds of a row's streams. -/
def gated (p : FVec Ideal S34816x2048 .f32) (l : Fin 512) (r : Fin 34816) : EReal :=
  p (ix2 r ⟨1024 + l.val, by omega⟩) * p (ix2 r ⟨1536 + l.val, by omega⟩)

/-- The token before a row's, zero at either stream's first. -/
def before (z : Fin 34816 → EReal) (r : Fin 34816) : EReal :=
  if r.val % 4352 = 0 ∨ r.val % 4352 = 4096 then 0 else z ⟨r.val - 1, by omega⟩

/-- The token after a row's, zero at either stream's last. -/
def after (z : Fin 34816 → EReal) (r : Fin 34816) : EReal :=
  if h : r.val % 4352 = 4095 ∨ r.val % 4352 = 4351 then 0 else z ⟨r.val + 1, by omega⟩

/-- A row's short convolution. -/
def conv (p : FVec Ideal S34816x2048 .f32) (w : FVec Ideal S3x512 .f32) (r : Fin 34816) (l : Fin 512) : EReal :=
  p (ix2 r ⟨512 + l.val, by omega⟩)
    * (w (ix2 0 l) * before (gated p l) r + w (ix2 1 l) * gated p l r + w (ix2 2 l) * after (gated p l) r)

/-- The queries, as an array. -/
def queryOut (p : FVec Ideal S34816x2048 .f32) (g : FVec Ideal S256 .f32) (w : FVec Ideal S256x768 .f32)
    (cos sin : FVec Ideal S4096x16 .f32) : FVec Ideal S34816x1024 .bf16 := fun i => query p g w cos sin (i 0) (i 1)

/-- The keys, as an array. -/
def keyOut (p : FVec Ideal S34816x2048 .f32) (g : FVec Ideal S128 .f32) (w : FVec Ideal S128x1024 .f32)
    (cos sin : FVec Ideal S4096x16 .f32) : FVec Ideal S34816x1024 .bf16 := fun i => key p g w cos sin (i 0) (i 1)

/-- The values, as an array. -/
def valueOut (p : FVec Ideal S34816x2048 .f32) (g : FVec Ideal S128 .f32) (w : FVec Ideal S128x1024 .f32) :
    FVec Ideal S34816x512 .bf16 := fun i => value p g w (i 0) (i 1)

/-- The convolution, as an array. -/
def convOut (p : FVec Ideal S34816x2048 .f32) (w : FVec Ideal S3x512 .f32) : FVec Ideal S34816x512 .f32 :=
  fun i => conv p w (i 0) (i 1)

/-- Eight heads of 96 lanes, each filled up to 128 with zeros, under the tables and the shifts of all the lanes. -/
theorem query_lanes (f : Fin 1024 → EReal) (k : Fin 8 → Fin 96 → EReal)
    (hf : ∀ l, f l = if h : l.val % 128 < 96 then k ⟨l.val / 128, by omega⟩ ⟨l.val % 128, h⟩ else 0)
    (cos sin : FVec Ideal S4096x16 .f32) (n : ℕ) (l : Fin 1024) :
    f l * stay cos n ⟨l.val % 128, by omega⟩ + f ⟨(l.val + 1024 - 1008) % 1024, by omega⟩ * above sin n ⟨l.val % 128, by omega⟩
        + f ⟨(l.val + 1024 - 16) % 1024, by omega⟩ * below sin n ⟨l.val % 128, by omega⟩
      = lanes (fun i => k ⟨l.val / 128, by omega⟩ ⟨i.val, by omega⟩)
          (turn cos sin n fun i => k ⟨l.val / 128, by omega⟩ ⟨64 + i.val, by omega⟩) ⟨l.val % 128, by omega⟩ := by
  have hp : ∀ (i : Fin 128) (h : i.val < 96), f ⟨l.val / 128 * 128 + i.val, by omega⟩ = k ⟨l.val / 128, by omega⟩ ⟨i.val, h⟩ := by
    intro i h
    rw [hf, dif_pos (show (l.val / 128 * 128 + i.val) % 128 < 96 by omega)]
    refine congr (congrArg k (Fin.ext ?_)) (Fin.ext ?_)
    · show (l.val / 128 * 128 + i.val) / 128 = l.val / 128
      omega
    · show (l.val / 128 * 128 + i.val) % 128 = i.val
      omega
  have hz : ∀ i : Fin 128, 96 ≤ i.val → f ⟨l.val / 128 * 128 + i.val, by omega⟩ = 0 := by
    intro i h
    rw [hf, dif_neg (show ¬ (l.val / 128 * 128 + i.val) % 128 < 96 by omega)]
  have hl : f l = f ⟨l.val / 128 * 128 + l.val % 128, by omega⟩ :=
    congrArg f (Fin.ext (by show l.val = l.val / 128 * 128 + l.val % 128; omega))
  have h := rotate cos sin n (fun i : Fin 128 => f ⟨l.val / 128 * 128 + i.val, by omega⟩)
    (f ⟨(l.val + 1024 - 1008) % 1024, by omega⟩) (f ⟨(l.val + 1024 - 16) % 1024, by omega⟩) ⟨l.val % 128, by omega⟩ hz
    (fun h h' => congrArg f (Fin.ext (by
      have h1 : l.val % 128 < 80 := h
      show (l.val + 1024 - 1008) % 1024 = l.val / 128 * 128 + (l.val % 128 + 16)
      omega)))
    (fun h h' => congrArg f (Fin.ext (by
      have h1 : 80 ≤ l.val % 128 := h
      show (l.val + 1024 - 16) % 1024 = l.val / 128 * 128 + (l.val % 128 - 16)
      omega)))
  rw [hl]
  refine h.trans ?_
  refine congrFun (congr (congrArg lanes (funext fun i => ?_)) (congrArg (turn cos sin n) (funext fun i => ?_))) _
  · exact hp ⟨i.val, by omega⟩ (by show i.val < 96; omega)
  · exact hp ⟨64 + i.val, by omega⟩ (by show 64 + i.val < 96; omega)

/-- The 32 lanes every head shares, zeros on either side, under the tables and the shifts. -/
theorem key_lanes (y : Fin 128 → EReal) (hy : ∀ i : Fin 128, i.val < 64 ∨ 96 ≤ i.val → y i = 0)
    (cos sin : FVec Ideal S4096x16 .f32) (n : ℕ) (j : Fin 128) :
    y j * stay cos n j + y ⟨(j.val + 128 - 112) % 128, by omega⟩ * above sin n j
        + y ⟨(j.val + 128 - 16) % 128, by omega⟩ * below sin n j
      = lanes (fun _ => 0) (turn cos sin n fun i => y ⟨64 + i.val, by omega⟩) j := by
  refine (rotate cos sin n y _ _ j (fun i h => hy i (.inr h)) (fun h h' => congrArg y (Fin.ext ?_))
    (fun h h' => congrArg y (Fin.ext ?_))).trans ?_
  · show (j.val + 128 - 112) % 128 = j.val + 16
    omega
  · show (j.val + 128 - 16) % 128 = j.val - 16
    omega
  · exact congrArg (fun a => lanes a _ j) (funext fun i => hy _ (.inl i.isLt))

/-- The bit a step computes from its number: the block before it belongs to the same stream. -/
def hasPrev (k : ℕ) : BitVec 1 :=
  let one : BitVec 32 := Scalar.select (Scalar.cmpi .eq 17#32 0#32) 1#32 17#32
  let rem : BitVec 32 := Scalar.remsi (BitVec.ofNat 32 k) one
  let place : BitVec 32 := Scalar.select (Scalar.andi (Scalar.xori (Scalar.cmpi .slt rem 0#32) (Scalar.cmpi .slt one 0#32))
    (Scalar.cmpi .ne rem 0#32)) (Scalar.addi rem one) rem
  Scalar.andi (Scalar.cmpi .ne place 0#32) (Scalar.cmpi .ne place 16#32)

/-- The bit a step computes from its number: the block after it belongs to the same stream. -/
def hasNext (k : ℕ) : BitVec 1 :=
  let one : BitVec 32 := Scalar.select (Scalar.cmpi .eq 17#32 0#32) 1#32 17#32
  let rem : BitVec 32 := Scalar.remsi (BitVec.ofNat 32 k) one
  let place : BitVec 32 := Scalar.select (Scalar.andi (Scalar.xori (Scalar.cmpi .slt rem 0#32) (Scalar.cmpi .slt one 0#32))
    (Scalar.cmpi .ne rem 0#32)) (Scalar.addi rem one) rem
  Scalar.andi (Scalar.cmpi .ne place 15#32) (Scalar.cmpi .slt place 16#32)

/-- The first bit by the number's remainder. -/
theorem hasPrev_eq : ∀ t : Fin 136, hasPrev t.val = if t.val % 17 = 0 ∨ t.val % 17 = 16 then 0 else 1 := by decide +kernel

/-- The second bit by the number's remainder. -/
theorem hasNext_eq : ∀ t : Fin 136, hasNext t.val = if t.val % 17 = 15 ∨ t.val % 17 = 16 then 0 else 1 := by decide +kernel

/-- A bit as the number the step multiplies by. -/
def bitNum (b : BitVec 1) : Ideal .f32 := Scalar.select b (Scalar.ofBits .f32 0x3F800000#32) (Scalar.ofBits .f32 0x00000000#32)

/-- A set bit is one. -/
theorem bitNum_one : bitNum 1 = (1 : EReal) := by
  show Ideal.ofBits .f32 0x3F800000#32 = 1
  simp [Ideal.ofBits, Ideal.ieee]
  exact_mod_cast (by norm_num : (8388608 : ℝ) * ((2 : ℝ) ^ 23)⁻¹ = 1)

/-- A bit not set is zero. -/
theorem bitNum_zero : bitNum 0 = (0 : EReal) := by
  show Ideal.ofBits .f32 0x00000000#32 = 0
  simp [Ideal.ofBits, Ideal.ieee]

/-- The row before a block, times its bit. -/
theorem pay_prev (k : ℕ) (u v : FVec Ideal S1x512 .f32) (l : Fin 512) :
    k0_pay10 (F := Ideal) (BitVec.ofNat 32 k) u v (ix2 0 l) = u (ix2 0 l) * v (ix2 0 l) * bitNum (hasPrev k) := by
  have h : k0_pay10 (F := Ideal) (BitVec.ofNat 32 k) u v = mulf (mulf u v) (broadcast S1x512 (bitNum (hasPrev k))) := rfl
  rw [h]
  generalize bitNum (hasPrev k) = b
  pointwise []

/-- The bit of the row after a block, as a row. -/
theorem pay_next (k : ℕ) (l : Fin 512) : k0_pay12 (F := Ideal) (BitVec.ofNat 32 k) (ix2 0 l) = bitNum (hasNext k) := rfl

/-- The row after a block. -/
theorem pay_row (u v : FVec Ideal S1x512 .f32) (l : Fin 512) : k0_pay11 (F := Ideal) u v (ix2 0 l) = u (ix2 0 l) * v (ix2 0 l) := rfl

/-- The product the convolution runs over, in a block. -/
theorem pay_gated (u v : FVec Ideal S256x512 .f32) (r : Fin 256) (l : Fin 512) :
    k0_pay9 (F := Ideal) u v (ix2 r l) = u (ix2 r l) * v (ix2 r l) := rfl

end Cert.Prep

end
-- ==== Proof.PrepFinal.lean ====
/-
  The even layers' preparation, result by result: each step's block is its rows' part of the whole.
-/
module

public import proofs.«01_k».proof.Proof.PrepHost
public import proofs.«01_k».proof.Proof.PrepSpec
public import Idealize.ShloMosaic.Lib.Pipeline.ValueKit.Acc

@[expose] public section

noncomputable section

namespace Cert.Prep

open Idealize.ShloMosaic Idealize.ShloMosaic.TcCoe Idealize.SL.Sem Cert.Kernel7Ideal Cert.Kernel7Ideal.Gen
open Cert.Rows (row)

variable (m : (ℓ : Loc nD τ sig) → Buf (Elt Ideal) ℓ)

/-- A row's place among all is below their number. -/
theorem step_lt (t : Fin cfg0.N) : t.val < 136 := t.isLt

/-- A step's columns of the projection: the queries' compression. -/
theorem ld1 (c : Dev nD) (t : Fin cfg0.N) (r : Fin 256) (e : Fin 256) :
    (View.ld (iblk m c 0 t) r0_1 : FVec Ideal S256x256 .f32) (ix2 r e) = (m ((c : Thread nD τ).loc main_arg0)) (ix2 (row t r) ⟨0 + e.val, by omega⟩) :=
  (congrArg (iblk m c 0 t) (idx_unit2 ![0, 0] S256x256.size inb_S256x2048_S256x256_0_0 (ix2 r e) r ⟨0 + e.val, by omega⟩
    (Nat.zero_add _) rfl)).trans (in0 m c t r _)

/-- A step's columns of the projection: the keys' and values' compression. -/
theorem ld4 (c : Dev nD) (t : Fin cfg0.N) (r : Fin 256) (e : Fin 128) :
    (View.ld (iblk m c 0 t) r0_4 : FVec Ideal S256x128 .f32) (ix2 r e) = (m ((c : Thread nD τ).loc main_arg0)) (ix2 (row t r) ⟨256 + e.val, by omega⟩) :=
  (congrArg (iblk m c 0 t) (idx_unit2 ![0, 256] S256x128.size inb_S256x2048_S256x128_0_256 (ix2 r e) r ⟨256 + e.val, by omega⟩
    (Nat.zero_add _) rfl)).trans (in0 m c t r _)

/-- A step's columns of the projection: the shared rotary lanes. -/
theorem ld7 (c : Dev nD) (t : Fin cfg0.N) (r : Fin 256) (e : Fin 128) :
    (View.ld (iblk m c 0 t) r0_7 : FVec Ideal S256x128 .f32) (ix2 r e) = (m ((c : Thread nD τ).loc main_arg0)) (ix2 (row t r) ⟨384 + e.val, by omega⟩) :=
  (congrArg (iblk m c 0 t) (idx_unit2 ![0, 384] S256x128.size inb_S256x2048_S256x128_0_384 (ix2 r e) r ⟨384 + e.val, by omega⟩
    (Nat.zero_add _) rfl)).trans (in0 m c t r _)

/-- A step's columns of the projection: the first third of the convolution's streams. -/
theorem ld10 (c : Dev nD) (t : Fin cfg0.N) (r : Fin 256) (e : Fin 512) :
    (View.ld (iblk m c 0 t) r0_10 : FVec Ideal S256x512 .f32) (ix2 r e) = (m ((c : Thread nD τ).loc main_arg0)) (ix2 (row t r) ⟨512 + e.val, by omega⟩) :=
  (congrArg (iblk m c 0 t) (idx_unit2 ![0, 512] S256x512.size inb_S256x2048_S256x512_0_512 (ix2 r e) r ⟨512 + e.val, by omega⟩
    (Nat.zero_add _) rfl)).trans (in0 m c t r _)

/-- A step's columns of the projection: the second third. -/
theorem ld11 (c : Dev nD) (t : Fin cfg0.N) (r : Fin 256) (e : Fin 512) :
    (View.ld (iblk m c 0 t) r0_11 : FVec Ideal S256x512 .f32) (ix2 r e) = (m ((c : Thread nD τ).loc main_arg0)) (ix2 (row t r) ⟨1024 + e.val, by omega⟩) :=
  (congrArg (iblk m c 0 t) (idx_unit2 ![0, 1024] S256x512.size inb_S256x2048_S256x512_0_1024 (ix2 r e) r ⟨1024 + e.val, by omega⟩
    (Nat.zero_add _) rfl)).trans (in0 m c t r _)

/-- A step's columns of the projection: the last third. -/
theorem ld12 (c : Dev nD) (t : Fin cfg0.N) (r : Fin 256) (e : Fin 512) :
    (View.ld (iblk m c 0 t) r0_12 : FVec Ideal S256x512 .f32) (ix2 r e) = (m ((c : Thread nD τ).loc main_arg0)) (ix2 (row t r) ⟨1536 + e.val, by omega⟩) :=
  (congrArg (iblk m c 0 t) (idx_unit2 ![0, 1536] S256x512.size inb_S256x2048_S256x512_0_1536 (ix2 r e) r ⟨1536 + e.val, by omega⟩
    (Nat.zero_add _) rfl)).trans (in0 m c t r _)

/-- The row before a step's: the second third. -/
theorem ld13 (c : Dev nD) (t : Fin cfg0.N) (ht : 0 < t.val) (e : Fin 512) :
    (View.ld (iblk m c 1 t) r0_13 : FVec Ideal S1x512 .f32) (ix2 0 e)
      = (m ((c : Thread nD τ).loc main_arg0)) (ix2 ⟨t.val * 256 - 1, by have := step_lt t; omega⟩ ⟨1024 + (0 + e.val), by omega⟩) :=
  (congrArg (iblk m c 1 t) (idx_unit2 ![7, 0] S1x512.size inb_S8x1024_S1x512_7_0 (ix2 0 e) (7 : Fin 8) (⟨0 + e.val, by omega⟩ : Fin 1024)
    rfl rfl)).trans (in1 m c t ht _)

/-- The row before a step's: the last third. -/
theorem ld14 (c : Dev nD) (t : Fin cfg0.N) (ht : 0 < t.val) (e : Fin 512) :
    (View.ld (iblk m c 1 t) r0_14 : FVec Ideal S1x512 .f32) (ix2 0 e)
      = (m ((c : Thread nD τ).loc main_arg0)) (ix2 ⟨t.val * 256 - 1, by have := step_lt t; omega⟩ ⟨1024 + (512 + e.val), by omega⟩) :=
  (congrArg (iblk m c 1 t) (idx_unit2 ![7, 512] S1x512.size inb_S8x1024_S1x512_7_512 (ix2 0 e) (7 : Fin 8) (⟨512 + e.val, by omega⟩ : Fin 1024)
    rfl rfl)).trans (in1 m c t ht _)

/-- The row after a step's: the second third. -/
theorem ld15 (c : Dev nD) (t : Fin cfg0.N) (ht : t.val < 135) (e : Fin 512) :
    (View.ld (iblk m c 2 t) r0_15 : FVec Ideal S1x512 .f32) (ix2 0 e)
      = (m ((c : Thread nD τ).loc main_arg0)) (ix2 ⟨t.val * 256 + 256, by omega⟩ ⟨1024 + (0 + e.val), by omega⟩) :=
  (congrArg (iblk m c 2 t) (idx_unit2 ![0, 0] S1x512.size inb_S8x1024_S1x512_0_0 (ix2 0 e) (0 : Fin 8) (⟨0 + e.val, by omega⟩ : Fin 1024)
    rfl rfl)).trans (in2 m c t ht _)

/-- The row after a step's: the last third. -/
theorem ld16 (c : Dev nD) (t : Fin cfg0.N) (ht : t.val < 135) (e : Fin 512) :
    (View.ld (iblk m c 2 t) r0_16 : FVec Ideal S1x512 .f32) (ix2 0 e)
      = (m ((c : Thread nD τ).loc main_arg0)) (ix2 ⟨t.val * 256 + 256, by omega⟩ ⟨1024 + (512 + e.val), by omega⟩) :=
  (congrArg (iblk m c 2 t) (idx_unit2 ![0, 512] S1x512.size inb_S8x1024_S1x512_0_512 (ix2 0 e) (0 : Fin 8) (⟨512 + e.val, by omega⟩ : Fin 1024)
    rfl rfl)).trans (in2 m c t ht _)

/-- A step's unrotated query lane. -/
theorem lane_query (c : Dev nD) (t : Fin cfg0.N) (r : Fin 256) (l : Fin 1024) :
    dotQ (View.ld (iblk m c 0 t) r0_1) (iblk m c 3 t) (iblk m c 5 t) (ix2 r l)
      = if h : l.val % 128 < 96 then content (m ((c : Thread nD τ).loc main_arg0)) (m ((c : Thread nD τ).loc main_arg1)) (m ((c : Thread nD τ).loc main_arg3)) (row t r) ⟨l.val / 128, by omega⟩ ⟨l.val % 128, h⟩ else 0 := by
  refine (dotQ_at _ _ _ r l).trans ?_
  have hx : (fun e : Fin 256 => (View.ld (iblk m c 0 t) r0_1 : FVec Ideal S256x256 .f32) (ix2 r e))
      = fun e : Fin 256 => (m ((c : Thread nD τ).loc main_arg0)) (ix2 (row t r) ⟨e.val, by omega⟩) :=
    funext fun e => (ld1 m c t r e).trans (congrArg (fun z => (m ((c : Thread nD τ).loc main_arg0)) (ix2 (row t r) z)) (Fin.ext (Nat.zero_add _)))
  have hg : (fun e : Fin 256 => iblk m c 3 t (ix2 0 e)) = fun e => (m ((c : Thread nD τ).loc main_arg1)) (ix1 e) := funext fun e => in3 m c t e
  rw [hx, hg]
  by_cases h : l.val % 128 < 96
  · rw [dif_pos h]
    exact Finset.sum_congr rfl fun e _ => congrArg _ ((in5 m c t e l).trans (dif_pos h))
  · rw [dif_neg h]
    refine Finset.sum_eq_zero fun e _ => ?_
    rw [in5 m c t e l, dif_neg h, mul_zero]

/-- A step's block of the queries. -/
theorem block_query (c : Dev nD) (t : Fin cfg0.N) (r : Fin 256) (l : Fin 1024) :
    k0_pay5 (iblk m c 8 t) (iblk m c 9 t) (iblk m c 10 t) (View.ld (iblk m c 0 t) r0_1) (iblk m c 3 t) (iblk m c 5 t) (ix2 r l)
      = query (m ((c : Thread nD τ).loc main_arg0)) (m ((c : Thread nD τ).loc main_arg1)) (m ((c : Thread nD τ).loc main_arg3)) (m ((c : Thread nD τ).loc main_arg6)) (m ((c : Thread nD τ).loc main_arg7)) (row t r) l := by
  refine (pay_q _ _ _ _ _ _ r l).trans ?_
  rw [in8, in9, in10]
  exact congrArg (· * Ideal.ofBits .f32 0x3DD105EC#32) (query_lanes (fun l => dotQ (View.ld (iblk m c 0 t) r0_1) (iblk m c 3 t) (iblk m c 5 t) (ix2 r l))
    (content (m ((c : Thread nD τ).loc main_arg0)) (m ((c : Thread nD τ).loc main_arg1)) (m ((c : Thread nD τ).loc main_arg3)) (row t r)) (lane_query m c t r) (m ((c : Thread nD τ).loc main_arg6)) (m ((c : Thread nD τ).loc main_arg7)) _ l)

/-- A step's normed compression of the keys and the values. -/
theorem lane_norm (c : Dev nD) (t : Fin cfg0.N) (r : Fin 256) (e : Fin 128) :
    normedBy 0x43000000#32 (fun e => (View.ld (iblk m c 0 t) r0_4 : FVec Ideal S256x128 .f32) (ix2 r e)) (fun e => iblk m c 4 t (ix2 0 e)) e
      = normedBy 0x43000000#32 (fun e : Fin 128 => (m ((c : Thread nD τ).loc main_arg0)) (ix2 (row t r) ⟨256 + e.val, by omega⟩)) (fun e => (m ((c : Thread nD τ).loc main_arg2)) (ix1 e)) e :=
  congr (congr (congrArg (normedBy 0x43000000#32) (funext fun e => ld4 m c t r e)) (funext fun e => in4 m c t e)) rfl

/-- A step's block of the values. -/
theorem block_value (c : Dev nD) (t : Fin cfg0.N) (r : Fin 256) (l : Fin 512) :
    k0_pay8 (View.ld (iblk m c 0 t) r0_4) (iblk m c 4 t) (iblk m c 7 t) (ix2 r l)
      = value (m ((c : Thread nD τ).loc main_arg0)) (m ((c : Thread nD τ).loc main_arg2)) (m ((c : Thread nD τ).loc main_arg4)) (row t r) l := by
  refine (pay_v _ _ _ r l).trans ?_
  unfold value kv
  refine Finset.sum_congr rfl fun e _ => ?_
  rw [lane_norm m c t r e, in7 m c t e l]

/-- A step's content of the keys. -/
theorem lane_key (c : Dev nD) (t : Fin cfg0.N) (r : Fin 256) (l : Fin 1024) :
    (∑ e, normedBy 0x43000000#32 (fun e => (View.ld (iblk m c 0 t) r0_4 : FVec Ideal S256x128 .f32) (ix2 r e)) (fun e => iblk m c 4 t (ix2 0 e)) e
        * iblk m c 6 t (ix2 e l) : EReal)
      = if h : (⟨l.val % 128, by omega⟩ : Fin 128).val < 64 then kv (m ((c : Thread nD τ).loc main_arg0)) (m ((c : Thread nD τ).loc main_arg2)) (m ((c : Thread nD τ).loc main_arg4)) (row t r) ⟨l.val / 128 * 128 + l.val % 128, by omega⟩ else 0 := by
  have hl : (⟨l.val / 128 * 128 + l.val % 128, by omega⟩ : Fin 1024) = l := Fin.ext (by show l.val / 128 * 128 + l.val % 128 = l.val; omega)
  by_cases h : l.val % 128 < 64
  · rw [dif_pos h, hl]
    unfold kv
    refine Finset.sum_congr rfl fun e _ => ?_
    rw [lane_norm m c t r e, in6 m c t e l, dif_pos h]
  · rw [dif_neg h]
    refine Finset.sum_eq_zero fun e _ => ?_
    rw [in6 m c t e l, dif_neg h, mul_zero]

/-- A step's block of the keys, if the lanes around the shared rotary ones are zero. -/
theorem block_key (c : Dev nD) (hp : ∀ (r : Fin 34816) (j : Fin 128), j.val < 64 ∨ 96 ≤ j.val → (m ((c : Thread nD τ).loc main_arg0)) (ix2 r ⟨384 + j.val, by omega⟩) = (0 : EReal))
    (t : Fin cfg0.N) (r : Fin 256) (l : Fin 1024) :
    k0_pay7 (k0_pay2 (iblk m c 8 t)) (k0_pay3 (iblk m c 9 t)) (k0_pay4 (iblk m c 10 t)) (View.ld (iblk m c 0 t) r0_4) (iblk m c 4 t)
      (iblk m c 6 t) (View.ld (iblk m c 0 t) r0_7) (ix2 r l) = key (m ((c : Thread nD τ).loc main_arg0)) (m ((c : Thread nD τ).loc main_arg2)) (m ((c : Thread nD τ).loc main_arg4)) (m ((c : Thread nD τ).loc main_arg6)) (m ((c : Thread nD τ).loc main_arg7)) (row t r) l := by
  refine (pay_k _ _ _ _ _ _ _ r l).trans ?_
  rw [in8, in9, in10]
  refine (congrArg (_ + ·) (key_lanes (fun j => (View.ld (iblk m c 0 t) r0_7 : FVec Ideal S256x128 .f32) (ix2 r j))
    (fun i hi => (ld7 m c t r i).trans (hp _ i hi)) (m ((c : Thread nD τ).loc main_arg6)) (m ((c : Thread nD τ).loc main_arg7)) ((row t r).val % 4352) ⟨l.val % 128, by omega⟩)).trans ?_
  refine (lanes_add (fun i => kv (m ((c : Thread nD τ).loc main_arg0)) (m ((c : Thread nD τ).loc main_arg2)) (m ((c : Thread nD τ).loc main_arg4)) (row t r) ⟨l.val / 128 * 128 + i.val, by omega⟩) _ ⟨l.val % 128, by omega⟩ _ (lane_key m c t r l)).trans ?_
  refine congrFun (congrArg (lanes _) (congrArg (turn _ _ _) (funext fun i => (ld7 m c t r _).trans ?_))) _
  exact congrArg (fun z => (m ((c : Thread nD τ).loc main_arg0)) (ix2 (row t r) z)) (Fin.ext (by show 384 + (64 + i.val) = 448 + i.val; omega))

/-- A step's rows of what the convolution runs over. -/
theorem lane_gated (c : Dev nD) (t : Fin cfg0.N) (r : Fin 256) (l : Fin 512) :
    k0_pay9 (View.ld (iblk m c 0 t) r0_11) (View.ld (iblk m c 0 t) r0_12) (ix2 r l) = gated (m ((c : Thread nD τ).loc main_arg0)) l (row t r) := by
  refine (pay_gated _ _ r l).trans ?_
  rw [ld11, ld12]
  rfl

/-- The product in the row before a step's, or zero. -/
theorem lane_prev (c : Dev nD) (t : Fin cfg0.N) (l : Fin 512) :
    k0_pay10 (BitVec.ofNat 32 (grid0.coords t 0).val) (View.ld (iblk m c 1 t) r0_13) (View.ld (iblk m c 1 t) r0_14) (ix2 0 l)
      = before (gated (m ((c : Thread nD τ).loc main_arg0)) l) (row t 0) := by
  have ht := step_lt t
  have hv : (row t 0).val = t.val * 256 := rfl
  rw [coord t]
  refine (pay_prev t.val _ _ l).trans ?_
  unfold before
  rw [hasPrev_eq t]
  by_cases h : t.val % 17 = 0 ∨ t.val % 17 = 16
  · rw [if_pos h, bitNum_zero, mul_zero, if_pos (by omega)]
  · rw [if_neg h, bitNum_one, mul_one, if_neg (by omega), ld13 m c t (by omega), ld14 m c t (by omega)]
    unfold gated
    refine congr (congrArg HMul.hMul (congrArg (m ((c : Thread nD τ).loc main_arg0)) (congr (congrArg ix2 (Fin.ext ?_)) (Fin.ext ?_))))
      (congrArg (m ((c : Thread nD τ).loc main_arg0)) (congr (congrArg ix2 (Fin.ext ?_)) (Fin.ext ?_)))
    all_goals dsimp only
    all_goals omega

/-- The product in the row after a step's, or zero. -/
theorem lane_next (c : Dev nD) (t : Fin cfg0.N) (l : Fin 512) :
    (k0_pay11 (View.ld (iblk m c 2 t) r0_15) (View.ld (iblk m c 2 t) r0_16) (ix2 0 l)
        * k0_pay12 (F := Ideal) (BitVec.ofNat 32 (grid0.coords t 0).val) (ix2 0 l) : EReal)
      = after (gated (m ((c : Thread nD τ).loc main_arg0)) l) (row t 255) := by
  have ht := step_lt t
  have hv : (row t 255).val = t.val * 256 + 255 := rfl
  rw [coord t, pay_next, pay_row]
  unfold after
  rw [hasNext_eq t]
  by_cases h : t.val % 17 = 15 ∨ t.val % 17 = 16
  · rw [if_pos h, bitNum_zero, mul_zero, dif_pos (by omega)]
  · rw [if_neg h, bitNum_one, mul_one, dif_neg (by omega), ld15 m c t (by omega), ld16 m c t (by omega)]
    unfold gated
    refine congr (congrArg HMul.hMul (congrArg (m ((c : Thread nD τ).loc main_arg0)) (congr (congrArg ix2 (Fin.ext ?_)) (Fin.ext ?_))))
      (congrArg (m ((c : Thread nD τ).loc main_arg0)) (congr (congrArg ix2 (Fin.ext ?_)) (Fin.ext ?_)))
    all_goals dsimp only
    all_goals omega

/-- A step's block of the convolution. -/
theorem block_conv (c : Dev nD) (t : Fin cfg0.N) (r : Fin 256) (l : Fin 512) :
    k0_pay1 (View.ld (iblk m c 0 t) r0_10) (k0_pay9 (View.ld (iblk m c 0 t) r0_11) (View.ld (iblk m c 0 t) r0_12))
      (k0_pay10 (BitVec.ofNat 32 (grid0.coords t 0).val) (View.ld (iblk m c 1 t) r0_13) (View.ld (iblk m c 1 t) r0_14))
      (k0_pay11 (View.ld (iblk m c 2 t) r0_15) (View.ld (iblk m c 2 t) r0_16))
      (k0_pay12 (F := Ideal) (BitVec.ofNat 32 (grid0.coords t 0).val)) (iblk m c 11 t) (ix2 r l)
      = conv (m ((c : Thread nD τ).loc main_arg0)) (m ((c : Thread nD τ).loc main_arg5)) (row t r) l := by
  have ht := step_lt t
  have hv : (row t r).val = t.val * 256 + r.val := rfl
  refine (pay_c _ _ _ _ _ _ r l).trans ?_
  rw [lane_prev, lane_next, ld10, in11, in11, in11, lane_gated, lane_gated, lane_gated]
  unfold conv
  have hb : (if r.val = 0 then before (gated (m ((c : Thread nD τ).loc main_arg0)) l) (row t 0) else gated (m ((c : Thread nD τ).loc main_arg0)) l (row t ⟨(r.val + 256 - 1) % 256, by omega⟩))
      = before (gated (m ((c : Thread nD τ).loc main_arg0)) l) (row t r) := by
    by_cases h : r.val = 0
    · rw [if_pos h]
      exact congrArg (fun r => before (gated (m ((c : Thread nD τ).loc main_arg0)) l) (row t r)) (Fin.ext h.symm)
    · rw [if_neg h]
      unfold before
      rw [if_neg (by omega)]
      refine congrArg (gated (m ((c : Thread nD τ).loc main_arg0)) l) (Fin.ext ?_)
      show t.val * 256 + (r.val + 256 - 1) % 256 = (row t r).val - 1
      omega
  have ha : (if r.val = 255 then after (gated (m ((c : Thread nD τ).loc main_arg0)) l) (row t 255) else gated (m ((c : Thread nD τ).loc main_arg0)) l (row t ⟨(r.val + 256 - 255) % 256, by omega⟩))
      = after (gated (m ((c : Thread nD τ).loc main_arg0)) l) (row t r) := by
    by_cases h : r.val = 255
    · rw [if_pos h]
      exact congrArg (fun r => after (gated (m ((c : Thread nD τ).loc main_arg0)) l) (row t r)) (Fin.ext h.symm)
    · rw [if_neg h]
      unfold after
      rw [dif_neg (by omega)]
      refine congrArg (gated (m ((c : Thread nD τ).loc main_arg0)) l) (Fin.ext ?_)
      show t.val * 256 + (r.val + 256 - 255) % 256 = (row t r).val + 1
      omega
  rw [hb, ha]

/-- The call's queries. -/
theorem final_query (c : Dev nD) : (dats m 0 c).arrAt 12 cfg0.N
    = queryOut (m ((c : Thread nD τ).loc main_arg0)) (m ((c : Thread nD τ).loc main_arg1)) (m ((c : Thread nD τ).loc main_arg3)) (m ((c : Thread nD τ).loc main_arg6)) (m ((c : Thread nD τ).loc main_arg7)) := by
  refine (dats m 0 c).arrAt_eq_of_covers 12 _ (by decide +kernel) fun t hf y => ?_
  blk_simp
  rw [after0_12]
  unfold out0_12
  frame_out
  obtain ⟨r, l, rfl⟩ : ∃ (r : Fin 256) (l : Fin 1024), y = ix2 r l := ⟨y 0, y 1, eq_ix2 y⟩
  refine (block_query m c t r l).trans ?_
  refine congr (congrArg _ (Fin.ext ?_)) (Fin.ext ?_)
  · unfold row; blk_simp [idx12 t]
  · blk_simp [idx12 t]

/-- The call's keys. -/
theorem final_key (c : Dev nD)
    (hp : ∀ (r : Fin 34816) (j : Fin 128), j.val < 64 ∨ 96 ≤ j.val → (m ((c : Thread nD τ).loc main_arg0)) (ix2 r ⟨384 + j.val, by omega⟩) = (0 : EReal)) : (dats m 0 c).arrAt 13 cfg0.N
    = keyOut (m ((c : Thread nD τ).loc main_arg0)) (m ((c : Thread nD τ).loc main_arg2)) (m ((c : Thread nD τ).loc main_arg4)) (m ((c : Thread nD τ).loc main_arg6)) (m ((c : Thread nD τ).loc main_arg7)) := by
  refine (dats m 0 c).arrAt_eq_of_covers 13 _ (by decide +kernel) fun t hf y => ?_
  blk_simp
  rw [after0_13]
  unfold out0_13
  frame_out
  obtain ⟨r, l, rfl⟩ : ∃ (r : Fin 256) (l : Fin 1024), y = ix2 r l := ⟨y 0, y 1, eq_ix2 y⟩
  refine (block_key m c hp t r l).trans ?_
  refine congr (congrArg _ (Fin.ext ?_)) (Fin.ext ?_)
  · unfold row; blk_simp [idx13 t]
  · blk_simp [idx13 t]

/-- The call's values. -/
theorem final_value (c : Dev nD) : (dats m 0 c).arrAt 14 cfg0.N
    = valueOut (m ((c : Thread nD τ).loc main_arg0)) (m ((c : Thread nD τ).loc main_arg2)) (m ((c : Thread nD τ).loc main_arg4)) := by
  refine (dats m 0 c).arrAt_eq_of_covers 14 _ (by decide +kernel) fun t hf y => ?_
  blk_simp
  rw [after0_14]
  unfold out0_14
  frame_out
  obtain ⟨r, l, rfl⟩ : ∃ (r : Fin 256) (l : Fin 512), y = ix2 r l := ⟨y 0, y 1, eq_ix2 y⟩
  refine (block_value m c t r l).trans ?_
  refine congr (congrArg _ (Fin.ext ?_)) (Fin.ext ?_)
  · unfold row; blk_simp [idx14 t]
  · blk_simp [idx14 t]

/-- The call's convolution. -/
theorem final_conv (c : Dev nD) : (dats m 0 c).arrAt 15 cfg0.N
    = convOut (m ((c : Thread nD τ).loc main_arg0)) (m ((c : Thread nD τ).loc main_arg5)) := by
  refine (dats m 0 c).arrAt_eq_of_covers 15 _ (by decide +kernel) fun t hf y => ?_
  blk_simp
  rw [after0_15]
  unfold out0_15
  frame_out
  obtain ⟨r, l, rfl⟩ : ∃ (r : Fin 256) (l : Fin 512), y = ix2 r l := ⟨y 0, y 1, eq_ix2 y⟩
  refine (block_conv m c t r l).trans ?_
  refine congr (congrArg _ (Fin.ext ?_)) (Fin.ext ?_)
  · unfold row; blk_simp [idx15 t]
  · blk_simp [idx15 t]

end Cert.Prep

end
-- ==== Proof.PrepRef.lean ====
/-
  The reference's side of the even layers' preparation, read at an index.
-/
module

public import proofs.«01_k».proof.Proof.PrepFinal
public import proofs.«01_k».proof.Proof.Gen.Reference7Ideal.Run

@[expose] public section

noncomputable section

namespace Cert.Prep

open Idealize.ShloMosaic Idealize.SL.Sem
open Cert.Reference7Ideal (S34816x2048 S256 S128 S256x768 S128x1024 S3x512 S4096x16 S8x4352x2048 S8x4352x256 S8x4352x128
  S8x4352x1 S8x4352x768 S8x4352x1024 S8x4352x8x96 S8x4352x8x128 S8x4352x8x64 S8x4352x8x32 S8x4096x8x32 S8x4096x8x16
  S8x4352x32 S8x4096x32 S8x4096x16 S8x256x32 S8x256x8x32 S8x4096x512 S8x256x512 S8x4098x512 S8x258x512 S8x4352x512
  S34816x1024 S34816x512 S8x4096x1536 S8x256x1536 S1x512 S512)
open Cert.Reference7Ideal.Gen

/-- The projection, a token to a row of its batch. -/
def refRows (p : FVec Ideal S34816x2048 .f32) : FVec Ideal S8x4352x2048 .f32 :=
  shapeCast _ p shapeCasts_S34816x2048_S8x4352x2048

/-- A token's row. -/
theorem refRows_at (p : FVec Ideal S34816x2048 .f32) (b : Fin 8) (t : Fin 4352) (e : Fin 2048) :
    refRows p (ix3 b t e) = p (ix2 ⟨b.val * 4352 + t.val, by omega⟩ e) := by
  pointwise [refRows]

/-- The reference's norm of 256 columns. -/
def refNorm256 (x : FVec Ideal S8x4352x256 .f32) (g : FVec Ideal S256 .f32) : FVec Ideal S8x4352x256 .f32 :=
  mulf (mulf x (broadcastInDim S8x4352x256 ![0, 1, 2] bcast_S8x4352x1_S8x4352x256_0_1_2 (Host.rsqrt (addf (Host.divf
    (broadcastInDim S8x4352x1 ![0, 1] bcast_S8x4352_S8x4352x1_0_1 (Host.reduceAdd (mulf x x) (constant Cert.Reference7Ideal.S_ .f32 0x00000000#32)
      reducesTo_S8x4352x256_S8x4352_d2 h_S_))
    (broadcastInDim S8x4352x1 ![] bcast_S_S8x4352x1 (constant Cert.Reference7Ideal.S_ .f32 0x43800000#32)))
    (broadcastInDim S8x4352x1 ![] bcast_S_S8x4352x1 (constant Cert.Reference7Ideal.S_ .f32 0x358637BD#32))))))
    (broadcastInDim S8x4352x256 ![0, 1, 2] bcast_S1x1x256_S8x4352x256_0_1_2 (broadcastInDim Cert.Reference7Ideal.S1x1x256 ![2] bcast_S256_S1x1x256_2 g))

/-- The norm at an index. -/
theorem refNorm256_at (x : FVec Ideal S8x4352x256 .f32) (g : FVec Ideal S256 .f32) (b : Fin 8) (t : Fin 4352) (d : Fin 256) :
    refNorm256 x g (ix3 b t d) = normedBy 0x43800000#32 (fun e => x (ix3 b t e)) (fun e => g (ix1 e)) d := by
  pointwise [refNorm256]
  rfl

/-- The reference's norm of 128 columns. -/
def refNorm128 (x : FVec Ideal S8x4352x128 .f32) (g : FVec Ideal S128 .f32) : FVec Ideal S8x4352x128 .f32 :=
  mulf (mulf x (broadcastInDim S8x4352x128 ![0, 1, 2] bcast_S8x4352x1_S8x4352x128_0_1_2 (Host.rsqrt (addf (Host.divf
    (broadcastInDim S8x4352x1 ![0, 1] bcast_S8x4352_S8x4352x1_0_1 (Host.reduceAdd (mulf x x) (constant Cert.Reference7Ideal.S_ .f32 0x00000000#32)
      reducesTo_S8x4352x128_S8x4352_d2 h_S_))
    (broadcastInDim S8x4352x1 ![] bcast_S_S8x4352x1 (constant Cert.Reference7Ideal.S_ .f32 0x43000000#32)))
    (broadcastInDim S8x4352x1 ![] bcast_S_S8x4352x1 (constant Cert.Reference7Ideal.S_ .f32 0x358637BD#32))))))
    (broadcastInDim S8x4352x128 ![0, 1, 2] bcast_S1x1x128_S8x4352x128_0_1_2 (broadcastInDim Cert.Reference7Ideal.S1x1x128 ![2] bcast_S128_S1x1x128_2 g))

/-- The norm at an index. -/
theorem refNorm128_at (x : FVec Ideal S8x4352x128 .f32) (g : FVec Ideal S128 .f32) (b : Fin 8) (t : Fin 4352) (d : Fin 128) :
    refNorm128 x g (ix3 b t d) = normedBy 0x43000000#32 (fun e => x (ix3 b t e)) (fun e => g (ix1 e)) d := by
  pointwise [refNorm128]
  rfl

/-- The reference's queries before the rotation, a head's columns apart. -/
def refQ (p : FVec Ideal S34816x2048 .f32) (g : FVec Ideal S256 .f32) (w : FVec Ideal S256x768 .f32) : FVec Ideal S8x4352x8x96 .f32 :=
  shapeCast _ (Host.dotGeneral Cert.Reference7Ideal.dot_S8x4352x256_S256x768_S8x4352x768_2_0_01_1_n_n none
    (refNorm256 (extractStridedSlice S8x4352x256 ![0, 0, 0] (refRows p) slices_S8x4352x2048_S8x4352x256_0_0_0) g) w)
    shapeCasts_S8x4352x768_S8x4352x8x96

/-- The reference's keys and values before the rotation, a head's columns apart. -/
def refKv (p : FVec Ideal S34816x2048 .f32) (g : FVec Ideal S128 .f32) (w : FVec Ideal S128x1024 .f32) : FVec Ideal S8x4352x8x128 .f32 :=
  shapeCast _ (Host.dotGeneral Cert.Reference7Ideal.dot_S8x4352x128_S128x1024_S8x4352x1024_2_0_01_1_n_n none
    (refNorm128 (extractStridedSlice S8x4352x128 ![0, 0, 256] (refRows p) slices_S8x4352x2048_S8x4352x128_0_0_256) g) w)
    shapeCasts_S8x4352x1024_S8x4352x8x128

/-- The batch of a row. -/
def bat (r : Fin 34816) : Fin 8 := ⟨r.val / 4352, by omega⟩

/-- A row is its place in its batch. -/
theorem row_of (r : Fin 34816) (h : (bat r).val * 4352 + (place r).val < 34816) : (⟨(bat r).val * 4352 + (place r).val, h⟩ : Fin 34816) = r :=
  Fin.ext (by show r.val / 4352 * 4352 + r.val % 4352 = r.val; omega)

/-- That product over any rows. -/
theorem refQ_dot (x : FVec Ideal S8x4352x256 .f32) (w : FVec Ideal S256x768 .f32) (b : Fin 8) (t : Fin 4352) (h : Fin 8) (j : Fin 96) :
    (shapeCast S8x4352x8x96 (Host.dotGeneral Cert.Reference7Ideal.dot_S8x4352x256_S256x768_S8x4352x768_2_0_01_1_n_n none x w)
      shapeCasts_S8x4352x768_S8x4352x8x96) (ix4 b t h j) = ∑ e, x (ix3 b t e) * w (ix2 e ⟨h.val * 96 + j.val, by omega⟩) := by
  pointwise []

/-- Columns of the projection. -/
theorem refQ_cols (p : FVec Ideal S34816x2048 .f32) (r : Fin 34816) (e : Fin 256) :
    extractStridedSlice S8x4352x256 ![0, 0, 0] (refRows p) slices_S8x4352x2048_S8x4352x256_0_0_0 (ix3 (bat r) (place r) e)
      = p (ix2 r ⟨e.val, by omega⟩) := by
  have h : ∀ z : FVec Ideal S8x4352x2048 .f32, extractStridedSlice S8x4352x256 ![0, 0, 0] z slices_S8x4352x2048_S8x4352x256_0_0_0 (ix3 (bat r) (place r) e)
      = z (ix3 (bat r) (place r) ⟨e.val, by omega⟩) := by
    intro z
    pointwise []
  rw [h, refRows_at, row_of]

/-- The product at a row. -/
theorem refQ_at (p : FVec Ideal S34816x2048 .f32) (g : FVec Ideal S256 .f32) (w : FVec Ideal S256x768 .f32) (r : Fin 34816) (h : Fin 8) (j : Fin 96) :
    refQ p g w (ix4 (bat r) (place r) h j) = content p g w r h j := by
  refine (refQ_dot _ w _ _ h j).trans ?_
  unfold content
  refine Finset.sum_congr rfl fun e _ => ?_
  rw [refNorm256_at, funext fun e => refQ_cols p r e]

/-- That product over any rows. -/
theorem refKv_dot (x : FVec Ideal S8x4352x128 .f32) (w : FVec Ideal S128x1024 .f32) (b : Fin 8) (t : Fin 4352) (h : Fin 8) (j : Fin 128) :
    (shapeCast S8x4352x8x128 (Host.dotGeneral Cert.Reference7Ideal.dot_S8x4352x128_S128x1024_S8x4352x1024_2_0_01_1_n_n none x w)
      shapeCasts_S8x4352x1024_S8x4352x8x128) (ix4 b t h j) = ∑ e, x (ix3 b t e) * w (ix2 e ⟨h.val * 128 + j.val, by omega⟩) := by
  pointwise []

/-- Columns of the projection. -/
theorem refKv_cols (p : FVec Ideal S34816x2048 .f32) (r : Fin 34816) (e : Fin 128) :
    extractStridedSlice S8x4352x128 ![0, 0, 256] (refRows p) slices_S8x4352x2048_S8x4352x128_0_0_256 (ix3 (bat r) (place r) e)
      = p (ix2 r ⟨256 + e.val, by omega⟩) := by
  have h : ∀ z : FVec Ideal S8x4352x2048 .f32, extractStridedSlice S8x4352x128 ![0, 0, 256] z slices_S8x4352x2048_S8x4352x128_0_0_256 (ix3 (bat r) (place r) e)
      = z (ix3 (bat r) (place r) ⟨256 + e.val, by omega⟩) := by
    intro z
    pointwise []
  rw [h, refRows_at, row_of]

/-- The product at a row. -/
theorem refKv_at (p : FVec Ideal S34816x2048 .f32) (g : FVec Ideal S128 .f32) (w : FVec Ideal S128x1024 .f32) (r : Fin 34816) (h : Fin 8) (j : Fin 128) :
    refKv p g w (ix4 (bat r) (place r) h j) = kv p g w r ⟨h.val * 128 + j.val, by omega⟩ := by
  refine (refKv_dot _ w _ _ h j).trans ?_
  unfold kv
  refine Finset.sum_congr rfl fun e _ => ?_
  rw [refNorm128_at, funext fun e => refKv_cols p r e]

/-- The latents' turn of each head's rotary lanes. -/
def refTurnLat (cos sin : FVec Ideal S4096x16 .f32) (x : FVec Ideal S8x4096x8x32 .f32) : FVec Ideal S8x4096x8x32 .f32 :=
  concatenate S8x4096x8x32 3 [⟨S8x4096x8x16, subf
      (mulf (extractStridedSlice S8x4096x8x16 ![0, 0, 0, 0] x slices_S8x4096x8x32_S8x4096x8x16_0_0_0_0)
        (broadcastInDim S8x4096x8x16 ![0, 1, 2, 3] bcast_S1x4096x1x16_S8x4096x8x16_0_1_2_3 (broadcastInDim Cert.Reference7Ideal.S1x4096x1x16 ![1, 2, 3] bcast_S4096x1x16_S1x4096x1x16_1_2_3 (broadcastInDim Cert.Reference7Ideal.S4096x1x16 ![0, 2] bcast_S4096x16_S4096x1x16_0_2 cos))))
      (mulf (extractStridedSlice S8x4096x8x16 ![0, 0, 0, 16] x slices_S8x4096x8x32_S8x4096x8x16_0_0_0_16)
        (broadcastInDim S8x4096x8x16 ![0, 1, 2, 3] bcast_S1x4096x1x16_S8x4096x8x16_0_1_2_3 (broadcastInDim Cert.Reference7Ideal.S1x4096x1x16 ![1, 2, 3] bcast_S4096x1x16_S1x4096x1x16_1_2_3 (broadcastInDim Cert.Reference7Ideal.S4096x1x16 ![0, 2] bcast_S4096x16_S4096x1x16_0_2 sin))))⟩,
    ⟨S8x4096x8x16, addf
      (mulf (extractStridedSlice S8x4096x8x16 ![0, 0, 0, 0] x slices_S8x4096x8x32_S8x4096x8x16_0_0_0_0)
        (broadcastInDim S8x4096x8x16 ![0, 1, 2, 3] bcast_S1x4096x1x16_S8x4096x8x16_0_1_2_3 (broadcastInDim Cert.Reference7Ideal.S1x4096x1x16 ![1, 2, 3] bcast_S4096x1x16_S1x4096x1x16_1_2_3 (broadcastInDim Cert.Reference7Ideal.S4096x1x16 ![0, 2] bcast_S4096x16_S4096x1x16_0_2 sin))))
      (mulf (extractStridedSlice S8x4096x8x16 ![0, 0, 0, 16] x slices_S8x4096x8x32_S8x4096x8x16_0_0_0_16)
        (broadcastInDim S8x4096x8x16 ![0, 1, 2, 3] bcast_S1x4096x1x16_S8x4096x8x16_0_1_2_3 (broadcastInDim Cert.Reference7Ideal.S1x4096x1x16 ![1, 2, 3] bcast_S4096x1x16_S1x4096x1x16_1_2_3 (broadcastInDim Cert.Reference7Ideal.S4096x1x16 ![0, 2] bcast_S4096x16_S4096x1x16_0_2 cos))))⟩]
    concatenates_S8x4096x8x16_S8x4096x8x16_S8x4096x8x32_d3

/-- The latents' turn of a latent's lane. -/
theorem refTurnLat_at (cos sin : FVec Ideal S4096x16 .f32) (x : FVec Ideal S8x4096x8x32 .f32) (b : Fin 8) (t : Fin 4096) (h : Fin 8) (j : Fin 32) :
    refTurnLat cos sin x (ix4 b t h j) = turn cos sin t.val (fun j => x (ix4 b t h j)) j := by
  unfold turn
  rw [dif_pos t.isLt]
  pointwise [refTurnLat]
  split <;> rename_i hj
  · exact congrArg (fun z => _ - x (ix4 b t h z) * _) (Fin.ext (Nat.add_comm _ _))
  · exact congrArg (fun z => _ + x (ix4 b t h z) * _) (Fin.ext (by show 16 + (j.val - 16) = j.val; omega))

/-- Both streams' rotary lanes: the latents' turned, the context's as they are. -/
def refTurn (cos sin : FVec Ideal S4096x16 .f32) (y : FVec Ideal S8x4352x8x32 .f32) : FVec Ideal S8x4352x8x32 .f32 :=
  concatenate S8x4352x8x32 1 [⟨S8x4096x8x32, refTurnLat cos sin (extractStridedSlice S8x4096x8x32 ![0, 0, 0, 0] y slices_S8x4352x8x32_S8x4096x8x32_0_0_0_0)⟩,
    ⟨S8x256x8x32, extractStridedSlice S8x256x8x32 ![0, 4096, 0, 0] y slices_S8x4352x8x32_S8x256x8x32_0_4096_0_0⟩]
    concatenates_S8x4096x8x32_S8x256x8x32_S8x4352x8x32_d1

/-- The first stream's tokens of an array. -/
theorem cut_at (y : FVec Ideal S8x4352x8x32 .f32) (b : Fin 8) (t : Fin 4096) (h : Fin 8) (j : Fin 32) :
    extractStridedSlice S8x4096x8x32 ![0, 0, 0, 0] y slices_S8x4352x8x32_S8x4096x8x32_0_0_0_0 (ix4 b t h j) = y (ix4 b ⟨t.val, by omega⟩ h j) := by
  pointwise []

/-- Two streams side by side, then their turn. -/
theorem refTurn_join (a : FVec Ideal S8x4096x8x32 .f32) (y : FVec Ideal S8x4352x8x32 .f32) (b : Fin 8) (t : Fin 4352) (h : Fin 8) (j : Fin 32) :
    concatenate S8x4352x8x32 1 [⟨S8x4096x8x32, a⟩,
      ⟨S8x256x8x32, extractStridedSlice S8x256x8x32 ![0, 4096, 0, 0] y slices_S8x4352x8x32_S8x256x8x32_0_4096_0_0⟩]
      concatenates_S8x4096x8x32_S8x256x8x32_S8x4352x8x32_d1 (ix4 b t h j)
      = if ht : t.val < 4096 then a (ix4 b ⟨t.val, ht⟩ h j) else y (ix4 b t h j) := by
  pointwise []
  split
  · rfl
  · exact congrArg (fun z => y (ix4 b z h j)) (Fin.ext (by dsimp only; omega))

/-- The streams' rotary lanes at an index. -/
theorem refTurn_at (cos sin : FVec Ideal S4096x16 .f32) (y : FVec Ideal S8x4352x8x32 .f32) (b : Fin 8) (t : Fin 4352) (h : Fin 8) (j : Fin 32) :
    refTurn cos sin y (ix4 b t h j) = turn cos sin t.val (fun j => y (ix4 b t h j)) j := by
  refine (refTurn_join _ y b t h j).trans ?_
  by_cases ht : t.val < 4096
  · rw [dif_pos ht, refTurnLat_at, funext fun j => cut_at y b ⟨t.val, ht⟩ h j]
  · rw [dif_neg ht]
    unfold turn
    rw [dif_neg ht]

/-- A head's columns, its rotary lanes and zeros, scaled. -/
def refQuery (q : FVec Ideal S8x4352x8x96 .f32) (y : FVec Ideal S8x4352x8x32 .f32) : FVec Ideal S34816x1024 .bf16 :=
  shapeCast _ (truncf .bf16 (mulf (concatenate Cert.Reference7Ideal.S8x4352x8x128 3 [⟨S8x4352x8x64, extractStridedSlice S8x4352x8x64 ![0, 0, 0, 0] q slices_S8x4352x8x96_S8x4352x8x64_0_0_0_0⟩,
      ⟨S8x4352x8x32, y⟩, ⟨S8x4352x8x32, broadcastInDim S8x4352x8x32 ![] bcast_S_S8x4352x8x32 (constant Cert.Reference7Ideal.S_ .f32 0x00000000#32)⟩]
      concatenates_S8x4352x8x64_S8x4352x8x32_S8x4352x8x32_S8x4352x8x128_d3)
    (broadcastInDim S8x4352x8x128 ![] bcast_S_S8x4352x8x128 (constant Cert.Reference7Ideal.S_ .f32 0x3DD105EC#32))) bitsLt_bf16_f32)
    shapeCasts_S8x4352x8x128_S34816x1024

/-- The scaled lanes at an index. -/
theorem refQuery_at (q : FVec Ideal S8x4352x8x96 .f32) (y : FVec Ideal S8x4352x8x32 .f32) (r : Fin 34816) (l : Fin 1024) :
    (refQuery q y (ix2 r l) : EReal) = lanes (fun i => q (ix4 (bat r) (place r) ⟨l.val / 128, by omega⟩ ⟨i.val, by omega⟩))
      (fun i => y (ix4 (bat r) (place r) ⟨l.val / 128, by omega⟩ i)) ⟨l.val % 128, by omega⟩ * Ideal.ofBits .f32 0x3DD105EC#32 := by
  unfold lanes bat place
  pointwise [refQuery]

/-- The latents' turn of the rotary lanes every head shares. -/
def refSharedLat (cos sin : FVec Ideal S4096x16 .f32) (x : FVec Ideal S8x4096x32 .f32) : FVec Ideal S8x4096x32 .f32 :=
  concatenate S8x4096x32 2 [⟨S8x4096x16, subf (mulf (extractStridedSlice S8x4096x16 ![0, 0, 0] x slices_S8x4096x32_S8x4096x16_0_0_0) (broadcastInDim S8x4096x16 ![0, 1, 2] bcast_S1x4096x16_S8x4096x16_0_1_2 (broadcastInDim Cert.Reference7Ideal.S1x4096x16 ![1, 2] bcast_S4096x16_S1x4096x16_1_2 cos))) (mulf (extractStridedSlice S8x4096x16 ![0, 0, 16] x slices_S8x4096x32_S8x4096x16_0_0_16) (broadcastInDim S8x4096x16 ![0, 1, 2] bcast_S1x4096x16_S8x4096x16_0_1_2 (broadcastInDim Cert.Reference7Ideal.S1x4096x16 ![1, 2] bcast_S4096x16_S1x4096x16_1_2 sin)))⟩,
    ⟨S8x4096x16, addf (mulf (extractStridedSlice S8x4096x16 ![0, 0, 0] x slices_S8x4096x32_S8x4096x16_0_0_0) (broadcastInDim S8x4096x16 ![0, 1, 2] bcast_S1x4096x16_S8x4096x16_0_1_2 (broadcastInDim Cert.Reference7Ideal.S1x4096x16 ![1, 2] bcast_S4096x16_S1x4096x16_1_2 sin))) (mulf (extractStridedSlice S8x4096x16 ![0, 0, 16] x slices_S8x4096x32_S8x4096x16_0_0_16) (broadcastInDim S8x4096x16 ![0, 1, 2] bcast_S1x4096x16_S8x4096x16_0_1_2 (broadcastInDim Cert.Reference7Ideal.S1x4096x16 ![1, 2] bcast_S4096x16_S1x4096x16_1_2 cos)))⟩] concatenates_S8x4096x16_S8x4096x16_S8x4096x32_d2

/-- Their turn at an index. -/
theorem refSharedLat_at (cos sin : FVec Ideal S4096x16 .f32) (x : FVec Ideal S8x4096x32 .f32) (b : Fin 8) (t : Fin 4096) (j : Fin 32) :
    refSharedLat cos sin x (ix3 b t j) = turn cos sin t.val (fun j => x (ix3 b t j)) j := by
  unfold turn
  rw [dif_pos t.isLt]
  pointwise [refSharedLat]
  split <;> rename_i hj
  · exact congrArg (fun z => _ - x (ix3 b t z) * _) (Fin.ext (Nat.add_comm _ _))
  · exact congrArg (fun z => _ + x (ix3 b t z) * _) (Fin.ext (by show 16 + (j.val - 16) = j.val; omega))

/-- Both streams' shared rotary lanes. -/
def refShared (cos sin : FVec Ideal S4096x16 .f32) (y : FVec Ideal S8x4352x32 .f32) : FVec Ideal S8x4352x32 .f32 :=
  concatenate S8x4352x32 1 [⟨S8x4096x32, refSharedLat cos sin (extractStridedSlice S8x4096x32 ![0, 0, 0] y slices_S8x4352x32_S8x4096x32_0_0_0)⟩,
    ⟨S8x256x32, extractStridedSlice S8x256x32 ![0, 4096, 0] y slices_S8x4352x32_S8x256x32_0_4096_0⟩]
    concatenates_S8x4096x32_S8x256x32_S8x4352x32_d1

/-- The latents' shared lanes. -/
theorem cutShared_at (y : FVec Ideal S8x4352x32 .f32) (b : Fin 8) (t : Fin 4096) (j : Fin 32) :
    extractStridedSlice S8x4096x32 ![0, 0, 0] y slices_S8x4352x32_S8x4096x32_0_0_0 (ix3 b t j) = y (ix3 b ⟨t.val, by omega⟩ j) := by
  pointwise []

/-- Two streams' shared lanes side by side. -/
theorem refShared_join (a : FVec Ideal S8x4096x32 .f32) (y : FVec Ideal S8x4352x32 .f32) (b : Fin 8) (t : Fin 4352) (j : Fin 32) :
    concatenate S8x4352x32 1 [⟨S8x4096x32, a⟩,
      ⟨S8x256x32, extractStridedSlice S8x256x32 ![0, 4096, 0] y slices_S8x4352x32_S8x256x32_0_4096_0⟩]
      concatenates_S8x4096x32_S8x256x32_S8x4352x32_d1 (ix3 b t j)
      = if ht : t.val < 4096 then a (ix3 b ⟨t.val, ht⟩ j) else y (ix3 b t j) := by
  pointwise []
  split
  · rfl
  · exact congrArg (fun z => y (ix3 b z j)) (Fin.ext (by dsimp only; omega))

/-- The shared rotary lanes at an index. -/
theorem refShared_at (cos sin : FVec Ideal S4096x16 .f32) (y : FVec Ideal S8x4352x32 .f32) (b : Fin 8) (t : Fin 4352) (j : Fin 32) :
    refShared cos sin y (ix3 b t j) = turn cos sin t.val (fun j => y (ix3 b t j)) j := by
  refine (refShared_join _ y b t j).trans ?_
  by_cases ht : t.val < 4096
  · rw [dif_pos ht, refSharedLat_at, funext fun j => cutShared_at y b ⟨t.val, ht⟩ j]
  · rw [dif_neg ht]
    unfold turn
    rw [dif_neg ht]

/-- A head's content, the shared rotary lanes and zeros. -/
def refKey (k : FVec Ideal S8x4352x8x128 .f32) (y : FVec Ideal S8x4352x32 .f32) : FVec Ideal S34816x1024 .bf16 :=
  shapeCast _ (truncf .bf16 (concatenate Cert.Reference7Ideal.S8x4352x8x128 3 [⟨S8x4352x8x64, extractStridedSlice S8x4352x8x64 ![0, 0, 0, 0] k slices_S8x4352x8x128_S8x4352x8x64_0_0_0_0⟩,
      ⟨S8x4352x8x32, broadcastInDim S8x4352x8x32 ![0, 1, 2, 3] bcast_S8x4352x1x32_S8x4352x8x32_0_1_2_3 (broadcastInDim Cert.Reference7Ideal.S8x4352x1x32 ![0, 1, 3] bcast_S8x4352x32_S8x4352x1x32_0_1_3 y)⟩,
      ⟨S8x4352x8x32, broadcastInDim S8x4352x8x32 ![] bcast_S_S8x4352x8x32 (constant Cert.Reference7Ideal.S_ .f32 0x00000000#32)⟩]
      concatenates_S8x4352x8x64_S8x4352x8x32_S8x4352x8x32_S8x4352x8x128_d3) bitsLt_bf16_f32)
    shapeCasts_S8x4352x8x128_S34816x1024

/-- The key lanes at an index. -/
theorem refKey_at (k : FVec Ideal S8x4352x8x128 .f32) (y : FVec Ideal S8x4352x32 .f32) (r : Fin 34816) (l : Fin 1024) :
    (refKey k y (ix2 r l) : EReal) = lanes (fun i => k (ix4 (bat r) (place r) ⟨l.val / 128, by omega⟩ ⟨i.val, by omega⟩))
      (fun i => y (ix3 (bat r) (place r) i)) ⟨l.val % 128, by omega⟩ := by
  unfold lanes bat place
  pointwise [refKey]

/-- The reference's values. -/
def refValue (k : FVec Ideal S8x4352x8x128 .f32) : FVec Ideal S34816x512 .bf16 :=
  shapeCast _ (truncf .bf16 (extractStridedSlice S8x4352x8x64 ![0, 0, 0, 64] k slices_S8x4352x8x128_S8x4352x8x64_0_0_0_64) bitsLt_bf16_f32)
    shapeCasts_S8x4352x8x64_S34816x512

/-- The values at an index. -/
theorem refValue_at (k : FVec Ideal S8x4352x8x128 .f32) (r : Fin 34816) (l : Fin 512) :
    (refValue k (ix2 r l) : EReal) = k (ix4 (bat r) (place r) ⟨l.val / 64, by omega⟩ ⟨64 + l.val % 64, by omega⟩) := by
  unfold bat place
  pointwise [refValue]

/-- The latents' product with a zero before and after. -/
def refPadLat (z : FVec Ideal S8x4096x512 .f32) : FVec Ideal S8x4098x512 .f32 :=
  pad S8x4098x512 ![0, 1, 0] ![0, 1, 0] ![0, 0, 0] z (sitofp .f32 (constantI Cert.Reference7Ideal.S_ 32 0#32)) pads_S8x4096x512_S8x4098x512_000_110_000 h_S_

/-- The padded product at an index. -/
theorem refPadLat_at (z : FVec Ideal S8x4096x512 .f32) (b : Fin 8) (t : Fin 4098) (l : Fin 512) :
    refPadLat z (ix3 b t l) = if h : 1 ≤ t.val ∧ t.val - 1 < 4096 then z (ix3 b ⟨t.val - 1, h.2⟩ l) else (0 : EReal) := by
  pointwise [refPadLat]
  split
  · rfl
  · exact int_zero

/-- The three taps over a padded product, times the latents' first third. -/
def refTapsLat (a : FVec Ideal S8x4096x512 .f32) (y : FVec Ideal S8x4098x512 .f32) (w : FVec Ideal S3x512 .f32) : FVec Ideal S8x4096x512 .f32 :=
  mulf a (addf (addf (mulf (broadcastInDim S8x4096x512 ![0, 1, 2] bcast_S1x1x512_S8x4096x512_0_1_2 (broadcastInDim Cert.Reference7Ideal.S1x1x512 ![2] bcast_S512_S1x1x512_2 (shapeCast _ (extractStridedSlice S1x512 ![0, 0] w slices_S3x512_S1x512_0_0) shapeCasts_S1x512_S512))) (extractStridedSlice S8x4096x512 ![0, 0, 0] y slices_S8x4098x512_S8x4096x512_0_0_0)) (mulf (broadcastInDim S8x4096x512 ![0, 1, 2] bcast_S1x1x512_S8x4096x512_0_1_2 (broadcastInDim Cert.Reference7Ideal.S1x1x512 ![2] bcast_S512_S1x1x512_2 (shapeCast _ (extractStridedSlice S1x512 ![1, 0] w slices_S3x512_S1x512_1_0) shapeCasts_S1x512_S512))) (extractStridedSlice S8x4096x512 ![0, 1, 0] y slices_S8x4098x512_S8x4096x512_0_1_0))) (mulf (broadcastInDim S8x4096x512 ![0, 1, 2] bcast_S1x1x512_S8x4096x512_0_1_2 (broadcastInDim Cert.Reference7Ideal.S1x1x512 ![2] bcast_S512_S1x1x512_2 (shapeCast _ (extractStridedSlice S1x512 ![2, 0] w slices_S3x512_S1x512_2_0) shapeCasts_S1x512_S512))) (extractStridedSlice S8x4096x512 ![0, 2, 0] y slices_S8x4098x512_S8x4096x512_0_2_0)))

/-- The taps at an index. -/
theorem refTapsLat_at (a : FVec Ideal S8x4096x512 .f32) (y : FVec Ideal S8x4098x512 .f32) (w : FVec Ideal S3x512 .f32) (b : Fin 8) (t : Fin 4096) (l : Fin 512) :
    refTapsLat a y w (ix3 b t l) = a (ix3 b t l) * (w (ix2 0 l) * y (ix3 b ⟨t.val, by omega⟩ l)
      + w (ix2 1 l) * y (ix3 b ⟨1 + t.val, by omega⟩ l) + w (ix2 2 l) * y (ix3 b ⟨2 + t.val, by omega⟩ l)) := by
  pointwise [refTapsLat]

/-- The latents' short convolution. -/
def refConvLat (x : FVec Ideal S8x4096x1536 .f32) (w : FVec Ideal S3x512 .f32) : FVec Ideal S8x4096x512 .f32 :=
  refTapsLat (extractStridedSlice S8x4096x512 ![0, 0, 0] x slices_S8x4096x1536_S8x4096x512_0_0_0) (refPadLat (mulf (extractStridedSlice S8x4096x512 ![0, 0, 512] x slices_S8x4096x1536_S8x4096x512_0_0_512) (extractStridedSlice S8x4096x512 ![0, 0, 1024] x slices_S8x4096x1536_S8x4096x512_0_0_1024))) w

/-- The latents' product at an index. -/
theorem refGatedLat_at (x : FVec Ideal S8x4096x1536 .f32) (b : Fin 8) (t : Fin 4096) (l : Fin 512) :
    (mulf (extractStridedSlice S8x4096x512 ![0, 0, 512] x slices_S8x4096x1536_S8x4096x512_0_0_512) (extractStridedSlice S8x4096x512 ![0, 0, 1024] x slices_S8x4096x1536_S8x4096x512_0_0_1024)) (ix3 b t l) = x (ix3 b t ⟨512 + l.val, by omega⟩) * x (ix3 b t ⟨1024 + l.val, by omega⟩) := by
  pointwise []

/-- The latents' first third at an index. -/
theorem refFirstLat_at (x : FVec Ideal S8x4096x1536 .f32) (b : Fin 8) (t : Fin 4096) (l : Fin 512) :
    (extractStridedSlice S8x4096x512 ![0, 0, 0] x slices_S8x4096x1536_S8x4096x512_0_0_0) (ix3 b t l) = x (ix3 b t ⟨l.val, by omega⟩) := by
  pointwise []

/-- The latents' streams of the projection. -/
theorem refCutLat_at (y : FVec Ideal S8x4352x2048 .f32) (b : Fin 8) (t : Fin 4096) (e : Fin 1536) :
    extractStridedSlice S8x4096x1536 ![0, 0, 512] y slices_S8x4352x2048_S8x4096x1536_0_0_512 (ix3 b t e)
      = y (ix3 b ⟨0 + t.val, by omega⟩ ⟨512 + e.val, by omega⟩) := by
  pointwise []

/-- The context' product with a zero before and after. -/
def refPadCtx (z : FVec Ideal S8x256x512 .f32) : FVec Ideal S8x258x512 .f32 :=
  pad S8x258x512 ![0, 1, 0] ![0, 1, 0] ![0, 0, 0] z (sitofp .f32 (constantI Cert.Reference7Ideal.S_ 32 0#32)) pads_S8x256x512_S8x258x512_000_110_000 h_S_

/-- The padded product at an index. -/
theorem refPadCtx_at (z : FVec Ideal S8x256x512 .f32) (b : Fin 8) (t : Fin 258) (l : Fin 512) :
    refPadCtx z (ix3 b t l) = if h : 1 ≤ t.val ∧ t.val - 1 < 256 then z (ix3 b ⟨t.val - 1, h.2⟩ l) else (0 : EReal) := by
  pointwise [refPadCtx]
  split
  · rfl
  · exact int_zero

/-- The three taps over a padded product, times the context' first third. -/
def refTapsCtx (a : FVec Ideal S8x256x512 .f32) (y : FVec Ideal S8x258x512 .f32) (w : FVec Ideal S3x512 .f32) : FVec Ideal S8x256x512 .f32 :=
  mulf a (addf (addf (mulf (broadcastInDim S8x256x512 ![0, 1, 2] bcast_S1x1x512_S8x256x512_0_1_2 (broadcastInDim Cert.Reference7Ideal.S1x1x512 ![2] bcast_S512_S1x1x512_2 (shapeCast _ (extractStridedSlice S1x512 ![0, 0] w slices_S3x512_S1x512_0_0) shapeCasts_S1x512_S512))) (extractStridedSlice S8x256x512 ![0, 0, 0] y slices_S8x258x512_S8x256x512_0_0_0)) (mulf (broadcastInDim S8x256x512 ![0, 1, 2] bcast_S1x1x512_S8x256x512_0_1_2 (broadcastInDim Cert.Reference7Ideal.S1x1x512 ![2] bcast_S512_S1x1x512_2 (shapeCast _ (extractStridedSlice S1x512 ![1, 0] w slices_S3x512_S1x512_1_0) shapeCasts_S1x512_S512))) (extractStridedSlice S8x256x512 ![0, 1, 0] y slices_S8x258x512_S8x256x512_0_1_0))) (mulf (broadcastInDim S8x256x512 ![0, 1, 2] bcast_S1x1x512_S8x256x512_0_1_2 (broadcastInDim Cert.Reference7Ideal.S1x1x512 ![2] bcast_S512_S1x1x512_2 (shapeCast _ (extractStridedSlice S1x512 ![2, 0] w slices_S3x512_S1x512_2_0) shapeCasts_S1x512_S512))) (extractStridedSlice S8x256x512 ![0, 2, 0] y slices_S8x258x512_S8x256x512_0_2_0)))

/-- The taps at an index. -/
theorem refTapsCtx_at (a : FVec Ideal S8x256x512 .f32) (y : FVec Ideal S8x258x512 .f32) (w : FVec Ideal S3x512 .f32) (b : Fin 8) (t : Fin 256) (l : Fin 512) :
    refTapsCtx a y w (ix3 b t l) = a (ix3 b t l) * (w (ix2 0 l) * y (ix3 b ⟨t.val, by omega⟩ l)
      + w (ix2 1 l) * y (ix3 b ⟨1 + t.val, by omega⟩ l) + w (ix2 2 l) * y (ix3 b ⟨2 + t.val, by omega⟩ l)) := by
  pointwise [refTapsCtx]

/-- The context' short convolution. -/
def refConvCtx (x : FVec Ideal S8x256x1536 .f32) (w : FVec Ideal S3x512 .f32) : FVec Ideal S8x256x512 .f32 :=
  refTapsCtx (extractStridedSlice S8x256x512 ![0, 0, 0] x slices_S8x256x1536_S8x256x512_0_0_0) (refPadCtx (mulf (extractStridedSlice S8x256x512 ![0, 0, 512] x slices_S8x256x1536_S8x256x512_0_0_512) (extractStridedSlice S8x256x512 ![0, 0, 1024] x slices_S8x256x1536_S8x256x512_0_0_1024))) w

/-- The context' product at an index. -/
theorem refGatedCtx_at (x : FVec Ideal S8x256x1536 .f32) (b : Fin 8) (t : Fin 256) (l : Fin 512) :
    (mulf (extractStridedSlice S8x256x512 ![0, 0, 512] x slices_S8x256x1536_S8x256x512_0_0_512) (extractStridedSlice S8x256x512 ![0, 0, 1024] x slices_S8x256x1536_S8x256x512_0_0_1024)) (ix3 b t l) = x (ix3 b t ⟨512 + l.val, by omega⟩) * x (ix3 b t ⟨1024 + l.val, by omega⟩) := by
  pointwise []

/-- The context' first third at an index. -/
theorem refFirstCtx_at (x : FVec Ideal S8x256x1536 .f32) (b : Fin 8) (t : Fin 256) (l : Fin 512) :
    (extractStridedSlice S8x256x512 ![0, 0, 0] x slices_S8x256x1536_S8x256x512_0_0_0) (ix3 b t l) = x (ix3 b t ⟨l.val, by omega⟩) := by
  pointwise []

/-- The context' streams of the projection. -/
theorem refCutCtx_at (y : FVec Ideal S8x4352x2048 .f32) (b : Fin 8) (t : Fin 256) (e : Fin 1536) :
    extractStridedSlice S8x256x1536 ![0, 4096, 512] y slices_S8x4352x2048_S8x256x1536_0_4096_512 (ix3 b t e)
      = y (ix3 b ⟨4096 + t.val, by omega⟩ ⟨512 + e.val, by omega⟩) := by
  pointwise []

end Cert.Prep

end
-- ==== Proof.PrepClaim.lean ====
/-
  The even layers' preparation: the reference's frame, and that the call and the reference give one set of results.
-/
module

public import proofs.«01_k».proof.Defs
public import proofs.«01_k».proof.Proof.PrepRef
public import proofs.«01_k».proof.Pre_zero_pad

@[expose] public section

noncomputable section

namespace Cert.Prep

open Idealize.ShloMosaic Idealize.SL.Sem
open Cert.Reference7Ideal (S34816x2048 S256 S128 S256x768 S128x1024 S3x512 S4096x16 S8x4352x2048 S8x4352x32 S8x4352x8x32
  S8x4352x8x96 S8x4096x512 S8x256x512 S8x4352x512 S34816x512 S8x4096x1536 S8x256x1536)
open Cert.Reference7Ideal.Gen

/-- The shape relations the precondition's function takes. -/
instance pre_facts : Cert.Pre_zero_pad.Facts where
  slices_S34816x2048_S34816x64_0_384 := by decide
  slices_S34816x2048_S34816x32_0_480 := by decide
  concatenates_S34816x64_S34816x32_S34816x96_d1 := by decide
  bcast_S_S34816x96 := by decide

/-- Under the precondition the columns around the shared rotary lanes are zero. -/
theorem zero_at (p : FVec Ideal S34816x2048 .f32) (a1 : FVec Ideal S256 .f32) (a2 : FVec Ideal S128 .f32) (a3 : FVec Ideal S256x768 .f32)
    (a4 : FVec Ideal S128x1024 .f32) (a5 : FVec Ideal S3x512 .f32) (a6 a7 : FVec Ideal S4096x16 .f32)
    (h : Cert.Pre_zero_pad.fn (F := Ideal) p a1 a2 a3 a4 a5 a6 a7 = fun _ => 1#1) (r : Fin 34816) (j : Fin 128)
    (hj : j.val < 64 ∨ 96 ≤ j.val) : p (ix2 r ⟨384 + j.val, by omega⟩) = (0 : EReal) := by
  have hb : ∀ x : EReal, BitVec.ofBool (decide (x = 0)) = 1#1 → x = 0 := by
    intro x hx
    by_cases h0 : x = 0
    · exact h0
    · rw [decide_eq_false h0] at hx
      exact absurd hx (by decide)
  by_cases h1 : j.val < 64
  · have h' := congrFun h (ix2 r ⟨j.val, by omega⟩)
    revert h'
    pointwise [Cert.Pre_zero_pad.fn]
    intro h'
    have h0 := hb _ h'
    rw [dif_pos h1] at h0
    exact h0
  · have h' := congrFun h (ix2 r ⟨j.val - 32, by omega⟩)
    revert h'
    pointwise [Cert.Pre_zero_pad.fn]
    intro h'
    have h0 := hb _ h'
    rw [dif_neg (by omega)] at h0
    refine (congrArg (fun z => p (ix2 r z)) (Fin.ext ?_)).trans h0
    show 384 + j.val = 480 + (j.val - 32 - 64)
    omega

/-- The reference's first result is the queries. -/
theorem refOut0 (p : FVec Ideal S34816x2048 .f32) (g : FVec Ideal S256 .f32) (w : FVec Ideal S256x768 .f32) (cos sin : FVec Ideal S4096x16 .f32) :
    refQuery (refQ p g w) (refTurn cos sin (extractStridedSlice S8x4352x8x32 ![0, 0, 0, 64] (refQ p g w) slices_S8x4352x8x96_S8x4352x8x32_0_0_0_64))
      = queryOut p g w cos sin := by
  have hc : ∀ (q : FVec Ideal S8x4352x8x96 .f32) (b : Fin 8) (t : Fin 4352) (h : Fin 8) (j : Fin 32),
      extractStridedSlice S8x4352x8x32 ![0, 0, 0, 64] q slices_S8x4352x8x96_S8x4352x8x32_0_0_0_64 (ix4 b t h j) = q (ix4 b t h ⟨64 + j.val, by omega⟩) := by
    intro q b t h j
    pointwise []
  funext i
  obtain ⟨r, l, rfl⟩ : ∃ (r : Fin 34816) (l : Fin 1024), i = ix2 r l := ⟨i 0, i 1, eq_ix2 i⟩
  refine (refQuery_at _ _ r l).trans ?_
  refine congrArg (· * Ideal.ofBits .f32 0x3DD105EC#32) (congrFun (congr (congrArg lanes (funext fun i => refQ_at p g w r _ _)) (funext fun i => ?_)) _)
  refine (refTurn_at cos sin _ _ _ _ i).trans (congrFun (congrArg (turn cos sin (r.val % 4352)) (funext fun j => ?_)) i)
  exact (hc _ _ _ _ j).trans (refQ_at p g w r _ _)

/-- The reference's second result is the keys. -/
theorem refOut1 (p : FVec Ideal S34816x2048 .f32) (g : FVec Ideal S128 .f32) (w : FVec Ideal S128x1024 .f32) (cos sin : FVec Ideal S4096x16 .f32) :
    refKey (refKv p g w) (refShared cos sin (extractStridedSlice S8x4352x32 ![0, 0, 448] (refRows p) slices_S8x4352x2048_S8x4352x32_0_0_448))
      = keyOut p g w cos sin := by
  have hc : ∀ (q : FVec Ideal S8x4352x2048 .f32) (b : Fin 8) (t : Fin 4352) (j : Fin 32),
      extractStridedSlice S8x4352x32 ![0, 0, 448] q slices_S8x4352x2048_S8x4352x32_0_0_448 (ix3 b t j) = q (ix3 b t ⟨448 + j.val, by omega⟩) := by
    intro q b t j
    pointwise []
  funext i
  obtain ⟨r, l, rfl⟩ : ∃ (r : Fin 34816) (l : Fin 1024), i = ix2 r l := ⟨i 0, i 1, eq_ix2 i⟩
  refine (refKey_at _ _ r l).trans ?_
  refine congrFun (congr (congrArg lanes (funext fun i => refKv_at p g w r _ _)) (funext fun i => ?_)) _
  refine (refShared_at cos sin _ _ _ i).trans (congrFun (congrArg (turn cos sin (r.val % 4352)) (funext fun j => ?_)) i)
  rw [hc, refRows_at, row_of]
  rfl

/-- The reference's third result is the values. -/
theorem refOut2 (p : FVec Ideal S34816x2048 .f32) (g : FVec Ideal S128 .f32) (w : FVec Ideal S128x1024 .f32) :
    refValue (refKv p g w) = valueOut p g w := by
  funext i
  obtain ⟨r, l, rfl⟩ : ∃ (r : Fin 34816) (l : Fin 512), i = ix2 r l := ⟨i 0, i 1, eq_ix2 i⟩
  exact (refValue_at _ r l).trans (refKv_at p g w r _ _)

/-- The latents' convolution of the projection is their rows'. -/
theorem refConvLat_at (p : FVec Ideal S34816x2048 .f32) (w : FVec Ideal S3x512 .f32) (b : Fin 8) (t : Fin 4096) (l : Fin 512) :
    refConvLat (extractStridedSlice S8x4096x1536 ![0, 0, 512] (refRows p) slices_S8x4352x2048_S8x4096x1536_0_0_512) w (ix3 b t l) = conv p w ⟨b.val * 4352 + (0 + t.val), by omega⟩ l := by
  have hx : ∀ (t : Fin 4096) (e : Fin 1536), (extractStridedSlice S8x4096x1536 ![0, 0, 512] (refRows p) slices_S8x4352x2048_S8x4096x1536_0_0_512) (ix3 b t e) = p (ix2 ⟨b.val * 4352 + (0 + t.val), by omega⟩ ⟨512 + e.val, by omega⟩) :=
    fun t e => (refCutLat_at _ b t e).trans (refRows_at p b _ _)
  unfold refConvLat conv
  rw [refTapsLat_at, refFirstLat_at, hx, refPadLat_at, refPadLat_at, refPadLat_at]
  have hg : ∀ t : Fin 4096, (mulf (extractStridedSlice S8x4096x512 ![0, 0, 512] (extractStridedSlice S8x4096x1536 ![0, 0, 512] (refRows p) slices_S8x4352x2048_S8x4096x1536_0_0_512) slices_S8x4096x1536_S8x4096x512_0_0_512)
      (extractStridedSlice S8x4096x512 ![0, 0, 1024] (extractStridedSlice S8x4096x1536 ![0, 0, 512] (refRows p) slices_S8x4352x2048_S8x4096x1536_0_0_512) slices_S8x4096x1536_S8x4096x512_0_0_1024)) (ix3 b t l)
      = gated p l ⟨b.val * 4352 + (0 + t.val), by omega⟩ := by
    intro t
    rw [refGatedLat_at, hx, hx]
    unfold gated
    refine congr (congrArg HMul.hMul (congrArg (fun z => p (ix2 _ z)) (Fin.ext ?_))) (congrArg (fun z => p (ix2 _ z)) (Fin.ext ?_))
    · show 512 + (512 + l.val) = 1024 + l.val
      omega
    · show 512 + (1024 + l.val) = 1536 + l.val
      omega
  simp only [hg]
  have hn : ∀ r : Fin 34816, r.val = b.val * 4352 + (0 + t.val) → r.val % 4352 = 0 + t.val := by
    intro r h
    omega
  have h0 : (if h : 1 ≤ t.val ∧ t.val - 1 < 4096 then gated p l ⟨b.val * 4352 + (0 + (t.val - 1)), by omega⟩ else 0)
      = before (gated p l) ⟨b.val * 4352 + (0 + t.val), by omega⟩ := by
    unfold before
    have hm := hn ⟨b.val * 4352 + (0 + t.val), by omega⟩ rfl
    by_cases h : 1 ≤ t.val
    · rw [dif_pos ⟨h, by omega⟩, if_neg (by rw [hm]; omega)]
      refine congrArg (gated p l) (Fin.ext ?_)
      show b.val * 4352 + (0 + (t.val - 1)) = b.val * 4352 + (0 + t.val) - 1
      omega
    · rw [dif_neg (fun h' => h h'.1), if_pos (by rw [hm]; omega)]
  have h1 : (if h : 1 ≤ 1 + t.val ∧ 1 + t.val - 1 < 4096 then gated p l ⟨b.val * 4352 + (0 + (1 + t.val - 1)), by omega⟩ else 0)
      = gated p l ⟨b.val * 4352 + (0 + t.val), by omega⟩ := by
    rw [dif_pos ⟨by omega, by omega⟩]
    refine congrArg (gated p l) (Fin.ext ?_)
    show b.val * 4352 + (0 + (1 + t.val - 1)) = b.val * 4352 + (0 + t.val)
    omega
  have h2 : (if h : 1 ≤ 2 + t.val ∧ 2 + t.val - 1 < 4096 then gated p l ⟨b.val * 4352 + (0 + (2 + t.val - 1)), by omega⟩ else 0)
      = after (gated p l) ⟨b.val * 4352 + (0 + t.val), by omega⟩ := by
    unfold after
    have hm := hn ⟨b.val * 4352 + (0 + t.val), by omega⟩ rfl
    by_cases h : t.val + 1 < 4096
    · rw [dif_pos ⟨by omega, by omega⟩, dif_neg (by rw [hm]; omega)]
      refine congrArg (gated p l) (Fin.ext ?_)
      show b.val * 4352 + (0 + (2 + t.val - 1)) = b.val * 4352 + (0 + t.val) + 1
      omega
    · rw [dif_neg (by omega), dif_pos (by rw [hm]; omega)]
  rw [h0, h1, h2]

/-- The context' convolution of the projection is their rows'. -/
theorem refConvCtx_at (p : FVec Ideal S34816x2048 .f32) (w : FVec Ideal S3x512 .f32) (b : Fin 8) (t : Fin 256) (l : Fin 512) :
    refConvCtx (extractStridedSlice S8x256x1536 ![0, 4096, 512] (refRows p) slices_S8x4352x2048_S8x256x1536_0_4096_512) w (ix3 b t l) = conv p w ⟨b.val * 4352 + (4096 + t.val), by omega⟩ l := by
  have hx : ∀ (t : Fin 256) (e : Fin 1536), (extractStridedSlice S8x256x1536 ![0, 4096, 512] (refRows p) slices_S8x4352x2048_S8x256x1536_0_4096_512) (ix3 b t e) = p (ix2 ⟨b.val * 4352 + (4096 + t.val), by omega⟩ ⟨512 + e.val, by omega⟩) :=
    fun t e => (refCutCtx_at _ b t e).trans (refRows_at p b _ _)
  unfold refConvCtx conv
  rw [refTapsCtx_at, refFirstCtx_at, hx, refPadCtx_at, refPadCtx_at, refPadCtx_at]
  have hg : ∀ t : Fin 256, (mulf (extractStridedSlice S8x256x512 ![0, 0, 512] (extractStridedSlice S8x256x1536 ![0, 4096, 512] (refRows p) slices_S8x4352x2048_S8x256x1536_0_4096_512) slices_S8x256x1536_S8x256x512_0_0_512)
      (extractStridedSlice S8x256x512 ![0, 0, 1024] (extractStridedSlice S8x256x1536 ![0, 4096, 512] (refRows p) slices_S8x4352x2048_S8x256x1536_0_4096_512) slices_S8x256x1536_S8x256x512_0_0_1024)) (ix3 b t l)
      = gated p l ⟨b.val * 4352 + (4096 + t.val), by omega⟩ := by
    intro t
    rw [refGatedCtx_at, hx, hx]
    unfold gated
    refine congr (congrArg HMul.hMul (congrArg (fun z => p (ix2 _ z)) (Fin.ext ?_))) (congrArg (fun z => p (ix2 _ z)) (Fin.ext ?_))
    · show 512 + (512 + l.val) = 1024 + l.val
      omega
    · show 512 + (1024 + l.val) = 1536 + l.val
      omega
  simp only [hg]
  have hn : ∀ r : Fin 34816, r.val = b.val * 4352 + (4096 + t.val) → r.val % 4352 = 4096 + t.val := by
    intro r h
    omega
  have h0 : (if h : 1 ≤ t.val ∧ t.val - 1 < 256 then gated p l ⟨b.val * 4352 + (4096 + (t.val - 1)), by omega⟩ else 0)
      = before (gated p l) ⟨b.val * 4352 + (4096 + t.val), by omega⟩ := by
    unfold before
    have hm := hn ⟨b.val * 4352 + (4096 + t.val), by omega⟩ rfl
    by_cases h : 1 ≤ t.val
    · rw [dif_pos ⟨h, by omega⟩, if_neg (by rw [hm]; omega)]
      refine congrArg (gated p l) (Fin.ext ?_)
      show b.val * 4352 + (4096 + (t.val - 1)) = b.val * 4352 + (4096 + t.val) - 1
      omega
    · rw [dif_neg (fun h' => h h'.1), if_pos (by rw [hm]; omega)]
  have h1 : (if h : 1 ≤ 1 + t.val ∧ 1 + t.val - 1 < 256 then gated p l ⟨b.val * 4352 + (4096 + (1 + t.val - 1)), by omega⟩ else 0)
      = gated p l ⟨b.val * 4352 + (4096 + t.val), by omega⟩ := by
    rw [dif_pos ⟨by omega, by omega⟩]
    refine congrArg (gated p l) (Fin.ext ?_)
    show b.val * 4352 + (4096 + (1 + t.val - 1)) = b.val * 4352 + (4096 + t.val)
    omega
  have h2 : (if h : 1 ≤ 2 + t.val ∧ 2 + t.val - 1 < 256 then gated p l ⟨b.val * 4352 + (4096 + (2 + t.val - 1)), by omega⟩ else 0)
      = after (gated p l) ⟨b.val * 4352 + (4096 + t.val), by omega⟩ := by
    unfold after
    have hm := hn ⟨b.val * 4352 + (4096 + t.val), by omega⟩ rfl
    by_cases h : t.val + 1 < 256
    · rw [dif_pos ⟨by omega, by omega⟩, dif_neg (by rw [hm]; omega)]
      refine congrArg (gated p l) (Fin.ext ?_)
      show b.val * 4352 + (4096 + (2 + t.val - 1)) = b.val * 4352 + (4096 + t.val) + 1
      omega
    · rw [dif_neg (by omega), dif_pos (by rw [hm]; omega)]
  rw [h0, h1, h2]

/-- The reference's convolution: the two streams' side by side, a row to a token. -/
def refConv (p : FVec Ideal S34816x2048 .f32) (w : FVec Ideal S3x512 .f32) : FVec Ideal S34816x512 .f32 :=
  shapeCast _ (concatenate S8x4352x512 1 [
    ⟨S8x4096x512, refConvLat (extractStridedSlice S8x4096x1536 ![0, 0, 512] (refRows p) slices_S8x4352x2048_S8x4096x1536_0_0_512) w⟩,
    ⟨S8x256x512, refConvCtx (extractStridedSlice S8x256x1536 ![0, 4096, 512] (refRows p) slices_S8x4352x2048_S8x256x1536_0_4096_512) w⟩]
    concatenates_S8x4096x512_S8x256x512_S8x4352x512_d1) shapeCasts_S8x4352x512_S34816x512

/-- Two streams side by side, a row to a token, at an index. -/
theorem join_at (a : FVec Ideal S8x4096x512 .f32) (b : FVec Ideal S8x256x512 .f32) (r : Fin 34816) (l : Fin 512) :
    (shapeCast S34816x512 (concatenate S8x4352x512 1 [⟨S8x4096x512, a⟩, ⟨S8x256x512, b⟩]
      concatenates_S8x4096x512_S8x256x512_S8x4352x512_d1) shapeCasts_S8x4352x512_S34816x512) (ix2 r l)
      = if h : r.val % 4352 < 4096 then a (ix3 (bat r) ⟨r.val % 4352, h⟩ l) else b (ix3 (bat r) ⟨r.val % 4352 - 4096, by omega⟩ l) := by
  unfold bat
  pointwise []

/-- The reference's fourth result is the convolution. -/
theorem refOut3 (p : FVec Ideal S34816x2048 .f32) (w : FVec Ideal S3x512 .f32) : refConv p w = convOut p w := by
  funext i
  obtain ⟨r, l, rfl⟩ : ∃ (r : Fin 34816) (l : Fin 512), i = ix2 r l := ⟨i 0, i 1, eq_ix2 i⟩
  refine (join_at _ _ r l).trans ?_
  by_cases h : r.val % 4352 < 4096
  · rw [dif_pos h, refConvLat_at]
    refine congrArg (fun r => conv p w r l) (Fin.ext ?_)
    show r.val / 4352 * 4352 + (0 + r.val % 4352) = r.val
    omega
  · rw [dif_neg h, refConvCtx_at]
    refine congrArg (fun r => conv p w r l) (Fin.ext ?_)
    show r.val / 4352 * 4352 + (4096 + (r.val % 4352 - 4096)) = r.val
    omega

/-- The reference declares no semaphore, so nothing of its counters is left to say. -/
theorem no_counter {T : Prop} (s : SemLoc Cert.Reference7Ideal.sig) : T :=
  match s with
  | .reg s => s.elim0
  | .dma s => s.elim0

/-- The reference runs and leaves its arguments alone. -/
theorem reference_frame : Cert.quiescent_Reference7Ideal := fun m ρ _ =>
  (θ_run Cert.Reference7Ideal.defs _ _).mono (fun r h => ⟨fun c => (h c).2.2.2.2, funext fun s => no_counter s.2⟩)
    (Cert.Reference7Ideal.Value.run (F := Ideal) m ρ)

/-- With the columns around the shared rotary lanes zero, the call's results are the reference's. -/
theorem algebraic : Cert.algebraic_Kernel7Ideal_Reference7Ideal_pre_zero_pad (hPre_zero_pad := pre_facts) := by
  intro m g m' g' hpre hargs
  refine ⟨fun c => queryOut (m ((c.tc : Thread _ _).loc Cert.Kernel7Ideal.main_arg0)) (m ((c.tc : Thread _ _).loc Cert.Kernel7Ideal.main_arg1)) (m ((c.tc : Thread _ _).loc Cert.Kernel7Ideal.main_arg3)) (m ((c.tc : Thread _ _).loc Cert.Kernel7Ideal.main_arg6)) (m ((c.tc : Thread _ _).loc Cert.Kernel7Ideal.main_arg7)),
    fun c => keyOut (m ((c.tc : Thread _ _).loc Cert.Kernel7Ideal.main_arg0)) (m ((c.tc : Thread _ _).loc Cert.Kernel7Ideal.main_arg2)) (m ((c.tc : Thread _ _).loc Cert.Kernel7Ideal.main_arg4)) (m ((c.tc : Thread _ _).loc Cert.Kernel7Ideal.main_arg6)) (m ((c.tc : Thread _ _).loc Cert.Kernel7Ideal.main_arg7)),
    fun c => valueOut (m ((c.tc : Thread _ _).loc Cert.Kernel7Ideal.main_arg0)) (m ((c.tc : Thread _ _).loc Cert.Kernel7Ideal.main_arg2)) (m ((c.tc : Thread _ _).loc Cert.Kernel7Ideal.main_arg4)),
    fun c => convOut (m ((c.tc : Thread _ _).loc Cert.Kernel7Ideal.main_arg0)) (m ((c.tc : Thread _ _).loc Cert.Kernel7Ideal.main_arg5)), ?_, ?_⟩
  · exact (θ_run Cert.Kernel7Ideal.defs _ _).mono (fun r h c => ⟨(h c).1.trans (final_query m c),
      (h c).2.1.trans (final_key m c (zero_at _ _ _ _ _ _ _ _ (hpre c))), (h c).2.2.1.trans (final_value m c),
      (h c).2.2.2.1.trans (final_conv m c), (h c).2.2.2.2⟩)
      (Cert.Kernel7Ideal.Value.run_blocks (F := Ideal) m g)
  · refine (θ_run Cert.Reference7Ideal.defs _ _).mono (fun r h c => ⟨(h c).1.trans ?_, (h c).2.1.trans ?_,
      (h c).2.2.1.trans ?_, (h c).2.2.2.1.trans ?_, (h c).2.2.2.2⟩) (Cert.Reference7Ideal.Value.run (F := Ideal) m' g') <;>
    obtain ⟨h0, h1, h2, h3, h4, h5, h6, h7⟩ := hargs c
    · have hv : queryOut (m' ((c.tc : Thread _ _).loc Cert.Reference7Ideal.main_arg0)) (m' ((c.tc : Thread _ _).loc Cert.Reference7Ideal.main_arg1)) (m' ((c.tc : Thread _ _).loc Cert.Reference7Ideal.main_arg3)) (m' ((c.tc : Thread _ _).loc Cert.Reference7Ideal.main_arg6)) (m' ((c.tc : Thread _ _).loc Cert.Reference7Ideal.main_arg7))
          = queryOut (m ((c.tc : Thread _ _).loc Cert.Kernel7Ideal.main_arg0)) (m ((c.tc : Thread _ _).loc Cert.Kernel7Ideal.main_arg1)) (m ((c.tc : Thread _ _).loc Cert.Kernel7Ideal.main_arg3)) (m ((c.tc : Thread _ _).loc Cert.Kernel7Ideal.main_arg6)) (m ((c.tc : Thread _ _).loc Cert.Kernel7Ideal.main_arg7)) := by
        rw [h0, h1, h3, h6, h7]
      exact .trans (.trans rfl (refOut0 (m' ((c.tc : Thread _ _).loc Cert.Reference7Ideal.main_arg0)) (m' ((c.tc : Thread _ _).loc Cert.Reference7Ideal.main_arg1)) (m' ((c.tc : Thread _ _).loc Cert.Reference7Ideal.main_arg3)) (m' ((c.tc : Thread _ _).loc Cert.Reference7Ideal.main_arg6)) (m' ((c.tc : Thread _ _).loc Cert.Reference7Ideal.main_arg7)))) hv
    · have hv : keyOut (m' ((c.tc : Thread _ _).loc Cert.Reference7Ideal.main_arg0)) (m' ((c.tc : Thread _ _).loc Cert.Reference7Ideal.main_arg2)) (m' ((c.tc : Thread _ _).loc Cert.Reference7Ideal.main_arg4)) (m' ((c.tc : Thread _ _).loc Cert.Reference7Ideal.main_arg6)) (m' ((c.tc : Thread _ _).loc Cert.Reference7Ideal.main_arg7))
          = keyOut (m ((c.tc : Thread _ _).loc Cert.Kernel7Ideal.main_arg0)) (m ((c.tc : Thread _ _).loc Cert.Kernel7Ideal.main_arg2)) (m ((c.tc : Thread _ _).loc Cert.Kernel7Ideal.main_arg4)) (m ((c.tc : Thread _ _).loc Cert.Kernel7Ideal.main_arg6)) (m ((c.tc : Thread _ _).loc Cert.Kernel7Ideal.main_arg7)) := by
        rw [h0, h2, h4, h6, h7]
      exact .trans (.trans rfl (refOut1 (m' ((c.tc : Thread _ _).loc Cert.Reference7Ideal.main_arg0)) (m' ((c.tc : Thread _ _).loc Cert.Reference7Ideal.main_arg2)) (m' ((c.tc : Thread _ _).loc Cert.Reference7Ideal.main_arg4)) (m' ((c.tc : Thread _ _).loc Cert.Reference7Ideal.main_arg6)) (m' ((c.tc : Thread _ _).loc Cert.Reference7Ideal.main_arg7)))) hv
    · have hv : valueOut (m' ((c.tc : Thread _ _).loc Cert.Reference7Ideal.main_arg0)) (m' ((c.tc : Thread _ _).loc Cert.Reference7Ideal.main_arg2)) (m' ((c.tc : Thread _ _).loc Cert.Reference7Ideal.main_arg4))
          = valueOut (m ((c.tc : Thread _ _).loc Cert.Kernel7Ideal.main_arg0)) (m ((c.tc : Thread _ _).loc Cert.Kernel7Ideal.main_arg2)) (m ((c.tc : Thread _ _).loc Cert.Kernel7Ideal.main_arg4)) := by
        rw [h0, h2, h4]
      exact .trans (.trans rfl (refOut2 (m' ((c.tc : Thread _ _).loc Cert.Reference7Ideal.main_arg0)) (m' ((c.tc : Thread _ _).loc Cert.Reference7Ideal.main_arg2)) (m' ((c.tc : Thread _ _).loc Cert.Reference7Ideal.main_arg4)))) hv
    · have hv : convOut (m' ((c.tc : Thread _ _).loc Cert.Reference7Ideal.main_arg0)) (m' ((c.tc : Thread _ _).loc Cert.Reference7Ideal.main_arg5))
          = convOut (m ((c.tc : Thread _ _).loc Cert.Kernel7Ideal.main_arg0)) (m ((c.tc : Thread _ _).loc Cert.Kernel7Ideal.main_arg5)) := by
        rw [h0, h5]
      exact .trans (.trans rfl (refOut3 (m' ((c.tc : Thread _ _).loc Cert.Reference7Ideal.main_arg0)) (m' ((c.tc : Thread _ _).loc Cert.Reference7Ideal.main_arg5)))) hv

end Cert.Prep

end
-- ==== Proof.Context.lean ====
/-
  The context's attention: the context tokens of a batch attend to each other only, so a step takes a batch's 256 queries
  of a pair of heads against the same 256 keys.
-/
module

public import proofs.«01_k».proof.Proof.Final
public import proofs.«01_k».proof.Proof.Gen.Kernel8Ideal.Value

@[expose] public section

noncomputable section

namespace Cert.Context

open Idealize.ShloMosaic Idealize.ShloMosaic.TcCoe Idealize.SL.Sem Cert.Kernel8Ideal Cert.Kernel8Ideal.Gen
open Cert.Attention (attend minus_infinity idx_unit3 pairLane headLane)

/-- A context token's place among all tokens of its batch: the context comes last. -/
def context (n : Fin 256) : Fin 4352 := ⟨4096 + n.val, by omega⟩

/-- The context's attention as a function of whole arrays. -/
def contextOut (q : FVec Ideal S8x4352x1024 .bf16) (k : FVec Ideal S8x4352x1024 .bf16) (v : FVec Ideal S8x4352x512 .bf16) :
    FVec Ideal S8x256x512 .f32 := fun i =>
  attend (fun t : Fin 256 => ∑ d : Fin 128,
      q (ix3 (i 0) (context (i 1)) (headLane (i 2) d)) * k (ix3 (i 0) (context t) (headLane (i 2) d)))
    (fun t => v (ix3 (i 0) (context t) (i 2)))

/-- One head's 128 queries at query `r` and value lane `l`. -/
theorem head_apply (q : Vec Ideal S1x128x128 .bf16) (k : Vec Ideal S1x256x128 .bf16) (v : Vec Ideal S1x256x64 .bf16)
    (r : Fin 128) (l : Fin 64) : k0_pay3 (F := Ideal) q k v (ix2 r l)
      = attend (fun t : Fin 256 => ∑ d : Fin 128, q (ix3 0 r d) * k (ix3 0 t d)) (fun t => v (ix3 0 t l)) := by
  pointwise [k0_pay3]
  rw [minus_infinity]
  rfl

/-- Two heads' units side by side, which one store writes. -/
def heads (q0 q1 : Vec Ideal S1x128x128 .bf16) (k0 k1 : Vec Ideal S1x256x128 .bf16)
    (v0 v1 : Vec Ideal S1x256x64 .bf16) : FVec Ideal S1x128x128 .f32 :=
  shapeCast S1x128x128 (concatenate S128x128 1 [⟨S128x64, k0_pay3 (F := Ideal) q0 k0 v0⟩, ⟨S128x64, k0_pay3 (F := Ideal) q1 k1 v1⟩]
    concatenates_S128x64_S128x64_S128x128_d1) shapeCasts_S128x128_S1x128x128

/-- The two heads at query `r` and lane `l`. -/
theorem heads_apply (q0 q1 : Vec Ideal S1x128x128 .bf16) (k0 k1 : Vec Ideal S1x256x128 .bf16)
    (v0 v1 : Vec Ideal S1x256x64 .bf16) (r : Fin 128) (l : Fin 128) :
    heads q0 q1 k0 k1 v0 v1 (ix3 0 r l)
      = if h : l.val < 64 then k0_pay3 (F := Ideal) q0 k0 v0 (ix2 r ⟨l.val, h⟩)
        else k0_pay3 (F := Ideal) q1 k1 v1 (ix2 r ⟨l.val - 64, by omega⟩) := by
  pointwise [heads]

/-- A step's output block as a function of its input blocks. -/
def blockOut (q k : Vec Ideal S1x256x256 .bf16) (v : Vec Ideal S1x256x128 .bf16) : Vec Ideal S1x256x128 .f32 := fun y =>
  attend (fun t : Fin 256 => ∑ d : Fin 128, q (ix3 0 (y 1) (pairLane (y 2) d)) * k (ix3 0 t (pairLane (y 2) d)))
    (fun t => v (ix3 0 t (y 2)))

/-- The store of the rows from `o` on writes those rows of the block. -/
theorem rows_from (q k : Vec Ideal S1x256x256 .bf16) (v : Vec Ideal S1x256x128 .bf16)
    (o : Nat) (ho : o + 128 ≤ 256) (h0 h1 k0 k1 v0 v1 hy) (x : S1x128x128.Idx) :
    heads (View.ld (S := S1x256x256) (e' := .bf16) (Val := Elt Ideal) q (Rect.unit ![0, o, 0] S1x128x128.size h0))
      (View.ld (S := S1x256x256) (e' := .bf16) (Val := Elt Ideal) q (Rect.unit ![0, o, 128] S1x128x128.size h1))
      (View.ld (S := S1x256x256) (e' := .bf16) (Val := Elt Ideal) k (Rect.unit ![0, 0, 0] S1x256x128.size k0))
      (View.ld (S := S1x256x256) (e' := .bf16) (Val := Elt Ideal) k (Rect.unit ![0, 0, 128] S1x256x128.size k1))
      (View.ld (S := S1x256x128) (e' := .bf16) (Val := Elt Ideal) v (Rect.unit ![0, 0, 0] S1x256x64.size v0))
      (View.ld (S := S1x256x128) (e' := .bf16) (Val := Elt Ideal) v (Rect.unit ![0, 0, 64] S1x256x64.size v1)) x
      = blockOut q k v ((Rect.unit (s := S1x256x128) ![0, o, 0] S1x128x128.size hy).emb x) := by
  obtain ⟨r, l, rfl⟩ : ∃ (r l : Fin 128), x = ix3 (0 : Fin 1) r l :=
    ⟨x 1, x 2, (eq_ix3 x).trans (by rw [show x 0 = (0 : Fin 1) from Subsingleton.elim (α := Fin 1) _ _])⟩
  rw [heads_apply, show (Rect.unit (s := S1x256x128) ![0, o, 0] S1x128x128.size hy).emb (ix3 0 r l)
    = ix3 (0 : Fin 1) (⟨o + r.val, by omega⟩ : Fin 256) l from
      idx_unit3 _ _ hy _ _ _ _ rfl rfl (Nat.zero_add _)]
  split
  · rename_i hl
    rw [head_apply]
    refine congrArg₂ attend (funext fun t => Finset.sum_congr rfl fun d _ => congrArg₂ (· * ·) (congrArg q ?_) (congrArg k ?_))
      (funext fun t => congrArg v ?_)
    · exact idx_unit3 _ _ h0 _ _ _ _ rfl rfl (by show 0 + d.val = 128 * (l.val / 64) + d.val; omega)
    · exact idx_unit3 _ _ k0 _ _ _ _ rfl (Nat.zero_add _) (by show 0 + d.val = 128 * (l.val / 64) + d.val; omega)
    · exact idx_unit3 _ _ v0 _ _ _ _ rfl (Nat.zero_add _) (Nat.zero_add _)
  · rename_i hl
    rw [head_apply]
    refine congrArg₂ attend (funext fun t => Finset.sum_congr rfl fun d _ => congrArg₂ (· * ·) (congrArg q ?_) (congrArg k ?_))
      (funext fun t => congrArg v ?_)
    · exact idx_unit3 _ _ h1 _ _ _ _ rfl rfl (by show 128 + d.val = 128 * (l.val / 64) + d.val; omega)
    · exact idx_unit3 _ _ k1 _ _ _ _ rfl (Nat.zero_add _) (by show 128 + d.val = 128 * (l.val / 64) + d.val; omega)
    · exact idx_unit3 _ _ v1 _ _ _ _ rfl (Nat.zero_add _) (by show 64 + (l.val - 64) = l.val; omega)

/-- What a step leaves in its output block. -/
theorem out_eq (q k : Vec Ideal S1x256x256 .bf16) (v : Vec Ideal S1x256x128 .bf16) : out0_3 (F := Ideal) q k v = blockOut q k v := by
  unfold out0_3
  funext y
  refine View.canon_apply_of_pieces (blockOut q k v) _ ?_ y (cover0_3 _ _ y)
  intro p hp
  simp only [List.mem_cons, List.not_mem_nil, or_false] at hp
  rcases hp with rfl | rfl
  · exact rows_from q k v 128 (by norm_num) inb_S1x256x256_S1x128x128_0_128_0 inb_S1x256x256_S1x128x128_0_128_128 _ _ _ _ inb_S1x256x128_S1x128x128_0_128_0
  · exact rows_from q k v 0 (by norm_num) inb_S1x256x256_S1x128x128_0_0_0 inb_S1x256x256_S1x128x128_0_0_128 _ _ _ _ inb_S1x256x128_S1x128x128_0_0_0

variable (m : (ℓ : Loc nD τ sig) → Buf (Elt Ideal) ℓ)

/-- The queries a step reads: the last 256 tokens of its batch, two heads. -/
theorem idx0 : ∀ t : Fin cfg0.N, win0_0.index t = ![(grid0.coords t 0).val, 16, (grid0.coords t 1).val] :=
  (by decide +kernel : ∀ t : Fin grid0.N, _)
/-- The keys a step reads. -/
theorem idx1 : ∀ t : Fin cfg0.N, win0_1.index t = ![(grid0.coords t 0).val, 16, (grid0.coords t 1).val] :=
  (by decide +kernel : ∀ t : Fin grid0.N, _)
/-- The values a step reads. -/
theorem idx2 : ∀ t : Fin cfg0.N, win0_2.index t = ![(grid0.coords t 0).val, 16, (grid0.coords t 1).val] :=
  (by decide +kernel : ∀ t : Fin grid0.N, _)
/-- The block a step writes. -/
theorem idx3 : ∀ t : Fin cfg0.N, win0_3.index t = ![(grid0.coords t 0).val, 0, (grid0.coords t 1).val] :=
  (by decide +kernel : ∀ t : Fin grid0.N, _)

/-- The call's result is the context's attention of its three arguments. -/
theorem final (c : Dev nD) : (dats m 0 c).arrAt 3 cfg0.N
    = contextOut (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, out_eq]
  unfold blockOut contextOut
  refine congrArg₂ attend (funext fun n => Finset.sum_congr rfl fun d _ => congrArg₂ (· * ·) ?_ ?_) (funext fun n => ?_)
  · blk_ext! [iblk, V, idx0 t, idx3 t, pairLane, headLane, context]
  · blk_ext! [iblk, V, idx1 t, idx3 t, pairLane, headLane, context]
  · blk_ext! [iblk, V, idx2 t, idx3 t, pairLane, headLane, context]

end Cert.Context

end
-- ==== Proof.ContextClaim.lean ====
/-
  The context's attention: what the reference computes, and that the call and the reference give one result.
-/
module

public import proofs.«01_k».proof.Defs
public import proofs.«01_k».proof.Proof.Context
public import proofs.«01_k».proof.Proof.Claim
public import proofs.«01_k».proof.Proof.Gen.Reference8Ideal.Run

@[expose] public section

noncomputable section

namespace Cert.Context

open Idealize.ShloMosaic Idealize.SL.Sem Cert.Reference8Ideal.Gen
open Cert.Reference8Ideal hiding main defs
open Cert.Attention (Finite attend attend_eq top weight minus_infinity headLane)

/-- The reference's scores of the context tokens with each other, head by head. -/
def refScores (q k : FVec Ideal S8x4352x1024 .bf16) : FVec Ideal S8x8x256x256 .f32 :=
  Host.dotGeneral (F := Ideal) dot_S8x256x8x128_S8x256x8x128_S8x8x256x256_3_3_1_1_02_02 none
    (shapeCast _ (extf .f32 (extractStridedSlice S8x256x1024 ![0, 4096, 0] q slices_S8x4352x1024_S8x256x1024_0_4096_0) bitsLt_bf16_f32)
      shapeCasts_S8x256x1024_S8x256x8x128)
    (shapeCast _ (extf .f32 (extractStridedSlice S8x256x1024 ![0, 4096, 0] k slices_S8x4352x1024_S8x256x1024_0_4096_0) bitsLt_bf16_f32) shapeCasts_S8x256x1024_S8x256x8x128)

/-- The reference's undivided weights, of any scores and row maxima. -/
def refWeights (s : FVec Ideal S8x8x256x256 .f32) (M : FVec Ideal S8x8x256 .f32) : FVec Ideal S8x8x256x256 .f32 :=
  Host.exp (F := Ideal) (subf s (broadcastInDim S8x8x256x256 ![0, 1, 2, 3] bcast_S8x8x256x1_S8x8x256x256_0_1_2_3
    (broadcastInDim S8x8x256x1 ![0, 1, 2] bcast_S8x8x256_S8x8x256x1_0_1_2
      (maximumf (broadcastInDim S8x8x256 ![] bcast_S_S8x8x256 (constant S_ .f32 0xFF800000#32)) M))))

/-- The reference's row maxima, folded from any start. -/
def refTop (s : FVec Ideal S8x8x256x256 .f32) (z : FVec Ideal S_ .f32) : FVec Ideal S8x8x256 .f32 :=
  Host.reduce FloatOps.maximumf s z reducesTo_S8x8x256x256_S8x8x256_d3 h_S_

/-- The reference's weighted mean of the values, of any undivided weights. -/
def refMean (w : FVec Ideal S8x8x256x256 .f32) (v : FVec Ideal S8x4352x512 .bf16) : FVec Ideal S8x256x512 .f32 :=
  shapeCast _ (transpose S8x256x8x64 [0, 3, 1, 2]
    (Host.dotGeneral (F := Ideal) dot_S8x256x8x64_S8x8x256x256_S8x8x64x256_1_3_3_2_02_01 none
      (shapeCast _ (extf .f32 (extractStridedSlice S8x256x512 ![0, 4096, 0] v slices_S8x4352x512_S8x256x512_0_4096_0) bitsLt_bf16_f32) shapeCasts_S8x256x512_S8x256x8x64)
      (Host.divf w (broadcastInDim S8x8x256x256 ![0, 1, 2, 3] bcast_S8x8x256x1_S8x8x256x256_0_1_2_3
        (broadcastInDim S8x8x256x1 ![0, 1, 2] bcast_S8x8x256_S8x8x256x1_0_1_2
          (Host.reduceAdd w (constant S_ .f32 0x00000000#32) reducesTo_S8x8x256x256_S8x8x256_d3 h_S_)))))
    transposes_S8x8x64x256_S8x256x8x64_0_3_1_2) shapeCasts_S8x256x8x64_S8x256x512

/-- The reference's result. -/
def refOut (q k : FVec Ideal S8x4352x1024 .bf16) (v : FVec Ideal S8x4352x512 .bf16) : FVec Ideal S8x256x512 .f32 :=
  refMean (refWeights (refScores q k) (refTop (refScores q k) (constant S_ .f32 0xFF800000#32))) v

/-- A score: the product of a query with a key over the head's 128 lanes. -/
theorem refScores_apply (q k : FVec Ideal S8x4352x1024 .bf16) (b h : Fin 8) (n : Fin 256) (t : Fin 256) :
    refScores q k (ix4 b h n t) = ∑ d : Fin 128, q (ix3 b (context n) ⟨h.val * 128 + d.val, by omega⟩) * k (ix3 b (context t) ⟨h.val * 128 + d.val, by omega⟩) := by
  pointwise [refScores]
  rfl

/-- The reference's maximum along a row of scores, folded from a start of minus infinity. -/
theorem refTop_apply (s : FVec Ideal S8x8x256x256 .f32) (z : FVec Ideal S_ .f32) (hz : z = fun _ => (⊥ : EReal))
    (b h : Fin 8) (n : Fin 256) : refTop s z (ix3 b h n) = top (fun t => s (ix4 b h n t)) := by
  pointwise [refTop]
  subst hz
  rfl

/-- An undivided weight of the reference is the row's `weight`, when the maxima are the row's. -/
theorem refWeights_apply (s : FVec Ideal S8x8x256x256 .f32) (M : FVec Ideal S8x8x256 .f32) (b h : Fin 8) (n : Fin 256)
    (hM : M (ix3 b h n) = top (fun t => s (ix4 b h n t))) (t : Fin 256) :
    refWeights s M (ix4 b h n t) = weight (fun t => s (ix4 b h n t)) t := by
  pointwise [refWeights]
  rw [hM, minus_infinity, max_eq_right bot_le]
  rfl

/-- The weighted mean at an index. -/
theorem refMean_apply (w : FVec Ideal S8x8x256x256 .f32) (v : FVec Ideal S8x4352x512 .bf16) (b : Fin 8) (n : Fin 256) (l : Fin 512) :
    refMean w v (ix3 b n l) = ∑ t : Fin 256, v (ix3 b (context t) l) *
      Ideal.div (w (ix4 b ⟨l.val / 64, by omega⟩ n t)) (∑ t' : Fin 256, w (ix4 b ⟨l.val / 64, by omega⟩ n t')) := by
  pointwise [refMean]
  rfl

/-- On real queries and keys the reference's result is the context's attention. -/
theorem refOut_eq (q k : FVec Ideal S8x4352x1024 .bf16) (v : FVec Ideal S8x4352x512 .bf16)
    (hq : ∀ i, Finite (q i)) (hk : ∀ i, Finite (k i)) : refOut q k v = contextOut q k v := by
  funext i
  obtain ⟨b, n, l, rfl⟩ : ∃ (b : Fin 8) (n : Fin 256) (l : Fin 512), i = ix3 b n l := ⟨i 0, i 1, i 2, eq_ix3 i⟩
  unfold refOut
  rw [refMean_apply]
  have hM : ∀ h : Fin 8, refTop (refScores q k) (constant S_ .f32 0xFF800000#32) (ix3 b h n) = top (fun t => refScores q k (ix4 b h n t)) :=
    fun h => refTop_apply _ _ (funext fun _ => minus_infinity) b h n
  simp only [refWeights_apply _ _ _ _ _ (hM _), refScores_apply]
  refine (attend_eq (by decide) _ _ fun t => Finite.sum _ _ fun d => (hq _).mul (hk _)).symm.trans ?_
  unfold contextOut
  refine congrArg₂ attend (funext fun t => Finset.sum_congr rfl fun d _ => ?_) rfl
  have hl : (⟨l.val / 64 * 128 + d.val, by omega⟩ : Fin 1024) = headLane l d := Fin.ext (by show l.val / 64 * 128 + d.val = 128 * (l.val / 64) + d.val; omega)
  exact congrArg₂ (· * ·) (congrArg (fun j => q (ix3 b (context n) j)) hl) (congrArg (fun j => k (ix3 b (context t) j)) hl)

/-- The reference declares no semaphore, so nothing of its counters is left to say. -/
theorem no_counter {T : Prop} (s : SemLoc Cert.Reference8Ideal.sig) : T :=
  match s with
  | .reg s => s.elim0
  | .dma s => s.elim0

/-- The reference runs and leaves its arguments alone. -/
theorem reference_frame : Cert.quiescent_Reference8Ideal := fun m ρ _ =>
  (θ_run Cert.Reference8Ideal.defs _ _).mono (fun r h => ⟨fun c => (h c).2, funext fun s => no_counter s.2⟩)
    (Cert.Reference8Ideal.Value.run (F := Ideal) m ρ)

/-- On real queries and keys the call's result is the reference's. -/
theorem algebraic : Cert.algebraic_Kernel8Ideal_Reference8Ideal_pre_finite_qk (hPre_finite_qk := Cert.Attention.pre_facts) := by
  intro m g m' g' hpre hargs
  refine ⟨fun c => contextOut (m ((c.tc : Thread _ _).loc Cert.Kernel8Ideal.main_arg0)) (m ((c.tc : Thread _ _).loc Cert.Kernel8Ideal.main_arg1)) (m ((c.tc : Thread _ _).loc Cert.Kernel8Ideal.main_arg2)), ?_, ?_⟩
  · exact (θ_run Cert.Kernel8Ideal.defs _ _).mono (fun r h c => ⟨(h c).1.trans (final m c), (h c).2⟩)
      (Cert.Kernel8Ideal.Value.run_blocks (F := Ideal) m g)
  · refine (θ_run Cert.Reference8Ideal.defs _ _).mono (fun r h c => ⟨(h c).1.trans ?_, (h c).2⟩)
      (Cert.Reference8Ideal.Value.run (F := Ideal) m' g')
    obtain ⟨h0, h1, h2⟩ := hargs c
    have hr := Cert.Attention.real_at _ _ _ (hpre c)
    have hv : refOut (m' ((c.tc : Thread _ _).loc Cert.Reference8Ideal.main_arg0)) (m' ((c.tc : Thread _ _).loc Cert.Reference8Ideal.main_arg1)) (m' ((c.tc : Thread _ _).loc Cert.Reference8Ideal.main_arg2))
        = contextOut (m ((c.tc : Thread _ _).loc Cert.Kernel8Ideal.main_arg0)) (m ((c.tc : Thread _ _).loc Cert.Kernel8Ideal.main_arg1)) (m ((c.tc : Thread _ _).loc Cert.Kernel8Ideal.main_arg2)) := by
      rw [h0, h1, h2]
      exact refOut_eq _ _ _ (fun i => (hr i).1) (fun i => (hr i).2)
    exact .trans rfl hv

end Cert.Context

end
-- ==== Proof.Table.lean ====
/-
  The modulation table: each batch's and the context's vectors, a row to each.
-/
module

public import proofs.«01_k».proof.Proof.Gen.Kernel9Ideal.Value
public import Idealize.ShloMosaic.Lib.Pointwise
public import Idealize.ShloMosaic.Lib.StableHlo.ReadAt
public import Idealize.ShloMosaic.Lib.Pipeline.ValueKit.Point
public import Idealize.ShloMosaic.Lib.Pipeline.ValueKit.Acc

@[expose] public section

noncomputable section

namespace Cert.Table

open Idealize.ShloMosaic Idealize.ShloMosaic.TcCoe Idealize.SL.Sem Cert.Kernel9Ideal Cert.Kernel9Ideal.Gen

/-- The conditioning of each group: the batches', the context's, then zeros. -/
def cond (a : FVec Ideal S8x1024 .f32) (b : FVec Ideal S1024 .f32) (r : Fin 16) (e : Fin 1024) : EReal :=
  if h : r.val < 8 then a (ix2 ⟨r.val, h⟩ e) else if r.val - 8 < 1 then b (ix1 e) else 0

/-- An entry of the table: the conditioning times its sigmoid, times the weights, and the bias. -/
def table (a : FVec Ideal S8x1024 .f32) (b : FVec Ideal S1024 .f32) (w : FVec Ideal S1024x6144 .f32) (bias : FVec Ideal S6144 .f32)
    (r : Fin 16) (l : Fin 6144) : EReal :=
  ∑ e, cond a b r e * Ideal.div 1 (1 + Ideal.exp (- cond a b r e)) * w (ix2 e l) + bias (ix1 l)

/-- The table, as an array. -/
def tableOut (a : FVec Ideal S8x1024 .f32) (b : FVec Ideal S1024 .f32) (w : FVec Ideal S1024x6144 .f32)
    (bias : FVec Ideal S6144 .f32) : FVec Ideal S16x6144 .f32 := fun i => table a b w bias (i 0) (i 1)

/-- A step's block of the table at an index. -/
theorem pay_table (x : FVec Ideal S16x1024 .f32) (w : FVec Ideal S1024x1024 .f32) (b : FVec Ideal S1x1024 .f32)
    (r : Fin 16) (l : Fin 1024) : k0_pay1 (F := Ideal) x w b (ix2 r l)
      = ∑ e, x (ix2 r e) * Ideal.div 1 (1 + Ideal.exp (- x (ix2 r e))) * w (ix2 e l) + b (ix2 0 l) := by
  pointwise [k0_pay1]
  rfl

variable (m : (ℓ : Loc nD τ sig) → Buf (Elt Ideal) ℓ)

/-- The conditioning is read whole. -/
theorem idx0 : ∀ t : Fin cfg0.N, win0_0.index t = ![0, 0] := (by decide +kernel : ∀ t : Fin grid0.N, _)
/-- The weights are read a block of columns to a step. -/
theorem idx1 : ∀ t : Fin cfg0.N, win0_1.index t = ![0, t.val] := (by decide +kernel : ∀ t : Fin grid0.N, _)
/-- The bias is read a block of columns to a step. -/
theorem idx2 : ∀ t : Fin cfg0.N, win0_2.index t = ![0, t.val] := (by decide +kernel : ∀ t : Fin grid0.N, _)
/-- The table is written a block of columns to a step. -/
theorem idx3 : ∀ t : Fin cfg0.N, win0_3.index t = ![0, t.val] := (by decide +kernel : ∀ t : Fin grid0.N, _)

/-- The conditioning as the call takes it. -/
theorem host2 (c : Dev nD) (r : Fin 16) (e : Fin 1024) : V m c main_v2 (ix2 r e) = cond (m ((c : Thread nD τ).loc main_arg0)) (m ((c : Thread nD τ).loc main_arg1)) r e := by
  unfold V cond
  after_reads_at
  split
  · after_reads_at
  · split
    · after_reads_at
    · after_reads_at

/-- A column of a step's block. -/
def col (t : Fin 6) (l : Fin 1024) : Fin 6144 := ⟨t.val * 1024 + l.val, by omega⟩

/-- A step's conditioning. -/
theorem in0 (c : Dev nD) (t : Fin cfg0.N) (r : Fin 16) (e : Fin 1024) : iblk m c 0 t (ix2 r e) = cond (m ((c : Thread nD τ).loc main_arg0)) (m ((c : Thread nD τ).loc main_arg1)) r e := by
  refine Eq.trans ?_ (host2 m c r e)
  blk_ext! [iblk, idx0 t]

/-- A step's weights. -/
theorem in1 (c : Dev nD) (t : Fin cfg0.N) (e : Fin 1024) (l : Fin 1024) : iblk m c 1 t (ix2 e l)
    = m ((c : Thread nD τ).loc main_arg2) (ix2 e (col t l)) := by
  unfold col
  blk_ext! [iblk, V, idx1 t]

/-- A step's bias. -/
theorem in2 (c : Dev nD) (t : Fin cfg0.N) (l : Fin 1024) : iblk m c 2 t (ix2 0 l) = m ((c : Thread nD τ).loc main_arg3) (ix1 (col t l)) := by
  unfold col
  blk_ext! [iblk, V, idx2 t]

/-- The call's table. -/
theorem final (c : Dev nD) : (dats m 0 c).arrAt 3 cfg0.N = tableOut (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t hf y => ?_
  blk_simp
  rw [after0_3]
  frame_out
  obtain ⟨r, l, rfl⟩ : ∃ (r : Fin 16) (l : Fin 1024), y = ix2 r l := ⟨y 0, y 1, eq_ix2 y⟩
  rw [pay_table, in2, Finset.sum_congr rfl fun e _ => by rw [in0, in1]]
  show table (m ((c : Thread nD τ).loc main_arg0)) (m ((c : Thread nD τ).loc main_arg1)) (m ((c : Thread nD τ).loc main_arg2)) (m ((c : Thread nD τ).loc main_arg3)) r (col t l) = _
  refine congr (congrArg _ (Fin.ext ?_)) (Fin.ext ?_)
  · blk_simp [idx3 t]
  · unfold col; blk_simp [idx3 t]

end Cert.Table

end
-- ==== Proof.TableClaim.lean ====
/-
  The modulation table's claims: the reference's frame, and that the call and the reference give one result.
-/
module

public import proofs.«01_k».proof.Defs
public import proofs.«01_k».proof.Proof.Table
public import proofs.«01_k».proof.Proof.Gen.Reference9Ideal.Run

@[expose] public section

noncomputable section

namespace Cert.Table

open Idealize.ShloMosaic Idealize.SL.Sem
open Cert.Reference9Ideal (S8x1024 S1024 S1024x6144 S6144 S1x1024 S_ S7x1024 S16x1024 S16x6144 S1x6144)
open Cert.Reference9Ideal.Gen

/-- The reference's conditioning. -/
def refCond (a : FVec Ideal S8x1024 .f32) (b : FVec Ideal S1024 .f32) : FVec Ideal S16x1024 .f32 :=
  concatenate S16x1024 0 [⟨S8x1024, a⟩, ⟨S1x1024, broadcastInDim S1x1024 ![1] bcast_S1024_S1x1024_1 b⟩,
    ⟨S7x1024, broadcastInDim S7x1024 ![] bcast_S_S7x1024 (constant S_ .f32 0x00000000#32)⟩] concatenates_S8x1024_S1x1024_S7x1024_S16x1024_d0

/-- The reference's sigmoid. -/
def refGate (x : FVec Ideal S16x1024 .f32) : FVec Ideal S16x1024 .f32 :=
  Host.divf (broadcastInDim S16x1024 ![] bcast_S_S16x1024 (constant S_ .f32 0x3F800000#32))
    (addf (broadcastInDim S16x1024 ![] bcast_S_S16x1024 (constant S_ .f32 0x3F800000#32)) (Host.exp (Host.negf x)))

/-- The reference's table, of any conditioning. -/
def refTable (x : FVec Ideal S16x1024 .f32) (w : FVec Ideal S1024x6144 .f32) (bias : FVec Ideal S6144 .f32) : FVec Ideal S16x6144 .f32 :=
  addf (Host.dotGeneral (F := Ideal) Cert.Reference9Ideal.dot_S16x1024_S1024x6144_S16x6144_1_0_0_1_n_n none (mulf x (refGate x)) w)
    (broadcastInDim S16x6144 ![0, 1] bcast_S1x6144_S16x6144_0_1 (broadcastInDim S1x6144 ![1] bcast_S6144_S1x6144_1 bias))

/-- The conditioning at an index. -/
theorem refCond_at (a : FVec Ideal S8x1024 .f32) (b : FVec Ideal S1024 .f32) (r : Fin 16) (e : Fin 1024) :
    refCond a b (ix2 r e) = cond a b r e := by
  pointwise [refCond]
  rfl

/-- The sigmoid at an index. -/
theorem refGate_at (x : FVec Ideal S16x1024 .f32) (r : Fin 16) (e : Fin 1024) :
    refGate x (ix2 r e) = Ideal.div 1 (1 + Ideal.exp (- x (ix2 r e))) := by
  pointwise [refGate]

/-- The table at an index. -/
theorem refTable_at (x : FVec Ideal S16x1024 .f32) (w : FVec Ideal S1024x6144 .f32) (bias : FVec Ideal S6144 .f32)
    (r : Fin 16) (l : Fin 6144) :
    refTable x w bias (ix2 r l) = ∑ e, x (ix2 r e) * refGate x (ix2 r e) * w (ix2 e l) + bias (ix1 l) := by
  pointwise [refTable]

/-- The reference's table is the mathematics. -/
theorem refTable_eq (a : FVec Ideal S8x1024 .f32) (b : FVec Ideal S1024 .f32) (w : FVec Ideal S1024x6144 .f32) (bias : FVec Ideal S6144 .f32) :
    refTable (refCond a b) w bias = tableOut a b w bias := by
  funext i
  obtain ⟨r, l, rfl⟩ : ∃ (r : Fin 16) (l : Fin 6144), i = ix2 r l := ⟨i 0, i 1, eq_ix2 i⟩
  rw [refTable_at, Finset.sum_congr rfl fun e _ => by rw [refGate_at, refCond_at]]
  rfl

/-- The reference declares no semaphore, so nothing of its counters is left to say. -/
theorem no_counter {T : Prop} (s : SemLoc Cert.Reference9Ideal.sig) : T :=
  match s with
  | .reg s => s.elim0
  | .dma s => s.elim0

/-- The reference runs and leaves its arguments alone. -/
theorem reference_frame : Cert.quiescent_Reference9Ideal := fun m ρ _ =>
  (θ_run Cert.Reference9Ideal.defs _ _).mono (fun r h => ⟨fun c => (h c).2, funext fun s => no_counter s.2⟩)
    (Cert.Reference9Ideal.Value.run (F := Ideal) m ρ)

/-- The call's result is the reference's. -/
theorem algebraic : Cert.algebraic_Kernel9Ideal_Reference9Ideal := by
  intro m g m' g' _ hargs
  refine ⟨fun c => tableOut (m ((c.tc : Thread _ _).loc Cert.Kernel9Ideal.main_arg0)) (m ((c.tc : Thread _ _).loc Cert.Kernel9Ideal.main_arg1)) (m ((c.tc : Thread _ _).loc Cert.Kernel9Ideal.main_arg2)) (m ((c.tc : Thread _ _).loc Cert.Kernel9Ideal.main_arg3)), ?_, ?_⟩
  · exact (θ_run Cert.Kernel9Ideal.defs _ _).mono (fun r h c => ⟨(h c).1.trans (final m c), (h c).2⟩)
      (Cert.Kernel9Ideal.Value.run_blocks (F := Ideal) m g)
  · refine (θ_run Cert.Reference9Ideal.defs _ _).mono (fun r h c => ⟨(h c).1.trans ?_, (h c).2⟩)
      (Cert.Reference9Ideal.Value.run (F := Ideal) m' g')
    obtain ⟨h0, h1, h2, h3⟩ := hargs c
    have hv : tableOut (m' ((c.tc : Thread _ _).loc Cert.Reference9Ideal.main_arg0)) (m' ((c.tc : Thread _ _).loc Cert.Reference9Ideal.main_arg1)) (m' ((c.tc : Thread _ _).loc Cert.Reference9Ideal.main_arg2)) (m' ((c.tc : Thread _ _).loc Cert.Reference9Ideal.main_arg3))
        = tableOut (m ((c.tc : Thread _ _).loc Cert.Kernel9Ideal.main_arg0)) (m ((c.tc : Thread _ _).loc Cert.Kernel9Ideal.main_arg1)) (m ((c.tc : Thread _ _).loc Cert.Kernel9Ideal.main_arg2)) (m ((c.tc : Thread _ _).loc Cert.Kernel9Ideal.main_arg3)) := by
      rw [h0, h1, h2, h3]
    exact .trans (.trans rfl (refTable_eq _ _ _ _)) hv

end Cert.Table

end
-- ==== Proof.ChunkSpec.lean ====
/-
  A step of the mLSTM scan over 64 tokens of one head, as mathematics over the extended reals.
-/
module

public import Idealize.ShloMosaic.Lib.Pointwise

@[expose] public section

noncomputable section

namespace Cert.Chunk

open Idealize.ShloMosaic

/-- The largest of 64 numbers, minus infinity at the least. -/
def most (s : Fin 64 → EReal) : EReal := Finset.univ.fold max ⊥ s

/-- The absolute value. -/
def size (x : EReal) : EReal := (FloatOps.absf (F := Ideal) (x : Ideal .f32) : Ideal .f32)

/-- The logarithm of the sigmoid. -/
def logSigmoid (x : EReal) : EReal := - (max (-x) 0 + Ideal.log1p (Ideal.exp (- size (-x))))

/-- The log forget gates summed up to a token. -/
def cum (f : Fin 64 → EReal) (t : Fin 64) : EReal := ∑ s, if s ≤ t then f s else 0

/-- The log forget gates of the whole chunk. -/
def all (f : Fin 64 → EReal) : EReal := ∑ s, f s

/-- The log weight of a token at the chunk's end. -/
def logWeight (i f : Fin 64 → EReal) (t : Fin 64) : EReal := i t + all f - cum f t

/-- The stabiliser after the chunk. -/
def mNew (i f : Fin 64 → EReal) (m : EReal) : EReal := max (all f + m) (most (logWeight i f))

/-- The factor of the state before the chunk. -/
def decay (i f : Fin 64 → EReal) (m : EReal) : EReal := Ideal.exp (all f + m - mNew i f m)

/-- The weight of a token at the chunk's end. -/
def weight (i f : Fin 64 → EReal) (m : EReal) (t : Fin 64) : EReal := Ideal.exp (logWeight i f t - mNew i f m)

/-- The memory after the chunk, at a lane of the keys and a lane of the values. -/
def cNew (k : Fin 64 → EReal) (v : Fin 64 → EReal) (i f : Fin 64 → EReal) (c m : EReal) : EReal :=
  decay i f m * c + ∑ s, k s * weight i f m s * v s

/-- The normaliser after the chunk, at a lane of the keys. -/
def nNew (k : Fin 64 → EReal) (i f : Fin 64 → EReal) (n m : EReal) : EReal :=
  decay i f m * n + ∑ s, k s * weight i f m s

/-- The log weight of a token `s` at a token `t`: none of a later one. -/
def logMat (i f : Fin 64 → EReal) (t s : Fin 64) : EReal := if s ≤ t then cum f t - cum f s + i s else ⊥

/-- The stabiliser at a token. -/
def mAt (i f : Fin 64 → EReal) (m : EReal) (t : Fin 64) : EReal := max (cum f t + m) (most (logMat i f t))

/-- The factor of the state before the chunk at a token. -/
def inter (i f : Fin 64 → EReal) (m : EReal) (t : Fin 64) : EReal := Ideal.exp (cum f t + m - mAt i f m t)

/-- The weighted score of a token at a token. -/
def score (q k : Fin 64 → Fin 128 → EReal) (i f : Fin 64 → EReal) (m : EReal) (t s : Fin 64) : EReal :=
  (∑ d, q t d * k s d) * Ideal.exp (logMat i f t s - mAt i f m t)

/-- The sum of weighted scores and of the normaliser's part at a token. -/
def den (q k : Fin 64 → Fin 128 → EReal) (i f : Fin 64 → EReal) (n : Fin 128 → EReal) (m : EReal) (t : Fin 64) : EReal :=
  ∑ s, score q k i f m t s + inter i f m t * ∑ d, q t d * n d

/-- The output of the step at a token, at a lane of the values. -/
def out (q k : Fin 64 → Fin 128 → EReal) (v i f : Fin 64 → EReal) (c n : Fin 128 → EReal) (m : EReal) (t : Fin 64) : EReal :=
  Ideal.div (∑ s, score q k i f m t s * v s + inter i f m t * ∑ d, q t d * c d)
    (max (size (den q k i f n m t)) (Ideal.exp (- mAt i f m t)))

end Cert.Chunk

end
-- ==== Proof.ChunkBody.lean ====
/-
  A step of the mLSTM scan: what its parts hold at an index.
-/
module

public import proofs.«01_k».proof.Proof.Gen.KernelAIdeal.Value
public import proofs.«01_k».proof.Proof.ChunkSpec
public import proofs.«01_k».proof.Proof.Softmax
public import Idealize.ShloMosaic.Lib.Pointwise
public import Idealize.ShloMosaic.Lib.StableHlo.ReadAt
public import Idealize.ShloMosaic.Lib.Pipeline.ValueKit.Point
public import Idealize.ShloMosaic.Lib.Pipeline.ValueKit.Acc

@[expose] public section

noncomputable section

namespace Cert.Chunk

open Idealize.ShloMosaic Idealize.ShloMosaic.TcCoe Idealize.SL.Sem Cert.KernelAIdeal Cert.KernelAIdeal.Gen
open Cert.Attention (minus_infinity)

/-- A condition on two tokens, kept where it is one. -/
def Says (a : IVec S64x64 1) (p : Fin 64 → Fin 64 → Prop) [∀ t s, Decidable (p t s)] : Prop :=
  ∀ (t s : Fin 64) (x y : EReal), Scalar.select (a (ix2 t s)) x y = if p t s then x else y

/-- The tokens are the same. -/
theorem says_eq : Says k0_pay9 fun t s => t = s := by
  intro t s x y
  revert x y
  rw [show k0_pay9 (ix2 t s) = if t = s then 1#1 else 0#1 from by
    pointwise [k0_pay9]
    revert t s
    decide +kernel]
  intro x y
  split <;> rfl

/-- The second token is not later. -/
theorem says_le : Says k0_pay10 fun t s => s ≤ t := by
  intro t s x y
  revert x y
  rw [show k0_pay10 (ix2 t s) = if s ≤ t then 1#1 else 0#1 from by
    pointwise [k0_pay10]
    revert t s
    decide +kernel]
  intro x y
  split <;> rfl

/-- The input gate, before the exponential. -/
theorem gate_in (g : Vec Ideal S1x64x128 .f32) (b : Vec Ideal S1x1x128 .f32) (t : Fin 64) :
    k0_pay7 (F := Ideal) g b (ix2 t 0) = g (ix3 0 t 0) + b (ix3 0 0 0) := by
  pointwise [k0_pay7, k0_pay5, k0_pay6]

/-- The log forget gate. -/
theorem gate_forget (g : Vec Ideal S1x64x128 .f32) (b : Vec Ideal S1x1x128 .f32) (t : Fin 64) :
    k0_pay8 (F := Ideal) g b (ix2 t 0) = logSigmoid (g (ix3 0 t 1) + b (ix3 0 0 1)) := by
  pointwise [k0_pay8, k0_pay5, k0_pay6]
  rw [if_neg (not_not.mpr rfl)]
  simp only [zero_sub]
  rfl

/-- The log forget gate, repeated along a row. -/
theorem gate_rows (g : Vec Ideal S1x64x128 .f32) (b : Vec Ideal S1x1x128 .f32) (t s : Fin 64) :
    k0_pay11 (F := Ideal) g b (ix2 t s) = k0_pay8 (F := Ideal) g b (ix2 t 0) := by
  pointwise [k0_pay11]

/-- The zero beside the masked gates. -/
theorem zeros (i : S64x64.Idx) : k0_pay12 (F := Ideal) i = 0 := by
  pointwise [k0_pay12]

/-- The sum of the log forget gates up to a token. -/
theorem cum_col (a c : IVec S64x64 1) (x z : FVec Ideal S64x64 .f32) (f : Fin 64 → EReal)
    (ha : Says a fun t s => t = s) (hc : Says c fun t s => s ≤ t) (hx : ∀ t s, x (ix2 t s) = f t) (hz : ∀ i, z i = 0)
    (t : Fin 64) : k0_pay13 (F := Ideal) a c x z (ix2 t 0) = cum f t := by
  pointwise [k0_pay13]
  unfold cum
  refine Finset.sum_congr rfl fun s _ => (hc _ _ _ _).trans ?_
  refine if_congr Iff.rfl ?_ rfl
  rw [Finset.sum_congr rfl fun r _ => (ha r s _ _).trans (by rw [hx, hz])]
  simp

/-- The sum of all log forget gates. -/
theorem all_row (v : FVec Ideal S64x1 .f32) (f : Fin 64 → EReal) (hf : ∀ t, v (ix2 t 0) = f t) (l : Fin 128) :
    k0_pay15 (F := Ideal) v (ix2 0 l) = all f := by
  pointwise [k0_pay15]
  exact Finset.sum_congr rfl fun s _ => hf s

/-- The log weights at the chunk's end, a row to a token. -/
theorem weight_col (u v : FVec Ideal S64x1 .f32) (a c : IVec S64x64 1) (x z : FVec Ideal S64x64 .f32) (i f : Fin 64 → EReal)
    (hu : ∀ t, u (ix2 t 0) = i t) (hv : ∀ t, v (ix2 t 0) = f t)
    (ha : Says a fun t s => t = s) (hc : Says c fun t s => s ≤ t) (hx : ∀ t s, x (ix2 t s) = f t) (hz : ∀ i, z i = 0)
    (t : Fin 64) (l : Fin 128) : k0_pay16 (F := Ideal) u v a c x z (ix2 t l) = logWeight i f t := by
  pointwise [k0_pay16, k0_pay14]
  rw [cum_col a c x z f ha hc hx hz, all_row v f hv, hu]
  rfl

/-- The largest log weight at the chunk's end. -/
theorem weight_top (u v : FVec Ideal S64x1 .f32) (a c : IVec S64x64 1) (x z : FVec Ideal S64x64 .f32) (i f : Fin 64 → EReal)
    (hu : ∀ t, u (ix2 t 0) = i t) (hv : ∀ t, v (ix2 t 0) = f t)
    (ha : Says a fun t s => t = s) (hc : Says c fun t s => s ≤ t) (hx : ∀ t s, x (ix2 t s) = f t) (hz : ∀ i, z i = 0)
    (l : Fin 128) : k0_pay17 (F := Ideal) u v a c x z (ix2 0 l) = most (logWeight i f) := by
  pointwise [k0_pay17]
  rw [minus_infinity]
  unfold most
  refine congrArg (fun w => Finset.univ.fold max ⊥ w) (funext fun t => ?_)
  exact weight_col u v a c x z i f hu hv ha hc hx hz t l

/-- The log forget gates summed up to a token, along a row. -/
theorem cum_row (v : FVec Ideal S64x1 .f32) (f : Fin 64 → EReal) (hv : ∀ t, v (ix2 t 0) = f t) (s : Fin 64) :
    k0_pay19 (F := Ideal) v (iota .tc S64x64 32 [0] iota_S64x64_d0_w32) (iota .tc S64x64 32 [1] iota_S64x64_d1_w32) (ix2 0 s) = cum f s := by
  pointwise [k0_pay19]
  unfold cum
  refine Finset.sum_congr rfl fun t _ => ?_
  rw [show IntOp.cmpi .sle (BitVec.ofNat 32 t.val) (BitVec.ofNat 32 s.val) = if t ≤ s then 1#1 else 0#1 from by
    revert t s
    decide +kernel, hv]
  split <;> rfl

/-- The input gates along a row. -/
theorem in_row (u : FVec Ideal S64x1 .f32) (a : IVec S64x64 1) (i : Fin 64 → EReal)
    (hu : ∀ t, u (ix2 t 0) = i t) (ha : Says a fun t s => t = s) (s : Fin 64) :
    k0_pay18 (F := Ideal) u a (ix2 0 s) = i s := by
  pointwise [k0_pay18]
  refine (Finset.sum_congr rfl fun r _ => (ha r s _ _).trans (by rw [hu])).trans ?_
  simp

/-- The log weights at the chunk's end, along a row. -/
theorem weight_row (u v : FVec Ideal S64x1 .f32) (a : IVec S64x64 1) (i f : Fin 64 → EReal)
    (hu : ∀ t, u (ix2 t 0) = i t) (hv : ∀ t, v (ix2 t 0) = f t) (ha : Says a fun t s => t = s) (s : Fin 64) :
    k0_pay20 (F := Ideal) u v (iota .tc S64x64 32 [0] iota_S64x64_d0_w32) (iota .tc S64x64 32 [1] iota_S64x64_d1_w32) a (ix2 0 s) = logWeight i f s := by
  pointwise [k0_pay20]
  rw [cum_row v f hv, in_row u a i hu ha, all_row v f hv]
  rfl

/-- The log weights of a token at a token. -/
theorem mat (u v : FVec Ideal S64x1 .f32) (a c : IVec S64x64 1) (x z : FVec Ideal S64x64 .f32) (i f : Fin 64 → EReal)
    (hu : ∀ t, u (ix2 t 0) = i t) (hv : ∀ t, v (ix2 t 0) = f t)
    (ha : Says a fun t s => t = s) (hc : Says c fun t s => s ≤ t) (hx : ∀ t s, x (ix2 t s) = f t) (hz : ∀ i, z i = 0)
    (t s : Fin 64) : k0_pay21 (F := Ideal) u v (iota .tc S64x64 32 [0] iota_S64x64_d0_w32) (iota .tc S64x64 32 [1] iota_S64x64_d1_w32) a c x z (ix2 t s) = logMat i f t s := by
  pointwise [k0_pay21]
  rw [cum_row v f hv, in_row u a i hu ha, cum_col a c x z f ha hc hx hz]
  refine (hc t s _ _).trans ?_
  rw [minus_infinity]
  rfl

/-- The largest log weight at a token. -/
theorem mat_top (u v : FVec Ideal S64x1 .f32) (a c : IVec S64x64 1) (x z : FVec Ideal S64x64 .f32) (i f : Fin 64 → EReal)
    (hu : ∀ t, u (ix2 t 0) = i t) (hv : ∀ t, v (ix2 t 0) = f t)
    (ha : Says a fun t s => t = s) (hc : Says c fun t s => s ≤ t) (hx : ∀ t s, x (ix2 t s) = f t) (hz : ∀ i, z i = 0)
    (t : Fin 64) (l : Fin 128) : k0_pay22 (F := Ideal) u v (iota .tc S64x64 32 [0] iota_S64x64_d0_w32) (iota .tc S64x64 32 [1] iota_S64x64_d1_w32) a c x z (ix2 t l) = most (logMat i f t) := by
  pointwise [k0_pay22]
  rw [minus_infinity]
  unfold most
  exact congrArg (fun w => Finset.univ.fold max ⊥ w) (funext fun s => mat u v a c x z i f hu hv ha hc hx hz t s)

/-- The stabiliser after the chunk. -/
theorem stab (v55 v62 : FVec Ideal S1x128 .f32) (m0 : Vec Ideal S1x1x128 .f32) (l : Fin 128) :
    k0_pay31 (F := Ideal) v55 v62 m0 (ix2 0 l) = max (v55 (ix2 0 l) + m0 (ix3 0 0 l)) (v62 (ix2 0 l)) := by
  pointwise [k0_pay31, k0_pay23]

/-- The weights, a row to a token. -/
theorem wts (v55 : FVec Ideal S1x128 .f32) (v60 : FVec Ideal S64x128 .f32) (v62 : FVec Ideal S1x128 .f32) (m0 : Vec Ideal S1x1x128 .f32) (t : Fin 64) (l : Fin 128) :
    k0_pay32 (F := Ideal) v55 v60 v62 m0 (ix2 t l) = Ideal.exp (v60 (ix2 t l) - k0_pay31 (F := Ideal) v55 v62 m0 (ix2 0 l)) := by
  pointwise [k0_pay32]

/-- The factor of the state. -/
theorem dec (v55 v62 : FVec Ideal S1x128 .f32) (m0 : Vec Ideal S1x1x128 .f32) (l : Fin 128) :
    k0_pay33 (F := Ideal) v55 v62 m0 (ix2 0 l) = Ideal.exp (v55 (ix2 0 l) + m0 (ix3 0 0 l) - k0_pay31 (F := Ideal) v55 v62 m0 (ix2 0 l)) := by
  pointwise [k0_pay33, k0_pay23]

/-- The weighted keys, transposed. -/
theorem keys (v55 v62 : FVec Ideal S1x128 .f32) (v78 : FVec Ideal S1x64 .f32) (m0 : Vec Ideal S1x1x128 .f32) (k : Vec Ideal S1x64x128 .f32) (d : Fin 128) (s : Fin 64) :
    k0_pay34 (F := Ideal) v55 v62 v78 m0 k (ix2 d s)
      = k (ix3 0 s d) * Ideal.exp (v78 (ix2 0 s) - k0_pay31 (F := Ideal) v55 v62 m0 (ix2 0 ⟨s.val, by omega⟩)) := by
  pointwise [k0_pay34]

/-- The state, with its factor. -/
theorem old (c : FVec Ideal S128x256 .f32) (v55 v62 : FVec Ideal S1x128 .f32) (m0 : Vec Ideal S1x1x128 .f32) (d : Fin 128) (e : Fin 256) :
    k0_pay35 (F := Ideal) c v55 v62 m0 (ix2 d e)
      = k0_pay33 (F := Ideal) v55 v62 m0 (ix2 0 ⟨e.val % 128, by omega⟩) * c (ix2 d e) := by
  pointwise [k0_pay35]
  split
  · rename_i h
    simp only [Nat.mod_eq_of_lt h]
  · rename_i h
    have he : e.val % 128 = e.val - 128 := by omega
    simp only [he]

/-- The normaliser after the chunk. -/
theorem norm (n : FVec Ideal S1x128 .f32) (k w : FVec Ideal S64x128 .f32) (dc : FVec Ideal S1x128 .f32) (d : Fin 128) :
    k0_pay36 (F := Ideal) n k w dc (ix2 0 d) = dc (ix2 0 d) * n (ix2 0 d) + ∑ s, k (ix2 s d) * w (ix2 s d) := by
  pointwise [k0_pay36]

/-- The memory after the chunk. -/
theorem mem (v : FVec Ideal S64x256 .bf16) (kw : FVec Ideal S128x64 .f32) (o : FVec Ideal S128x256 .f32) (d : Fin 128) (e : Fin 256) :
    k0_pay38 (F := Ideal) v kw o (ix3 0 d e) = o (ix2 d e) + ∑ s, kw (ix2 d s) * v (ix2 s e) := by
  pointwise [k0_pay38]

/-- The scale of the queries. -/
def scale : EReal := Ideal.ofBits FTy.f32 0x3DB504F3#32

/-- The scores before their weights. -/
theorem dots (k q : Vec Ideal S1x64x128 .f32) (t s : Fin 64) :
    k0_pay28 (F := Ideal) k q (ix2 t s) = ∑ d, q (ix3 0 t d) * scale * k (ix3 0 s d) := by
  pointwise [k0_pay28, k0_pay27, k0_pay26, k0_pay24]
  rfl

/-- The queries against the memory. -/
theorem dots_c (c : FVec Ideal S128x256 .f32) (q : Vec Ideal S1x64x128 .f32) (t : Fin 64) (e : Fin 256) :
    k0_pay29 (F := Ideal) c q (ix2 t e) = ∑ d, q (ix3 0 t d) * scale * c (ix2 d e) := by
  pointwise [k0_pay29, k0_pay27, k0_pay26, k0_pay24]
  rfl

/-- The queries against the normaliser. -/
theorem dots_n (n : FVec Ideal S1x128 .f32) (q : Vec Ideal S1x64x128 .f32) (t : Fin 64) (l : Fin 128) :
    k0_pay30 (F := Ideal) n q (ix2 t l) = ∑ d, q (ix3 0 t d) * scale * n (ix2 0 d) := by
  pointwise [k0_pay30, k0_pay27, k0_pay26, k0_pay24]
  rfl

/-- The output of the step, from the parts. -/
theorem outs (v51 : FVec Ideal S64x128 .f32) (v85 : FVec Ideal S64x64 .f32) (v89 : FVec Ideal S64x128 .f32) (v91 : FVec Ideal S1x128 .f32) (v99 : FVec Ideal S64x256 .bf16) (v106 : FVec Ideal S64x64 .f32) (v108 : FVec Ideal S64x256 .f32) (v114 : FVec Ideal S64x128 .f32)
    (q k : Fin 64 → Fin 128 → EReal) (v : Fin 64 → EReal) (i f : Fin 64 → EReal) (c n : Fin 128 → EReal) (m : EReal) (t : Fin 64) (e : Fin 256)
    (h51 : ∀ t l, v51 (ix2 t l) = cum f t) (h85 : ∀ t s, v85 (ix2 t s) = logMat i f t s) (h89 : ∀ t l, v89 (ix2 t l) = most (logMat i f t))
    (h91 : ∀ l, v91 (ix2 0 l) = m) (h99 : ∀ s, v99 (ix2 s e) = v s) (h106 : ∀ t s, v106 (ix2 t s) = ∑ d, q t d * k s d)
    (h108 : ∀ t, v108 (ix2 t e) = ∑ d, q t d * c d) (h114 : ∀ t l, v114 (ix2 t l) = ∑ d, q t d * n d) :
    k0_pay37 (F := Ideal) v51 v85 v89 v91 v99 v106 v108 v114 (ix3 0 t e) = out q k v i f c n m t := by
  pointwise [k0_pay37]
  simp only [h51, h85, h89, h91, h99, h106, h108, h114, dite_eq_ite, ite_self, zero_sub]
  rfl

/-- A chunk's input gates, from its block of gates and the bias. -/
def gateIn (g : Vec Ideal S1x64x128 .f32) (b : Vec Ideal S1x1x128 .f32) (t : Fin 64) : EReal := g (ix3 0 t 0) + b (ix3 0 0 0)

/-- A chunk's log forget gates, from its block of gates and the bias. -/
def gateForget (g : Vec Ideal S1x64x128 .f32) (b : Vec Ideal S1x1x128 .f32) (t : Fin 64) : EReal :=
  logSigmoid (g (ix3 0 t 1) + b (ix3 0 0 1))

/-- What a step leaves of its outputs. -/
theorem out_h (q k : Vec Ideal S1x64x128 .f32) (v : Vec Ideal S1x64x256 .f32) (g : Vec Ideal S1x64x128 .f32) (b : Vec Ideal S1x1x128 .f32)
    (c : Vec Ideal S1x128x256 .f32) (n m : Vec Ideal S1x1x128 .f32) (m0 : EReal) (hm : ∀ l, m (ix3 0 0 l) = m0) (t : Fin 64) (e : Fin 256) :
    out0_8 (F := Ideal) q k v g b c n m (ix3 0 t e)
      = out (fun t d => q (ix3 0 t d) * scale) (fun s d => k (ix3 0 s d)) (fun s => v (ix3 0 s e)) (gateIn g b) (gateForget g b)
          (fun d => c (ix3 0 d e)) (fun d => n (ix3 0 0 d)) m0 t := by
  unfold out0_8 k0_pay51 k0_pay48 k0_pay47 k0_pay46 k0_pay45 k0_pay44 k0_pay43 k0_pay42 k0_pay41 k0_pay40 k0_pay39
  frame_out
  refine outs _ _ _ _ _ _ _ _ _ _ _ _ _ _ _ _ _ _ ?_ ?_ ?_ ?_ ?_ ?_ ?_ ?_
  · intro t l
    pointwise [k0_pay14]
    exact cum_col _ _ _ _ _ says_eq says_le (fun t s => (gate_rows g b t s).trans (gate_forget g b t)) zeros t
  · exact mat _ _ _ _ _ _ _ _ (gate_in g b) (gate_forget g b) says_eq says_le (fun t s => (gate_rows g b t s).trans (gate_forget g b t)) zeros
  · exact mat_top _ _ _ _ _ _ _ _ (gate_in g b) (gate_forget g b) says_eq says_le (fun t s => (gate_rows g b t s).trans (gate_forget g b t)) zeros
  · intro l
    pointwise [k0_pay23]
    exact hm l
  · intro s
    pointwise [k0_pay25]
  · exact dots k q
  · intro t
    refine (dots_c _ q t e).trans (Finset.sum_congr rfl fun d _ => congrArg _ ?_)
    pointwise [k0_pay3]
  · intro t l
    refine (dots_n _ q t l).trans (Finset.sum_congr rfl fun d _ => congrArg _ ?_)
    pointwise [k0_pay4]

/-- The stabiliser a step computes. -/
theorem stab_eq (g : Vec Ideal S1x64x128 .f32) (b m : Vec Ideal S1x1x128 .f32) (m0 : EReal) (hm : ∀ l, m (ix3 0 0 l) = m0) (l : Fin 128) :
    k0_pay31 (F := Ideal) (k0_pay15 (k0_pay8 g b)) (k0_pay17 (k0_pay7 g b) (k0_pay8 g b) k0_pay9 k0_pay10 (k0_pay11 g b) (k0_pay12 (F := Ideal))) m (ix2 0 l)
      = mNew (gateIn g b) (gateForget g b) m0 := by
  rw [stab, hm, all_row _ _ (gate_forget g b),
    weight_top _ _ _ _ _ _ _ _ (gate_in g b) (gate_forget g b) says_eq says_le (fun t s => (gate_rows g b t s).trans (gate_forget g b t)) zeros]
  rfl

/-- The factor of the state a step computes. -/
theorem dec_eq (g : Vec Ideal S1x64x128 .f32) (b m : Vec Ideal S1x1x128 .f32) (m0 : EReal) (hm : ∀ l, m (ix3 0 0 l) = m0) (l : Fin 128) :
    k0_pay33 (F := Ideal) (k0_pay15 (k0_pay8 g b)) (k0_pay17 (k0_pay7 g b) (k0_pay8 g b) k0_pay9 k0_pay10 (k0_pay11 g b) (k0_pay12 (F := Ideal))) m (ix2 0 l)
      = decay (gateIn g b) (gateForget g b) m0 := by
  rw [dec, stab_eq g b m m0 hm, hm, all_row _ _ (gate_forget g b)]
  rfl

/-- What a step leaves of the memory. -/
theorem out_c (q k : Vec Ideal S1x64x128 .f32) (v : Vec Ideal S1x64x256 .f32) (g : Vec Ideal S1x64x128 .f32) (b : Vec Ideal S1x1x128 .f32)
    (c : Vec Ideal S1x128x256 .f32) (n m : Vec Ideal S1x1x128 .f32) (m0 : EReal) (hm : ∀ l, m (ix3 0 0 l) = m0) (d : Fin 128) (e : Fin 256) :
    out0_9 (F := Ideal) q k v g b c n m (ix3 0 d e)
      = cNew (fun s => k (ix3 0 s d)) (fun s => v (ix3 0 s e)) (gateIn g b) (gateForget g b) (c (ix3 0 d e)) m0 := by
  unfold out0_9 k0_pay51 k0_pay50 k0_pay49 k0_pay48 k0_pay47 k0_pay46 k0_pay45 k0_pay44 k0_pay43 k0_pay41 k0_pay40 k0_pay39
  frame_out
  rw [mem, old, dec_eq g b m m0 hm]
  refine congrArg₂ (· + ·) (congrArg _ ?_) (Finset.sum_congr rfl fun s _ => congrArg₂ (· * ·) ?_ ?_)
  · pointwise [k0_pay3]
  · rw [keys, stab_eq g b m m0 hm, weight_row _ _ _ _ _ (gate_in g b) (gate_forget g b) says_eq]
    rfl
  · pointwise [k0_pay25]

/-- What a step leaves of the normaliser. -/
theorem out_n (q k : Vec Ideal S1x64x128 .f32) (v : Vec Ideal S1x64x256 .f32) (g : Vec Ideal S1x64x128 .f32) (b : Vec Ideal S1x1x128 .f32)
    (c : Vec Ideal S1x128x256 .f32) (n m : Vec Ideal S1x1x128 .f32) (m0 : EReal) (hm : ∀ l, m (ix3 0 0 l) = m0) (d : Fin 128) :
    out0_10 (F := Ideal) q k v g b c n m (ix3 0 0 d)
      = nNew (fun s => k (ix3 0 s d)) (gateIn g b) (gateForget g b) (n (ix3 0 0 d)) m0 := by
  unfold out0_10 k0_pay50 k0_pay49 k0_pay48 k0_pay47 k0_pay46 k0_pay45 k0_pay44 k0_pay43 k0_pay42
  frame_out
  pointwise [k0_pay1]
  rw [norm, dec_eq g b m m0 hm]
  refine congrArg₂ (· + ·) (congrArg _ ?_) (Finset.sum_congr rfl fun s _ => congrArg₂ (· * ·) ?_ ?_)
  · pointwise [k0_pay4]
  · pointwise [k0_pay24]
  · rw [wts, stab_eq g b m m0 hm, weight_col _ _ _ _ _ _ _ _ (gate_in g b) (gate_forget g b) says_eq says_le (fun t s => (gate_rows g b t s).trans (gate_forget g b t)) zeros]
    rfl

/-- What a step leaves of the stabiliser. -/
theorem out_m (q k : Vec Ideal S1x64x128 .f32) (v : Vec Ideal S1x64x256 .f32) (g : Vec Ideal S1x64x128 .f32) (b : Vec Ideal S1x1x128 .f32)
    (c : Vec Ideal S1x128x256 .f32) (n m : Vec Ideal S1x1x128 .f32) (m0 : EReal) (hm : ∀ l, m (ix3 0 0 l) = m0) (l : Fin 128) :
    out0_11 (F := Ideal) q k v g b c n m (ix3 0 0 l) = mNew (gateIn g b) (gateForget g b) m0 := by
  unfold out0_11 k0_pay50 k0_pay49 k0_pay48 k0_pay47 k0_pay46 k0_pay45 k0_pay44 k0_pay43
  frame_out
  pointwise [k0_pay2]
  exact stab_eq g b m m0 hm l

end Cert.Chunk

end
-- ==== Proof.Chunk.lean ====
/-
  The step's call: a grid step takes one head of one batch, and its blocks are that head's parts of the whole arrays.
-/
module

public import proofs.«01_k».proof.Proof.ChunkBody

@[expose] public section

noncomputable section

namespace Cert.Chunk

open Idealize.ShloMosaic Idealize.ShloMosaic.TcCoe Idealize.SL.Sem Cert.KernelAIdeal Cert.KernelAIdeal.Gen

/-- The batch of a head of all batches. -/
def batch (j : Fin 32) : Fin 8 := ⟨j.val / 4, by omega⟩

/-- The head in its batch. -/
def head (j : Fin 32) : Fin 4 := ⟨j.val % 4, by omega⟩

/-- A head's queries in the projection. -/
def queries (p : FVec Ideal S8x64x3584 .f32) (j : Fin 32) (t : Fin 64) (d : Fin 128) : EReal :=
  p (ix3 (batch j) t ⟨(head j).val * 128 + d.val, by omega⟩)

/-- A head's keys in the projection. -/
def keyRows (p : FVec Ideal S8x64x3584 .f32) (j : Fin 32) (t : Fin 64) (d : Fin 128) : EReal :=
  p (ix3 (batch j) t ⟨512 + ((head j).val * 128 + d.val), by omega⟩)

/-- A head's values in the projection. -/
def values (p : FVec Ideal S8x64x3584 .f32) (j : Fin 32) (e : Fin 256) (t : Fin 64) : EReal :=
  p (ix3 (batch j) t ⟨1024 + ((head j).val * 256 + e.val), by omega⟩)

/-- A head's input gates. -/
def gateI (p : FVec Ideal S8x64x3584 .f32) (g : FVec Ideal S16 .f32) (j : Fin 32) (t : Fin 64) : EReal :=
  p (ix3 (batch j) t ⟨3072 + (head j).val * 128, by omega⟩) + g (ix1 ⟨(head j).val, by omega⟩)

/-- A head's log forget gates. -/
def gateF (p : FVec Ideal S8x64x3584 .f32) (g : FVec Ideal S16 .f32) (j : Fin 32) (t : Fin 64) : EReal :=
  logSigmoid (p (ix3 (batch j) t ⟨3072 + ((head j).val * 128 + 1), by omega⟩) + g (ix1 ⟨4 + (head j).val, by omega⟩))

/-- A head's output at a token and a lane of its values. -/
def hAt (p : FVec Ideal S8x64x3584 .f32) (g : FVec Ideal S16 .f32) (c : FVec Ideal S32x128x256 .f32) (n : FVec Ideal S32x128 .f32)
    (m : FVec Ideal S32 .f32) (j : Fin 32) (e : Fin 256) (r : Fin 64) : EReal :=
  out (fun t d => queries p j t d * scale) (keyRows p j) (values p j e) (gateI p g j) (gateF p g j) (fun d => c (ix3 j d e))
    (fun d => n (ix2 j d)) (m (ix1 j)) r

/-- The head of a batch and a column of the result. -/
def headOf (b : Fin 8) (l : Fin 1024) : Fin 32 := ⟨b.val * 4 + l.val / 256, by omega⟩

/-- The lane of a head's values at a column of the result. -/
def laneOf (l : Fin 1024) : Fin 256 := ⟨l.val % 256, by omega⟩

/-- The step's outputs, the heads of a batch side by side. -/
def hOut (p : FVec Ideal S8x64x3584 .f32) (g : FVec Ideal S16 .f32) (c : FVec Ideal S32x128x256 .f32) (n : FVec Ideal S32x128 .f32)
    (m : FVec Ideal S32 .f32) : FVec Ideal S8x64x1024 .f32 := fun i => hAt p g c n m (headOf (i 0) (i 2)) (laneOf (i 2)) (i 1)

/-- The memories after the step. -/
def cOut (p : FVec Ideal S8x64x3584 .f32) (g : FVec Ideal S16 .f32) (c : FVec Ideal S32x128x256 .f32) (m : FVec Ideal S32 .f32) :
    FVec Ideal S32x128x256 .f32 := fun i =>
  cNew (fun s => keyRows p (i 0) s (i 1)) (values p (i 0) (i 2)) (gateI p g (i 0)) (gateF p g (i 0)) (c i) (m (ix1 (i 0)))

/-- The normalisers after the step. -/
def nOut (p : FVec Ideal S8x64x3584 .f32) (g : FVec Ideal S16 .f32) (n : FVec Ideal S32x128 .f32) (m : FVec Ideal S32 .f32) :
    FVec Ideal S32x1x128 .f32 := fun i =>
  nNew (fun s => keyRows p (i 0) s (i 2)) (gateI p g (i 0)) (gateF p g (i 0)) (n (ix2 (i 0) (i 2))) (m (ix1 (i 0)))

/-- The stabilisers after the step, repeated along a row. -/
def mOut (p : FVec Ideal S8x64x3584 .f32) (g : FVec Ideal S16 .f32) (m : FVec Ideal S32 .f32) : FVec Ideal S32x1x128 .f32 := fun i =>
  mNew (gateI p g (i 0)) (gateF p g (i 0)) (m (ix1 (i 0)))

variable (m : (ℓ : Loc nD τ sig) → Buf (Elt Ideal) ℓ)

/-- The head of a grid step. -/
def at' (t : Fin cfg0.N) : Fin 32 := t

/-- The queries a step reads. -/
theorem idx0 : ∀ t : Fin cfg0.N, win0_0.index t = ![t.val / 4, 0, t.val % 4] := (by decide +kernel : ∀ t : Fin grid0.N, _)
/-- The keys a step reads. -/
theorem idx1 : ∀ t : Fin cfg0.N, win0_1.index t = ![t.val / 4, 0, 4 + t.val % 4] := (by decide +kernel : ∀ t : Fin grid0.N, _)
/-- The values a step reads. -/
theorem idx2 : ∀ t : Fin cfg0.N, win0_2.index t = ![t.val / 4, 0, 4 + t.val % 4] := (by decide +kernel : ∀ t : Fin grid0.N, _)
/-- The gates a step reads. -/
theorem idx3 : ∀ t : Fin cfg0.N, win0_3.index t = ![t.val / 4, 0, 24 + t.val % 4] := (by decide +kernel : ∀ t : Fin grid0.N, _)
/-- The gates' bias a step reads. -/
theorem idx4 : ∀ t : Fin cfg0.N, win0_4.index t = ![t.val % 4, 0, 0] := (by decide +kernel : ∀ t : Fin grid0.N, _)
/-- The memory a step reads. -/
theorem idx5 : ∀ t : Fin cfg0.N, win0_5.index t = ![t.val, 0, 0] := (by decide +kernel : ∀ t : Fin grid0.N, _)
/-- The normaliser a step reads. -/
theorem idx6 : ∀ t : Fin cfg0.N, win0_6.index t = ![t.val, 0, 0] := (by decide +kernel : ∀ t : Fin grid0.N, _)
/-- The stabiliser a step reads. -/
theorem idx7 : ∀ t : Fin cfg0.N, win0_7.index t = ![t.val, 0, 0] := (by decide +kernel : ∀ t : Fin grid0.N, _)
/-- The outputs a step writes. -/
theorem idx8 : ∀ t : Fin cfg0.N, win0_8.index t = ![t.val / 4, 0, t.val % 4] := (by decide +kernel : ∀ t : Fin grid0.N, _)
/-- The memory a step writes. -/
theorem idx9 : ∀ t : Fin cfg0.N, win0_9.index t = ![t.val, 0, 0] := (by decide +kernel : ∀ t : Fin grid0.N, _)
/-- The normaliser a step writes. -/
theorem idx10 : ∀ t : Fin cfg0.N, win0_10.index t = ![t.val, 0, 0] := (by decide +kernel : ∀ t : Fin grid0.N, _)
/-- The stabiliser a step writes. -/
theorem idx11 : ∀ t : Fin cfg0.N, win0_11.index t = ![t.val, 0, 0] := (by decide +kernel : ∀ t : Fin grid0.N, _)

/-- The input gate's bias as the call takes it. -/
theorem host3_in (c : Dev nD) (h : Fin 4) : V m c main_v3 (ix3 h 0 0) = (m ((c : Thread nD τ).loc main_arg1)) (ix1 ⟨h.val, by omega⟩) := by
  unfold V
  after_reads_at

/-- The forget gate's bias as the call takes it. -/
theorem host3_forget (c : Dev nD) (h : Fin 4) : V m c main_v3 (ix3 h 0 1) = (m ((c : Thread nD τ).loc main_arg1)) (ix1 ⟨4 + h.val, by omega⟩) := by
  unfold V
  after_reads_at

/-- The stabilisers as the call takes them. -/
theorem host5 (c : Dev nD) (j : Fin 32) (l : Fin 128) : V m c main_v5 (ix3 j 0 l) = (m ((c : Thread nD τ).loc main_arg4)) (ix1 j) := by
  unfold V
  after_reads_at

/-- The normalisers as the call takes them. -/
theorem host6 (c : Dev nD) (j : Fin 32) (d : Fin 128) : V m c main_v6 (ix3 j 0 d) = (m ((c : Thread nD τ).loc main_arg3)) (ix2 j d) := by
  unfold V
  after_reads_at

/-- A step's queries. -/
theorem in0 (c : Dev nD) (t : Fin cfg0.N) (r : Fin 64) (d : Fin 128) :
    iblk m c 0 t (ix3 0 r d) = queries (m ((c : Thread nD τ).loc main_arg0)) (at' t) r d := by
  unfold queries batch head at'
  blk_ext! [iblk, V, idx0 t]

/-- A step's keys. -/
theorem in1 (c : Dev nD) (t : Fin cfg0.N) (r : Fin 64) (d : Fin 128) :
    iblk m c 1 t (ix3 0 r d) = keyRows (m ((c : Thread nD τ).loc main_arg0)) (at' t) r d := by
  unfold keyRows batch head at'
  blk_ext! [iblk, V, idx1 t]

/-- A step's values. -/
theorem in2 (c : Dev nD) (t : Fin cfg0.N) (r : Fin 64) (e : Fin 256) :
    iblk m c 2 t (ix3 0 r e) = values (m ((c : Thread nD τ).loc main_arg0)) (at' t) e r := by
  unfold values batch head at'
  blk_ext! [iblk, V, idx2 t]

/-- A step's input gates. -/
theorem in_gateI (c : Dev nD) (t : Fin cfg0.N) :
    gateIn (iblk m c 3 t) (iblk m c 4 t) = gateI (m ((c : Thread nD τ).loc main_arg0)) (m ((c : Thread nD τ).loc main_arg1)) (at' t) := by
  funext r
  unfold gateIn gateI
  refine congrArg₂ (· + ·) ?_ (Eq.trans ?_ (host3_in m c (head (at' t))))
  · unfold batch head at'
    blk_ext! [iblk, V, idx3 t]
  · unfold head at'
    blk_ext! [iblk, idx4 t]

/-- A step's log forget gates. -/
theorem in_gateF (c : Dev nD) (t : Fin cfg0.N) :
    gateForget (iblk m c 3 t) (iblk m c 4 t) = gateF (m ((c : Thread nD τ).loc main_arg0)) (m ((c : Thread nD τ).loc main_arg1)) (at' t) := by
  funext r
  unfold gateForget gateF
  refine congrArg logSigmoid (congrArg₂ (· + ·) ?_ (Eq.trans ?_ (host3_forget m c (head (at' t)))))
  · unfold batch head at'
    blk_ext! [iblk, V, idx3 t]
  · unfold head at'
    blk_ext! [iblk, idx4 t]

/-- A step's memory. -/
theorem in5 (c : Dev nD) (t : Fin cfg0.N) (d : Fin 128) (e : Fin 256) :
    iblk m c 5 t (ix3 0 d e) = (m ((c : Thread nD τ).loc main_arg2)) (ix3 (at' t) d e) := by
  unfold at'
  blk_ext! [iblk, V, idx5 t]

/-- A step's normaliser. -/
theorem in6 (c : Dev nD) (t : Fin cfg0.N) (d : Fin 128) :
    iblk m c 6 t (ix3 0 0 d) = (m ((c : Thread nD τ).loc main_arg3)) (ix2 (at' t) d) := by
  refine Eq.trans ?_ (host6 m c (at' t) d)
  unfold at'
  blk_ext! [iblk, idx6 t]

/-- A step's stabiliser. -/
theorem in7 (c : Dev nD) (t : Fin cfg0.N) (l : Fin 128) :
    iblk m c 7 t (ix3 0 0 l) = (m ((c : Thread nD τ).loc main_arg4)) (ix1 (at' t)) := by
  refine Eq.trans ?_ (host5 m c (at' t) l)
  unfold at'
  blk_ext! [iblk, idx7 t]

/-- Where a step's outputs lie in the result. -/
theorem spot8 (t : Fin cfg0.N) (r : Fin 64) (e : Fin 256) : ((View.whole main_v7_0).slice (win0_8.rect t)).emb (ix3 0 r e)
    = ix3 (batch (at' t)) r (⟨(head (at' t)).val * 256 + e.val, by omega⟩ : Fin 1024) := by
  funext a
  unfold batch head at'
  match a with
  | ⟨0, _⟩ => exact Fin.ext (by blk_simp [idx8 t]; rfl)
  | ⟨1, _⟩ => exact Fin.ext (by blk_simp [idx8 t])
  | ⟨2, _⟩ => exact Fin.ext (by blk_simp [idx8 t])

/-- Where a step's memory lies in the result. -/
theorem spot9 (t : Fin cfg0.N) (d : Fin 128) (e : Fin 256) : ((View.whole main_v7_1).slice (win0_9.rect t)).emb (ix3 0 d e)
    = ix3 (at' t) d e := by
  funext a
  unfold at'
  match a with
  | ⟨0, _⟩ => exact Fin.ext (by blk_simp [idx9 t]; rfl)
  | ⟨1, _⟩ => exact Fin.ext (by blk_simp [idx9 t])
  | ⟨2, _⟩ => exact Fin.ext (by blk_simp [idx9 t])

/-- Where a step's normaliser lies in the result. -/
theorem spot10 (t : Fin cfg0.N) (d : Fin 128) : ((View.whole main_v7_2).slice (win0_10.rect t)).emb (ix3 0 0 d)
    = ix3 (at' t) 0 d := by
  funext a
  unfold at'
  match a with
  | ⟨0, _⟩ => exact Fin.ext (by blk_simp [idx10 t]; rfl)
  | ⟨1, _⟩ => exact Fin.ext (by blk_simp [idx10 t])
  | ⟨2, _⟩ => exact Fin.ext (by blk_simp [idx10 t])

/-- Where a step's stabiliser lies in the result. -/
theorem spot11 (t : Fin cfg0.N) (l : Fin 128) : ((View.whole main_v7_3).slice (win0_11.rect t)).emb (ix3 0 0 l)
    = ix3 (at' t) 0 l := by
  funext a
  unfold at'
  match a with
  | ⟨0, _⟩ => exact Fin.ext (by blk_simp [idx11 t]; rfl)
  | ⟨1, _⟩ => exact Fin.ext (by blk_simp [idx11 t])
  | ⟨2, _⟩ => exact Fin.ext (by blk_simp [idx11 t])

/-- The outputs at a head's place in its batch. -/
theorem hOut_at (p : FVec Ideal S8x64x3584 .f32) (g : FVec Ideal S16 .f32) (c : FVec Ideal S32x128x256 .f32) (n : FVec Ideal S32x128 .f32)
    (m : FVec Ideal S32 .f32) (j : Fin 32) (r : Fin 64) (e : Fin 256) :
    hOut p g c n m (ix3 (batch j) r (⟨(head j).val * 256 + e.val, by omega⟩ : Fin 1024)) = hAt p g c n m j e r :=
  congr (congr (congrArg (hAt p g c n m) (Fin.ext (by show j.val / 4 * 4 + (j.val % 4 * 256 + e.val) / 256 = j.val; omega)))
    (Fin.ext (by show (j.val % 4 * 256 + e.val) % 256 = e.val; omega))) rfl

/-- The call's first result: the step's outputs. -/
theorem final_h (c : Dev nD) : (dats m 0 c).arrAt 8 cfg0.N
    = hOut (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  obtain ⟨r, e, rfl⟩ : ∃ (r : Fin 64) (e : Fin 256), y = ix3 0 r e :=
    ⟨y 1, y 2, (eq_ix3 y).trans (by rw [show y 0 = (0 : Fin 1) from Subsingleton.elim (α := Fin 1) _ _])⟩
  refine (out_h _ _ _ _ _ _ _ _ _ (in7 m c t) r e).trans ?_
  refine Eq.trans ?_ (congrArg _ (spot8 t r e).symm)
  rw [hOut_at]
  unfold hAt
  rw [in_gateI, in_gateF, funext fun d => in5 m c t d e, funext fun d => in6 m c t d, funext fun s => in2 m c t s e,
    funext fun s => funext fun d => in1 m c t s d]
  exact congrArg (fun z => out z _ _ _ _ _ _ _ r) (funext fun s => funext fun d => congrArg (· * scale) (in0 m c t s d))

/-- The call's second result: the memories after the step. -/
theorem final_c (c : Dev nD) : (dats m 0 c).arrAt 9 cfg0.N
    = cOut (m ((c : Thread nD τ).loc main_arg0)) (m ((c : Thread nD τ).loc main_arg1)) (m ((c : Thread nD τ).loc main_arg2)) (m ((c : Thread nD τ).loc main_arg4)) := by
  refine (dats m 0 c).arrAt_eq_of_covers 9 _ (by decide +kernel) fun t hf y => ?_
  blk_simp
  rw [after0_9]
  obtain ⟨d, e, rfl⟩ : ∃ (d : Fin 128) (e : Fin 256), y = ix3 0 d e :=
    ⟨y 1, y 2, (eq_ix3 y).trans (by rw [show y 0 = (0 : Fin 1) from Subsingleton.elim (α := Fin 1) _ _])⟩
  refine (out_c _ _ _ _ _ _ _ _ _ (in7 m c t) d e).trans ?_
  refine Eq.trans ?_ (congrArg _ (spot9 t d e).symm)
  rw [in_gateI, in_gateF, in5, funext fun s => in2 m c t s e, funext fun s => in1 m c t s d]
  rfl

/-- The call's third result: the normalisers after the step. -/
theorem final_n (c : Dev nD) : (dats m 0 c).arrAt 10 cfg0.N
    = nOut (m ((c : Thread nD τ).loc main_arg0)) (m ((c : Thread nD τ).loc main_arg1)) (m ((c : Thread nD τ).loc main_arg3)) (m ((c : Thread nD τ).loc main_arg4)) := by
  refine (dats m 0 c).arrAt_eq_of_covers 10 _ (by decide +kernel) fun t hf y => ?_
  blk_simp
  rw [after0_10]
  obtain ⟨d, rfl⟩ : ∃ d : Fin 128, y = ix3 0 0 d :=
    ⟨y 2, (eq_ix3 y).trans (by rw [show y 0 = (0 : Fin 1) from Subsingleton.elim (α := Fin 1) _ _, show y 1 = (0 : Fin 1) from Subsingleton.elim (α := Fin 1) _ _])⟩
  refine (out_n _ _ _ _ _ _ _ _ _ (in7 m c t) d).trans ?_
  refine Eq.trans ?_ (congrArg _ (spot10 t d).symm)
  rw [in_gateI, in_gateF, in6, funext fun s => in1 m c t s d]
  rfl

/-- The call's last result: the stabilisers after the step. -/
theorem final_m (c : Dev nD) : (dats m 0 c).arrAt 11 cfg0.N
    = mOut (m ((c : Thread nD τ).loc main_arg0)) (m ((c : Thread nD τ).loc main_arg1)) (m ((c : Thread nD τ).loc main_arg4)) := by
  refine (dats m 0 c).arrAt_eq_of_covers 11 _ (by decide +kernel) fun t hf y => ?_
  blk_simp
  rw [after0_11]
  obtain ⟨d, rfl⟩ : ∃ d : Fin 128, y = ix3 0 0 d :=
    ⟨y 2, (eq_ix3 y).trans (by rw [show y 0 = (0 : Fin 1) from Subsingleton.elim (α := Fin 1) _ _, show y 1 = (0 : Fin 1) from Subsingleton.elim (α := Fin 1) _ _])⟩
  refine (out_m _ _ _ _ _ _ _ _ _ (in7 m c t) d).trans ?_
  refine Eq.trans ?_ (congrArg _ (spot11 t d).symm)
  rw [in_gateI, in_gateF]
  rfl

end Cert.Chunk

end
-- ==== Proof.ChunkRef.lean ====
/-
  The reference's step of the mLSTM scan, read at an index.
-/
module

public import proofs.«01_k».proof.Proof.Chunk
public import proofs.«01_k».proof.Proof.Gen.ReferenceAIdeal.Run

@[expose] public section

noncomputable section

namespace Cert.Chunk

open Idealize.ShloMosaic Idealize.ShloMosaic.TcCoe Idealize.SL.Sem
open Cert.ReferenceAIdeal Cert.ReferenceAIdeal.Gen Cert.ReferenceAIdeal.Value
open Cert.Attention (minus_infinity)
open Idealize.ShloMosaic.StableHlo

variable (V0 : Valuation τ sig (Elt Ideal))

/-- The reference's projection. -/
def argP : FVec Ideal S8x64x3584 .f32 := V0 (Proc.devRef .tc main_arg0)
/-- The reference's gate bias. -/
def argG : FVec Ideal S16 .f32 := V0 (Proc.devRef .tc main_arg1)
/-- The reference's memories. -/
def argC : FVec Ideal S32x128x256 .f32 := V0 (Proc.devRef .tc main_arg2)
/-- The reference's normalisers. -/
def argN : FVec Ideal S32x128 .f32 := V0 (Proc.devRef .tc main_arg3)
/-- The reference's stabilisers. -/
def argM : FVec Ideal S32 .f32 := V0 (Proc.devRef .tc main_arg4)

/-- The reference's queries. -/
theorem ref_q (j : Fin 32) (t : Fin 64) (d : Fin 128) : (res_main_v5 V0 : FVec Ideal S32x64x128 .f32) (ix3 j t d) = queries (argP V0) j t d * scale := by
  unfold queries batch head argP
  pointwise [res_main_v5]
  rfl

/-- The reference's keys. -/
theorem ref_k (j : Fin 32) (t : Fin 64) (d : Fin 128) : (res_main_v9 V0 : FVec Ideal S32x64x128 .f32) (ix3 j t d) = keyRows (argP V0) j t d := by
  unfold keyRows batch head argP
  pointwise [res_main_v9]

/-- The reference's values. -/
theorem ref_v (j : Fin 32) (t : Fin 64) (e : Fin 256) : (res_main_v13 V0 : FVec Ideal S32x64x256 .f32) (ix3 j t e) = values (argP V0) j e t := by
  unfold values batch head argP
  pointwise [res_main_v13]

/-- The reference's input gates. -/
theorem ref_i (j : Fin 32) (t : Fin 64) : (res_main_v26 V0 : FVec Ideal S32x64 .f32) (ix2 j t) = gateI (argP V0) (argG V0) j t := by
  unfold gateI batch head argP argG
  pointwise [res_main_v26, res_main_v17, res_main_v20]

/-- The reference's log forget gates. -/
theorem ref_f (j : Fin 32) (t : Fin 64) : (res_main_v33 V0 : FVec Ideal S32x64 .f32) (ix2 j t) = gateF (argP V0) (argG V0) j t := by
  unfold gateF logSigmoid batch head argP argG
  pointwise [res_main_v33, res_main_call0_call0_v3, res_main_call0_v0, res_main_call0_call0_cst, res_main_v17, res_main_v20]
  rw [if_neg (not_not.mpr rfl)]
  rfl

/-- The reference's stabilisers before the step. -/
theorem ref_m (j : Fin 32) : (res_main_v34 V0 : FVec Ideal S32x1 .f32) (ix2 j 0) = argM V0 (ix1 j) := by
  unfold argM
  pointwise [res_main_v34]

/-- The comparison of two tokens' numbers as words. -/
theorem word_le : ∀ t s : Fin 64, IntOp.cmpi CmpIPredicate.sle (BitVec.ofNat 32 s.val) (BitVec.ofNat 32 t.val) = if s ≤ t then 1#1 else 0#1 := by
  decide +kernel

/-- The reference's mask keeps a token not later than another. -/
theorem ref_mask (t s : Fin 64) (x y : EReal) : Scalar.select ((res_main_v41 V0 : IVec S64x64 1) (ix2 t s)) x y = if s ≤ t then x else y := by
  rw [show (res_main_v41 V0 : IVec S64x64 1) (ix2 t s) = if s ≤ t then 1#1 else 0#1 from by
    pointwise [res_main_v41]
    exact word_le t s]
  split <;> rfl

/-- The reference's sum of the log forget gates up to a token. -/
theorem ref_cum (j : Fin 32) (t : Fin 64) : (res_main_v44 V0 : FVec Ideal S32x64 .f32) (ix2 j t) = cum (gateF (argP V0) (argG V0) j) t := by
  have h : ∀ (a : IVec S64x64 1) (f : FVec Ideal S32x64 .f32), (Host.reduceAdd (select (broadcastInDim S32x64x64 ![1, 2] bcast_S64x64_S32x64x64_1_2 a) (broadcastInDim S32x64x64 ![0, 1, 2] bcast_S32x1x64_S32x64x64_0_1_2 (broadcastInDim S32x1x64 ![0, 2] bcast_S32x64_S32x1x64_0_2 f)) (broadcastInDim S32x64x64 ![] bcast_S_S32x64x64 (id (constant S_ .f32 0x00000000#32)))) (constant S_ .f32 0x00000000#32) reducesTo_S32x64x64_S32x64_d2 h_S_ : FVec Ideal S32x64 .f32) (ix2 j t)
      = ∑ s, Scalar.select (a (ix2 t s)) (f (ix2 j s)) (0 : EReal) := by
    intro a f
    pointwise []
    exact Finset.sum_congr rfl fun s _ => congrArg _ (Ideal.ofBits_zero .f32)
  refine (h _ _).trans ?_
  unfold cum
  exact Finset.sum_congr rfl fun s _ => by rw [ref_mask, ref_f]

/-- The reference's sum of all the log forget gates. -/
theorem ref_all (j : Fin 32) : (res_main_v46 V0 : FVec Ideal S32x1 .f32) (ix2 j 0) = all (gateF (argP V0) (argG V0) j) := by
  have h : ∀ f : FVec Ideal S32x64 .f32, (broadcastInDim S32x1 ![0] bcast_S32_S32x1_0 (Host.reduceAdd f (constant S_ .f32 0x00000000#32) reducesTo_S32x64_S32_d1 h_S_) : FVec Ideal S32x1 .f32) (ix2 j 0)
      = ∑ s, f (ix2 j s) := by
    intro f
    pointwise []
  refine (h _).trans ?_
  unfold all
  exact Finset.sum_congr rfl fun s _ => ref_f V0 j s

/-- The reference's log weights at the chunk's end. -/
theorem ref_logWeight (j : Fin 32) (t : Fin 64) : (res_main_v49 V0 : FVec Ideal S32x64 .f32) (ix2 j t) = logWeight (gateI (argP V0) (argG V0) j) (gateF (argP V0) (argG V0) j) t := by
  unfold logWeight
  pointwise [res_main_v49]
  rw [ref_i, ref_all, ref_cum]

/-- The reference's stabiliser after the step. -/
theorem ref_mNew (j : Fin 32) : (res_main_v53 V0 : FVec Ideal S32x1 .f32) (ix2 j 0)
    = mNew (gateI (argP V0) (argG V0) j) (gateF (argP V0) (argG V0) j) (argM V0 (ix1 j)) := by
  have h : ∀ (a b : FVec Ideal S32x1 .f32) (x : FVec Ideal S32x64 .f32), (maximumf (addf a b) (broadcastInDim S32x1 ![0] bcast_S32_S32x1_0 (Host.reduce FloatOps.maximumf x (constant S_ .f32 0xFF800000#32) reducesTo_S32x64_S32_d1 h_S_)) : FVec Ideal S32x1 .f32) (ix2 j 0)
      = max (a (ix2 j 0) + b (ix2 j 0) : EReal) (Finset.univ.fold max (Ideal.ofBits .f32 0xFF800000#32) fun t => x (ix2 j t)) := by
    intro a b x
    pointwise []
  refine (h _ _ _).trans ?_
  unfold mNew most
  rw [ref_all, ref_m, minus_infinity, funext fun t => ref_logWeight V0 j t]

/-- The reference's weights at the chunk's end. -/
theorem ref_weight (j : Fin 32) (t : Fin 64) : (res_main_v56 V0 : FVec Ideal S32x64 .f32) (ix2 j t)
    = weight (gateI (argP V0) (argG V0) j) (gateF (argP V0) (argG V0) j) (argM V0 (ix1 j)) t := by
  unfold weight
  pointwise [res_main_v56]
  rw [ref_logWeight, ref_mNew]

/-- The reference's factor of the state before the step. -/
theorem ref_decay (j : Fin 32) : (res_main_v59 V0 : FVec Ideal S32x1 .f32) (ix2 j 0)
    = decay (gateI (argP V0) (argG V0) j) (gateF (argP V0) (argG V0) j) (argM V0 (ix1 j)) := by
  unfold decay
  pointwise [res_main_v59]
  rw [ref_all, ref_m, ref_mNew]

/-- The reference's log weights of a token at another. -/
theorem ref_logMat (j : Fin 32) (t s : Fin 64) : (res_main_v83 V0 : FVec Ideal S32x64x64 .f32) (ix3 j t s)
    = logMat (gateI (argP V0) (argG V0) j) (gateF (argP V0) (argG V0) j) t s := by
  have h : ∀ (a : IVec S64x64 1) (f i : FVec Ideal S32x64 .f32), (select (broadcastInDim S32x64x64 ![1, 2] bcast_S64x64_S32x64x64_1_2 a) (addf (subf (broadcastInDim S32x64x64 ![0, 1, 2] bcast_S32x64x1_S32x64x64_0_1_2 (broadcastInDim S32x64x1 ![0, 1] bcast_S32x64_S32x64x1_0_1 f)) (broadcastInDim S32x64x64 ![0, 1, 2] bcast_S32x1x64_S32x64x64_0_1_2 (broadcastInDim S32x1x64 ![0, 2] bcast_S32x64_S32x1x64_0_2 f))) (broadcastInDim S32x64x64 ![0, 1, 2] bcast_S32x1x64_S32x64x64_0_1_2 (broadcastInDim S32x1x64 ![0, 2] bcast_S32x64_S32x1x64_0_2 i))) (broadcastInDim S32x64x64 ![] bcast_S_S32x64x64 (id (constant S_ .f32 0xFF800000#32))) : FVec Ideal S32x64x64 .f32) (ix3 j t s)
      = Scalar.select (a (ix2 t s)) (f (ix2 j t) - f (ix2 j s) + i (ix2 j s) : EReal) (Ideal.ofBits .f32 0xFF800000#32) := by
    intro a f i
    pointwise []
    rfl
  refine (h _ _ _).trans ?_
  rw [ref_mask, minus_infinity, ref_cum, ref_cum, ref_i]
  rfl

/-- The reference's stabiliser at a token. -/
theorem ref_mAt (j : Fin 32) (t : Fin 64) : (res_main_v87 V0 : FVec Ideal S32x64 .f32) (ix2 j t)
    = mAt (gateI (argP V0) (argG V0) j) (gateF (argP V0) (argG V0) j) (argM V0 (ix1 j)) t := by
  have h : ∀ (a : FVec Ideal S32x64 .f32) (b : FVec Ideal S32x1 .f32) (x : FVec Ideal S32x64x64 .f32), (maximumf (addf a (broadcastInDim S32x64 ![0, 1] bcast_S32x1_S32x64_0_1 b)) (Host.reduce FloatOps.maximumf x (constant S_ .f32 0xFF800000#32) reducesTo_S32x64x64_S32x64_d2 h_S_) : FVec Ideal S32x64 .f32) (ix2 j t)
      = max (a (ix2 j t) + b (ix2 j 0) : EReal) (Finset.univ.fold max (Ideal.ofBits .f32 0xFF800000#32) fun s => x (ix3 j t s)) := by
    intro a b x
    pointwise []
  refine (h _ _ _).trans ?_
  unfold mAt most
  rw [ref_cum, ref_m, minus_infinity, funext fun s => ref_logMat V0 j t s]

/-- The reference's factor of the state at a token. -/
theorem ref_inter (j : Fin 32) (t : Fin 64) : (res_main_v91 V0 : FVec Ideal S32x64 .f32) (ix2 j t)
    = inter (gateI (argP V0) (argG V0) j) (gateF (argP V0) (argG V0) j) (argM V0 (ix1 j)) t := by
  unfold inter
  pointwise [res_main_v91]
  rw [ref_cum, ref_m, ref_mAt]

/-- The reference's weighted scores. -/
theorem ref_score (j : Fin 32) (t s : Fin 64) : (res_main_v97 V0 : FVec Ideal S32x64x64 .f32) (ix3 j t s)
    = score (fun t d => queries (argP V0) j t d * scale) (keyRows (argP V0) j) (gateI (argP V0) (argG V0) j) (gateF (argP V0) (argG V0) j) (argM V0 (ix1 j)) t s := by
  unfold score
  pointwise [res_main_v97]
  rw [ref_logMat, ref_mAt]
  exact congrArg (· * _) (Finset.sum_congr rfl fun d _ => congrArg₂ (· * ·) (ref_q V0 j t d) (ref_k V0 j s d))

/-- The outputs as the reference composes them, of any parts. -/
def hOf (q : FVec Ideal S32x64x128 .f32) (v : FVec Ideal S32x64x256 .f32) (sc : FVec Ideal S32x64x64 .f32) (w mt : FVec Ideal S32x64 .f32) (c : FVec Ideal S32x128x256 .f32) (n : FVec Ideal S32x128 .f32) : FVec Ideal S8x64x1024 .f32 :=
  shapeCast S8x64x1024 (transpose S8x64x4x256 [0, 2, 1, 3] (shapeCast S8x4x64x256 (Host.divf (addf (Host.dotGeneral dot_S32x64x64_S32x64x256_S32x64x256_2_1_1_2_0_0 none sc v) (mulf (broadcastInDim S32x64x256 ![0, 1, 2] bcast_S32x64x1_S32x64x256_0_1_2 (broadcastInDim S32x64x1 ![0, 1] bcast_S32x64_S32x64x1_0_1 w)) (Host.dotGeneral dot_S32x64x128_S32x128x256_S32x64x256_2_1_1_2_0_0 none q c))) (broadcastInDim S32x64x256 ![0, 1, 2] bcast_S32x64x1_S32x64x256_0_1_2 (broadcastInDim S32x64x1 ![0, 1] bcast_S32x64_S32x64x1_0_1 (maximumf (Host.absf (addf (Host.reduceAdd sc (constant S_ .f32 0x00000000#32) reducesTo_S32x64x64_S32x64_d2 h_S_) (mulf w (Host.reduceAdd (mulf q (broadcastInDim S32x64x128 ![0, 1, 2] bcast_S32x1x128_S32x64x128_0_1_2 (broadcastInDim S32x1x128 ![0, 2] bcast_S32x128_S32x1x128_0_2 n))) (constant S_ .f32 0x00000000#32) reducesTo_S32x64x128_S32x64_d2 h_S_)))) (Host.exp (Host.negf mt)))))) shapeCasts_S32x64x256_S8x4x64x256) transposes_S8x4x64x256_S8x64x4x256_0_2_1_3) shapeCasts_S8x64x4x256_S8x64x1024

/-- The outputs as the reference composes them, of any parts. At an index. -/
theorem hOf_at (q : FVec Ideal S32x64x128 .f32) (v : FVec Ideal S32x64x256 .f32) (sc : FVec Ideal S32x64x64 .f32) (w mt : FVec Ideal S32x64 .f32) (c : FVec Ideal S32x128x256 .f32) (n : FVec Ideal S32x128 .f32) (b : Fin 8) (t : Fin 64) (l : Fin 1024) :
    hOf q v sc w mt c n (ix3 b t l)
      = Ideal.div (∑ s, sc (ix3 (headOf b l) t s) * v (ix3 (headOf b l) s (laneOf l)) + w (ix2 (headOf b l) t) * ∑ d, q (ix3 (headOf b l) t d) * c (ix3 (headOf b l) d (laneOf l)))
          (max (size (∑ s, sc (ix3 (headOf b l) t s) + w (ix2 (headOf b l) t) * ∑ d, q (ix3 (headOf b l) t d) * n (ix2 (headOf b l) d))) (Ideal.exp (- mt (ix2 (headOf b l) t)))) := by
  unfold headOf laneOf
  pointwise [hOf]
  rfl

/-- The memories as the reference composes them, of any parts. -/
def cOf (k : FVec Ideal S32x64x128 .f32) (v : FVec Ideal S32x64x256 .f32) (w : FVec Ideal S32x64 .f32) (a : FVec Ideal S32x1 .f32) (c : FVec Ideal S32x128x256 .f32) : FVec Ideal S32x128x256 .f32 :=
  addf (mulf (broadcastInDim S32x128x256 ![0, 1, 2] bcast_S32x1x1_S32x128x256_0_1_2 (broadcastInDim S32x1x1 ![0, 1] bcast_S32x1_S32x1x1_0_1 a)) c) (Host.dotGeneral dot_S32x64x128_S32x64x256_S32x128x256_1_1_2_2_0_0 none (mulf k (broadcastInDim S32x64x128 ![0, 1, 2] bcast_S32x64x1_S32x64x128_0_1_2 (broadcastInDim S32x64x1 ![0, 1] bcast_S32x64_S32x64x1_0_1 w))) v)

/-- The memories as the reference composes them, of any parts. At an index. -/
theorem cOf_at (k : FVec Ideal S32x64x128 .f32) (v : FVec Ideal S32x64x256 .f32) (w : FVec Ideal S32x64 .f32) (a : FVec Ideal S32x1 .f32) (c : FVec Ideal S32x128x256 .f32) (j : Fin 32) (d : Fin 128) (e : Fin 256) :
    cOf k v w a c (ix3 j d e)
      = a (ix2 j 0) * c (ix3 j d e) + ∑ s, k (ix3 j s d) * w (ix2 j s) * v (ix3 j s e) := by
  pointwise [cOf]

/-- The normalisers as the reference composes them, of any parts. -/
def nOf (k : FVec Ideal S32x64x128 .f32) (w : FVec Ideal S32x64 .f32) (a : FVec Ideal S32x1 .f32) (n : FVec Ideal S32x128 .f32) : FVec Ideal S32x1x128 .f32 :=
  broadcastInDim S32x1x128 ![0, 2] bcast_S32x128_S32x1x128_0_2 (addf (mulf (broadcastInDim S32x128 ![0, 1] bcast_S32x1_S32x128_0_1 a) n) (Host.reduceAdd (mulf k (broadcastInDim S32x64x128 ![0, 1, 2] bcast_S32x64x1_S32x64x128_0_1_2 (broadcastInDim S32x64x1 ![0, 1] bcast_S32x64_S32x64x1_0_1 w))) (constant S_ .f32 0x00000000#32) reducesTo_S32x64x128_S32x128_d1 h_S_))

/-- The normalisers as the reference composes them, of any parts. At an index. -/
theorem nOf_at (k : FVec Ideal S32x64x128 .f32) (w : FVec Ideal S32x64 .f32) (a : FVec Ideal S32x1 .f32) (n : FVec Ideal S32x128 .f32) (j : Fin 32) (d : Fin 128) :
    nOf k w a n (ix3 j 0 d)
      = a (ix2 j 0) * n (ix2 j d) + ∑ s, k (ix3 j s d) * w (ix2 j s) := by
  pointwise [nOf]

/-- The stabilisers as the reference repeats them. -/
def mOf (a : FVec Ideal S32x1 .f32) : FVec Ideal S32x1x128 .f32 :=
  broadcastInDim S32x1x128 ![0, 1, 2] bcast_S32x1x1_S32x1x128_0_1_2 (broadcastInDim S32x1x1 ![0, 2] bcast_S32x1_S32x1x1_0_2 a)

/-- The stabilisers as the reference repeats them. At an index. -/
theorem mOf_at (a : FVec Ideal S32x1 .f32) (j : Fin 32) (l : Fin 128) :
    mOf a (ix3 j 0 l)
      = a (ix2 j 0) := by
  pointwise [mOf]

end Cert.Chunk

end
-- ==== Proof.ChunkClaim.lean ====
/-
  The mLSTM's step: the reference's frame, and that the call and the reference give one set of results.
-/
module

public import proofs.«01_k».proof.Defs
public import proofs.«01_k».proof.Proof.ChunkRef

@[expose] public section

noncomputable section

namespace Cert.Chunk

open Idealize.ShloMosaic Idealize.ShloMosaic.TcCoe Idealize.SL.Sem
open Cert.ReferenceAIdeal Cert.ReferenceAIdeal.Gen Cert.ReferenceAIdeal.Value
open Idealize.ShloMosaic.StableHlo

/-- The reference's outputs. -/
theorem refOut_h (V0 : Valuation τ sig (Elt Ideal)) :
    hOf (res_main_v5 V0) (res_main_v13 V0) (res_main_v97 V0) (res_main_v91 V0) (res_main_v87 V0) (argC V0) (argN V0)
      = hOut (argP V0) (argG V0) (argC V0) (argN V0) (argM V0) := by
  funext i
  obtain ⟨b, t, l, rfl⟩ : ∃ (b : Fin 8) (t : Fin 64) (l : Fin 1024), i = ix3 b t l := ⟨i 0, i 1, i 2, eq_ix3 i⟩
  refine (hOf_at _ _ _ _ _ _ _ b t l).trans ?_
  show _ = hAt _ _ _ _ _ (headOf b l) (laneOf l) t
  unfold hAt out den
  rw [ref_inter, ref_mAt]
  refine congrArg₂ Ideal.div (congrArg₂ (· + ·) (Finset.sum_congr rfl fun s _ => congrArg₂ (· * ·) (ref_score V0 _ t s) (ref_v V0 _ s _))
    (congrArg _ (Finset.sum_congr rfl fun d _ => congrArg₂ (· * ·) (ref_q V0 _ t d) rfl)))
    (congrArg₂ max (congrArg size (congrArg₂ (· + ·) (Finset.sum_congr rfl fun s _ => ref_score V0 _ t s)
      (congrArg _ (Finset.sum_congr rfl fun d _ => congrArg₂ (· * ·) (ref_q V0 _ t d) rfl)))) rfl)

/-- The reference's memories after the step. -/
theorem refOut_c (V0 : Valuation τ sig (Elt Ideal)) :
    cOf (res_main_v9 V0) (res_main_v13 V0) (res_main_v56 V0) (res_main_v59 V0) (argC V0)
      = cOut (argP V0) (argG V0) (argC V0) (argM V0) := by
  funext i
  obtain ⟨j, d, e, rfl⟩ : ∃ (j : Fin 32) (d : Fin 128) (e : Fin 256), i = ix3 j d e := ⟨i 0, i 1, i 2, eq_ix3 i⟩
  refine (cOf_at _ _ _ _ _ j d e).trans ?_
  show _ = cNew (fun s => keyRows _ j s d) (values _ j e) (gateI _ _ j) (gateF _ _ j) _ _
  unfold cNew
  rw [ref_decay]
  refine congrArg₂ (· + ·) rfl (Finset.sum_congr rfl fun s _ => ?_)
  rw [ref_k, ref_weight, ref_v]
  rfl

/-- The reference's normalisers after the step. -/
theorem refOut_n (V0 : Valuation τ sig (Elt Ideal)) :
    nOf (res_main_v9 V0) (res_main_v56 V0) (res_main_v59 V0) (argN V0)
      = nOut (argP V0) (argG V0) (argN V0) (argM V0) := by
  funext i
  obtain ⟨j, d, rfl⟩ : ∃ (j : Fin 32) (d : Fin 128), i = ix3 j 0 d :=
    ⟨i 0, i 2, (eq_ix3 i).trans (by rw [show i 1 = (0 : Fin 1) from Subsingleton.elim (α := Fin 1) _ _])⟩
  refine (nOf_at _ _ _ _ j d).trans ?_
  show _ = nNew (fun s => keyRows _ j s d) (gateI _ _ j) (gateF _ _ j) _ _
  unfold nNew
  rw [ref_decay]
  refine congrArg₂ (· + ·) rfl (Finset.sum_congr rfl fun s _ => ?_)
  rw [ref_k, ref_weight]
  rfl

/-- The reference's stabilisers after the step. -/
theorem refOut_m (V0 : Valuation τ sig (Elt Ideal)) :
    mOf (res_main_v53 V0)
      = mOut (argP V0) (argG V0) (argM V0) := by
  funext i
  obtain ⟨j, l, rfl⟩ : ∃ (j : Fin 32) (l : Fin 128), i = ix3 j 0 l :=
    ⟨i 0, i 2, (eq_ix3 i).trans (by rw [show i 1 = (0 : Fin 1) from Subsingleton.elim (α := Fin 1) _ _])⟩
  exact (mOf_at _ j l).trans (ref_mNew V0 j)

/-- The reference declares no semaphore, so nothing of its counters is left to say. -/
theorem no_counter {T : Prop} (s : SemLoc Cert.ReferenceAIdeal.sig) : T :=
  match s with
  | .reg s => s.elim0
  | .dma s => s.elim0

/-- The reference runs and leaves its arguments alone. -/
theorem reference_frame : Cert.quiescent_ReferenceAIdeal := fun m ρ _ =>
  (θ_run Cert.ReferenceAIdeal.defs _ _).mono (fun r h => ⟨fun c => (h c).2.2.2.2, funext fun s => no_counter s.2⟩)
    (Cert.ReferenceAIdeal.Value.run (F := Ideal) m ρ)

/-- The call's results are the reference's. -/
theorem algebraic : Cert.algebraic_KernelAIdeal_ReferenceAIdeal := by
  intro m g m' g' _ hargs
  refine ⟨fun c => hOut (m ((c.tc : Thread _ _).loc Cert.KernelAIdeal.main_arg0)) (m ((c.tc : Thread _ _).loc Cert.KernelAIdeal.main_arg1)) (m ((c.tc : Thread _ _).loc Cert.KernelAIdeal.main_arg2)) (m ((c.tc : Thread _ _).loc Cert.KernelAIdeal.main_arg3)) (m ((c.tc : Thread _ _).loc Cert.KernelAIdeal.main_arg4)),
    fun c => cOut (m ((c.tc : Thread _ _).loc Cert.KernelAIdeal.main_arg0)) (m ((c.tc : Thread _ _).loc Cert.KernelAIdeal.main_arg1)) (m ((c.tc : Thread _ _).loc Cert.KernelAIdeal.main_arg2)) (m ((c.tc : Thread _ _).loc Cert.KernelAIdeal.main_arg4)),
    fun c => nOut (m ((c.tc : Thread _ _).loc Cert.KernelAIdeal.main_arg0)) (m ((c.tc : Thread _ _).loc Cert.KernelAIdeal.main_arg1)) (m ((c.tc : Thread _ _).loc Cert.KernelAIdeal.main_arg3)) (m ((c.tc : Thread _ _).loc Cert.KernelAIdeal.main_arg4)),
    fun c => mOut (m ((c.tc : Thread _ _).loc Cert.KernelAIdeal.main_arg0)) (m ((c.tc : Thread _ _).loc Cert.KernelAIdeal.main_arg1)) (m ((c.tc : Thread _ _).loc Cert.KernelAIdeal.main_arg4)), ?_, ?_⟩
  · exact (θ_run Cert.KernelAIdeal.defs _ _).mono (fun r h c => ⟨(h c).1.trans (final_h m c),
      (h c).2.1.trans (final_c m c), (h c).2.2.1.trans (final_n m c),
      (h c).2.2.2.1.trans (final_m m c), (h c).2.2.2.2⟩)
      (Cert.KernelAIdeal.Value.run_blocks (F := Ideal) m g)
  · refine (θ_run Cert.ReferenceAIdeal.defs _ _).mono (fun r h c => ⟨(h c).1.trans ?_, (h c).2.1.trans ?_,
      (h c).2.2.1.trans ?_, (h c).2.2.2.1.trans ?_, (h c).2.2.2.2⟩) (Cert.ReferenceAIdeal.Value.run (F := Ideal) m' g') <;>
    obtain ⟨h0, h1, h2, h3, h4⟩ := hargs c
    · have hv : hOut (m' ((c.tc : Thread _ _).loc Cert.ReferenceAIdeal.main_arg0)) (m' ((c.tc : Thread _ _).loc Cert.ReferenceAIdeal.main_arg1)) (m' ((c.tc : Thread _ _).loc Cert.ReferenceAIdeal.main_arg2)) (m' ((c.tc : Thread _ _).loc Cert.ReferenceAIdeal.main_arg3)) (m' ((c.tc : Thread _ _).loc Cert.ReferenceAIdeal.main_arg4))
          = hOut (m ((c.tc : Thread _ _).loc Cert.KernelAIdeal.main_arg0)) (m ((c.tc : Thread _ _).loc Cert.KernelAIdeal.main_arg1)) (m ((c.tc : Thread _ _).loc Cert.KernelAIdeal.main_arg2)) (m ((c.tc : Thread _ _).loc Cert.KernelAIdeal.main_arg3)) (m ((c.tc : Thread _ _).loc Cert.KernelAIdeal.main_arg4)) := by
        rw [h0, h1, h2, h3, h4]
      exact .trans (.trans rfl (refOut_h (launchContents m' c))) hv
    · have hv : cOut (m' ((c.tc : Thread _ _).loc Cert.ReferenceAIdeal.main_arg0)) (m' ((c.tc : Thread _ _).loc Cert.ReferenceAIdeal.main_arg1)) (m' ((c.tc : Thread _ _).loc Cert.ReferenceAIdeal.main_arg2)) (m' ((c.tc : Thread _ _).loc Cert.ReferenceAIdeal.main_arg4))
          = cOut (m ((c.tc : Thread _ _).loc Cert.KernelAIdeal.main_arg0)) (m ((c.tc : Thread _ _).loc Cert.KernelAIdeal.main_arg1)) (m ((c.tc : Thread _ _).loc Cert.KernelAIdeal.main_arg2)) (m ((c.tc : Thread _ _).loc Cert.KernelAIdeal.main_arg4)) := by
        rw [h0, h1, h2, h4]
      exact .trans (.trans rfl (refOut_c (launchContents m' c))) hv
    · have hv : nOut (m' ((c.tc : Thread _ _).loc Cert.ReferenceAIdeal.main_arg0)) (m' ((c.tc : Thread _ _).loc Cert.ReferenceAIdeal.main_arg1)) (m' ((c.tc : Thread _ _).loc Cert.ReferenceAIdeal.main_arg3)) (m' ((c.tc : Thread _ _).loc Cert.ReferenceAIdeal.main_arg4))
          = nOut (m ((c.tc : Thread _ _).loc Cert.KernelAIdeal.main_arg0)) (m ((c.tc : Thread _ _).loc Cert.KernelAIdeal.main_arg1)) (m ((c.tc : Thread _ _).loc Cert.KernelAIdeal.main_arg3)) (m ((c.tc : Thread _ _).loc Cert.KernelAIdeal.main_arg4)) := by
        rw [h0, h1, h3, h4]
      exact .trans (.trans rfl (refOut_n (launchContents m' c))) hv
    · have hv : mOut (m' ((c.tc : Thread _ _).loc Cert.ReferenceAIdeal.main_arg0)) (m' ((c.tc : Thread _ _).loc Cert.ReferenceAIdeal.main_arg1)) (m' ((c.tc : Thread _ _).loc Cert.ReferenceAIdeal.main_arg4))
          = mOut (m ((c.tc : Thread _ _).loc Cert.KernelAIdeal.main_arg0)) (m ((c.tc : Thread _ _).loc Cert.KernelAIdeal.main_arg1)) (m ((c.tc : Thread _ _).loc Cert.KernelAIdeal.main_arg4)) := by
        rw [h0, h1, h4]
      exact .trans (.trans rfl (refOut_m (launchContents m' c))) hv

end Cert.Chunk

end
-- ==== Proof.lean ====
module

public import proofs.«01_k».proof.Proof.Gen.KernelA
public import proofs.«01_k».proof.Proof.Gen.KernelA.Skeleton
public import proofs.«01_k».proof.Proof.Gen.KernelA.Launch
public import proofs.«01_k».proof.Proof.Gen.KernelA.Points
public import proofs.«01_k».proof.Proof.Gen.KernelA.Frame
public import proofs.«01_k».proof.Proof.Gen.KernelAIdeal
public import proofs.«01_k».proof.Proof.Gen.KernelAIdeal.Skeleton
public import proofs.«01_k».proof.Proof.Gen.KernelAIdeal.Launch
public import proofs.«01_k».proof.Proof.Gen.KernelAIdeal.Points
public import proofs.«01_k».proof.Proof.Gen.KernelAIdeal.Frame
public import proofs.«01_k».proof.Proof.Gen.KernelAIdeal.Value
public import proofs.«01_k».proof.Proof.Gen.ReferenceAIdeal
public import proofs.«01_k».proof.Proof.Gen.ReferenceAIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Claim
public import proofs.«01_k».proof.Proof.EvenClaim
public import proofs.«01_k».proof.Proof.MixClaim
public import proofs.«01_k».proof.Proof.MidClaim
public import proofs.«01_k».proof.Proof.OddClaim
public import proofs.«01_k».proof.Proof.LastClaim
public import proofs.«01_k».proof.Proof.PrepClaim
public import proofs.«01_k».proof.Proof.ContextClaim
public import proofs.«01_k».proof.Proof.TableClaim
public import proofs.«01_k».proof.Proof.ChunkClaim
public import Idealize.ShloMosaic.Adequacy
public import Idealize.ShloMosaic.Init

@[expose] public section

noncomputable section

namespace Cert.Proof

open Idealize.ShloMosaic Idealize.SL.Sem Cert.Kernel

/-- Every claim: the facts, the frames, and the values. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.KernelA.Gen.facts, Cert.KernelAIdeal.Gen.facts, Cert.ReferenceAIdeal.Gen.facts,
  Cert.Attention.pre_facts, Cert.Prep.pre_facts,
  fun m ρ _ => Cert.Kernel.Gen.frame m ρ,
  fun m ρ _ => Cert.KernelIdeal.Gen.frame m ρ,
  fun m ρ _ => Cert.KernelIdeal.Gen.frame m ρ,
  Cert.Attention.reference_frame,
  fun m ρ _ => Cert.Attention.reference_frame m ρ trivial,
  fun m ρ _ => Cert.Kernel2.Gen.frame m ρ, fun m ρ _ => Cert.Kernel2Ideal.Gen.frame m ρ, Cert.Even.reference_frame,
  fun m ρ _ => Cert.Kernel3.Gen.frame m ρ, fun m ρ _ => Cert.Kernel3Ideal.Gen.frame m ρ, Cert.Mix.reference_frame,
  fun m ρ _ => Cert.Kernel4.Gen.frame m ρ, fun m ρ _ => Cert.Kernel4Ideal.Gen.frame m ρ, Cert.Mid.reference_frame,
  fun m ρ _ => Cert.Kernel5.Gen.frame m ρ, fun m ρ _ => Cert.Kernel5Ideal.Gen.frame m ρ, Cert.Odd.reference_frame,
  fun m ρ _ => Cert.Kernel6.Gen.frame m ρ, fun m ρ _ => Cert.Kernel6Ideal.Gen.frame m ρ, Cert.Last.reference_frame,
  fun m ρ _ => Cert.Kernel7.Gen.frame m ρ, fun m ρ _ => Cert.Kernel7Ideal.Gen.frame m ρ, fun m ρ _ => Cert.Kernel7Ideal.Gen.frame m ρ,
  Cert.Prep.reference_frame, fun m ρ _ => Cert.Prep.reference_frame m ρ trivial,
  fun m ρ _ => Cert.Kernel8.Gen.frame m ρ, fun m ρ _ => Cert.Kernel8Ideal.Gen.frame m ρ, fun m ρ _ => Cert.Kernel8Ideal.Gen.frame m ρ,
  Cert.Context.reference_frame, fun m ρ _ => Cert.Context.reference_frame m ρ trivial,
  fun m ρ _ => Cert.Kernel9.Gen.frame m ρ, fun m ρ _ => Cert.Kernel9Ideal.Gen.frame m ρ, Cert.Table.reference_frame,
  fun m ρ _ => Cert.KernelA.Gen.frame m ρ, fun m ρ _ => Cert.KernelAIdeal.Gen.frame m ρ, Cert.Chunk.reference_frame,
  trivial, Cert.Attention.algebraic,
  trivial, Cert.Even.algebraic,
  trivial, Cert.Mix.algebraic,
  trivial, Cert.Mid.algebraic,
  trivial, Cert.Odd.algebraic,
  trivial, Cert.Last.algebraic,
  trivial, Cert.Prep.algebraic,
  trivial, Cert.Context.algebraic,
  trivial, Cert.Table.algebraic,
  trivial, Cert.Chunk.algebraic⟩

end Cert.Proof

end
